-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolReferenceIdeal (m : (ℓ : Loc Cert.PoolReferenceIdeal.nD Cert.PoolReferenceIdeal.τ Cert.PoolReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Pool_PoolIdeal : Prop :=
  True

def algebraic_PoolIdeal_PoolReferenceIdeal [hPoolIdeal : Cert.PoolIdeal.Facts] [hPoolReferenceIdeal : Cert.PoolReferenceIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolIdeal m →
    (∀ c : Dev Cert.PoolIdeal.nD,
      m' ((c.tc : Thread Cert.PoolReferenceIdeal.nD Cert.PoolReferenceIdeal.τ).loc Cert.PoolReferenceIdeal.main_arg0) = m ((c.tc : Thread Cert.PoolIdeal.nD Cert.PoolIdeal.τ).loc Cert.PoolIdeal.main_arg0)
      ∧ m' ((c.tc : Thread Cert.PoolReferenceIdeal.nD Cert.PoolReferenceIdeal.τ).loc Cert.PoolReferenceIdeal.main_arg1) = m ((c.tc : Thread Cert.PoolIdeal.nD Cert.PoolIdeal.τ).loc Cert.PoolIdeal.main_arg1)) →
    ∃ (v0 : (c : Dev Cert.PoolIdeal.nD) → Buf (Elt Ideal) ((c.tc : Thread Cert.PoolIdeal.nD Cert.PoolIdeal.τ).loc Cert.PoolIdeal.main_v0_0)) (v1 : (c : Dev Cert.PoolIdeal.nD) → Buf (Elt Ideal) ((c.tc : Thread Cert.PoolIdeal.nD Cert.PoolIdeal.τ).loc Cert.PoolIdeal.main_v0_1)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v0_0) = v0 c
          ∧ r.2.mem ((c.tc : Thread Cert.PoolIdeal.nD Cert.PoolIdeal.τ).loc Cert.PoolIdeal.main_v0_1) = v1 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v5) = v0 c
          ∧ r.2.mem ((c.tc : Thread Cert.PoolReferenceIdeal.nD Cert.PoolReferenceIdeal.τ).loc Cert.PoolReferenceIdeal.main_v13) = v1 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1))

def Claim : Prop :=
  ∃ (hKernel : Cert.Kernel.Facts) (hKernelIdeal : Cert.KernelIdeal.Facts) (hReferenceIdeal : Cert.ReferenceIdeal.Facts) (hPool : Cert.Pool.Facts) (hPoolIdeal : Cert.PoolIdeal.Facts) (hPoolReferenceIdeal : Cert.PoolReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Pool (hPool := hPool)
    ∧ quiescent_PoolIdeal (hPoolIdeal := hPoolIdeal)
    ∧ quiescent_PoolReferenceIdeal (hPoolReferenceIdeal := hPoolReferenceIdeal)
    ∧ preserves_Kernel_KernelIdeal
    ∧ algebraic_KernelIdeal_ReferenceIdeal (hKernelIdeal := hKernelIdeal) (hReferenceIdeal := hReferenceIdeal)
    ∧ preserves_Pool_PoolIdeal
    ∧ algebraic_PoolIdeal_PoolReferenceIdeal (hPoolIdeal := hPoolIdeal) (hPoolReferenceIdeal := hPoolReferenceIdeal)
-- ==== Kernel.lean ====
abbrev S6 : Shape := ⟨1, ![6]⟩
abbrev S3x8x160x24576 : Shape := ⟨4, ![3, 8, 160, 24576]⟩
abbrev S3x8x24576 : Shape := ⟨3, ![3, 8, 24576]⟩
abbrev S3x2x4x24576 : Shape := ⟨4, ![3, 2, 4, 24576]⟩
abbrev S3x2x196608x128 : Shape := ⟨4, ![3, 2, 196608, 128]⟩
abbrev S3x2x24576x256 : Shape := ⟨4, ![3, 2, 24576, 256]⟩
abbrev S3x2x160x24576 : Shape := ⟨4, ![3, 2, 160, 24576]⟩
abbrev S3x2x1536x256 : Shape := ⟨4, ![3, 2, 1536, 256]⟩
abbrev S3x2x160x1536 : Shape := ⟨4, ![3, 2, 160, 1536]⟩
abbrev S3x24576x1280 : Shape := ⟨3, ![3, 24576, 1280]⟩
abbrev S1x8x160x128 : Shape := ⟨4, ![1, 8, 160, 128]⟩
abbrev S1x8x128 : Shape := ⟨3, ![1, 8, 128]⟩
abbrev S1x2x4x128 : Shape := ⟨4, ![1, 2, 4, 128]⟩
abbrev S1x2x1024x128 : Shape := ⟨4, ![1, 2, 1024, 128]⟩
abbrev S1x2x24576x256 : Shape := ⟨4, ![1, 2, 24576, 256]⟩
abbrev S1x2x160x24576 : Shape := ⟨4, ![1, 2, 160, 24576]⟩
abbrev S1x2x1536x256 : Shape := ⟨4, ![1, 2, 1536, 256]⟩
abbrev S1x2x160x1536 : Shape := ⟨4, ![1, 2, 160, 1536]⟩
abbrev S1x2x128x256 : Shape := ⟨4, ![1, 2, 128, 256]⟩
abbrev S1x128x1280 : Shape := ⟨3, ![1, 128, 1280]⟩
abbrev S4x1536x256 : Shape := ⟨3, ![4, 1536, 256]⟩
abbrev S4x160x256 : Shape := ⟨3, ![4, 160, 256]⟩
abbrev S1280x128 : Shape := ⟨2, ![1280, 128]⟩
abbrev S1x256 : Shape := ⟨2, ![1, 256]⟩
abbrev S256x256 : Shape := ⟨2, ![256, 256]⟩
abbrev S1x1x256x160 : Shape := ⟨4, ![1, 1, 256, 160]⟩
abbrev S256x160 : Shape := ⟨2, ![256, 160]⟩
abbrev S1x1x160x128 : Shape := ⟨4, ![1, 1, 160, 128]⟩
abbrev S160x128 : Shape := ⟨2, ![160, 128]⟩
abbrev S160x256 : Shape := ⟨2, ![160, 256]⟩
abbrev S1x1x128 : Shape := ⟨3, ![1, 1, 128]⟩
abbrev S1x128 : Shape := ⟨2, ![1, 128]⟩
abbrev S1x256x256 : Shape := ⟨3, ![1, 256, 256]⟩
abbrev S256 : Shape := ⟨1, ![256]⟩
abbrev S1x160x256 : Shape := ⟨3, ![1, 160, 256]⟩
abbrev S1x1x160x256 : Shape := ⟨4, ![1, 1, 160, 256]⟩
abbrev S640x256 : Shape := ⟨2, ![640, 256]⟩
abbrev S128x256 : Shape := ⟨2, ![128, 256]⟩
abbrev S1 : Shape := ⟨1, ![1]⟩
abbrev S1x1x160x640 : Shape := ⟨4, ![1, 1, 160, 640]⟩
abbrev S160x640 : Shape := ⟨2, ![160, 640]⟩
abbrev S1x1x640x256 : Shape := ⟨4, ![1, 1, 640, 256]⟩
abbrev S640x160 : Shape := ⟨2, ![640, 160]⟩
abbrev S1x1x1x128 : Shape := ⟨4, ![1, 1, 1, 128]⟩
abbrev S1x1x128x160 : Shape := ⟨4, ![1, 1, 128, 160]⟩
abbrev S128x160 : Shape := ⟨2, ![128, 160]⟩
abbrev S1x1x128x128 : Shape := ⟨4, ![1, 1, 128, 128]⟩
abbrev S128x128 : Shape := ⟨2, ![128, 128]⟩
abbrev S32x128 : Shape := ⟨2, ![32, 128]⟩
abbrev S32x256 : Shape := ⟨2, ![32, 256]⟩
abbrev S128x1280 : Shape := ⟨2, ![128, 1280]⟩

abbrev nBuf : Space → Nat
  | .hbm => 17
  | .vmem => 31
  | .smem => 1
  | _ => 0

abbrev bufTy : (tb : Table) → Fin (tcTables nBuf tb) → BufTy
  | .hbm, ⟨0, _⟩ => ⟨S6, .f32⟩
  | .hbm, ⟨1, _⟩ => ⟨S3x8x160x24576, .fp8e4m3⟩
  | .hbm, ⟨2, _⟩ => ⟨S3x8x24576, .f32⟩
  | .hbm, ⟨3, _⟩ => ⟨S3x2x4x24576, .f32⟩
  | .hbm, ⟨4, _⟩ => ⟨S3x8x24576, .f32⟩
  | .hbm, ⟨5, _⟩ => ⟨S3x8x24576, .f32⟩
  | .hbm, ⟨6, _⟩ => ⟨S3x8x24576, .f32⟩
  | .hbm, ⟨7, _⟩ => ⟨S3x2x196608x128, .f32⟩
  | .hbm, ⟨8, _⟩ => ⟨S3x2x24576x256, .bf16⟩
  | .hbm, ⟨9, _⟩ => ⟨S3x2x24576x256, .fp8e4m3⟩
  | .hbm, ⟨10, _⟩ => ⟨S3x2x160x24576, .fp8e4m3⟩
  | .hbm, ⟨11, _⟩ => ⟨S3x2x1536x256, .bf16⟩
  | .hbm, ⟨12, _⟩ => ⟨S3x2x160x1536, .bf16⟩
  | .hbm, ⟨13, _⟩ => ⟨S3x24576x1280, .bf16⟩
  | .hbm, ⟨14, _⟩ => ⟨S3x8x160x24576, .bf16⟩
  | .hbm, ⟨15, _⟩ => ⟨S3x8x160x24576, .bf16⟩
  | .hbm, ⟨16, _⟩ => ⟨S3x8x160x24576, .bf16⟩
  | .local _ .vmem, ⟨0, _⟩ => ⟨S1x8x160x128, .fp8e4m3⟩
  | .local _ .vmem, ⟨1, _⟩ => ⟨S1x8x160x128, .fp8e4m3⟩
  | .local _ .vmem, ⟨2, _⟩ => ⟨S1x8x128, .f32⟩
  | .local _ .vmem, ⟨3, _⟩ => ⟨S1x8x128, .f32⟩
  | .local _ .vmem, ⟨4, _⟩ => ⟨S1x2x4x128, .f32⟩
  | .local _ .vmem, ⟨5, _⟩ => ⟨S1x2x4x128, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S1x2x1024x128, .f32⟩
  | .local _ .vmem, ⟨13, _⟩ => ⟨S1x2x1024x128, .f32⟩
  | .local _ .vmem, ⟨14, _⟩ => ⟨S1x2x24576x256, .fp8e4m3⟩
  | .local _ .vmem, ⟨15, _⟩ => ⟨S1x2x160x24576, .fp8e4m3⟩
  | .local _ .vmem, ⟨16, _⟩ => ⟨S1x2x1536x256, .bf16⟩
  | .local _ .vmem, ⟨17, _⟩ => ⟨S1x2x160x1536, .bf16⟩
  | .local _ .vmem, ⟨18, _⟩ => ⟨S1x2x128x256, .bf16⟩
  | .local _ .vmem, ⟨19, _⟩ => ⟨S1x2x128x256, .bf16⟩
  | .local _ .vmem, ⟨20, _⟩ => ⟨S1x128x1280, .bf16⟩
  | .local _ .vmem, ⟨21, _⟩ => ⟨S1x128x1280, .bf16⟩
  | .local _ .vmem, ⟨22, _⟩ => ⟨S1x8x160x128, .bf16⟩
  | .local _ .vmem, ⟨23, _⟩ => ⟨S1x8x160x128, .bf16⟩
  | .local _ .vmem, ⟨24, _⟩ => ⟨S1x8x160x128, .bf16⟩
  | .local _ .vmem, ⟨25, _⟩ => ⟨S1x8x160x128, .bf16⟩
  | .local _ .vmem, ⟨26, _⟩ => ⟨S1x8x160x128, .bf16⟩
  | .local _ .vmem, ⟨27, _⟩ => ⟨S1x8x160x128, .bf16⟩
  | .local _ .vmem, ⟨28, _⟩ => ⟨S4x1536x256, .f32⟩
  | .local _ .vmem, ⟨29, _⟩ => ⟨S4x160x256, .f32⟩
  | .local _ .vmem, ⟨30, _⟩ => ⟨S1280x128, .bf16⟩
  | .local _ .smem, ⟨0, _⟩ => ⟨S6, .f32⟩
  | _, _ => ⟨S6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨2, ![3, 192], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  let c512_i32 : BitVec 32 := 512#32
  let v6 : BitVec 32 := Scalar.subi v0 c512_i32
  let c0_i32 : BitVec 32 := 0#32
  let v7 : BitVec 32 := Scalar.maxsi v6 c0_i32
  v7
@[reducible] def k0_t1_loop (i : grid0.Coords) : Scf.Loop 32 :=
  let c0_i32_1 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v9 : BitVec 32 := Scalar.addi v0 c128_i32_0
  let c32_i32 : BitVec 32 := 32#32
  let v10 : BitVec 32 := Scalar.subi v9 c32_i32
  let c4096_i32 : BitVec 32 := 4096#32
  let v11 : BitVec 32 := Scalar.divsi v10 c4096_i32
  let c1_i32 : BitVec 32 := 1#32
  let v12 : BitVec 32 := Scalar.addi v11 c1_i32
  let v14 : BitVec 32 := Scalar.subi v12 c0_i32_1
  let c1_i32_2 : BitVec 32 := 1#32
  let v16 : BitVec 32 := Scalar.divsi v14 c1_i32_2
  let v17 : BitVec 32 := Scalar.muli v16 c1_i32_2
  let v18 : BitVec 32 := Scalar.addi c0_i32_1 v17
  let c1_i32_3 : BitVec 32 := 1#32
  ⟨c0_i32_1, v18, c1_i32_3⟩
def k0_mult2 (i : grid0.Coords) (k0_t1 : Fin (k0_t1_loop i).trips) : BitVec 32 :=
  let c0_i32_1 : BitVec 32 := 0#32
  let c1_i32_3 : BitVec 32 := 1#32
  let arg22 : BitVec 32 := Scf.iv c0_i32_1 c1_i32_3 k0_t1
  let c256_i32 : BitVec 32 := 256#32
  let v757 : BitVec 32 := Scalar.muli arg22 c256_i32
  v757
def k0_off1 (i : grid0.Coords) (k0_t1 : Fin (k0_t1_loop i).trips) : Fin 4 → Nat :=
  let c0_464 : Index := 0#32
  let c0_465 : Index := 0#32
  let c0_i32_1 : BitVec 32 := 0#32
  let c1_i32_3 : BitVec 32 := 1#32
  let arg22 : BitVec 32 := Scf.iv c0_i32_1 c1_i32_3 k0_t1
  let c256_i32 : BitVec 32 := 256#32
  let v757 : BitVec 32 := Scalar.muli arg22 c256_i32
  let v758 : BitVec 32 := v757
  let v767 : Index := Scalar.indexCast v758
  let c0_466 : Index := 0#32
  ![0, 0, v767.toNat, 0]
def k0_off2 (i : grid0.Coords) (k0_t1 : Fin (k0_t1_loop i).trips) : Fin 3 → Nat :=
  let c0_483 : Index := 0#32
  let c0_i32_1 : BitVec 32 := 0#32
  let c1_i32_3 : BitVec 32 := 1#32
  let arg22 : BitVec 32 := Scf.iv c0_i32_1 c1_i32_3 k0_t1
  let c256_i32 : BitVec 32 := 256#32
  let v757 : BitVec 32 := Scalar.muli arg22 c256_i32
  let v758 : BitVec 32 := v757
  let v788 : Index := Scalar.indexCast v758
  let c0_484 : Index := 0#32
  ![0, v788.toNat, 0]
def k0_off3 (i : grid0.Coords) (k0_t1 : Fin (k0_t1_loop i).trips) : Fin 3 → Nat :=
  let c1_505 : Index := 1#32
  let c0_i32_1 : BitVec 32 := 0#32
  let c1_i32_3 : BitVec 32 := 1#32
  let arg22 : BitVec 32 := Scf.iv c0_i32_1 c1_i32_3 k0_t1
  let c256_i32 : BitVec 32 := 256#32
  let v757 : BitVec 32 := Scalar.muli arg22 c256_i32
  let v758 : BitVec 32 := v757
  let v816 : Index := Scalar.indexCast v758
  let c0_506 : Index := 0#32
  ![1, v816.toNat, 0]
def k0_off4 (i : grid0.Coords) (k0_t1 : Fin (k0_t1_loop i).trips) : Fin 4 → Nat :=
  let c0_508 : Index := 0#32
  let c1_509 : Index := 1#32
  let c0_i32_1 : BitVec 32 := 0#32
  let c1_i32_3 : BitVec 32 := 1#32
  let arg22 : BitVec 32 := Scf.iv c0_i32_1 c1_i32_3 k0_t1
  let c256_i32 : BitVec 32 := 256#32
  let v757 : BitVec 32 := Scalar.muli arg22 c256_i32
  let v758 : BitVec 32 := v757
  let v823 : Index := Scalar.indexCast v758
  let c0_510 : Index := 0#32
  ![0, 1, v823.toNat, 0]
def k0_off5 (i : grid0.Coords) (k0_t1 : Fin (k0_t1_loop i).trips) : Fin 3 → Nat :=
  let c2_527 : Index := 2#32
  let c0_i32_1 : BitVec 32 := 0#32
  let c1_i32_3 : BitVec 32 := 1#32
  let arg22 : BitVec 32 := Scf.iv c0_i32_1 c1_i32_3 k0_t1
  let c256_i32 : BitVec 32 := 256#32
  let v757 : BitVec 32 := Scalar.muli arg22 c256_i32
  let v758 : BitVec 32 := v757
  let v844 : Index := Scalar.indexCast v758
  let c0_528 : Index := 0#32
  ![2, v844.toNat, 0]
def k0_off6 (i : grid0.Coords) (k0_t1 : Fin (k0_t1_loop i).trips) : Fin 3 → Nat :=
  let c3_549 : Index := 3#32
  let c0_i32_1 : BitVec 32 := 0#32
  let c1_i32_3 : BitVec 32 := 1#32
  let arg22 : BitVec 32 := Scf.iv c0_i32_1 c1_i32_3 k0_t1
  let c256_i32 : BitVec 32 := 256#32
  let v757 : BitVec 32 := Scalar.muli arg22 c256_i32
  let v758 : BitVec 32 := v757
  let v872 : Index := Scalar.indexCast v758
  let c0_550 : Index := 0#32
  ![3, v872.toNat, 0]
@[reducible] def k0_t2_loop (i : grid0.Coords) : Scf.Loop 32 :=
  let c0_i32_1 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v9 : BitVec 32 := Scalar.addi v0 c128_i32_0
  let c32_i32 : BitVec 32 := 32#32
  let v10 : BitVec 32 := Scalar.subi v9 c32_i32
  let c4096_i32 : BitVec 32 := 4096#32
  let v11 : BitVec 32 := Scalar.divsi v10 c4096_i32
  let c1_i32 : BitVec 32 := 1#32
  let v12 : BitVec 32 := Scalar.addi v11 c1_i32
  let v14 : BitVec 32 := Scalar.subi v12 c0_i32_1
  let c1_i32_2 : BitVec 32 := 1#32
  let v16 : BitVec 32 := Scalar.divsi v14 c1_i32_2
  let v17 : BitVec 32 := Scalar.muli v16 c1_i32_2
  let v18 : BitVec 32 := Scalar.addi c0_i32_1 v17
  let v15 : BitVec 32 := Scalar.addi c0_i32_1 v14
  let c1_i32_4 : BitVec 32 := 1#32
  ⟨v18, v15, c1_i32_4⟩
def k0_mult3 (i : grid0.Coords) (k0_t2 : Fin (k0_t2_loop i).trips) : BitVec 32 :=
  let c0_i32_1 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v9 : BitVec 32 := Scalar.addi v0 c128_i32_0
  let c32_i32 : BitVec 32 := 32#32
  let v10 : BitVec 32 := Scalar.subi v9 c32_i32
  let c4096_i32 : BitVec 32 := 4096#32
  let v11 : BitVec 32 := Scalar.divsi v10 c4096_i32
  let c1_i32 : BitVec 32 := 1#32
  let v12 : BitVec 32 := Scalar.addi v11 c1_i32
  let v14 : BitVec 32 := Scalar.subi v12 c0_i32_1
  let c1_i32_2 : BitVec 32 := 1#32
  let v16 : BitVec 32 := Scalar.divsi v14 c1_i32_2
  let v17 : BitVec 32 := Scalar.muli v16 c1_i32_2
  let v18 : BitVec 32 := Scalar.addi c0_i32_1 v17
  let c1_i32_4 : BitVec 32 := 1#32
  let arg22 : BitVec 32 := Scf.iv v18 c1_i32_4 k0_t2
  let c256_i32 : BitVec 32 := 256#32
  let v757 : BitVec 32 := Scalar.muli arg22 c256_i32
  v757
def k0_off7 (i : grid0.Coords) (k0_t2 : Fin (k0_t2_loop i).trips) : Fin 4 → Nat :=
  let c0_464 : Index := 0#32
  let c0_465 : Index := 0#32
  let c0_i32_1 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v9 : BitVec 32 := Scalar.addi v0 c128_i32_0
  let c32_i32 : BitVec 32 := 32#32
  let v10 : BitVec 32 := Scalar.subi v9 c32_i32
  let c4096_i32 : BitVec 32 := 4096#32
  let v11 : BitVec 32 := Scalar.divsi v10 c4096_i32
  let c1_i32 : BitVec 32 := 1#32
  let v12 : BitVec 32 := Scalar.addi v11 c1_i32
  let v14 : BitVec 32 := Scalar.subi v12 c0_i32_1
  let c1_i32_2 : BitVec 32 := 1#32
  let v16 : BitVec 32 := Scalar.divsi v14 c1_i32_2
  let v17 : BitVec 32 := Scalar.muli v16 c1_i32_2
  let v18 : BitVec 32 := Scalar.addi c0_i32_1 v17
  let c1_i32_4 : BitVec 32 := 1#32
  let arg22 : BitVec 32 := Scf.iv v18 c1_i32_4 k0_t2
  let c256_i32 : BitVec 32 := 256#32
  let v757 : BitVec 32 := Scalar.muli arg22 c256_i32
  let v758 : BitVec 32 := v757
  let v767 : Index := Scalar.indexCast v758
  let c0_466 : Index := 0#32
  ![0, 0, v767.toNat, 0]
def k0_off8 (i : grid0.Coords) (k0_t2 : Fin (k0_t2_loop i).trips) : Fin 3 → Nat :=
  let c0_483 : Index := 0#32
  let c0_i32_1 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v9 : BitVec 32 := Scalar.addi v0 c128_i32_0
  let c32_i32 : BitVec 32 := 32#32
  let v10 : BitVec 32 := Scalar.subi v9 c32_i32
  let c4096_i32 : BitVec 32 := 4096#32
  let v11 : BitVec 32 := Scalar.divsi v10 c4096_i32
  let c1_i32 : BitVec 32 := 1#32
  let v12 : BitVec 32 := Scalar.addi v11 c1_i32
  let v14 : BitVec 32 := Scalar.subi v12 c0_i32_1
  let c1_i32_2 : BitVec 32 := 1#32
  let v16 : BitVec 32 := Scalar.divsi v14 c1_i32_2
  let v17 : BitVec 32 := Scalar.muli v16 c1_i32_2
  let v18 : BitVec 32 := Scalar.addi c0_i32_1 v17
  let c1_i32_4 : BitVec 32 := 1#32
  let arg22 : BitVec 32 := Scf.iv v18 c1_i32_4 k0_t2
  let c256_i32 : BitVec 32 := 256#32
  let v757 : BitVec 32 := Scalar.muli arg22 c256_i32
  let v758 : BitVec 32 := v757
  let v788 : Index := Scalar.indexCast v758
  let c0_484 : Index := 0#32
  ![0, v788.toNat, 0]
def k0_off9 (i : grid0.Coords) (k0_t2 : Fin (k0_t2_loop i).trips) : Fin 3 → Nat :=
  let c1_505 : Index := 1#32
  let c0_i32_1 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v9 : BitVec 32 := Scalar.addi v0 c128_i32_0
  let c32_i32 : BitVec 32 := 32#32
  let v10 : BitVec 32 := Scalar.subi v9 c32_i32
  let c4096_i32 : BitVec 32 := 4096#32
  let v11 : BitVec 32 := Scalar.divsi v10 c4096_i32
  let c1_i32 : BitVec 32 := 1#32
  let v12 : BitVec 32 := Scalar.addi v11 c1_i32
  let v14 : BitVec 32 := Scalar.subi v12 c0_i32_1
  let c1_i32_2 : BitVec 32 := 1#32
  let v16 : BitVec 32 := Scalar.divsi v14 c1_i32_2
  let v17 : BitVec 32 := Scalar.muli v16 c1_i32_2
  let v18 : BitVec 32 := Scalar.addi c0_i32_1 v17
  let c1_i32_4 : BitVec 32 := 1#32
  let arg22 : BitVec 32 := Scf.iv v18 c1_i32_4 k0_t2
  let c256_i32 : BitVec 32 := 256#32
  let v757 : BitVec 32 := Scalar.muli arg22 c256_i32
  let v758 : BitVec 32 := v757
  let v816 : Index := Scalar.indexCast v758
  let c0_506 : Index := 0#32
  ![1, v816.toNat, 0]
def k0_off10 (i : grid0.Coords) (k0_t2 : Fin (k0_t2_loop i).trips) : Fin 4 → Nat :=
  let c0_508 : Index := 0#32
  let c1_509 : Index := 1#32
  let c0_i32_1 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v9 : BitVec 32 := Scalar.addi v0 c128_i32_0
  let c32_i32 : BitVec 32 := 32#32
  let v10 : BitVec 32 := Scalar.subi v9 c32_i32
  let c4096_i32 : BitVec 32 := 4096#32
  let v11 : BitVec 32 := Scalar.divsi v10 c4096_i32
  let c1_i32 : BitVec 32 := 1#32
  let v12 : BitVec 32 := Scalar.addi v11 c1_i32
  let v14 : BitVec 32 := Scalar.subi v12 c0_i32_1
  let c1_i32_2 : BitVec 32 := 1#32
  let v16 : BitVec 32 := Scalar.divsi v14 c1_i32_2
  let v17 : BitVec 32 := Scalar.muli v16 c1_i32_2
  let v18 : BitVec 32 := Scalar.addi c0_i32_1 v17
  let c1_i32_4 : BitVec 32 := 1#32
  let arg22 : BitVec 32 := Scf.iv v18 c1_i32_4 k0_t2
  let c256_i32 : BitVec 32 := 256#32
  let v757 : BitVec 32 := Scalar.muli arg22 c256_i32
  let v758 : BitVec 32 := v757
  let v823 : Index := Scalar.indexCast v758
  let c0_510 : Index := 0#32
  ![0, 1, v823.toNat, 0]
def k0_off11 (i : grid0.Coords) (k0_t2 : Fin (k0_t2_loop i).trips) : Fin 3 → Nat :=
  let c2_527 : Index := 2#32
  let c0_i32_1 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v9 : BitVec 32 := Scalar.addi v0 c128_i32_0
  let c32_i32 : BitVec 32 := 32#32
  let v10 : BitVec 32 := Scalar.subi v9 c32_i32
  let c4096_i32 : BitVec 32 := 4096#32
  let v11 : BitVec 32 := Scalar.divsi v10 c4096_i32
  let c1_i32 : BitVec 32 := 1#32
  let v12 : BitVec 32 := Scalar.addi v11 c1_i32
  let v14 : BitVec 32 := Scalar.subi v12 c0_i32_1
  let c1_i32_2 : BitVec 32 := 1#32
  let v16 : BitVec 32 := Scalar.divsi v14 c1_i32_2
  let v17 : BitVec 32 := Scalar.muli v16 c1_i32_2
  let v18 : BitVec 32 := Scalar.addi c0_i32_1 v17
  let c1_i32_4 : BitVec 32 := 1#32
  let arg22 : BitVec 32 := Scf.iv v18 c1_i32_4 k0_t2
  let c256_i32 : BitVec 32 := 256#32
  let v757 : BitVec 32 := Scalar.muli arg22 c256_i32
  let v758 : BitVec 32 := v757
  let v844 : Index := Scalar.indexCast v758
  let c0_528 : Index := 0#32
  ![2, v844.toNat, 0]
def k0_off12 (i : grid0.Coords) (k0_t2 : Fin (k0_t2_loop i).trips) : Fin 3 → Nat :=
  let c3_549 : Index := 3#32
  let c0_i32_1 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v9 : BitVec 32 := Scalar.addi v0 c128_i32_0
  let c32_i32 : BitVec 32 := 32#32
  let v10 : BitVec 32 := Scalar.subi v9 c32_i32
  let c4096_i32 : BitVec 32 := 4096#32
  let v11 : BitVec 32 := Scalar.divsi v10 c4096_i32
  let c1_i32 : BitVec 32 := 1#32
  let v12 : BitVec 32 := Scalar.addi v11 c1_i32
  let v14 : BitVec 32 := Scalar.subi v12 c0_i32_1
  let c1_i32_2 : BitVec 32 := 1#32
  let v16 : BitVec 32 := Scalar.divsi v14 c1_i32_2
  let v17 : BitVec 32 := Scalar.muli v16 c1_i32_2
  let v18 : BitVec 32 := Scalar.addi c0_i32_1 v17
  let c1_i32_4 : BitVec 32 := 1#32
  let arg22 : BitVec 32 := Scf.iv v18 c1_i32_4 k0_t2
  let c256_i32 : BitVec 32 := 256#32
  let v757 : BitVec 32 := Scalar.muli arg22 c256_i32
  let v758 : BitVec 32 := v757
  let v872 : Index := Scalar.indexCast v758
  let c0_550 : Index := 0#32
  ![3, v872.toNat, 0]
@[reducible] def k0_t3_loop (i : grid0.Coords) : Scf.Loop 32 :=
  let c0_i32_17 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v9 : BitVec 32 := Scalar.addi v0 c128_i32_0
  let c32_i32 : BitVec 32 := 32#32
  let v10 : BitVec 32 := Scalar.subi v9 c32_i32
  let c4096_i32 : BitVec 32 := 4096#32
  let v11 : BitVec 32 := Scalar.divsi v10 c4096_i32
  let c1_i32 : BitVec 32 := 1#32
  let v12 : BitVec 32 := Scalar.addi v11 c1_i32
  let v42 : BitVec 32 := Scalar.subi v12 c0_i32_17
  let c1_i32_18 : BitVec 32 := 1#32
  let v44 : BitVec 32 := Scalar.divsi v42 c1_i32_18
  let v45 : BitVec 32 := Scalar.muli v44 c1_i32_18
  let v46 : BitVec 32 := Scalar.addi c0_i32_17 v45
  let c1_i32_19 : BitVec 32 := 1#32
  ⟨c0_i32_17, v46, c1_i32_19⟩
def k0_mult4 (i : grid0.Coords) (k0_t3 : Fin (k0_t3_loop i).trips) : BitVec 32 :=
  let c0_i32_17 : BitVec 32 := 0#32
  let c1_i32_19 : BitVec 32 := 1#32
  let arg22 : BitVec 32 := Scf.iv c0_i32_17 c1_i32_19 k0_t3
  let c256_i32 : BitVec 32 := 256#32
  let v757 : BitVec 32 := Scalar.muli arg22 c256_i32
  v757
def k0_off13 (i : grid0.Coords) (k0_t3 : Fin (k0_t3_loop i).trips) : Fin 3 → Nat :=
  let c0_463 : Index := 0#32
  let c0_i32_17 : BitVec 32 := 0#32
  let c1_i32_19 : BitVec 32 := 1#32
  let arg22 : BitVec 32 := Scf.iv c0_i32_17 c1_i32_19 k0_t3
  let c256_i32 : BitVec 32 := 256#32
  let v757 : BitVec 32 := Scalar.muli arg22 c256_i32
  let v758 : BitVec 32 := v757
  let v759 : Index := Scalar.indexCast v758
  let c0_464 : Index := 0#32
  ![0, v759.toNat, 0]
def k0_off14 (i : grid0.Coords) (k0_t3 : Fin (k0_t3_loop i).trips) : Fin 4 → Nat :=
  let c0_468 : Index := 0#32
  let c0_469 : Index := 0#32
  let c0_470 : Index := 0#32
  let c0_i32_17 : BitVec 32 := 0#32
  let c1_i32_19 : BitVec 32 := 1#32
  let arg22 : BitVec 32 := Scf.iv c0_i32_17 c1_i32_19 k0_t3
  let c256_i32 : BitVec 32 := 256#32
  let v757 : BitVec 32 := Scalar.muli arg22 c256_i32
  let v758 : BitVec 32 := v757
  let v767 : Index := Scalar.indexCast v758
  ![0, 0, 0, v767.toNat]
def k0_off15 (i : grid0.Coords) (k0_t3 : Fin (k0_t3_loop i).trips) : Fin 3 → Nat :=
  let c1_476 : Index := 1#32
  let c0_i32_17 : BitVec 32 := 0#32
  let c1_i32_19 : BitVec 32 := 1#32
  let arg22 : BitVec 32 := Scf.iv c0_i32_17 c1_i32_19 k0_t3
  let c256_i32 : BitVec 32 := 256#32
  let v757 : BitVec 32 := Scalar.muli arg22 c256_i32
  let v758 : BitVec 32 := v757
  let v779 : Index := Scalar.indexCast v758
  let c0_477 : Index := 0#32
  ![1, v779.toNat, 0]
def k0_off16 (i : grid0.Coords) (k0_t3 : Fin (k0_t3_loop i).trips) : Fin 3 → Nat :=
  let c2_489 : Index := 2#32
  let c0_i32_17 : BitVec 32 := 0#32
  let c1_i32_19 : BitVec 32 := 1#32
  let arg22 : BitVec 32 := Scf.iv c0_i32_17 c1_i32_19 k0_t3
  let c256_i32 : BitVec 32 := 256#32
  let v757 : BitVec 32 := Scalar.muli arg22 c256_i32
  let v758 : BitVec 32 := v757
  let v799 : Index := Scalar.indexCast v758
  let c0_490 : Index := 0#32
  ![2, v799.toNat, 0]
def k0_off17 (i : grid0.Coords) (k0_t3 : Fin (k0_t3_loop i).trips) : Fin 4 → Nat :=
  let c0_494 : Index := 0#32
  let c1_495 : Index := 1#32
  let c0_496 : Index := 0#32
  let c0_i32_17 : BitVec 32 := 0#32
  let c1_i32_19 : BitVec 32 := 1#32
  let arg22 : BitVec 32 := Scf.iv c0_i32_17 c1_i32_19 k0_t3
  let c256_i32 : BitVec 32 := 256#32
  let v757 : BitVec 32 := Scalar.muli arg22 c256_i32
  let v758 : BitVec 32 := v757
  let v807 : Index := Scalar.indexCast v758
  ![0, 1, 0, v807.toNat]
def k0_off18 (i : grid0.Coords) (k0_t3 : Fin (k0_t3_loop i).trips) : Fin 3 → Nat :=
  let c3_502 : Index := 3#32
  let c0_i32_17 : BitVec 32 := 0#32
  let c1_i32_19 : BitVec 32 := 1#32
  let arg22 : BitVec 32 := Scf.iv c0_i32_17 c1_i32_19 k0_t3
  let c256_i32 : BitVec 32 := 256#32
  let v757 : BitVec 32 := Scalar.muli arg22 c256_i32
  let v758 : BitVec 32 := v757
  let v819 : Index := Scalar.indexCast v758
  let c0_503 : Index := 0#32
  ![3, v819.toNat, 0]
@[reducible] def k0_t4_loop (i : grid0.Coords) : Scf.Loop 32 :=
  let c0_i32_17 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v9 : BitVec 32 := Scalar.addi v0 c128_i32_0
  let c32_i32 : BitVec 32 := 32#32
  let v10 : BitVec 32 := Scalar.subi v9 c32_i32
  let c4096_i32 : BitVec 32 := 4096#32
  let v11 : BitVec 32 := Scalar.divsi v10 c4096_i32
  let c1_i32 : BitVec 32 := 1#32
  let v12 : BitVec 32 := Scalar.addi v11 c1_i32
  let v42 : BitVec 32 := Scalar.subi v12 c0_i32_17
  let c1_i32_18 : BitVec 32 := 1#32
  let v44 : BitVec 32 := Scalar.divsi v42 c1_i32_18
  let v45 : BitVec 32 := Scalar.muli v44 c1_i32_18
  let v46 : BitVec 32 := Scalar.addi c0_i32_17 v45
  let v43 : BitVec 32 := Scalar.addi c0_i32_17 v42
  let c1_i32_20 : BitVec 32 := 1#32
  ⟨v46, v43, c1_i32_20⟩
def k0_mult5 (i : grid0.Coords) (k0_t4 : Fin (k0_t4_loop i).trips) : BitVec 32 :=
  let c0_i32_17 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v9 : BitVec 32 := Scalar.addi v0 c128_i32_0
  let c32_i32 : BitVec 32 := 32#32
  let v10 : BitVec 32 := Scalar.subi v9 c32_i32
  let c4096_i32 : BitVec 32 := 4096#32
  let v11 : BitVec 32 := Scalar.divsi v10 c4096_i32
  let c1_i32 : BitVec 32 := 1#32
  let v12 : BitVec 32 := Scalar.addi v11 c1_i32
  let v42 : BitVec 32 := Scalar.subi v12 c0_i32_17
  let c1_i32_18 : BitVec 32 := 1#32
  let v44 : BitVec 32 := Scalar.divsi v42 c1_i32_18
  let v45 : BitVec 32 := Scalar.muli v44 c1_i32_18
  let v46 : BitVec 32 := Scalar.addi c0_i32_17 v45
  let c1_i32_20 : BitVec 32 := 1#32
  let arg22 : BitVec 32 := Scf.iv v46 c1_i32_20 k0_t4
  let c256_i32 : BitVec 32 := 256#32
  let v757 : BitVec 32 := Scalar.muli arg22 c256_i32
  v757
def k0_off19 (i : grid0.Coords) (k0_t4 : Fin (k0_t4_loop i).trips) : Fin 3 → Nat :=
  let c0_463 : Index := 0#32
  let c0_i32_17 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v9 : BitVec 32 := Scalar.addi v0 c128_i32_0
  let c32_i32 : BitVec 32 := 32#32
  let v10 : BitVec 32 := Scalar.subi v9 c32_i32
  let c4096_i32 : BitVec 32 := 4096#32
  let v11 : BitVec 32 := Scalar.divsi v10 c4096_i32
  let c1_i32 : BitVec 32 := 1#32
  let v12 : BitVec 32 := Scalar.addi v11 c1_i32
  let v42 : BitVec 32 := Scalar.subi v12 c0_i32_17
  let c1_i32_18 : BitVec 32 := 1#32
  let v44 : BitVec 32 := Scalar.divsi v42 c1_i32_18
  let v45 : BitVec 32 := Scalar.muli v44 c1_i32_18
  let v46 : BitVec 32 := Scalar.addi c0_i32_17 v45
  let c1_i32_20 : BitVec 32 := 1#32
  let arg22 : BitVec 32 := Scf.iv v46 c1_i32_20 k0_t4
  let c256_i32 : BitVec 32 := 256#32
  let v757 : BitVec 32 := Scalar.muli arg22 c256_i32
  let v758 : BitVec 32 := v757
  let v759 : Index := Scalar.indexCast v758
  let c0_464 : Index := 0#32
  ![0, v759.toNat, 0]
def k0_off20 (i : grid0.Coords) (k0_t4 : Fin (k0_t4_loop i).trips) : Fin 4 → Nat :=
  let c0_468 : Index := 0#32
  let c0_469 : Index := 0#32
  let c0_470 : Index := 0#32
  let c0_i32_17 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v9 : BitVec 32 := Scalar.addi v0 c128_i32_0
  let c32_i32 : BitVec 32 := 32#32
  let v10 : BitVec 32 := Scalar.subi v9 c32_i32
  let c4096_i32 : BitVec 32 := 4096#32
  let v11 : BitVec 32 := Scalar.divsi v10 c4096_i32
  let c1_i32 : BitVec 32 := 1#32
  let v12 : BitVec 32 := Scalar.addi v11 c1_i32
  let v42 : BitVec 32 := Scalar.subi v12 c0_i32_17
  let c1_i32_18 : BitVec 32 := 1#32
  let v44 : BitVec 32 := Scalar.divsi v42 c1_i32_18
  let v45 : BitVec 32 := Scalar.muli v44 c1_i32_18
  let v46 : BitVec 32 := Scalar.addi c0_i32_17 v45
  let c1_i32_20 : BitVec 32 := 1#32
  let arg22 : BitVec 32 := Scf.iv v46 c1_i32_20 k0_t4
  let c256_i32 : BitVec 32 := 256#32
  let v757 : BitVec 32 := Scalar.muli arg22 c256_i32
  let v758 : BitVec 32 := v757
  let v767 : Index := Scalar.indexCast v758
  ![0, 0, 0, v767.toNat]
def k0_off21 (i : grid0.Coords) (k0_t4 : Fin (k0_t4_loop i).trips) : Fin 3 → Nat :=
  let c1_476 : Index := 1#32
  let c0_i32_17 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v9 : BitVec 32 := Scalar.addi v0 c128_i32_0
  let c32_i32 : BitVec 32 := 32#32
  let v10 : BitVec 32 := Scalar.subi v9 c32_i32
  let c4096_i32 : BitVec 32 := 4096#32
  let v11 : BitVec 32 := Scalar.divsi v10 c4096_i32
  let c1_i32 : BitVec 32 := 1#32
  let v12 : BitVec 32 := Scalar.addi v11 c1_i32
  let v42 : BitVec 32 := Scalar.subi v12 c0_i32_17
  let c1_i32_18 : BitVec 32 := 1#32
  let v44 : BitVec 32 := Scalar.divsi v42 c1_i32_18
  let v45 : BitVec 32 := Scalar.muli v44 c1_i32_18
  let v46 : BitVec 32 := Scalar.addi c0_i32_17 v45
  let c1_i32_20 : BitVec 32 := 1#32
  let arg22 : BitVec 32 := Scf.iv v46 c1_i32_20 k0_t4
  let c256_i32 : BitVec 32 := 256#32
  let v757 : BitVec 32 := Scalar.muli arg22 c256_i32
  let v758 : BitVec 32 := v757
  let v779 : Index := Scalar.indexCast v758
  let c0_477 : Index := 0#32
  ![1, v779.toNat, 0]
def k0_off22 (i : grid0.Coords) (k0_t4 : Fin (k0_t4_loop i).trips) : Fin 3 → Nat :=
  let c2_489 : Index := 2#32
  let c0_i32_17 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v9 : BitVec 32 := Scalar.addi v0 c128_i32_0
  let c32_i32 : BitVec 32 := 32#32
  let v10 : BitVec 32 := Scalar.subi v9 c32_i32
  let c4096_i32 : BitVec 32 := 4096#32
  let v11 : BitVec 32 := Scalar.divsi v10 c4096_i32
  let c1_i32 : BitVec 32 := 1#32
  let v12 : BitVec 32 := Scalar.addi v11 c1_i32
  let v42 : BitVec 32 := Scalar.subi v12 c0_i32_17
  let c1_i32_18 : BitVec 32 := 1#32
  let v44 : BitVec 32 := Scalar.divsi v42 c1_i32_18
  let v45 : BitVec 32 := Scalar.muli v44 c1_i32_18
  let v46 : BitVec 32 := Scalar.addi c0_i32_17 v45
  let c1_i32_20 : BitVec 32 := 1#32
  let arg22 : BitVec 32 := Scf.iv v46 c1_i32_20 k0_t4
  let c256_i32 : BitVec 32 := 256#32
  let v757 : BitVec 32 := Scalar.muli arg22 c256_i32
  let v758 : BitVec 32 := v757
  let v799 : Index := Scalar.indexCast v758
  let c0_490 : Index := 0#32
  ![2, v799.toNat, 0]
def k0_off23 (i : grid0.Coords) (k0_t4 : Fin (k0_t4_loop i).trips) : Fin 4 → Nat :=
  let c0_494 : Index := 0#32
  let c1_495 : Index := 1#32
  let c0_496 : Index := 0#32
  let c0_i32_17 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v9 : BitVec 32 := Scalar.addi v0 c128_i32_0
  let c32_i32 : BitVec 32 := 32#32
  let v10 : BitVec 32 := Scalar.subi v9 c32_i32
  let c4096_i32 : BitVec 32 := 4096#32
  let v11 : BitVec 32 := Scalar.divsi v10 c4096_i32
  let c1_i32 : BitVec 32 := 1#32
  let v12 : BitVec 32 := Scalar.addi v11 c1_i32
  let v42 : BitVec 32 := Scalar.subi v12 c0_i32_17
  let c1_i32_18 : BitVec 32 := 1#32
  let v44 : BitVec 32 := Scalar.divsi v42 c1_i32_18
  let v45 : BitVec 32 := Scalar.muli v44 c1_i32_18
  let v46 : BitVec 32 := Scalar.addi c0_i32_17 v45
  let c1_i32_20 : BitVec 32 := 1#32
  let arg22 : BitVec 32 := Scf.iv v46 c1_i32_20 k0_t4
  let c256_i32 : BitVec 32 := 256#32
  let v757 : BitVec 32 := Scalar.muli arg22 c256_i32
  let v758 : BitVec 32 := v757
  let v807 : Index := Scalar.indexCast v758
  ![0, 1, 0, v807.toNat]
def k0_off24 (i : grid0.Coords) (k0_t4 : Fin (k0_t4_loop i).trips) : Fin 3 → Nat :=
  let c3_502 : Index := 3#32
  let c0_i32_17 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v9 : BitVec 32 := Scalar.addi v0 c128_i32_0
  let c32_i32 : BitVec 32 := 32#32
  let v10 : BitVec 32 := Scalar.subi v9 c32_i32
  let c4096_i32 : BitVec 32 := 4096#32
  let v11 : BitVec 32 := Scalar.divsi v10 c4096_i32
  let c1_i32 : BitVec 32 := 1#32
  let v12 : BitVec 32 := Scalar.addi v11 c1_i32
  let v42 : BitVec 32 := Scalar.subi v12 c0_i32_17
  let c1_i32_18 : BitVec 32 := 1#32
  let v44 : BitVec 32 := Scalar.divsi v42 c1_i32_18
  let v45 : BitVec 32 := Scalar.muli v44 c1_i32_18
  let v46 : BitVec 32 := Scalar.addi c0_i32_17 v45
  let c1_i32_20 : BitVec 32 := 1#32
  let arg22 : BitVec 32 := Scf.iv v46 c1_i32_20 k0_t4
  let c256_i32 : BitVec 32 := 256#32
  let v757 : BitVec 32 := Scalar.muli arg22 c256_i32
  let v758 : BitVec 32 := v757
  let v819 : Index := Scalar.indexCast v758
  let c0_503 : Index := 0#32
  ![3, v819.toNat, 0]
def k0_off25 (i : grid0.Coords) (c0_i32_37 : BitVec 32) : Fin 1 → Nat :=
  let arg0 : BitVec 32 := BitVec.ofNat 32 (i 0).val
  let c2_i32 : BitVec 32 := 2#32
  let v114 : BitVec 32 := Scalar.muli arg0 c2_i32
  let v115 : BitVec 32 := Scalar.addi v114 c0_i32_37
  let v116 : Index := Scalar.indexCast v115
  ![v116.toNat]
def k0_off26 (i : grid0.Coords) : Fin 4 → Nat :=
  let c0_38 : Index := 0#32
  let c0_39 : Index := 0#32
  let c0_40 : Index := 0#32
  let arg1 : BitVec 32 := BitVec.ofNat 32 (i 1).val
  let c128_i32 : BitVec 32 := 128#32
  let v0 : BitVec 32 := Scalar.muli arg1 c128_i32
  let c512_i32 : BitVec 32 := 512#32
  let v6 : BitVec 32 := Scalar.subi v0 c512_i32
  let c0_i32 : BitVec 32 := 0#32
  let v7 : BitVec 32 := Scalar.maxsi v6 c0_i32
  let v8 : BitVec 32 := v7
  let v118 : Index := Scalar.indexCast v8
  ![0, 0, 0, v118.toNat]
def k0_mult6 (i : grid0.Coords) : BitVec 32 :=
  let arg1 : BitVec 32 := BitVec.ofNat 32 (i 1).val
  let c128_i32 : BitVec 32 := 128#32
  let v0 : BitVec 32 := Scalar.muli arg1 c128_i32
  v0
def k0_off27 (i : grid0.Coords) : Fin 4 → Nat :=
  let c0_41 : Index := 0#32
  let c0_42 : Index := 0#32
  let c0_43 : Index := 0#32
  let arg1 : BitVec 32 := BitVec.ofNat 32 (i 1).val
  let c128_i32 : BitVec 32 := 128#32
  let v0 : BitVec 32 := Scalar.muli arg1 c128_i32
  let v122 : BitVec 32 := v0
  let v123 : Index := Scalar.indexCast v122
  ![0, 0, 0, v123.toNat]
def k0_off28 (i : grid0.Coords) : Fin 4 → Nat :=
  let c0_57 : Index := 0#32
  let c0_58 : Index := 0#32
  let arg1 : BitVec 32 := BitVec.ofNat 32 (i 1).val
  let c128_i32 : BitVec 32 := 128#32
  let v0 : BitVec 32 := Scalar.muli arg1 c128_i32
  let c512_i32 : BitVec 32 := 512#32
  let v6 : BitVec 32 := Scalar.subi v0 c512_i32
  let c0_i32 : BitVec 32 := 0#32
  let v7 : BitVec 32 := Scalar.maxsi v6 c0_i32
  let v8 : BitVec 32 := v7
  let v137 : Index := Scalar.indexCast v8
  let c0_59 : Index := 0#32
  ![0, 0, v137.toNat, 0]
def k0_off29 (i : grid0.Coords) : Fin 4 → Nat :=
  let c0_246 : Index := 0#32
  let c1_247 : Index := 1#32
  let c0_248 : Index := 0#32
  let arg1 : BitVec 32 := BitVec.ofNat 32 (i 1).val
  let c128_i32 : BitVec 32 := 128#32
  let v0 : BitVec 32 := Scalar.muli arg1 c128_i32
  let c512_i32 : BitVec 32 := 512#32
  let v6 : BitVec 32 := Scalar.subi v0 c512_i32
  let c0_i32 : BitVec 32 := 0#32
  let v7 : BitVec 32 := Scalar.maxsi v6 c0_i32
  let v8 : BitVec 32 := v7
  let v437 : Index := Scalar.indexCast v8
  ![0, 1, 0, v437.toNat]
def k0_mult7 (i : grid0.Coords) : BitVec 32 :=
  let arg1 : BitVec 32 := BitVec.ofNat 32 (i 1).val
  let c128_i32 : BitVec 32 := 128#32
  let v0 : BitVec 32 := Scalar.muli arg1 c128_i32
  v0
def k0_off30 (i : grid0.Coords) : Fin 4 → Nat :=
  let c0_249 : Index := 0#32
  let c1_250 : Index := 1#32
  let c0_251 : Index := 0#32
  let arg1 : BitVec 32 := BitVec.ofNat 32 (i 1).val
  let c128_i32 : BitVec 32 := 128#32
  let v0 : BitVec 32 := Scalar.muli arg1 c128_i32
  let v441 : BitVec 32 := v0
  let v442 : Index := Scalar.indexCast v441
  ![0, 1, 0, v442.toNat]
def k0_off31 (i : grid0.Coords) : Fin 4 → Nat :=
  let c0_266 : Index := 0#32
  let c1_267 : Index := 1#32
  let arg1 : BitVec 32 := BitVec.ofNat 32 (i 1).val
  let c128_i32 : BitVec 32 := 128#32
  let v0 : BitVec 32 := Scalar.muli arg1 c128_i32
  let c512_i32 : BitVec 32 := 512#32
  let v6 : BitVec 32 := Scalar.subi v0 c512_i32
  let c0_i32 : BitVec 32 := 0#32
  let v7 : BitVec 32 := Scalar.maxsi v6 c0_i32
  let v8 : BitVec 32 := v7
  let v456 : Index := Scalar.indexCast v8
  let c0_268 : Index := 0#32
  ![0, 1, v456.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 1 → Memref sig .tc .smem S6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x160x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x2x24576x256 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1x2x160x24576 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S1x2x1536x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S1x2x160x1536 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 2 → Memref sig .tc .vmem S1x2x128x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x1280 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x160x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x160x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x160x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ReferenceIdeal.lean ====
abbrev S6 : Shape := ⟨1, ![6]⟩
abbrev S3x8x160x24576 : Shape := ⟨4, ![3, 8, 160, 24576]⟩
abbrev S3x8x24576 : Shape := ⟨3, ![3, 8, 24576]⟩
abbrev S3x2x4x24576 : Shape := ⟨4, ![3, 2, 4, 24576]⟩
abbrev S3x2x196608x128 : Shape := ⟨4, ![3, 2, 196608, 128]⟩
abbrev S3x2x24576x256 : Shape := ⟨4, ![3, 2, 24576, 256]⟩
abbrev S3x2x160x24576 : Shape := ⟨4, ![3, 2, 160, 24576]⟩
abbrev S3x2x1536x256 : Shape := ⟨4, ![3, 2, 1536, 256]⟩
abbrev S3x2x160x1536 : Shape := ⟨4, ![3, 2, 160, 1536]⟩
abbrev S3x2x1x1 : Shape := ⟨4, ![3, 2, 1, 1]⟩
abbrev S3x24576x1280 : Shape := ⟨3, ![3, 24576, 1280]⟩
abbrev S24x160x24576 : Shape := ⟨3, ![24, 160, 24576]⟩
abbrev S24x1x24576 : Shape := ⟨3, ![24, 1, 24576]⟩
abbrev S3x2x1x1x1 : Shape := ⟨5, ![3, 2, 1, 1, 1]⟩
abbrev S3x2x4x1x1 : Shape := ⟨5, ![3, 2, 4, 1, 1]⟩
abbrev S24x1x1 : Shape := ⟨3, ![24, 1, 1]⟩
abbrev S3x2x1x160x24576 : Shape := ⟨5, ![3, 2, 1, 160, 24576]⟩
abbrev S3x2x4x160x24576 : Shape := ⟨5, ![3, 2, 4, 160, 24576]⟩
abbrev S24x1536x24576 : Shape := ⟨3, ![24, 1536, 24576]⟩
abbrev S3x2x1x1536x256 : Shape := ⟨5, ![3, 2, 1, 1536, 256]⟩
abbrev S3x2x4x1536x256 : Shape := ⟨5, ![3, 2, 4, 1536, 256]⟩
abbrev S24x1536x256 : Shape := ⟨3, ![24, 1536, 256]⟩
abbrev S24x1536x160 : Shape := ⟨3, ![24, 1536, 160]⟩
abbrev S24x24576 : Shape := ⟨2, ![24, 24576]⟩
abbrev S3x2x1x160x1536 : Shape := ⟨5, ![3, 2, 1, 160, 1536]⟩
abbrev S3x2x4x160x1536 : Shape := ⟨5, ![3, 2, 4, 160, 1536]⟩
abbrev S24x160x1536 : Shape := ⟨3, ![24, 160, 1536]⟩
abbrev S24x24576x24576 : Shape := ⟨3, ![24, 24576, 24576]⟩
abbrev S3x2x1x24576x256 : Shape := ⟨5, ![3, 2, 1, 24576, 256]⟩
abbrev S3x2x4x24576x256 : Shape := ⟨5, ![3, 2, 4, 24576, 256]⟩
abbrev S24x24576x256 : Shape := ⟨3, ![24, 24576, 256]⟩
abbrev S24x24576x160 : Shape := ⟨3, ![24, 24576, 160]⟩
abbrev S3x2x24576x2x4x128 : Shape := ⟨6, ![3, 2, 24576, 2, 4, 128]⟩
abbrev S3x2x4x2x128x24576 : Shape := ⟨6, ![3, 2, 4, 2, 128, 24576]⟩
abbrev S24x256x24576 : Shape := ⟨3, ![24, 256, 24576]⟩
abbrev S3x1280x24576 : Shape := ⟨3, ![3, 1280, 24576]⟩

abbrev nBuf : Space → Nat
  | .hbm => 18
  | .vmem => 17
  | .smem => 0
  | _ => 0

abbrev bufTy : (tb : Table) → Fin (tcTables nBuf tb) → BufTy
  | .hbm, ⟨0, _⟩ => ⟨S6, .f32⟩
  | .hbm, ⟨1, _⟩ => ⟨S3x8x160x24576, .fp8e4m3⟩
  | .hbm, ⟨2, _⟩ => ⟨S3x8x24576, .f32⟩
  | .hbm, ⟨3, _⟩ => ⟨S3x2x4x24576, .f32⟩
  | .hbm, ⟨4, _⟩ => ⟨S3x8x24576, .f32⟩
  | .hbm, ⟨5, _⟩ => ⟨S3x8x24576, .f32⟩
  | .hbm, ⟨6, _⟩ => ⟨S3x8x24576, .f32⟩
  | .hbm, ⟨7, _⟩ => ⟨S3x2x196608x128, .f32⟩
  | .hbm, ⟨8, _⟩ => ⟨S3x2x24576x256, .bf16⟩
  | .hbm, ⟨9, _⟩ => ⟨S3x2x24576x256, .fp8e4m3⟩
  | .hbm, ⟨10, _⟩ => ⟨S3x2x160x24576, .fp8e4m3⟩
  | .hbm, ⟨11, _⟩ => ⟨S3x2x1536x256, .bf16⟩
  | .hbm, ⟨12, _⟩ => ⟨S3x2x160x1536, .bf16⟩
  | .hbm, ⟨13, _⟩ => ⟨S3x2x1x1, .f32⟩
  | .hbm, ⟨14, _⟩ => ⟨S3x24576x1280, .bf16⟩
  | .hbm, ⟨15, _⟩ => ⟨S3x8x160x24576, .bf16⟩
  | .hbm, ⟨16, _⟩ => ⟨S3x8x160x24576, .bf16⟩
  | .hbm, ⟨17, _⟩ => ⟨S3x8x160x24576, .bf16⟩
  | .local _ .vmem, ⟨0, _⟩ => ⟨S3x2x1x1, .f32⟩
  | .local _ .vmem, ⟨1, _⟩ => ⟨S3x8x160x24576, .fp8e4m3⟩
  | .local _ .vmem, ⟨2, _⟩ => ⟨S3x8x24576, .f32⟩
  | .local _ .vmem, ⟨3, _⟩ => ⟨S3x2x4x24576, .f32⟩
  | .local _ .vmem, ⟨4, _⟩ => ⟨S3x8x24576, .f32⟩
  | .local _ .vmem, ⟨5, _⟩ => ⟨S3x8x24576, .f32⟩
  | .local _ .vmem, ⟨6, _⟩ => ⟨S3x8x24576, .f32⟩
  | .local _ .vmem, ⟨7, _⟩ => ⟨S3x2x196608x128, .f32⟩
  | .local _ .vmem, ⟨8, _⟩ => ⟨S3x2x24576x256, .bf16⟩
  | .local _ .vmem, ⟨9, _⟩ => ⟨S3x2x24576x256, .fp8e4m3⟩
  | .local _ .vmem, ⟨10, _⟩ => ⟨S3x2x160x24576, .fp8e4m3⟩
  | .local _ .vmem, ⟨11, _⟩ => ⟨S3x2x1536x256, .bf16⟩
  | .local _ .vmem, ⟨12, _⟩ => ⟨S3x2x160x1536, .bf16⟩
  | .local _ .vmem, ⟨13, _⟩ => ⟨S3x24576x1280, .bf16⟩
  | .local _ .vmem, ⟨14, _⟩ => ⟨S3x8x160x24576, .bf16⟩
  | .local _ .vmem, ⟨15, _⟩ => ⟨S3x8x160x24576, .bf16⟩
  | .local _ .vmem, ⟨16, _⟩ => ⟨S3x8x160x24576, .bf16⟩
  | _, _ => ⟨S6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1_0 : Ref sig .tc := ⟨.hbm, 14, rfl⟩
abbrev main_v1_1 : Ref sig .tc := ⟨.hbm, 15, rfl⟩
abbrev main_v1_2 : Ref sig .tc := ⟨.hbm, 16, rfl⟩
abbrev main_v1_3 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S3x2x1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x8x160x24576 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x8x24576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x2x4x24576 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x8x24576 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x8x24576 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x8x24576 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x2x196608x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x2x24576x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x2x24576x256 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x2x160x24576 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x2x1536x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x2x160x1536 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x24576x1280 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3x8x160x24576 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S3x8x160x24576 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S3x8x160x24576 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Pool.lean ====
abbrev S6x1536x256 : Shape := ⟨3, ![6, 1536, 256]⟩
abbrev S6x160x1536 : Shape := ⟨3, ![6, 160, 1536]⟩
abbrev S1x1536x256 : Shape := ⟨3, ![1, 1536, 256]⟩
abbrev S1x160x1536 : Shape := ⟨3, ![1, 160, 1536]⟩
abbrev S1536x256 : Shape := ⟨2, ![1536, 256]⟩
abbrev S1535x256 : Shape := ⟨2, ![1535, 256]⟩
abbrev S1x256 : Shape := ⟨2, ![1, 256]⟩
abbrev S256x1536 : Shape := ⟨2, ![256, 1536]⟩
abbrev S160x1536 : Shape := ⟨2, ![160, 1536]⟩

abbrev nBuf : Space → Nat
  | .hbm => 4
  | .vmem => 8
  | .smem => 0
  | _ => 0

abbrev bufTy : (tb : Table) → Fin (tcTables nBuf tb) → BufTy
  | .hbm, ⟨0, _⟩ => ⟨S6x1536x256, .f32⟩
  | .hbm, ⟨1, _⟩ => ⟨S6x1536x256, .f32⟩
  | .hbm, ⟨2, _⟩ => ⟨S6x1536x256, .bf16⟩
  | .hbm, ⟨3, _⟩ => ⟨S6x160x1536, .bf16⟩
  | .local _ .vmem, ⟨0, _⟩ => ⟨S1x1536x256, .f32⟩
  | .local _ .vmem, ⟨1, _⟩ => ⟨S1x1536x256, .f32⟩
  | .local _ .vmem, ⟨2, _⟩ => ⟨S1x1536x256, .f32⟩
  | .local _ .vmem, ⟨3, _⟩ => ⟨S1x1536x256, .f32⟩
  | .local _ .vmem, ⟨4, _⟩ => ⟨S1x1536x256, .bf16⟩
  | .local _ .vmem, ⟨5, _⟩ => ⟨S1x1536x256, .bf16⟩
  | .local _ .vmem, ⟨6, _⟩ => ⟨S1x160x1536, .bf16⟩
  | .local _ .vmem, ⟨7, _⟩ => ⟨S1x160x1536, .bf16⟩
  | _, _ => ⟨S6x1536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1536x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1536x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x160x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PoolReferenceIdeal.lean ====
abbrev S6x1536x256 : Shape := ⟨3, ![6, 1536, 256]⟩
abbrev S6x1535x256 : Shape := ⟨3, ![6, 1535, 256]⟩
abbrev S_ : Shape := ⟨0, ![]⟩
abbrev S6x1536x160 : Shape := ⟨3, ![6, 1536, 160]⟩
abbrev S6x1535x160 : Shape := ⟨3, ![6, 1535, 160]⟩
abbrev S6x160x1536 : Shape := ⟨3, ![6, 160, 1536]⟩

abbrev nBuf : Space → Nat
  | .hbm => 22
  | .vmem => 0
  | .smem => 0
  | _ => 0

abbrev bufTy : (tb : Table) → Fin (tcTables nBuf tb) → BufTy
  | .hbm, ⟨0, _⟩ => ⟨S6x1536x256, .f32⟩
  | .hbm, ⟨1, _⟩ => ⟨S6x1536x256, .f32⟩
  | .hbm, ⟨2, _⟩ => ⟨S6x1535x256, .f32⟩
  | .hbm, ⟨3, _⟩ => ⟨S_, .i32⟩
  | .hbm, ⟨4, _⟩ => ⟨S_, .f32⟩
  | .hbm, ⟨5, _⟩ => ⟨S6x1536x256, .f32⟩
  | .hbm, ⟨6, _⟩ => ⟨S6x1536x256, .f32⟩
  | .hbm, ⟨7, _⟩ => ⟨S_, .f32⟩
  | .hbm, ⟨8, _⟩ => ⟨S6x1536x256, .f32⟩
  | .hbm, ⟨9, _⟩ => ⟨S6x1536x256, .f32⟩
  | .hbm, ⟨10, _⟩ => ⟨S6x1536x256, .bf16⟩
  | .hbm, ⟨11, _⟩ => ⟨S6x1536x160, .f32⟩
  | .hbm, ⟨12, _⟩ => ⟨S6x1535x160, .f32⟩
  | .hbm, ⟨13, _⟩ => ⟨S_, .i32⟩
  | .hbm, ⟨14, _⟩ => ⟨S_, .f32⟩
  | .hbm, ⟨15, _⟩ => ⟨S6x1536x160, .f32⟩
  | .hbm, ⟨16, _⟩ => ⟨S6x1536x160, .f32⟩
  | .hbm, ⟨17, _⟩ => ⟨S_, .f32⟩
  | .hbm, ⟨18, _⟩ => ⟨S6x1536x160, .f32⟩
  | .hbm, ⟨19, _⟩ => ⟨S6x1536x160, .f32⟩
  | .hbm, ⟨20, _⟩ => ⟨S6x1536x160, .bf16⟩
  | .hbm, ⟨21, _⟩ => ⟨S6x160x1536, .bf16⟩
  | _, _ => ⟨S6x1536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Proof.KBody.lean ====
/- The body of the attention call run once, on any staging memrefs. -/
module

public import proofs.«01_k».proof.Proof.Gen.Kernel.Frame
public import proofs.«01_k».proof.Proof.Gen.Kernel.Loops
public import proofs.«01_k».proof.Proof.Gen.Kernel.Skeleton

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body on whole staging memrefs. It gives, for each of the four outputs, the stores it makes there (the last
    first) as functions of what the three scratch buffers held at entry, with the proof that from the inputs at their
    contents, the outputs at anything and the scratch at those contents the body runs and leaves the inputs as they
    were, each output with its stores written and the scratch at some contents. -/
noncomputable def kernelRun (c : Dev nD) (i : grid0.Coords) (arg2 : Memref sig .tc .smem S6 .f32) (harg2 : arg2.IsWhole) (arg3 : Memref sig .tc .vmem S1x8x160x128 .fp8e4m3) (harg3 : arg3.IsWhole) (arg4 : Memref sig .tc .vmem S1x8x128 .f32) (harg4 : arg4.IsWhole) (arg5 : Memref sig .tc .vmem S1x2x4x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S1x2x1024x128 .f32) (harg9 : arg9.IsWhole) (arg10 : Memref sig .tc .vmem S1x2x24576x256 .fp8e4m3) (harg10 : arg10.IsWhole) (arg11 : Memref sig .tc .vmem S1x2x160x24576 .fp8e4m3) (harg11 : arg11.IsWhole) (arg12 : Memref sig .tc .vmem S1x2x1536x256 .bf16) (harg12 : arg12.IsWhole) (arg13 : Memref sig .tc .vmem S1x2x160x1536 .bf16) (harg13 : arg13.IsWhole) (arg14 : Memref sig .tc .vmem S1x2x128x256 .bf16) (harg14 : arg14.IsWhole) (arg15 : Memref sig .tc .vmem S1x128x1280 .bf16) (harg15 : arg15.IsWhole) (arg16 : Memref sig .tc .vmem S1x8x160x128 .bf16) (harg16 : arg16.IsWhole) (arg17 : Memref sig .tc .vmem S1x8x160x128 .bf16) (harg17 : arg17.IsWhole) (arg18 : Memref sig .tc .vmem S1x8x160x128 .bf16) (harg18 : arg18.IsWhole) (arg19 : Memref sig .tc .vmem S4x1536x256 .f32) (harg19 : arg19.IsWhole) (arg20 : Memref sig .tc .vmem S4x160x256 .f32) (harg20 : arg20.IsWhole) (arg21 : Memref sig .tc .vmem S1280x128 .bf16) (harg21 : arg21.IsWhole)
    (x0 : Vec F S6 .f32) (x1 : Vec F S1x8x160x128 .fp8e4m3) (x2 : Vec F S1x8x128 .f32) (x3 : Vec F S1x2x4x128 .f32) (x4 : Vec F S1x8x128 .f32) (x5 : Vec F S1x8x128 .f32) (x6 : Vec F S1x8x128 .f32) (x7 : Vec F S1x2x1024x128 .f32) (x8 : Vec F S1x2x24576x256 .fp8e4m3) (x9 : Vec F S1x2x160x24576 .fp8e4m3) (x10 : Vec F S1x2x1536x256 .bf16) (x11 : Vec F S1x2x160x1536 .bf16) (x12 : Vec F S1x2x128x256 .bf16) :
    Σ' (L15 : BufTy.Contents (Elt F) arg19.view.ty → BufTy.Contents (Elt F) arg20.view.ty → BufTy.Contents (Elt F) arg21.view.ty → List (View.Piece (Elt F) S1x128x1280 .bf16)) (L16 : BufTy.Contents (Elt F) arg19.view.ty → BufTy.Contents (Elt F) arg20.view.ty → BufTy.Contents (Elt F) arg21.view.ty → List (View.Piece (Elt F) S1x8x160x128 .bf16)) (L17 : BufTy.Contents (Elt F) arg19.view.ty → BufTy.Contents (Elt F) arg20.view.ty → BufTy.Contents (Elt F) arg21.view.ty → List (View.Piece (Elt F) S1x8x160x128 .bf16)), { L18 : BufTy.Contents (Elt F) arg19.view.ty → BufTy.Contents (Elt F) arg20.view.ty → BufTy.Contents (Elt F) arg21.view.ty → List (View.Piece (Elt F) S1x8x160x128 .bf16) //
      ∀ (E : Set ℕ) (K : PUnit → sProp 𝕄) (fs0 : BufTy.Contents (Elt F) arg19.view.ty) (fs1 : BufTy.Contents (Elt F) arg20.view.ty) (fs2 : BufTy.Contents (Elt F) arg21.view.ty),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (arg19.view.loc (c : Thread nD τ) ↦[arg19.view.set]{fullShare} fs0) ∗ (arg20.view.loc (c : Thread nD τ) ↦[arg20.view.set]{fullShare} fs1) ∗ (arg21.view.loc (c : Thread nD τ) ↦[arg21.view.set]{fullShare} fs2)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f (L15 fs0 fs1 fs2)) ∗ (∃ f, arg16.view.loc (c : Thread nD τ) ↦[arg16.view.set]{fullShare} arg16.view.writes (Elt F) f (L16 fs0 fs1 fs2)) ∗ (∃ f, arg17.view.loc (c : Thread nD τ) ↦[arg17.view.set]{fullShare} arg17.view.writes (Elt F) f (L17 fs0 fs1 fs2)) ∗ (∃ f, arg18.view.loc (c : Thread nD τ) ↦[arg18.view.set]{fullShare} arg18.view.writes (Elt F) f (L18 fs0 fs1 fs2)) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f)) -∗ K ⟨⟩))
          ⊢ wp frame (wpE (defs₀ (F := F)) Variants.none c none) E (cc0_dense i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, fun E K fs0 fs1 fs2 => ?run⟩
  case run =>
    simp only [cc0_dense_eq_skeleton]; unfold cc0_dense_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, HS0, HS1, HS2, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; iexact H13
    isplitl [H14]
    · iexists _; iexact H14
    isplitl [H15]
    · iexists _; iexact H15
    isplitl [H16]
    · iexists _; iexact H16
    isplitl [HS0]
    · iexists _; iexact HS0
    isplitl [HS1]
    · iexists _; iexact HS1
    iexists _; iexact HS2

end Cert.Kernel.Hand

end
-- ==== Proof.KFrame.lean ====
/- The frame of the attention call: the run leaves every argument as it was and every counter at zero. -/
module

public import proofs.«01_k».proof.Proof.Gen.Kernel.Frame
public import proofs.«01_k».proof.Proof.Gen.Kernel.Loops
public import proofs.«01_k».proof.Proof.Gen.Kernel.Skeleton
public import proofs.«01_k».proof.Proof.KBody
public import Idealize.ShloMosaic.Lib.Pipeline.FrameBody
public import Idealize.ShloMosaic.Lib.Tactic
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- From a run whose inputs are tracked, the arguments end unchanged. -/
theorem frameOf (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 12 rfl).trans ((hA c 12).trans (V_main_arg8 m c)),
      (Pipeline.RDat.FramePost.arr_in h c 8 rfl).trans ((hA c 8).trans (V_main_arg9 m c)),
      (Pipeline.RDat.FramePost.arr_in h c 9 rfl).trans ((hA c 9).trans (V_main_arg10 m c)),
      (Pipeline.RDat.FramePost.arr_in h c 10 rfl).trans ((hA c 10).trans (V_main_arg11 m c)),
      (Pipeline.RDat.FramePost.arr_in h c 11 rfl).trans ((hA c 11).trans (V_main_arg12 m c))⟩) h

/-- The body on whole staging memrefs, nothing said of what it leaves in the outputs and the scratch. -/
theorem kernelAny (c : Dev nD) (i : grid0.Coords) (arg2 : Memref sig .tc .smem S6 .f32) (harg2 : arg2.IsWhole) (arg3 : Memref sig .tc .vmem S1x8x160x128 .fp8e4m3) (harg3 : arg3.IsWhole) (arg4 : Memref sig .tc .vmem S1x8x128 .f32) (harg4 : arg4.IsWhole) (arg5 : Memref sig .tc .vmem S1x2x4x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S1x2x1024x128 .f32) (harg9 : arg9.IsWhole) (arg10 : Memref sig .tc .vmem S1x2x24576x256 .fp8e4m3) (harg10 : arg10.IsWhole) (arg11 : Memref sig .tc .vmem S1x2x160x24576 .fp8e4m3) (harg11 : arg11.IsWhole) (arg12 : Memref sig .tc .vmem S1x2x1536x256 .bf16) (harg12 : arg12.IsWhole) (arg13 : Memref sig .tc .vmem S1x2x160x1536 .bf16) (harg13 : arg13.IsWhole) (arg14 : Memref sig .tc .vmem S1x2x128x256 .bf16) (harg14 : arg14.IsWhole) (arg15 : Memref sig .tc .vmem S1x128x1280 .bf16) (harg15 : arg15.IsWhole) (arg16 : Memref sig .tc .vmem S1x8x160x128 .bf16) (harg16 : arg16.IsWhole) (arg17 : Memref sig .tc .vmem S1x8x160x128 .bf16) (harg17 : arg17.IsWhole) (arg18 : Memref sig .tc .vmem S1x8x160x128 .bf16) (harg18 : arg18.IsWhole) (arg19 : Memref sig .tc .vmem S4x1536x256 .f32) (harg19 : arg19.IsWhole) (arg20 : Memref sig .tc .vmem S4x160x256 .f32) (harg20 : arg20.IsWhole) (arg21 : Memref sig .tc .vmem S1280x128 .bf16) (harg21 : arg21.IsWhole)
    (x0 : Vec F S6 .f32) (x1 : Vec F S1x8x160x128 .fp8e4m3) (x2 : Vec F S1x8x128 .f32) (x3 : Vec F S1x2x4x128 .f32) (x4 : Vec F S1x8x128 .f32) (x5 : Vec F S1x8x128 .f32) (x6 : Vec F S1x8x128 .f32) (x7 : Vec F S1x2x1024x128 .f32) (x8 : Vec F S1x2x24576x256 .fp8e4m3) (x9 : Vec F S1x2x160x24576 .fp8e4m3) (x10 : Vec F S1x2x1536x256 .bf16) (x11 : Vec F S1x2x160x1536 .bf16) (x12 : Vec F S1x2x128x256 .bf16) (E : Set ℕ) (K : PUnit → sProp 𝕄) (fs0 : BufTy.Contents (Elt F) arg19.view.ty) (fs1 : BufTy.Contents (Elt F) arg20.view.ty) (fs2 : BufTy.Contents (Elt F) arg21.view.ty) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (arg19.view.loc (c : Thread nD τ) ↦[arg19.view.set]{fullShare} fs0) ∗ (arg20.view.loc (c : Thread nD τ) ↦[arg20.view.set]{fullShare} fs1) ∗ (arg21.view.loc (c : Thread nD τ) ↦[arg21.view.set]{fullShare} fs2)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f)) -∗ K ⟨⟩))
          ⊢ wp frame (wpE (defs₀ (F := F)) Variants.none c none) E (cc0_dense i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  obtain ⟨L15, L16, L17, L18, h⟩ := kernelRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12
  iintro ⟨H0, H1, H2, H3, H4, H5, H6, H7, H8, H9, H10, H11, H12, H13, H14, H15, H16, HS0, HS1, HS2, Hk⟩
  iapply (h E K fs0 fs1 fs2)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HS0]; · iexact HS0
  isplitl [HS1]; · iexact HS1
  isplitl [HS2]; · iexact HS2
  iintro ⟨H0, H1, H2, H3, H4, H5, H6, H7, H8, H9, H10, H11, H12, ⟨%f13, H13⟩, ⟨%f14, H14⟩, ⟨%f15, H15⟩, ⟨%f16, H16⟩, HS0, HS1, HS2⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; iexists (arg15.view.writes (Elt F) f13 (L15 fs0 fs1 fs2)); isplitr; · ipureintro; rfl
    iexact H13
  isplitl [H14]
  · unfold owns; iexists _; iexists (arg16.view.writes (Elt F) f14 (L16 fs0 fs1 fs2)); isplitr; · ipureintro; rfl
    iexact H14
  isplitl [H15]
  · unfold owns; iexists _; iexists (arg17.view.writes (Elt F) f15 (L17 fs0 fs1 fs2)); isplitr; · ipureintro; rfl
    iexact H15
  isplitl [H16]
  · unfold owns; iexists _; iexists (arg18.view.writes (Elt F) f16 (L18 fs0 fs1 fs2)); isplitr; · ipureintro; rfl
    iexact H16
  isplitl [HS0]; · iexact HS0
  isplitl [HS1]; · iexact HS1
  iexact HS2

/-- Window 0 is never idle. -/
theorem liveAt_0 : ∀ t : Fin cfg0.N, cfg0.idle 0 (grid0.coords t) = false := fun _ => rfl
/-- Window 1 is never idle. -/
theorem liveAt_1 : ∀ t : Fin cfg0.N, cfg0.idle 1 (grid0.coords t) = false := fun _ => rfl
/-- Window 2 is never idle. -/
theorem liveAt_2 : ∀ t : Fin cfg0.N, cfg0.idle 2 (grid0.coords t) = false := fun _ => rfl
/-- Window 3 is never idle. -/
theorem liveAt_3 : ∀ t : Fin cfg0.N, cfg0.idle 3 (grid0.coords t) = false := fun _ => rfl
/-- Window 4 is never idle. -/
theorem liveAt_4 : ∀ t : Fin cfg0.N, cfg0.idle 4 (grid0.coords t) = false := fun _ => rfl
/-- Window 5 is never idle. -/
theorem liveAt_5 : ∀ t : Fin cfg0.N, cfg0.idle 5 (grid0.coords t) = false := fun _ => rfl
/-- Window 6 is never idle. -/
theorem liveAt_6 : ∀ t : Fin cfg0.N, cfg0.idle 6 (grid0.coords t) = false := fun _ => rfl
/-- Window 7 is never idle. -/
theorem liveAt_7 : ∀ t : Fin cfg0.N, cfg0.idle 7 (grid0.coords t) = false := fun _ => rfl
/-- Window 8 is never idle. -/
theorem liveAt_8 : ∀ t : Fin cfg0.N, cfg0.idle 8 (grid0.coords t) = false := fun _ => rfl
/-- Window 9 is never idle. -/
theorem liveAt_9 : ∀ t : Fin cfg0.N, cfg0.idle 9 (grid0.coords t) = false := fun _ => rfl
/-- Window 10 is never idle. -/
theorem liveAt_10 : ∀ t : Fin cfg0.N, cfg0.idle 10 (grid0.coords t) = false := fun _ => rfl
/-- Window 11 is never idle. -/
theorem liveAt_11 : ∀ t : Fin cfg0.N, cfg0.idle 11 (grid0.coords t) = false := fun _ => rfl
/-- Window 12 is never idle. -/
theorem liveAt_12 : ∀ t : Fin cfg0.N, cfg0.idle 12 (grid0.coords t) = false := fun _ => rfl
/-- Window 13 is never idle. -/
theorem liveAt_13 : ∀ t : Fin cfg0.N, cfg0.idle 13 (grid0.coords t) = false := fun _ => rfl
/-- Window 14 is never idle. -/
theorem liveAt_14 : ∀ t : Fin cfg0.N, cfg0.idle 14 (grid0.coords t) = false := fun _ => rfl
/-- Window 15 is never idle. -/
theorem liveAt_15 : ∀ t : Fin cfg0.N, cfg0.idle 15 (grid0.coords t) = false := fun _ => rfl
/-- Window 16 is never idle. -/
theorem liveAt_16 : ∀ t : Fin cfg0.N, cfg0.idle 16 (grid0.coords t) = false := fun _ => rfl
/-- The staging buffer of window 0 at point `t`. -/
abbrev ms_0 (t : Fin cfg0.N) : Memref sig .tc .smem S6 .f32 := win0_0.stage (cfg0.slots t 0)
/-- The staging buffer of window 1 at point `t`. -/
abbrev ms_1 (t : Fin cfg0.N) : Memref sig .tc .vmem S1x8x160x128 .fp8e4m3 := win0_1.stage (cfg0.slots t 1)
/-- The staging buffer of window 2 at point `t`. -/
abbrev ms_2 (t : Fin cfg0.N) : Memref sig .tc .vmem S1x8x128 .f32 := win0_2.stage (cfg0.slots t 2)
/-- The staging buffer of window 3 at point `t`. -/
abbrev ms_3 (t : Fin cfg0.N) : Memref sig .tc .vmem S1x2x4x128 .f32 := win0_3.stage (cfg0.slots t 3)
/-- The staging buffer of window 4 at point `t`. -/
abbrev ms_4 (t : Fin cfg0.N) : Memref sig .tc .vmem S1x8x128 .f32 := win0_4.stage (cfg0.slots t 4)
/-- The staging buffer of window 5 at point `t`. -/
abbrev ms_5 (t : Fin cfg0.N) : Memref sig .tc .vmem S1x8x128 .f32 := win0_5.stage (cfg0.slots t 5)
/-- The staging buffer of window 6 at point `t`. -/
abbrev ms_6 (t : Fin cfg0.N) : Memref sig .tc .vmem S1x8x128 .f32 := win0_6.stage (cfg0.slots t 6)
/-- The staging buffer of window 7 at point `t`. -/
abbrev ms_7 (t : Fin cfg0.N) : Memref sig .tc .vmem S1x2x1024x128 .f32 := win0_7.stage (cfg0.slots t 7)
/-- The staging buffer of window 8 at point `t`. -/
abbrev ms_8 (t : Fin cfg0.N) : Memref sig .tc .vmem S1x2x24576x256 .fp8e4m3 := win0_8.stage (cfg0.slots t 8)
/-- The staging buffer of window 9 at point `t`. -/
abbrev ms_9 (t : Fin cfg0.N) : Memref sig .tc .vmem S1x2x160x24576 .fp8e4m3 := win0_9.stage (cfg0.slots t 9)
/-- The staging buffer of window 10 at point `t`. -/
abbrev ms_10 (t : Fin cfg0.N) : Memref sig .tc .vmem S1x2x1536x256 .bf16 := win0_10.stage (cfg0.slots t 10)
/-- The staging buffer of window 11 at point `t`. -/
abbrev ms_11 (t : Fin cfg0.N) : Memref sig .tc .vmem S1x2x160x1536 .bf16 := win0_11.stage (cfg0.slots t 11)
/-- The staging buffer of window 12 at point `t`. -/
abbrev ms_12 (t : Fin cfg0.N) : Memref sig .tc .vmem S1x2x128x256 .bf16 := win0_12.stage (cfg0.slots t 12)
/-- The staging buffer of window 13 at point `t`. -/
abbrev ms_13 (t : Fin cfg0.N) : Memref sig .tc .vmem S1x128x1280 .bf16 := win0_13.stage (cfg0.slots t 13)
/-- The staging buffer of window 14 at point `t`. -/
abbrev ms_14 (t : Fin cfg0.N) : Memref sig .tc .vmem S1x8x160x128 .bf16 := win0_14.stage (cfg0.slots t 14)
/-- The staging buffer of window 15 at point `t`. -/
abbrev ms_15 (t : Fin cfg0.N) : Memref sig .tc .vmem S1x8x160x128 .bf16 := win0_15.stage (cfg0.slots t 15)
/-- The staging buffer of window 16 at point `t`. -/
abbrev ms_16 (t : Fin cfg0.N) : Memref sig .tc .vmem S1x8x160x128 .bf16 := win0_16.stage (cfg0.slots t 16)
/-- Scratch buffer 0. -/
abbrev scr_0 : Memref sig .tc .vmem S4x1536x256 .f32 := Memref.whole cc0_scratch0
/-- Scratch buffer 1. -/
abbrev scr_1 : Memref sig .tc .vmem S4x160x256 .f32 := Memref.whole cc0_scratch1
/-- Scratch buffer 2. -/
abbrev scr_2 : Memref sig .tc .vmem S1280x128 .bf16 := Memref.whole cc0_scratch2

/-- What the body is handed besides its windows: the three scratch buffers at some contents, and the generator register. -/
theorem phi_eq (c : Dev nD) :
    (Pipeline.ΦA spec0 c : sProp 𝕄)
      = iprop(iprop((∃ f : BufTy.Contents (Elt F) scr_0.view.ty, scr_0.view.loc (c : Thread nD τ) ↦[scr_0.view.set]{fullShare} f) ∗ (∃ f : BufTy.Contents (Elt F) scr_1.view.ty, scr_1.view.loc (c : Thread nD τ) ↦[scr_1.view.set]{fullShare} f) ∗ (∃ f : BufTy.Contents (Elt F) scr_2.view.ty, scr_2.view.loc (c : Thread nD τ) ↦[scr_2.view.set]{fullShare} f)) ∗ (∃ r, prngReg c r)) := by
  unfold Pipeline.ΦA; rw [scopedRest0_eq]; simp only [scr_0, scr_1, scr_2, Memref.view_whole, View.set_whole]; try rfl

/-- The outputs (windows 13 to 16) of which nothing is said. -/
def forgets0 : Fin 17 → Bool := fun w => w.val == 13 || w.val == 14 || w.val == 15 || w.val == 16

/-- The pipeline's proof data: each input's buffer stays at its block; the outputs are forgotten. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨_ + 17, h⟩ => absurd h (Nat.not_lt.2 (Nat.le_add_left _ _))
  Φ _ := Pipeline.ΦA spec0 c
  q _ := fullShare
  owed _ := 0

/-- The arrays of the proof data are those the region finds. -/
theorem A_eq (c : Dev nD) (w : Fin cfg0.W) : (dats m 0 c).A w = V m c (Pipeline.arrRef spec0 w) := by
  dsimp only [dats]

/-- Input window 0 is left at its block. -/
theorem after_0 (c : Dev nD) (t : Fin cfg0.N) : (dats m 0 c).after 0 t = iblk m c 0 t := by dsimp only [dats]
/-- Input window 0 is found at its block. -/
theorem before_0 (c : Dev nD) (t : Fin cfg0.N) (d) : (dats m 0 c).before 0 t d = iblk m c 0 t :=
  before0_0_of m (dats m 0 c) (A_eq m c 0) (after_0 m c) t d
/-- Input window 1 is left at its block. -/
theorem after_1 (c : Dev nD) (t : Fin cfg0.N) : (dats m 0 c).after 1 t = iblk m c 1 t := by dsimp only [dats]
/-- Input window 1 is found at its block. -/
theorem before_1 (c : Dev nD) (t : Fin cfg0.N) (d) : (dats m 0 c).before 1 t d = iblk m c 1 t :=
  before0_1_of m (dats m 0 c) (A_eq m c 1) (after_1 m c) t d
/-- Input window 2 is left at its block. -/
theorem after_2 (c : Dev nD) (t : Fin cfg0.N) : (dats m 0 c).after 2 t = iblk m c 2 t := by dsimp only [dats]
/-- Input window 2 is found at its block. -/
theorem before_2 (c : Dev nD) (t : Fin cfg0.N) (d) : (dats m 0 c).before 2 t d = iblk m c 2 t :=
  before0_2_of m (dats m 0 c) (A_eq m c 2) (after_2 m c) t d
/-- Input window 3 is left at its block. -/
theorem after_3 (c : Dev nD) (t : Fin cfg0.N) : (dats m 0 c).after 3 t = iblk m c 3 t := by dsimp only [dats]
/-- Input window 3 is found at its block. -/
theorem before_3 (c : Dev nD) (t : Fin cfg0.N) (d) : (dats m 0 c).before 3 t d = iblk m c 3 t :=
  before0_3_of m (dats m 0 c) (A_eq m c 3) (after_3 m c) t d
/-- Input window 4 is left at its block. -/
theorem after_4 (c : Dev nD) (t : Fin cfg0.N) : (dats m 0 c).after 4 t = iblk m c 4 t := by dsimp only [dats]
/-- Input window 4 is found at its block. -/
theorem before_4 (c : Dev nD) (t : Fin cfg0.N) (d) : (dats m 0 c).before 4 t d = iblk m c 4 t :=
  before0_4_of m (dats m 0 c) (A_eq m c 4) (after_4 m c) t d
/-- Input window 5 is left at its block. -/
theorem after_5 (c : Dev nD) (t : Fin cfg0.N) : (dats m 0 c).after 5 t = iblk m c 5 t := by dsimp only [dats]
/-- Input window 5 is found at its block. -/
theorem before_5 (c : Dev nD) (t : Fin cfg0.N) (d) : (dats m 0 c).before 5 t d = iblk m c 5 t :=
  before0_5_of m (dats m 0 c) (A_eq m c 5) (after_5 m c) t d
/-- Input window 6 is left at its block. -/
theorem after_6 (c : Dev nD) (t : Fin cfg0.N) : (dats m 0 c).after 6 t = iblk m c 6 t := by dsimp only [dats]
/-- Input window 6 is found at its block. -/
theorem before_6 (c : Dev nD) (t : Fin cfg0.N) (d) : (dats m 0 c).before 6 t d = iblk m c 6 t :=
  before0_6_of m (dats m 0 c) (A_eq m c 6) (after_6 m c) t d
/-- Input window 7 is left at its block. -/
theorem after_7 (c : Dev nD) (t : Fin cfg0.N) : (dats m 0 c).after 7 t = iblk m c 7 t := by dsimp only [dats]
/-- Input window 7 is found at its block. -/
theorem before_7 (c : Dev nD) (t : Fin cfg0.N) (d) : (dats m 0 c).before 7 t d = iblk m c 7 t :=
  before0_7_of m (dats m 0 c) (A_eq m c 7) (after_7 m c) t d
/-- Input window 8 is left at its block. -/
theorem after_8 (c : Dev nD) (t : Fin cfg0.N) : (dats m 0 c).after 8 t = iblk m c 8 t := by dsimp only [dats]
/-- Input window 8 is found at its block. -/
theorem before_8 (c : Dev nD) (t : Fin cfg0.N) (d) : (dats m 0 c).before 8 t d = iblk m c 8 t :=
  before0_8_of m (dats m 0 c) (A_eq m c 8) (after_8 m c) t d
/-- Input window 9 is left at its block. -/
theorem after_9 (c : Dev nD) (t : Fin cfg0.N) : (dats m 0 c).after 9 t = iblk m c 9 t := by dsimp only [dats]
/-- Input window 9 is found at its block. -/
theorem before_9 (c : Dev nD) (t : Fin cfg0.N) (d) : (dats m 0 c).before 9 t d = iblk m c 9 t :=
  before0_9_of m (dats m 0 c) (A_eq m c 9) (after_9 m c) t d
/-- Input window 10 is left at its block. -/
theorem after_10 (c : Dev nD) (t : Fin cfg0.N) : (dats m 0 c).after 10 t = iblk m c 10 t := by dsimp only [dats]
/-- Input window 10 is found at its block. -/
theorem before_10 (c : Dev nD) (t : Fin cfg0.N) (d) : (dats m 0 c).before 10 t d = iblk m c 10 t :=
  before0_10_of m (dats m 0 c) (A_eq m c 10) (after_10 m c) t d
/-- Input window 11 is left at its block. -/
theorem after_11 (c : Dev nD) (t : Fin cfg0.N) : (dats m 0 c).after 11 t = iblk m c 11 t := by dsimp only [dats]
/-- Input window 11 is found at its block. -/
theorem before_11 (c : Dev nD) (t : Fin cfg0.N) (d) : (dats m 0 c).before 11 t d = iblk m c 11 t :=
  before0_11_of m (dats m 0 c) (A_eq m c 11) (after_11 m c) t d
/-- Input window 12 is left at its block. -/
theorem after_12 (c : Dev nD) (t : Fin cfg0.N) : (dats m 0 c).after 12 t = iblk m c 12 t := by dsimp only [dats]
/-- Input window 12 is found at its block. -/
theorem before_12 (c : Dev nD) (t : Fin cfg0.N) (d) : (dats m 0 c).before 12 t d = iblk m c 12 t :=
  before0_12_of m (dats m 0 c) (A_eq m c 12) (after_12 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d))
    ∗ (∃ d, owns (c : Thread nD τ) (ms_13 t) fullShare d)
    ∗ (∃ d, owns (c : Thread nD τ) (ms_14 t) fullShare d)
    ∗ (∃ d, owns (c : Thread nD τ) (ms_15 t) fullShare d)
    ∗ (∃ d, owns (c : Thread nD τ) (ms_16 t) fullShare d))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (∃ d, owns (c : Thread nD τ) (ms_13 t) fullShare d)
    ∗ (∃ d, owns (c : Thread nD τ) (ms_14 t) fullShare d)
    ∗ (∃ d, owns (c : Thread nD τ) (ms_15 t) fullShare d)
    ∗ (∃ d, owns (c : Thread nD τ) (ms_16 t) fullShare d))

set_option maxHeartbeats 14000000 in
/-- The body at any point: its run applies, and what it is handed it hands back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, phi_eq]
  rw [show (dats m 0 c).leavesExact 0 t = owns (c : Thread nD τ) (ms_0 t) fullShare ((dats m 0 c).after 0 t) from by
    unfold Dat.leavesExact; rw [liveAt_0 t], after_0]
  rw [show (dats m 0 c).leavesExact 1 t = owns (c : Thread nD τ) (ms_1 t) fullShare ((dats m 0 c).after 1 t) from by
    unfold Dat.leavesExact; rw [liveAt_1 t], after_1]
  rw [show (dats m 0 c).leavesExact 2 t = owns (c : Thread nD τ) (ms_2 t) fullShare ((dats m 0 c).after 2 t) from by
    unfold Dat.leavesExact; rw [liveAt_2 t], after_2]
  rw [show (dats m 0 c).leavesExact 3 t = owns (c : Thread nD τ) (ms_3 t) fullShare ((dats m 0 c).after 3 t) from by
    unfold Dat.leavesExact; rw [liveAt_3 t], after_3]
  rw [show (dats m 0 c).leavesExact 4 t = owns (c : Thread nD τ) (ms_4 t) fullShare ((dats m 0 c).after 4 t) from by
    unfold Dat.leavesExact; rw [liveAt_4 t], after_4]
  rw [show (dats m 0 c).leavesExact 5 t = owns (c : Thread nD τ) (ms_5 t) fullShare ((dats m 0 c).after 5 t) from by
    unfold Dat.leavesExact; rw [liveAt_5 t], after_5]
  rw [show (dats m 0 c).leavesExact 6 t = owns (c : Thread nD τ) (ms_6 t) fullShare ((dats m 0 c).after 6 t) from by
    unfold Dat.leavesExact; rw [liveAt_6 t], after_6]
  rw [show (dats m 0 c).leavesExact 7 t = owns (c : Thread nD τ) (ms_7 t) fullShare ((dats m 0 c).after 7 t) from by
    unfold Dat.leavesExact; rw [liveAt_7 t], after_7]
  rw [show (dats m 0 c).leavesExact 8 t = owns (c : Thread nD τ) (ms_8 t) fullShare ((dats m 0 c).after 8 t) from by
    unfold Dat.leavesExact; rw [liveAt_8 t], after_8]
  rw [show (dats m 0 c).leavesExact 9 t = owns (c : Thread nD τ) (ms_9 t) fullShare ((dats m 0 c).after 9 t) from by
    unfold Dat.leavesExact; rw [liveAt_9 t], after_9]
  rw [show (dats m 0 c).leavesExact 10 t = owns (c : Thread nD τ) (ms_10 t) fullShare ((dats m 0 c).after 10 t) from by
    unfold Dat.leavesExact; rw [liveAt_10 t], after_10]
  rw [show (dats m 0 c).leavesExact 11 t = owns (c : Thread nD τ) (ms_11 t) fullShare ((dats m 0 c).after 11 t) from by
    unfold Dat.leavesExact; rw [liveAt_11 t], after_11]
  rw [show (dats m 0 c).leavesExact 12 t = owns (c : Thread nD τ) (ms_12 t) fullShare ((dats m 0 c).after 12 t) from by
    unfold Dat.leavesExact; rw [liveAt_12 t], after_12]
  iintro ⟨⟨⟨⟨%fs0, HS0⟩, ⟨%fs1, HS1⟩, ⟨%fs2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((kernelAny c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _ fs0 fs1 fs2))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [HS0]; · iexact HS0
  isplitl [HS1]; · iexact HS1
  isplitl [HS2]; · iexact HS2
  iintro ⟨H0, H1, H2, H3, H4, H5, H6, H7, H8, H9, H10, H11, H12, H13, H14, H15, H16, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: the inputs end as they were, and every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frameOf m ρ (fun c => (dats m 0 c).toRForget forgets0) (A_eq m)
    ((θ_run defs _ _).mono (fun _ h => h.1) (run_main_quiescent m ρ))

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.Kernel.Hand

end
-- ==== Proof.IBody.lean ====
/- The body of the attention call run once, on any staging memrefs. -/
module

public import proofs.«01_k».proof.Proof.Gen.KernelIdeal.Frame
public import proofs.«01_k».proof.Proof.Gen.KernelIdeal.Loops
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body on whole staging memrefs. It gives, for each of the four outputs, the stores it makes there (the last
    first) as functions of what the three scratch buffers held at entry, with the proof that from the inputs at their
    contents, the outputs at anything and the scratch at those contents the body runs and leaves the inputs as they
    were, each output with its stores written and the scratch at some contents. -/
noncomputable def kernelRun (c : Dev nD) (i : grid0.Coords) (arg2 : Memref sig .tc .smem S6 .f32) (harg2 : arg2.IsWhole) (arg3 : Memref sig .tc .vmem S1x8x160x128 .fp8e4m3) (harg3 : arg3.IsWhole) (arg4 : Memref sig .tc .vmem S1x8x128 .f32) (harg4 : arg4.IsWhole) (arg5 : Memref sig .tc .vmem S1x2x4x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S1x2x1024x128 .f32) (harg9 : arg9.IsWhole) (arg10 : Memref sig .tc .vmem S1x2x24576x256 .fp8e4m3) (harg10 : arg10.IsWhole) (arg11 : Memref sig .tc .vmem S1x2x160x24576 .fp8e4m3) (harg11 : arg11.IsWhole) (arg12 : Memref sig .tc .vmem S1x2x1536x256 .bf16) (harg12 : arg12.IsWhole) (arg13 : Memref sig .tc .vmem S1x2x160x1536 .bf16) (harg13 : arg13.IsWhole) (arg14 : Memref sig .tc .vmem S1x2x128x256 .bf16) (harg14 : arg14.IsWhole) (arg15 : Memref sig .tc .vmem S1x128x1280 .bf16) (harg15 : arg15.IsWhole) (arg16 : Memref sig .tc .vmem S1x8x160x128 .bf16) (harg16 : arg16.IsWhole) (arg17 : Memref sig .tc .vmem S1x8x160x128 .bf16) (harg17 : arg17.IsWhole) (arg18 : Memref sig .tc .vmem S1x8x160x128 .bf16) (harg18 : arg18.IsWhole) (arg19 : Memref sig .tc .vmem S4x1536x256 .f32) (harg19 : arg19.IsWhole) (arg20 : Memref sig .tc .vmem S4x160x256 .f32) (harg20 : arg20.IsWhole) (arg21 : Memref sig .tc .vmem S1280x128 .bf16) (harg21 : arg21.IsWhole)
    (x0 : Vec F S6 .f32) (x1 : Vec F S1x8x160x128 .fp8e4m3) (x2 : Vec F S1x8x128 .f32) (x3 : Vec F S1x2x4x128 .f32) (x4 : Vec F S1x8x128 .f32) (x5 : Vec F S1x8x128 .f32) (x6 : Vec F S1x8x128 .f32) (x7 : Vec F S1x2x1024x128 .f32) (x8 : Vec F S1x2x24576x256 .fp8e4m3) (x9 : Vec F S1x2x160x24576 .fp8e4m3) (x10 : Vec F S1x2x1536x256 .bf16) (x11 : Vec F S1x2x160x1536 .bf16) (x12 : Vec F S1x2x128x256 .bf16) :
    Σ' (L15 : BufTy.Contents (Elt F) arg19.view.ty → BufTy.Contents (Elt F) arg20.view.ty → BufTy.Contents (Elt F) arg21.view.ty → List (View.Piece (Elt F) S1x128x1280 .bf16)) (L16 : BufTy.Contents (Elt F) arg19.view.ty → BufTy.Contents (Elt F) arg20.view.ty → BufTy.Contents (Elt F) arg21.view.ty → List (View.Piece (Elt F) S1x8x160x128 .bf16)) (L17 : BufTy.Contents (Elt F) arg19.view.ty → BufTy.Contents (Elt F) arg20.view.ty → BufTy.Contents (Elt F) arg21.view.ty → List (View.Piece (Elt F) S1x8x160x128 .bf16)), { L18 : BufTy.Contents (Elt F) arg19.view.ty → BufTy.Contents (Elt F) arg20.view.ty → BufTy.Contents (Elt F) arg21.view.ty → List (View.Piece (Elt F) S1x8x160x128 .bf16) //
      ∀ (E : Set ℕ) (K : PUnit → sProp 𝕄) (fs0 : BufTy.Contents (Elt F) arg19.view.ty) (fs1 : BufTy.Contents (Elt F) arg20.view.ty) (fs2 : BufTy.Contents (Elt F) arg21.view.ty),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (arg19.view.loc (c : Thread nD τ) ↦[arg19.view.set]{fullShare} fs0) ∗ (arg20.view.loc (c : Thread nD τ) ↦[arg20.view.set]{fullShare} fs1) ∗ (arg21.view.loc (c : Thread nD τ) ↦[arg21.view.set]{fullShare} fs2)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f (L15 fs0 fs1 fs2)) ∗ (∃ f, arg16.view.loc (c : Thread nD τ) ↦[arg16.view.set]{fullShare} arg16.view.writes (Elt F) f (L16 fs0 fs1 fs2)) ∗ (∃ f, arg17.view.loc (c : Thread nD τ) ↦[arg17.view.set]{fullShare} arg17.view.writes (Elt F) f (L17 fs0 fs1 fs2)) ∗ (∃ f, arg18.view.loc (c : Thread nD τ) ↦[arg18.view.set]{fullShare} arg18.view.writes (Elt F) f (L18 fs0 fs1 fs2)) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f)) -∗ K ⟨⟩))
          ⊢ wp frame (wpE (defs₀ (F := F)) Variants.none c none) E (cc0_dense i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, fun E K fs0 fs1 fs2 => ?run⟩
  case run =>
    simp only [cc0_dense_eq_skeleton]; unfold cc0_dense_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, HS0, HS1, HS2, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; iexact H13
    isplitl [H14]
    · iexists _; iexact H14
    isplitl [H15]
    · iexists _; iexact H15
    isplitl [H16]
    · iexists _; iexact H16
    isplitl [HS0]
    · iexists _; iexact HS0
    isplitl [HS1]
    · iexists _; iexact HS1
    iexists _; iexact HS2

end Cert.KernelIdeal.Hand

end
-- ==== Proof.IFrame.lean ====
/- The frame of the attention call: the run leaves every argument as it was and every counter at zero. -/
module

public import proofs.«01_k».proof.Proof.Gen.KernelIdeal.Frame
public import proofs.«01_k».proof.Proof.Gen.KernelIdeal.Loops
public import proofs.«01_k».proof.Proof.Gen.KernelIdeal.Skeleton
public import proofs.«01_k».proof.Proof.IBody
public import Idealize.ShloMosaic.Lib.Pipeline.FrameBody
public import Idealize.ShloMosaic.Lib.Tactic
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- From a run whose inputs are tracked, the arguments end unchanged. -/
theorem frameOf (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 12 rfl).trans ((hA c 12).trans (V_main_arg8 m c)),
      (Pipeline.RDat.FramePost.arr_in h c 8 rfl).trans ((hA c 8).trans (V_main_arg9 m c)),
      (Pipeline.RDat.FramePost.arr_in h c 9 rfl).trans ((hA c 9).trans (V_main_arg10 m c)),
      (Pipeline.RDat.FramePost.arr_in h c 10 rfl).trans ((hA c 10).trans (V_main_arg11 m c)),
      (Pipeline.RDat.FramePost.arr_in h c 11 rfl).trans ((hA c 11).trans (V_main_arg12 m c))⟩) h

/-- The body on whole staging memrefs, nothing said of what it leaves in the outputs and the scratch. -/
theorem kernelAny (c : Dev nD) (i : grid0.Coords) (arg2 : Memref sig .tc .smem S6 .f32) (harg2 : arg2.IsWhole) (arg3 : Memref sig .tc .vmem S1x8x160x128 .fp8e4m3) (harg3 : arg3.IsWhole) (arg4 : Memref sig .tc .vmem S1x8x128 .f32) (harg4 : arg4.IsWhole) (arg5 : Memref sig .tc .vmem S1x2x4x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S1x2x1024x128 .f32) (harg9 : arg9.IsWhole) (arg10 : Memref sig .tc .vmem S1x2x24576x256 .fp8e4m3) (harg10 : arg10.IsWhole) (arg11 : Memref sig .tc .vmem S1x2x160x24576 .fp8e4m3) (harg11 : arg11.IsWhole) (arg12 : Memref sig .tc .vmem S1x2x1536x256 .bf16) (harg12 : arg12.IsWhole) (arg13 : Memref sig .tc .vmem S1x2x160x1536 .bf16) (harg13 : arg13.IsWhole) (arg14 : Memref sig .tc .vmem S1x2x128x256 .bf16) (harg14 : arg14.IsWhole) (arg15 : Memref sig .tc .vmem S1x128x1280 .bf16) (harg15 : arg15.IsWhole) (arg16 : Memref sig .tc .vmem S1x8x160x128 .bf16) (harg16 : arg16.IsWhole) (arg17 : Memref sig .tc .vmem S1x8x160x128 .bf16) (harg17 : arg17.IsWhole) (arg18 : Memref sig .tc .vmem S1x8x160x128 .bf16) (harg18 : arg18.IsWhole) (arg19 : Memref sig .tc .vmem S4x1536x256 .f32) (harg19 : arg19.IsWhole) (arg20 : Memref sig .tc .vmem S4x160x256 .f32) (harg20 : arg20.IsWhole) (arg21 : Memref sig .tc .vmem S1280x128 .bf16) (harg21 : arg21.IsWhole)
    (x0 : Vec F S6 .f32) (x1 : Vec F S1x8x160x128 .fp8e4m3) (x2 : Vec F S1x8x128 .f32) (x3 : Vec F S1x2x4x128 .f32) (x4 : Vec F S1x8x128 .f32) (x5 : Vec F S1x8x128 .f32) (x6 : Vec F S1x8x128 .f32) (x7 : Vec F S1x2x1024x128 .f32) (x8 : Vec F S1x2x24576x256 .fp8e4m3) (x9 : Vec F S1x2x160x24576 .fp8e4m3) (x10 : Vec F S1x2x1536x256 .bf16) (x11 : Vec F S1x2x160x1536 .bf16) (x12 : Vec F S1x2x128x256 .bf16) (E : Set ℕ) (K : PUnit → sProp 𝕄) (fs0 : BufTy.Contents (Elt F) arg19.view.ty) (fs1 : BufTy.Contents (Elt F) arg20.view.ty) (fs2 : BufTy.Contents (Elt F) arg21.view.ty) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (arg19.view.loc (c : Thread nD τ) ↦[arg19.view.set]{fullShare} fs0) ∗ (arg20.view.loc (c : Thread nD τ) ↦[arg20.view.set]{fullShare} fs1) ∗ (arg21.view.loc (c : Thread nD τ) ↦[arg21.view.set]{fullShare} fs2)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f)) -∗ K ⟨⟩))
          ⊢ wp frame (wpE (defs₀ (F := F)) Variants.none c none) E (cc0_dense i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  obtain ⟨L15, L16, L17, L18, h⟩ := kernelRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12
  iintro ⟨H0, H1, H2, H3, H4, H5, H6, H7, H8, H9, H10, H11, H12, H13, H14, H15, H16, HS0, HS1, HS2, Hk⟩
  iapply (h E K fs0 fs1 fs2)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HS0]; · iexact HS0
  isplitl [HS1]; · iexact HS1
  isplitl [HS2]; · iexact HS2
  iintro ⟨H0, H1, H2, H3, H4, H5, H6, H7, H8, H9, H10, H11, H12, ⟨%f13, H13⟩, ⟨%f14, H14⟩, ⟨%f15, H15⟩, ⟨%f16, H16⟩, HS0, HS1, HS2⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; iexists (arg15.view.writes (Elt F) f13 (L15 fs0 fs1 fs2)); isplitr; · ipureintro; rfl
    iexact H13
  isplitl [H14]
  · unfold owns; iexists _; iexists (arg16.view.writes (Elt F) f14 (L16 fs0 fs1 fs2)); isplitr; · ipureintro; rfl
    iexact H14
  isplitl [H15]
  · unfold owns; iexists _; iexists (arg17.view.writes (Elt F) f15 (L17 fs0 fs1 fs2)); isplitr; · ipureintro; rfl
    iexact H15
  isplitl [H16]
  · unfold owns; iexists _; iexists (arg18.view.writes (Elt F) f16 (L18 fs0 fs1 fs2)); isplitr; · ipureintro; rfl
    iexact H16
  isplitl [HS0]; · iexact HS0
  isplitl [HS1]; · iexact HS1
  iexact HS2

/-- Window 0 is never idle. -/
theorem liveAt_0 : ∀ t : Fin cfg0.N, cfg0.idle 0 (grid0.coords t) = false := fun _ => rfl
/-- Window 1 is never idle. -/
theorem liveAt_1 : ∀ t : Fin cfg0.N, cfg0.idle 1 (grid0.coords t) = false := fun _ => rfl
/-- Window 2 is never idle. -/
theorem liveAt_2 : ∀ t : Fin cfg0.N, cfg0.idle 2 (grid0.coords t) = false := fun _ => rfl
/-- Window 3 is never idle. -/
theorem liveAt_3 : ∀ t : Fin cfg0.N, cfg0.idle 3 (grid0.coords t) = false := fun _ => rfl
/-- Window 4 is never idle. -/
theorem liveAt_4 : ∀ t : Fin cfg0.N, cfg0.idle 4 (grid0.coords t) = false := fun _ => rfl
/-- Window 5 is never idle. -/
theorem liveAt_5 : ∀ t : Fin cfg0.N, cfg0.idle 5 (grid0.coords t) = false := fun _ => rfl
/-- Window 6 is never idle. -/
theorem liveAt_6 : ∀ t : Fin cfg0.N, cfg0.idle 6 (grid0.coords t) = false := fun _ => rfl
/-- Window 7 is never idle. -/
theorem liveAt_7 : ∀ t : Fin cfg0.N, cfg0.idle 7 (grid0.coords t) = false := fun _ => rfl
/-- Window 8 is never idle. -/
theorem liveAt_8 : ∀ t : Fin cfg0.N, cfg0.idle 8 (grid0.coords t) = false := fun _ => rfl
/-- Window 9 is never idle. -/
theorem liveAt_9 : ∀ t : Fin cfg0.N, cfg0.idle 9 (grid0.coords t) = false := fun _ => rfl
/-- Window 10 is never idle. -/
theorem liveAt_10 : ∀ t : Fin cfg0.N, cfg0.idle 10 (grid0.coords t) = false := fun _ => rfl
/-- Window 11 is never idle. -/
theorem liveAt_11 : ∀ t : Fin cfg0.N, cfg0.idle 11 (grid0.coords t) = false := fun _ => rfl
/-- Window 12 is never idle. -/
theorem liveAt_12 : ∀ t : Fin cfg0.N, cfg0.idle 12 (grid0.coords t) = false := fun _ => rfl
/-- Window 13 is never idle. -/
theorem liveAt_13 : ∀ t : Fin cfg0.N, cfg0.idle 13 (grid0.coords t) = false := fun _ => rfl
/-- Window 14 is never idle. -/
theorem liveAt_14 : ∀ t : Fin cfg0.N, cfg0.idle 14 (grid0.coords t) = false := fun _ => rfl
/-- Window 15 is never idle. -/
theorem liveAt_15 : ∀ t : Fin cfg0.N, cfg0.idle 15 (grid0.coords t) = false := fun _ => rfl
/-- Window 16 is never idle. -/
theorem liveAt_16 : ∀ t : Fin cfg0.N, cfg0.idle 16 (grid0.coords t) = false := fun _ => rfl
/-- The staging buffer of window 0 at point `t`. -/
abbrev ms_0 (t : Fin cfg0.N) : Memref sig .tc .smem S6 .f32 := win0_0.stage (cfg0.slots t 0)
/-- The staging buffer of window 1 at point `t`. -/
abbrev ms_1 (t : Fin cfg0.N) : Memref sig .tc .vmem S1x8x160x128 .fp8e4m3 := win0_1.stage (cfg0.slots t 1)
/-- The staging buffer of window 2 at point `t`. -/
abbrev ms_2 (t : Fin cfg0.N) : Memref sig .tc .vmem S1x8x128 .f32 := win0_2.stage (cfg0.slots t 2)
/-- The staging buffer of window 3 at point `t`. -/
abbrev ms_3 (t : Fin cfg0.N) : Memref sig .tc .vmem S1x2x4x128 .f32 := win0_3.stage (cfg0.slots t 3)
/-- The staging buffer of window 4 at point `t`. -/
abbrev ms_4 (t : Fin cfg0.N) : Memref sig .tc .vmem S1x8x128 .f32 := win0_4.stage (cfg0.slots t 4)
/-- The staging buffer of window 5 at point `t`. -/
abbrev ms_5 (t : Fin cfg0.N) : Memref sig .tc .vmem S1x8x128 .f32 := win0_5.stage (cfg0.slots t 5)
/-- The staging buffer of window 6 at point `t`. -/
abbrev ms_6 (t : Fin cfg0.N) : Memref sig .tc .vmem S1x8x128 .f32 := win0_6.stage (cfg0.slots t 6)
/-- The staging buffer of window 7 at point `t`. -/
abbrev ms_7 (t : Fin cfg0.N) : Memref sig .tc .vmem S1x2x1024x128 .f32 := win0_7.stage (cfg0.slots t 7)
/-- The staging buffer of window 8 at point `t`. -/
abbrev ms_8 (t : Fin cfg0.N) : Memref sig .tc .vmem S1x2x24576x256 .fp8e4m3 := win0_8.stage (cfg0.slots t 8)
/-- The staging buffer of window 9 at point `t`. -/
abbrev ms_9 (t : Fin cfg0.N) : Memref sig .tc .vmem S1x2x160x24576 .fp8e4m3 := win0_9.stage (cfg0.slots t 9)
/-- The staging buffer of window 10 at point `t`. -/
abbrev ms_10 (t : Fin cfg0.N) : Memref sig .tc .vmem S1x2x1536x256 .bf16 := win0_10.stage (cfg0.slots t 10)
/-- The staging buffer of window 11 at point `t`. -/
abbrev ms_11 (t : Fin cfg0.N) : Memref sig .tc .vmem S1x2x160x1536 .bf16 := win0_11.stage (cfg0.slots t 11)
/-- The staging buffer of window 12 at point `t`. -/
abbrev ms_12 (t : Fin cfg0.N) : Memref sig .tc .vmem S1x2x128x256 .bf16 := win0_12.stage (cfg0.slots t 12)
/-- The staging buffer of window 13 at point `t`. -/
abbrev ms_13 (t : Fin cfg0.N) : Memref sig .tc .vmem S1x128x1280 .bf16 := win0_13.stage (cfg0.slots t 13)
/-- The staging buffer of window 14 at point `t`. -/
abbrev ms_14 (t : Fin cfg0.N) : Memref sig .tc .vmem S1x8x160x128 .bf16 := win0_14.stage (cfg0.slots t 14)
/-- The staging buffer of window 15 at point `t`. -/
abbrev ms_15 (t : Fin cfg0.N) : Memref sig .tc .vmem S1x8x160x128 .bf16 := win0_15.stage (cfg0.slots t 15)
/-- The staging buffer of window 16 at point `t`. -/
abbrev ms_16 (t : Fin cfg0.N) : Memref sig .tc .vmem S1x8x160x128 .bf16 := win0_16.stage (cfg0.slots t 16)
/-- Scratch buffer 0. -/
abbrev scr_0 : Memref sig .tc .vmem S4x1536x256 .f32 := Memref.whole cc0_scratch0
/-- Scratch buffer 1. -/
abbrev scr_1 : Memref sig .tc .vmem S4x160x256 .f32 := Memref.whole cc0_scratch1
/-- Scratch buffer 2. -/
abbrev scr_2 : Memref sig .tc .vmem S1280x128 .bf16 := Memref.whole cc0_scratch2

/-- What the body is handed besides its windows: the three scratch buffers at some contents, and the generator register. -/
theorem phi_eq (c : Dev nD) :
    (Pipeline.ΦA spec0 c : sProp 𝕄)
      = iprop(iprop((∃ f : BufTy.Contents (Elt F) scr_0.view.ty, scr_0.view.loc (c : Thread nD τ) ↦[scr_0.view.set]{fullShare} f) ∗ (∃ f : BufTy.Contents (Elt F) scr_1.view.ty, scr_1.view.loc (c : Thread nD τ) ↦[scr_1.view.set]{fullShare} f) ∗ (∃ f : BufTy.Contents (Elt F) scr_2.view.ty, scr_2.view.loc (c : Thread nD τ) ↦[scr_2.view.set]{fullShare} f)) ∗ (∃ r, prngReg c r)) := by
  unfold Pipeline.ΦA; rw [scopedRest0_eq]; simp only [scr_0, scr_1, scr_2, Memref.view_whole, View.set_whole]; try rfl

/-- The outputs (windows 13 to 16) of which nothing is said. -/
def forgets0 : Fin 17 → Bool := fun w => w.val == 13 || w.val == 14 || w.val == 15 || w.val == 16

/-- The pipeline's proof data: each input's buffer stays at its block; the outputs are forgotten. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨_ + 17, h⟩ => absurd h (Nat.not_lt.2 (Nat.le_add_left _ _))
  Φ _ := Pipeline.ΦA spec0 c
  q _ := fullShare
  owed _ := 0

/-- The arrays of the proof data are those the region finds. -/
theorem A_eq (c : Dev nD) (w : Fin cfg0.W) : (dats m 0 c).A w = V m c (Pipeline.arrRef spec0 w) := by
  dsimp only [dats]

/-- Input window 0 is left at its block. -/
theorem after_0 (c : Dev nD) (t : Fin cfg0.N) : (dats m 0 c).after 0 t = iblk m c 0 t := by dsimp only [dats]
/-- Input window 0 is found at its block. -/
theorem before_0 (c : Dev nD) (t : Fin cfg0.N) (d) : (dats m 0 c).before 0 t d = iblk m c 0 t :=
  before0_0_of m (dats m 0 c) (A_eq m c 0) (after_0 m c) t d
/-- Input window 1 is left at its block. -/
theorem after_1 (c : Dev nD) (t : Fin cfg0.N) : (dats m 0 c).after 1 t = iblk m c 1 t := by dsimp only [dats]
/-- Input window 1 is found at its block. -/
theorem before_1 (c : Dev nD) (t : Fin cfg0.N) (d) : (dats m 0 c).before 1 t d = iblk m c 1 t :=
  before0_1_of m (dats m 0 c) (A_eq m c 1) (after_1 m c) t d
/-- Input window 2 is left at its block. -/
theorem after_2 (c : Dev nD) (t : Fin cfg0.N) : (dats m 0 c).after 2 t = iblk m c 2 t := by dsimp only [dats]
/-- Input window 2 is found at its block. -/
theorem before_2 (c : Dev nD) (t : Fin cfg0.N) (d) : (dats m 0 c).before 2 t d = iblk m c 2 t :=
  before0_2_of m (dats m 0 c) (A_eq m c 2) (after_2 m c) t d
/-- Input window 3 is left at its block. -/
theorem after_3 (c : Dev nD) (t : Fin cfg0.N) : (dats m 0 c).after 3 t = iblk m c 3 t := by dsimp only [dats]
/-- Input window 3 is found at its block. -/
theorem before_3 (c : Dev nD) (t : Fin cfg0.N) (d) : (dats m 0 c).before 3 t d = iblk m c 3 t :=
  before0_3_of m (dats m 0 c) (A_eq m c 3) (after_3 m c) t d
/-- Input window 4 is left at its block. -/
theorem after_4 (c : Dev nD) (t : Fin cfg0.N) : (dats m 0 c).after 4 t = iblk m c 4 t := by dsimp only [dats]
/-- Input window 4 is found at its block. -/
theorem before_4 (c : Dev nD) (t : Fin cfg0.N) (d) : (dats m 0 c).before 4 t d = iblk m c 4 t :=
  before0_4_of m (dats m 0 c) (A_eq m c 4) (after_4 m c) t d
/-- Input window 5 is left at its block. -/
theorem after_5 (c : Dev nD) (t : Fin cfg0.N) : (dats m 0 c).after 5 t = iblk m c 5 t := by dsimp only [dats]
/-- Input window 5 is found at its block. -/
theorem before_5 (c : Dev nD) (t : Fin cfg0.N) (d) : (dats m 0 c).before 5 t d = iblk m c 5 t :=
  before0_5_of m (dats m 0 c) (A_eq m c 5) (after_5 m c) t d
/-- Input window 6 is left at its block. -/
theorem after_6 (c : Dev nD) (t : Fin cfg0.N) : (dats m 0 c).after 6 t = iblk m c 6 t := by dsimp only [dats]
/-- Input window 6 is found at its block. -/
theorem before_6 (c : Dev nD) (t : Fin cfg0.N) (d) : (dats m 0 c).before 6 t d = iblk m c 6 t :=
  before0_6_of m (dats m 0 c) (A_eq m c 6) (after_6 m c) t d
/-- Input window 7 is left at its block. -/
theorem after_7 (c : Dev nD) (t : Fin cfg0.N) : (dats m 0 c).after 7 t = iblk m c 7 t := by dsimp only [dats]
/-- Input window 7 is found at its block. -/
theorem before_7 (c : Dev nD) (t : Fin cfg0.N) (d) : (dats m 0 c).before 7 t d = iblk m c 7 t :=
  before0_7_of m (dats m 0 c) (A_eq m c 7) (after_7 m c) t d
/-- Input window 8 is left at its block. -/
theorem after_8 (c : Dev nD) (t : Fin cfg0.N) : (dats m 0 c).after 8 t = iblk m c 8 t := by dsimp only [dats]
/-- Input window 8 is found at its block. -/
theorem before_8 (c : Dev nD) (t : Fin cfg0.N) (d) : (dats m 0 c).before 8 t d = iblk m c 8 t :=
  before0_8_of m (dats m 0 c) (A_eq m c 8) (after_8 m c) t d
/-- Input window 9 is left at its block. -/
theorem after_9 (c : Dev nD) (t : Fin cfg0.N) : (dats m 0 c).after 9 t = iblk m c 9 t := by dsimp only [dats]
/-- Input window 9 is found at its block. -/
theorem before_9 (c : Dev nD) (t : Fin cfg0.N) (d) : (dats m 0 c).before 9 t d = iblk m c 9 t :=
  before0_9_of m (dats m 0 c) (A_eq m c 9) (after_9 m c) t d
/-- Input window 10 is left at its block. -/
theorem after_10 (c : Dev nD) (t : Fin cfg0.N) : (dats m 0 c).after 10 t = iblk m c 10 t := by dsimp only [dats]
/-- Input window 10 is found at its block. -/
theorem before_10 (c : Dev nD) (t : Fin cfg0.N) (d) : (dats m 0 c).before 10 t d = iblk m c 10 t :=
  before0_10_of m (dats m 0 c) (A_eq m c 10) (after_10 m c) t d
/-- Input window 11 is left at its block. -/
theorem after_11 (c : Dev nD) (t : Fin cfg0.N) : (dats m 0 c).after 11 t = iblk m c 11 t := by dsimp only [dats]
/-- Input window 11 is found at its block. -/
theorem before_11 (c : Dev nD) (t : Fin cfg0.N) (d) : (dats m 0 c).before 11 t d = iblk m c 11 t :=
  before0_11_of m (dats m 0 c) (A_eq m c 11) (after_11 m c) t d
/-- Input window 12 is left at its block. -/
theorem after_12 (c : Dev nD) (t : Fin cfg0.N) : (dats m 0 c).after 12 t = iblk m c 12 t := by dsimp only [dats]
/-- Input window 12 is found at its block. -/
theorem before_12 (c : Dev nD) (t : Fin cfg0.N) (d) : (dats m 0 c).before 12 t d = iblk m c 12 t :=
  before0_12_of m (dats m 0 c) (A_eq m c 12) (after_12 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d))
    ∗ (∃ d, owns (c : Thread nD τ) (ms_13 t) fullShare d)
    ∗ (∃ d, owns (c : Thread nD τ) (ms_14 t) fullShare d)
    ∗ (∃ d, owns (c : Thread nD τ) (ms_15 t) fullShare d)
    ∗ (∃ d, owns (c : Thread nD τ) (ms_16 t) fullShare d))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (∃ d, owns (c : Thread nD τ) (ms_13 t) fullShare d)
    ∗ (∃ d, owns (c : Thread nD τ) (ms_14 t) fullShare d)
    ∗ (∃ d, owns (c : Thread nD τ) (ms_15 t) fullShare d)
    ∗ (∃ d, owns (c : Thread nD τ) (ms_16 t) fullShare d))

set_option maxHeartbeats 14000000 in
/-- The body at any point: its run applies, and what it is handed it hands back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, phi_eq]
  rw [show (dats m 0 c).leavesExact 0 t = owns (c : Thread nD τ) (ms_0 t) fullShare ((dats m 0 c).after 0 t) from by
    unfold Dat.leavesExact; rw [liveAt_0 t], after_0]
  rw [show (dats m 0 c).leavesExact 1 t = owns (c : Thread nD τ) (ms_1 t) fullShare ((dats m 0 c).after 1 t) from by
    unfold Dat.leavesExact; rw [liveAt_1 t], after_1]
  rw [show (dats m 0 c).leavesExact 2 t = owns (c : Thread nD τ) (ms_2 t) fullShare ((dats m 0 c).after 2 t) from by
    unfold Dat.leavesExact; rw [liveAt_2 t], after_2]
  rw [show (dats m 0 c).leavesExact 3 t = owns (c : Thread nD τ) (ms_3 t) fullShare ((dats m 0 c).after 3 t) from by
    unfold Dat.leavesExact; rw [liveAt_3 t], after_3]
  rw [show (dats m 0 c).leavesExact 4 t = owns (c : Thread nD τ) (ms_4 t) fullShare ((dats m 0 c).after 4 t) from by
    unfold Dat.leavesExact; rw [liveAt_4 t], after_4]
  rw [show (dats m 0 c).leavesExact 5 t = owns (c : Thread nD τ) (ms_5 t) fullShare ((dats m 0 c).after 5 t) from by
    unfold Dat.leavesExact; rw [liveAt_5 t], after_5]
  rw [show (dats m 0 c).leavesExact 6 t = owns (c : Thread nD τ) (ms_6 t) fullShare ((dats m 0 c).after 6 t) from by
    unfold Dat.leavesExact; rw [liveAt_6 t], after_6]
  rw [show (dats m 0 c).leavesExact 7 t = owns (c : Thread nD τ) (ms_7 t) fullShare ((dats m 0 c).after 7 t) from by
    unfold Dat.leavesExact; rw [liveAt_7 t], after_7]
  rw [show (dats m 0 c).leavesExact 8 t = owns (c : Thread nD τ) (ms_8 t) fullShare ((dats m 0 c).after 8 t) from by
    unfold Dat.leavesExact; rw [liveAt_8 t], after_8]
  rw [show (dats m 0 c).leavesExact 9 t = owns (c : Thread nD τ) (ms_9 t) fullShare ((dats m 0 c).after 9 t) from by
    unfold Dat.leavesExact; rw [liveAt_9 t], after_9]
  rw [show (dats m 0 c).leavesExact 10 t = owns (c : Thread nD τ) (ms_10 t) fullShare ((dats m 0 c).after 10 t) from by
    unfold Dat.leavesExact; rw [liveAt_10 t], after_10]
  rw [show (dats m 0 c).leavesExact 11 t = owns (c : Thread nD τ) (ms_11 t) fullShare ((dats m 0 c).after 11 t) from by
    unfold Dat.leavesExact; rw [liveAt_11 t], after_11]
  rw [show (dats m 0 c).leavesExact 12 t = owns (c : Thread nD τ) (ms_12 t) fullShare ((dats m 0 c).after 12 t) from by
    unfold Dat.leavesExact; rw [liveAt_12 t], after_12]
  iintro ⟨⟨⟨⟨%fs0, HS0⟩, ⟨%fs1, HS1⟩, ⟨%fs2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((kernelAny c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _ fs0 fs1 fs2))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [HS0]; · iexact HS0
  isplitl [HS1]; · iexact HS1
  isplitl [HS2]; · iexact HS2
  iintro ⟨H0, H1, H2, H3, H4, H5, H6, H7, H8, H9, H10, H11, H12, H13, H14, H15, H16, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: the inputs end as they were, and every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frameOf m ρ (fun c => (dats m 0 c).toRForget forgets0) (A_eq m)
    ((θ_run defs _ _).mono (fun _ h => h.1) (run_main_quiescent m ρ))

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.KernelIdeal.Hand

end
-- ==== Proof.Soft.lean ====
/- Softmax weights over the extended reals: the kernel's and the reference's ways of dividing give one value. -/
module

public import Idealize.ShloMosaic.Lib.Pointwise

@[expose] public section

set_option maxRecDepth 16384

noncomputable section

namespace Cert.Soft

open Idealize.ShloMosaic
open scoped BigOperators

/-- The largest of the scores, `⊥` for none. -/
def top {n : ℕ} (x : Fin n → EReal) : EReal := Finset.univ.sup x

/-- The largest score, with `0` in place of `⊥`. -/
def gd (m : EReal) : EReal := if m = ⊥ then 0 else m

/-- A sum of weights, with `1` in place of a sum that is not positive. -/
def pos (d : EReal) : EReal := if 0 < d then d else 1

/-- The reference's attention of one query and one channel: scores `x` (`⊥` where masked), values `v`. -/
def attend {n : ℕ} (x v : Fin n → EReal) (vs : EReal) : EReal :=
  (∑ j, v j * Ideal.div (Ideal.exp2 (x j - gd (top x))) (pos (∑ k, Ideal.exp2 (x k - gd (top x))))) * vs

/-- A fold by maximum from `⊥` is the supremum. -/
theorem fold_max {n : ℕ} (x : Fin n → EReal) : Finset.univ.fold max ⊥ x = top x := rfl

theorem exp2_bot : Ideal.exp2 ⊥ = 0 := rfl

/-- A score less an infinite maximum weighs nothing; any weight is a nonnegative real. -/
theorem weight_real {n : ℕ} (x : Fin n → EReal) (j : Fin n) :
    ∃ r : ℝ, 0 ≤ r ∧ Ideal.exp2 (x j - gd (top x)) = (r : EReal) := by
  have hle : x j ≤ top x := Finset.le_sup (Finset.mem_univ j)
  unfold gd
  induction hx : x j using EReal.rec with
  | bot => exact ⟨0, le_rfl, by simp [exp2_bot]⟩
  | top =>
    have : top x = ⊤ := by rw [hx] at hle; exact top_le_iff.mp hle
    refine ⟨0, le_rfl, ?_⟩
    rw [this]; simp [exp2_bot]
  | coe a =>
    split
    · rename_i h
      rw [h, hx] at hle; simp at hle
    · induction hm : top x using EReal.rec with
      | bot => rename_i h; exact absurd hm h
      | top => exact ⟨0, le_rfl, by simp [exp2_bot]⟩
      | coe b =>
        refine ⟨Real.rpow 2 (a - b), Real.rpow_nonneg (by norm_num) _, ?_⟩
        rw [← EReal.coe_sub]; rfl

/-- The guard against an empty maximum changes no weight. -/
theorem weight_guard {n : ℕ} (x : Fin n → EReal) (j : Fin n) :
    Ideal.exp2 (x j - top x) = Ideal.exp2 (x j - gd (top x)) := by
  have hle : x j ≤ top x := Finset.le_sup (Finset.mem_univ j)
  unfold gd
  split
  · rename_i h
    rw [h] at hle ⊢
    rw [le_bot_iff.mp hle]; simp
  · rfl

/-- Multiplying a sum by a nonnegative real, term by term. -/
theorem sum_mul_real {ι : Type} (s : Finset ι) (f : ι → EReal) (c : ℝ) (hc : 0 ≤ c) :
    (∑ j ∈ s, f j) * (c : EReal) = ∑ j ∈ s, f j * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

theorem coe_sum {ι : Type} (s : Finset ι) (r : ι → ℝ) : (∑ j ∈ s, ((r j : ℝ) : EReal)) = ((∑ j ∈ s, r j : ℝ) : EReal) := by
  classical
  induction s using Finset.induction_on with
  | empty => simp
  | insert a s ha ih => rw [Finset.sum_insert ha, Finset.sum_insert ha, ih, EReal.coe_add]

/-- Dividing each weight or dividing the sum of the products: one value, for real nonnegative weights. -/
theorem core {n : ℕ} (r : Fin n → ℝ) (hr : ∀ j, 0 ≤ r j) (v : Fin n → EReal) (vs d d' : EReal)
    (hd : d = pos (∑ j, (r j : EReal))) (hd' : d' = d ∨ d' = ∑ j, (r j : EReal)) :
    (∑ j, v j * Ideal.div (r j : EReal) d) * vs = (∑ j, v j * (r j : EReal)) * Ideal.div vs d' := by
  rw [coe_sum] at hd hd'
  by_cases h0 : (∑ j, r j) = 0
  · have hz : ∀ j, r j = 0 := fun j => (Finset.sum_eq_zero_iff_of_nonneg (fun j _ => hr j)).mp h0 j (Finset.mem_univ j)
    have hd1 : d = 1 := by rw [hd, h0]; simp [pos]
    simp [hz, hd1, Ideal.div]
  · have hp : 0 < ∑ j, r j := lt_of_le_of_ne (Finset.sum_nonneg fun j _ => hr j) (Ne.symm h0)
    have hp' : (0 : EReal) < ((∑ j, r j : ℝ) : EReal) := EReal.coe_pos.mpr hp
    have hdd : d = ((∑ j, r j : ℝ) : EReal) := by rw [hd, pos, if_pos hp']
    have hdd' : d' = ((∑ j, r j : ℝ) : EReal) := by rcases hd' with h | h <;> simp [h, hdd]
    have hne : ((∑ j, r j : ℝ) : EReal) ≠ 0 := hp'.ne'
    have hdiv : ∀ y : EReal, Ideal.div y ((∑ j, r j : ℝ) : EReal) = y * (((∑ j, r j)⁻¹ : ℝ) : EReal) := fun y => by
      rw [Ideal.div, if_neg hne, EReal.coe_inv]
    rw [hdd, hdd', hdiv vs]
    simp only [hdiv]
    rw [show (∑ j, v j * ((r j : EReal) * (((∑ j, r j)⁻¹ : ℝ) : EReal))) = (∑ j, v j * (r j : EReal)) * (((∑ j, r j)⁻¹ : ℝ) : EReal) from by
      rw [sum_mul_real _ _ _ (inv_nonneg.mpr hp.le)]; exact Finset.sum_congr rfl fun j _ => (mul_assoc _ _ _).symm]
    rw [mul_assoc, mul_comm vs]

/-- The kernel's guarded attention: the products summed, then one division. -/
theorem attend_guarded {n : ℕ} (x v : Fin n → EReal) (vs : EReal) :
    (∑ j, v j * Ideal.exp2 (x j - gd (top x))) * Ideal.div vs (pos (∑ k, Ideal.exp2 (x k - gd (top x)))) = attend x v vs := by
  choose r hr he using weight_real x
  unfold attend
  simp only [he]
  exact (core r hr v vs _ _ rfl (Or.inl rfl)).symm

/-- The kernel's attention without guards. -/
theorem attend_bare {n : ℕ} (x v : Fin n → EReal) (vs : EReal) :
    (∑ j, v j * Ideal.exp2 (x j - top x)) * Ideal.div vs (∑ k, Ideal.exp2 (x k - top x)) = attend x v vs := by
  simp only [weight_guard]
  choose r hr he using weight_real x
  unfold attend
  simp only [he]
  exact (core r hr v vs _ _ rfl (Or.inr rfl)).symm

/-- Keys that are masked out may be left away: the rest, at their places `f`, give the same attention. -/
theorem attend_embed {n N : ℕ} (f : Fin n → Fin N) (hf : Function.Injective f) (x v : Fin n → EReal) (x' v' : Fin N → EReal)
    (hx : ∀ j, x' (f j) = x j) (hv : ∀ j, v' (f j) = v j) (hout : ∀ i, i ∉ Set.range f → x' i = ⊥) (vs : EReal) :
    attend x v vs = attend x' v' vs := by
  have ht : top x' = top x := by
    apply le_antisymm
    · refine Finset.sup_le fun i _ => ?_
      by_cases hi : i ∈ Set.range f
      · obtain ⟨j, rfl⟩ := hi
        rw [hx]; exact Finset.le_sup (f := x) (Finset.mem_univ j)
      · rw [hout i hi]; exact bot_le
    · refine Finset.sup_le fun j _ => ?_
      rw [← hx]; exact Finset.le_sup (f := x') (Finset.mem_univ (f j))
  rw [← attend_guarded, ← attend_guarded, ht]
  congr 1
  · refine Fintype.sum_of_injective f hf _ _ (fun i hi => ?_) (fun j => ?_)
    · rw [hout i hi]; simp [exp2_bot]
    · rw [hx, hv]
  · congr 2
    refine Fintype.sum_of_injective f hf _ _ (fun i hi => ?_) (fun j => ?_)
    · rw [hout i hi]; simp [exp2_bot]
    · rw [hx]

/-! ## The first `K` keys -/

/-- The maximum over the keys below `K`. -/
def topTo {n : ℕ} (x : Fin n → EReal) (K : ℕ) : EReal := (Finset.univ.filter fun j : Fin n => j.val < K).sup x

/-- The sum over the keys below `K`. -/
def sumTo {n : ℕ} (f : Fin n → EReal) (K : ℕ) : EReal := ∑ j ∈ Finset.univ.filter (fun j : Fin n => j.val < K), f j

theorem topTo_zero {n : ℕ} (x : Fin n → EReal) : topTo x 0 = ⊥ := by simp [topTo]
theorem sumTo_zero {n : ℕ} (x : Fin n → EReal) : sumTo x 0 = 0 := by simp [sumTo]

/-- The keys below `K + T` are those below `K` and the `T` next ones. -/
theorem filter_step {n K T : ℕ} (h : K + T ≤ n) :
    (Finset.univ.filter fun j : Fin n => j.val < K + T)
      = (Finset.univ.filter fun j : Fin n => j.val < K) ∪ Finset.univ.image (fun r : Fin T => (⟨K + r.val, by omega⟩ : Fin n)) := by
  ext j
  simp only [Finset.mem_filter, Finset.mem_univ, true_and, Finset.mem_union, Finset.mem_image]
  constructor
  · intro hj
    by_cases hk : j.val < K
    · exact Or.inl hk
    · exact Or.inr ⟨⟨j.val - K, by omega⟩, Fin.ext (by simp; omega)⟩
  · rintro (hj | ⟨r, rfl⟩)
    · omega
    · simp

/-- One more tile in the maximum. -/
theorem topTo_step {n K T : ℕ} (x : Fin n → EReal) (h : K + T ≤ n) :
    topTo x (K + T) = max (topTo x K) (top fun r : Fin T => x ⟨K + r.val, by omega⟩) := by
  rw [topTo, filter_step h, Finset.sup_union, Finset.sup_image]; rfl

/-- One more tile in the sum. -/
theorem sumTo_step {n K T : ℕ} (f : Fin n → EReal) (h : K + T ≤ n) :
    sumTo f (K + T) = sumTo f K + ∑ r : Fin T, f ⟨K + r.val, by omega⟩ := by
  rw [sumTo, filter_step h, Finset.sum_union, Finset.sum_image]; · rfl
  · intro a _ b _ hab
    have := congrArg Fin.val hab
    exact Fin.ext (by simpa using this)
  · rw [Finset.disjoint_left]
    rintro j hj hi
    simp only [Finset.mem_filter, Finset.mem_univ, true_and, Finset.mem_image] at hj hi
    obtain ⟨r, rfl⟩ := hi
    simp at hj

/-- All scores from `K` on masked: the maximum below `K` is the maximum. -/
theorem topTo_eq {n K : ℕ} (x : Fin n → EReal) (h : ∀ j : Fin n, K ≤ j.val → x j = ⊥) : topTo x K = top x := by
  apply le_antisymm
  · exact Finset.sup_mono (Finset.filter_subset _ _)
  · refine Finset.sup_le fun j _ => ?_
    by_cases hj : j.val < K
    · exact Finset.le_sup (f := x) (by simp [hj])
    · rw [h j (by omega)]; exact bot_le

/-- All terms from `K` on zero: the sum below `K` is the sum. -/
theorem sumTo_eq {n K : ℕ} (f : Fin n → EReal) (h : ∀ j : Fin n, K ≤ j.val → f j = 0) : sumTo f K = ∑ j, f j := by
  refine Finset.sum_subset (Finset.filter_subset _ _) fun j _ hj => h j ?_
  simpa using hj

/-- The kernel's attention tile by tile over the first `K` keys, the rest masked. -/
theorem attend_to {n K : ℕ} (x v : Fin n → EReal) (h : ∀ j : Fin n, K ≤ j.val → x j = ⊥) (vs : EReal) :
    sumTo (fun j => v j * Ideal.exp2 (x j - gd (topTo x K))) K
      * Ideal.div vs (pos (sumTo (fun j => Ideal.exp2 (x j - gd (topTo x K))) K)) = attend x v vs := by
  rw [topTo_eq x h, sumTo_eq _ fun j hj => ?_, sumTo_eq _ fun j hj => ?_, attend_guarded]
  · rw [h j hj]; simp [exp2_bot]
  · rw [h j hj]; simp [exp2_bot]

end Cert.Soft

end
-- ==== Proof.Spec.lean ====
/- What the attention call computes, entry by entry, in terms of its input arrays. -/
module

public import proofs.«01_k».proof.Proof.Soft

@[expose] public section

set_option maxRecDepth 16384

noncomputable section

namespace Cert.Spec

open Idealize.ShloMosaic Cert.Soft
open scoped BigOperators

/-- The call's input arrays, as functions of their coordinates. -/
structure Arr where
  vs : Fin 3 → Fin 2 → EReal
  q : Fin 3 → Fin 8 → Fin 160 → Fin 24576 → EReal
  scl : Fin 3 → Fin 8 → Fin 24576 → EReal
  m : Fin 3 → Fin 2 → Fin 4 → Fin 24576 → EReal
  gc : Fin 3 → Fin 8 → Fin 24576 → EReal
  gs : Fin 3 → Fin 8 → Fin 24576 → EReal
  gw : Fin 3 → Fin 8 → Fin 24576 → EReal
  acc : Fin 3 → Fin 2 → Fin 196608 → Fin 128 → EReal
  kb : Fin 3 → Fin 2 → Fin 24576 → Fin 256 → EReal
  k8 : Fin 3 → Fin 2 → Fin 24576 → Fin 256 → EReal
  v : Fin 3 → Fin 2 → Fin 160 → Fin 24576 → EReal
  kc : Fin 3 → Fin 2 → Fin 1536 → Fin 256 → EReal
  vc : Fin 3 → Fin 2 → Fin 160 → Fin 1536 → EReal

/-- The key head of a query head. -/
def kv (h : Fin 8) : Fin 2 := ⟨h.val / 4, by omega⟩

/-- A query head's place within its key head's group. -/
def gq (h : Fin 8) : Fin 4 := ⟨h.val % 4, by omega⟩

variable (A : Arr) (b : Fin 3) (h : Fin 8) (d : Fin 160) (t : Fin 24576)

/-- The product of a key and a query, scaled. -/
def score {N : ℕ} (k : Fin 3 → Fin 2 → Fin N → Fin 256 → EReal) (j : Fin N) : EReal :=
  (∑ x : Fin 160, k b (kv h) j ⟨x.val, by omega⟩ * A.q b h x t) * A.scl b h t

/-- The compressed keys' scores. -/
def xc (j : Fin 1536) : EReal := if 16 * j.val + 31 ≤ t.val then score A b h t A.kc j else ⊥

/-- The window's scores. -/
def xw (j : Fin 24576) : EReal := if j.val ≤ t.val ∧ t.val < j.val + 512 then score A b h t A.k8 j else ⊥

/-- The query's own block's scores, less the running maximum. -/
def xs (j : Fin 24576) : EReal :=
  if j.val / 64 = t.val / 64 ∧ j.val ≤ t.val then score A b h t A.kb j - A.m b (kv h) (gq h) t else ⊥

/-- The sum over the other selected blocks, channel `d`. -/
def rest : EReal := A.acc b (kv h) ⟨t.val * 8 + d.val / 128 * 4 + h.val % 4, by omega⟩ ⟨d.val % 128, by omega⟩

/-- The other selected blocks' sum of weights. -/
def restl : EReal := A.acc b (kv h) ⟨t.val * 8 + 4 + h.val % 4, by omega⟩ 32

def oc : EReal := attend (xc A b h t) (fun j => A.vc b (kv h) d j) (A.vs b (kv h))
def ow : EReal := attend (xw A b h t) (fun j => A.v b (kv h) d j) (A.vs b (kv h))
def os : EReal :=
  (∑ j, A.v b (kv h) d j * Ideal.exp2 (xs A b h t j) + rest A b h d t)
    * Ideal.div (A.vs b (kv h)) (∑ j, Ideal.exp2 (xs A b h t j) + restl A b h t)
def y : EReal :=
  Ideal.logistic (A.gc b h t) * oc A b h d t + Ideal.logistic (A.gs b h t) * os A b h d t
    + Ideal.logistic (A.gw b h t) * ow A b h d t

/-- The float constant of the masked scores. -/
theorem negInf : Ideal.ofBits FTy.f32 4286578688#32 = ⊥ := by
  simp [Ideal.ofBits, Ideal.ieee]

/-- A selection by a word's bit. -/
theorem select_iff {α : Type} (w : BitVec 1) (p : Prop) [Decidable p] (hw : w = 1#1 ↔ p) (x z : α) :
    Scalar.select w x z = if p then x else z := by
  unfold Scalar.select
  by_cases hp : p
  · simp [hw.mpr hp, hp]
  · have : w ≠ 1#1 := fun h => hp (hw.mp h)
    simp [this, hp]

end Cert.Spec

end
-- ==== Proof.Words.lean ====
/- The masks' index words, read as orders of natural numbers. -/
module

public import proofs.«01_k».proof.Proof.Spec
public import Idealize.ShloMosaic.Lib.Routing.Words

@[expose] public section

set_option maxRecDepth 16384

noncomputable section

namespace Cert.Words

open Idealize.ShloMosaic

/-- A small number as a word, read signed. -/
theorem toInt_small (n : ℕ) (h : n < 2 ^ 31) : (BitVec.ofNat 32 n).toInt = n := by
  rw [BitVec.toInt_eq_toNat_cond, BitVec.toNat_ofNat]
  have : n % 2 ^ 32 = n := Nat.mod_eq_of_lt (by omega)
  rw [this, if_pos (by omega)]

theorem ofBool_iff (p : Prop) [Decidable p] : BitVec.ofBool (decide p) = 1#1 ↔ p := by
  by_cases h : p <;> simp [h]

/-- A signed comparison `≤` of small numbers. -/
theorem sle (a b : ℕ) (ha : a < 2 ^ 31) (hb : b < 2 ^ 31) :
    IntOp.cmpi .sle (BitVec.ofNat 32 a) (BitVec.ofNat 32 b) = 1#1 ↔ a ≤ b := by
  simp only [IntOp.cmpi, BitVec.sle, toInt_small a ha, toInt_small b hb]
  rw [ofBool_iff]; omega

/-- Two conditions' bits joined. -/
theorem andi_iff (x y : BitVec 1) : IntOp.andi x y = 1#1 ↔ x = 1#1 ∧ y = 1#1 := by
  revert x y; decide

/-- The compressed keys' mask. -/
theorem mask_c (j t : ℕ) (hj : j < 1536) (ht : t < 24576) :
    IntOp.cmpi .sle (IntOp.addi (IntOp.muli 16#32 (BitVec.ofNat 32 j)) 31#32) (BitVec.ofNat 32 t) = 1#1 ↔ 16 * j + 31 ≤ t := by
  have h1 : IntOp.addi (IntOp.muli 16#32 (BitVec.ofNat 32 j)) 31#32 = BitVec.ofNat 32 (16 * j + 31) := by
    show 16#32 * BitVec.ofNat 32 j + 31#32 = _
    apply BitVec.eq_of_toNat_eq; simp [BitVec.toNat_add, BitVec.toNat_mul]
  rw [h1, sle _ _ (by omega) (by omega)]

/-- A difference of small numbers, read signed. -/
theorem toInt_sub (t j : ℕ) (ht : t < 2 ^ 30) (hj : j < 2 ^ 30) :
    (IntOp.subi (BitVec.ofNat 32 t) (BitVec.ofNat 32 j)).toInt = (t : ℤ) - j := by
  show (BitVec.ofNat 32 t - BitVec.ofNat 32 j).toInt = _
  rw [BitVec.toInt_sub, toInt_small t (by omega), toInt_small j (by omega), Int.bmod_def]
  omega

/-- The window's mask. -/
theorem mask_w (t j : ℕ) (ht : t < 2 ^ 30) (hj : j < 2 ^ 30) :
    IntOp.andi (IntOp.cmpi .sge (IntOp.subi (BitVec.ofNat 32 t) (BitVec.ofNat 32 j)) 0#32)
      (IntOp.cmpi .slt (IntOp.subi (BitVec.ofNat 32 t) (BitVec.ofNat 32 j)) 512#32) = 1#1 ↔ j ≤ t ∧ t < j + 512 := by
  rw [andi_iff]
  simp only [IntOp.cmpi, BitVec.sle, BitVec.slt, toInt_sub t j ht hj]
  rw [ofBool_iff, ofBool_iff]
  have h0 : (0#32 : BitVec 32).toInt = 0 := by decide
  have h5 : (512#32 : BitVec 32).toInt = 512 := by decide
  rw [h0, h5]; omega

/-- Floor division by 64 of a small number, as the program spells it. -/
theorem floor64 (j : ℕ) (hj : j < 2 ^ 30) :
    Scalar.select (IntOp.andi
        (IntOp.cmpi .ne (IntOp.subi (BitVec.setWidth 32 (IntOp.cmpi .sgt (BitVec.ofNat 32 j) 0#32))
            (BitVec.setWidth 32 (IntOp.cmpi .slt (BitVec.ofNat 32 j) 0#32)))
          (Scalar.subi (Scalar.extui (Scalar.cmpi .sgt 64#32 0#32)) (Scalar.extui (Scalar.cmpi .slt 64#32 0#32))))
        (IntOp.cmpi .ne (IntOp.remsi .vector (BitVec.ofNat 32 j) 64#32) 0#32))
      (IntOp.subi (IntOp.divsi .vector (BitVec.ofNat 32 j) 64#32) 1#32) (IntOp.divsi .vector (BitVec.ofNat 32 j) 64#32)
      = BitVec.ofNat 32 (j / 64) := by
  have hd : IntOp.divsi .vector (BitVec.ofNat 32 j) 64#32 = BitVec.ofNat 32 (j / 64) :=
    Routing.divsi_word .vector (a := j) (b := 64) (by omega) (by omega) (by omega)
  have hr : IntOp.remsi .vector (BitVec.ofNat 32 j) 64#32 = BitVec.ofNat 32 (j % 64) :=
    Routing.remsi_word .vector (a := j) (b := 64) (by omega) (by omega) (by omega)
  rw [hd, hr, select_false]
  rw [Ne, andi_iff]
  rintro ⟨h1, h2⟩
  rcases Nat.eq_zero_or_pos j with rfl | hp
  · exact absurd h2 (by decide)
  · have hs : IntOp.cmpi .sgt (BitVec.ofNat 32 j) 0#32 = 1#1 := by
      simp only [IntOp.cmpi, BitVec.slt, toInt_small j (by omega)]
      rw [ofBool_iff]; simpa using hp
    have hl : IntOp.cmpi .slt (BitVec.ofNat 32 j) 0#32 = 0#1 := by
      simp only [IntOp.cmpi, BitVec.slt, toInt_small j (by omega)]
      rw [decide_eq_false (by simp)]; rfl
    rw [hs, hl] at h1
    exact absurd h1 (by decide)
where
  select_false {α : Type} {w : BitVec 1} {x z : α} (h : w ≠ 1#1) : Scalar.select w x z = z := by
    rw [Spec.select_iff w False (by simp [h])]; simp

/-- Words of small numbers agree exactly when the numbers do. -/
theorem eqw (a b : ℕ) (ha : a < 2 ^ 31) (hb : b < 2 ^ 31) :
    IntOp.cmpi .eq (BitVec.ofNat 32 a) (BitVec.ofNat 32 b) = 1#1 ↔ a = b := by
  simp only [IntOp.cmpi]
  constructor
  · intro h
    have h' : BitVec.ofNat 32 a = BitVec.ofNat 32 b := by
      by_contra hc; rw [beq_eq_false_iff_ne.mpr hc] at h; exact absurd h (by decide)
    have := congrArg BitVec.toNat h'
    simp only [BitVec.toNat_ofNat] at this; omega
  · rintro rfl; simp

end Cert.Words

end
-- ==== Proof.KPay.lean ====
/- The kernel's values, entry by entry. -/
module

public import proofs.«01_k».proof.Proof.Gen.KernelIdeal.Skeleton
public import proofs.«01_k».proof.Proof.Words
public import Idealize.ShloMosaic.Lib.Pointwise

@[expose] public section

set_option maxRecDepth 16384

noncomputable section

namespace Cert.KernelIdeal.KPay

open Cert.KernelIdeal Cert.KernelIdeal.Gen Idealize.ShloMosaic Cert.Soft Cert.Spec Cert.Words
open scoped BigOperators

/-- Two heads' values side by side. -/
def ce {α : Type} (f g : Fin 128 → α) (e : Fin 256) : α := if h : e.val < 128 then f ⟨e.val, h⟩ else g ⟨e.val - 128, by omega⟩

/-- The query's place in the sequence, of a column of a tile. -/
def tm (a : Fin 192) (e : Fin 256) : Fin 24576 := ⟨128 * a.val + e.val % 128, by omega⟩

/-- The head of a column of a pair of heads. -/
def hp (p : Fin 4) (e : Fin 256) : Fin 8 := ⟨2 * p.val + e.val / 128, by omega⟩

theorem and127 (e : Fin 256) : IntOp.andi (BitVec.ofNat 32 e.val) 127#32 = BitVec.ofNat 32 (e.val % 128) := by
  revert e; decide

/-- The words of the queries' places. -/
theorem pay54_at (i : grid0.Coords) (e : Fin 256) : k0_pay54 i (ix2 0 e) = BitVec.ofNat 32 (tm (i 1) e).val := by
  pointwise [k0_pay54]
  rw [and127]
  show BitVec.ofNat 32 (i 1).val * 128#32 + BitVec.ofNat 32 (e.val % 128) = BitVec.ofNat 32 (128 * (i 1).val + e.val % 128)
  apply BitVec.eq_of_toNat_eq
  simp [BitVec.toNat_add, BitVec.toNat_mul]
  congr 1; ring

/-- The words of the compressed keys' ends, from a tile's number. -/
def k4 (w : BitVec 32) : IVec S256x256 32 :=
  addi (muli (addi (broadcast S256x256 (Scalar.muli w 256#32)) (iota .tc S256x256 32 [0] iota_S256x256_d0_w32)) (broadcast S256x256 16#32)) (broadcast S256x256 31#32)

theorem k4_at (w : BitVec 32) (j e : Fin 256) :
    k4 w (ix2 j e) = (w * 256#32 + BitVec.ofNat 32 j.val) * 16#32 + 31#32 := by
  pointwise [k4]
  rfl

/-- The words of the compressed keys' ends. -/
theorem pay4_at (i : grid0.Coords) (k : Fin (k0_t1_loop i).trips) (hk : k.val < 6) (j e : Fin 256) :
    k0_pay4 i 0#32 1#32 k (ix2 j e) = BitVec.ofNat 32 (16 * (256 * k.val + j.val) + 31) := by
  have hv : Scf.iv 0#32 1#32 k.val = BitVec.ofNat 32 k.val := by
    show 0#32 + BitVec.ofNat 32 k.val * 1#32 = _
    simp
  have hd : k0_pay4 i 0#32 1#32 k = k4 (Scf.iv 0#32 1#32 k.val) := rfl
  rw [hd, k4_at]
  generalize Scf.iv 0#32 1#32 k.val = w at hv ⊢
  generalize k.val = n at hv hk ⊢
  rw [hv]
  apply BitVec.eq_of_toNat_eq
  simp [BitVec.toNat_add, BitVec.toNat_mul]
  congr 1; ring

variable (A : Arr) (b : Fin 3) (h : Fin 8) (d : Fin 160) (t : Fin 24576) (e : Fin 256)

theorem dot_eq {α : Fin 160 → EReal} {β : Fin 160 → EReal} {N : ℕ} (k : Fin 3 → Fin 2 → Fin N → Fin 256 → EReal) (j : Fin N) (s : EReal)
    (ha : ∀ x, α x = k b (kv h) j ⟨x.val, by omega⟩) (hb : ∀ x, β x = A.q b h x t) (hs : s = A.scl b h t) :
    (∑ x, α x * β x) * s = score A b h t k j := by
  simp only [ha, hb, hs]; rfl

/-- A tile of the compressed keys' scores. -/
theorem pay8_at (v5 : IVec S1x256 32) (v766 : IVec S256x256 32) (kc : Vec Ideal S1x1x256x160 .bf16) (q0 q1 : Vec Ideal S1x1x160x128 .fp8e4m3) (s0 s1 : Vec Ideal S1x1x128 .f32)
    (j : Fin 256) (J : Fin 1536)
    (h5 : v5 (ix2 0 e) = BitVec.ofNat 32 t.val) (h7 : v766 (ix2 j e) = BitVec.ofNat 32 (16 * J.val + 31))
    (hk : ∀ x : Fin 160, kc (ix4 0 0 j x) = A.kc b (kv h) J ⟨x.val, by omega⟩)
    (hq : ∀ x, ce (fun c => q0 (ix4 0 0 x c)) (fun c => q1 (ix4 0 0 x c)) e = A.q b h x t)
    (hs : ce (fun c => s0 (ix3 0 0 c)) (fun c => s1 (ix3 0 0 c)) e = A.scl b h t) :
    k0_pay8 v5 v766 kc q0 q1 s0 s1 (ix2 j e) = xc A b h t J := by
  pointwise [k0_pay8]
  rw [h5, h7, select_iff _ _ (sle _ _ (by omega) (by omega)), negInf]
  unfold xc
  by_cases hc : 16 * J.val + 31 ≤ t.val
  · rw [if_pos hc, if_pos hc]; exact dot_eq A b h t A.kc J _ hk hq hs
  · rw [if_neg hc, if_neg hc]

/-- The running maximum after one more tile. -/
theorem pay7_at (a : FVec Ideal S1x256 .f32) (s : FVec Ideal S256x256 .f32) :
    k0_pay7 a s (ix2 0 e) = max (a (ix2 0 e)) (top fun j => s (ix2 j e)) := by
  pointwise [k0_pay7]
  rw [negInf]; rfl

/-- The tile of scores as stored. -/
theorem pay6_at (s : FVec Ideal S256x256 .f32) (j : Fin 256) : k0_pay6 s (ix3 0 j e) = s (ix2 j e) := by
  pointwise [k0_pay6]

/-- The guarded maximum. -/
theorem pay62_at (m : FVec Ideal S1x256 .f32) : k0_pay62 m (ix2 0 e) = gd (m (ix2 0 e)) := by
  pointwise [k0_pay62]
  rw [negInf]; unfold gd; split_ifs <;> rfl

theorem pay55_at : k0_pay55 (F := Ideal) (ix2 0 e) = ⊥ := by
  pointwise [k0_pay55]
  rw [negInf]

/-- The running sum of products after one more tile. -/
theorem pay29_at (m : FVec Ideal S1x256 .f32) (sc : Vec Ideal S1x256x256 .f32) (ot : Vec Ideal S1x160x256 .f32) (vc : Vec Ideal S1x1x160x256 .bf16) :
    k0_pay29 m sc ot vc (ix3 0 d e) = ot (ix3 0 d e) + ∑ x : Fin 256, vc (ix4 0 0 d x) * Ideal.exp2 (sc (ix3 0 x e) - m (ix2 0 e)) := by
  pointwise [k0_pay29, k0_pay28]
  rfl

/-- The running sum of weights after one more tile. -/
theorem pay30_at (m a : FVec Ideal S1x256 .f32) (sc : Vec Ideal S1x256x256 .f32) :
    k0_pay30 m a sc (ix2 0 e) = a (ix2 0 e) + ∑ x : Fin 256, Ideal.exp2 (sc (ix3 0 x e) - m (ix2 0 e)) := by
  pointwise [k0_pay30, k0_pay28]
  rfl

theorem pay66_at (p : Fin 4) : k0_pay66 (F := Ideal) (ix3 p d e) = 0 := by
  pointwise [k0_pay66]

theorem pay67_at : k0_pay67 (F := Ideal) (ix2 0 e) = 0 := by
  pointwise [k0_pay67]

/-- The compressed branch's quotient. -/
theorem pay89_at (l : FVec Ideal S1x256 .f32) (vs : Elt Ideal .f32) (o : Vec Ideal S1x160x256 .f32) :
    k0_pay89 l vs o (ix2 d e) = o (ix3 0 d e) * Ideal.div vs (pos (l (ix2 0 e))) := by
  pointwise [k0_pay89]
  unfold pos; split_ifs <;> rfl

/-- The window's mask. -/
theorem pay72_at (v5 : IVec S1x256 32) (v8 : BitVec 32) (ws : ℕ) (hws : ws < 24576) (j : Fin 640)
    (h5 : v5 (ix2 0 e) = BitVec.ofNat 32 t.val) (h8 : v8 = BitVec.ofNat 32 ws) :
    k0_pay72 v5 v8 (ix2 j e) = 1#1 ↔ ws + j.val ≤ t.val ∧ t.val < ws + j.val + 512 := by
  pointwise [k0_pay72]
  have hj : IntOp.addi v8 (BitVec.ofNat 32 j.val) = BitVec.ofNat 32 (ws + j.val) := by
    rw [h8]
    show BitVec.ofNat 32 ws + BitVec.ofNat 32 j.val = _
    apply BitVec.eq_of_toNat_eq; simp [BitVec.toNat_add]
  rw [h5, hj]
  exact mask_w t.val (ws + j.val) (by omega) (by omega)

/-- The own block's mask. -/
theorem pay76_at (j : Fin 128) :
    k0_pay76 (iota .tc S128x256 32 [0] iota_S128x256_d0_w32) k0_pay73 64#32 k0_pay74 k0_pay75 (ix2 j e) = 1#1
      ↔ j.val / 64 = e.val % 128 / 64 ∧ j.val ≤ e.val % 128 := by
  pointwise [k0_pay76, k0_pay73, k0_pay74, k0_pay75]
  rw [and127, floor64 _ (by omega), floor64 _ (by omega), andi_iff, eqw _ _ (by omega) (by omega), sle _ _ (by omega) (by omega)]

/-- The window branch. -/
theorem pay81_at (w : IVec S640x256 1) (vs : Elt Ideal .f32) (v : FVec Ideal S160x640 .bf16) (q0 q1 : Vec Ideal S1x1x160x128 .fp8e4m3)
    (s0 s1 : Vec Ideal S1x1x128 .f32) (k : Vec Ideal S1x1x640x256 .fp8e4m3) (ws : ℕ) (hws : ws + 640 ≤ 24576)
    (hq : ∀ x, ce (fun c => q0 (ix4 0 0 x c)) (fun c => q1 (ix4 0 0 x c)) e = A.q b h x t)
    (hs : ce (fun c => s0 (ix3 0 0 c)) (fun c => s1 (ix3 0 0 c)) e = A.scl b h t)
    (hk : ∀ (j : Fin 640) (x : Fin 256), k (ix4 0 0 j x) = A.k8 b (kv h) ⟨ws + j.val, by omega⟩ x)
    (hv : ∀ j : Fin 640, v (ix2 d j) = A.v b (kv h) d ⟨ws + j.val, by omega⟩)
    (hvs : vs = A.vs b (kv h))
    (hw : ∀ j : Fin 640, w (ix2 j e) = 1#1 ↔ ws + j.val ≤ t.val ∧ t.val < ws + j.val + 512)
    (hin : ∀ j : Fin 24576, j.val ≤ t.val ∧ t.val < j.val + 512 → ws ≤ j.val ∧ j.val < ws + 640) :
    k0_pay81 w vs v q0 q1 s0 s1 k (ix2 d e) = ow A b h d t := by
  pointwise [k0_pay81, k0_pay79, k0_pay80]
  have hx : ∀ j : Fin 640, Scalar.select (w (ix2 j e))
      ((∑ x : Fin 160, k (ix4 0 0 j ⟨x.val, by omega⟩) * ce (fun c => q0 (ix4 0 0 x c)) (fun c => q1 (ix4 0 0 x c)) e) *
        ce (fun c => s0 (ix3 0 0 c)) (fun c => s1 (ix3 0 0 c)) e) (Ideal.ofBits FTy.f32 4286578688#32)
      = xw A b h t ⟨ws + j.val, by omega⟩ := by
    intro j
    rw [select_iff _ _ (hw j), negInf]
    unfold xw
    show (if _ then _ else _) = if ws + j.val ≤ t.val ∧ t.val < ws + j.val + 512 then _ else _
    by_cases hc : ws + j.val ≤ t.val ∧ t.val < ws + j.val + 512
    · rw [if_pos hc, if_pos hc]; exact dot_eq A b h t A.k8 ⟨ws + j.val, by omega⟩ _ (fun x => hk j _) hq hs
    · rw [if_neg hc, if_neg hc]
  unfold ce at hx
  simp only [hx, hv, hvs]
  refine (?_ : _ = attend (fun j : Fin 640 => xw A b h t ⟨ws + j.val, by omega⟩) (fun j : Fin 640 => A.v b (kv h) d ⟨ws + j.val, by omega⟩) (A.vs b (kv h))).trans ?_
  · rw [← attend_bare, negInf]; rfl
  · unfold ow
    refine attend_embed (fun j : Fin 640 => (⟨ws + j.val, by omega⟩ : Fin 24576)) ?_ _ _ _ _ (fun _ => rfl) (fun _ => rfl) ?_ _
    · intro a c hac; have := congrArg Fin.val hac; exact Fin.ext (by simpa using this)
    · intro i hi
      unfold xw
      rw [if_neg]
      intro hc
      obtain ⟨h1, h2⟩ := hin i hc
      exact hi ⟨⟨i.val - ws, by omega⟩, Fin.ext (by show ws + (i.val - ws) = i.val; omega)⟩

/-- The own block's weights. -/
theorem pay82_at (w : IVec S128x256 1) (q : FVec Ideal S160x256 .fp8e4m3) (s : FVec Ideal S1x256 .f32) (m0 m1 : Vec Ideal S1x1x1x128 .f32)
    (kb : Vec Ideal S1x1x128x160 .bf16) (j : Fin 128) (J : Fin 24576)
    (hq : ∀ x, q (ix2 x e) = A.q b h x t) (hs : s (ix2 0 e) = A.scl b h t)
    (hm : ce (fun c => m0 (ix4 0 0 0 c)) (fun c => m1 (ix4 0 0 0 c)) e = A.m b (kv h) (gq h) t)
    (hk : ∀ x : Fin 160, kb (ix4 0 0 j x) = A.kb b (kv h) J ⟨x.val, by omega⟩)
    (hw : w (ix2 j e) = 1#1 ↔ J.val / 64 = t.val / 64 ∧ J.val ≤ t.val) :
    k0_pay82 w q s m0 m1 kb (ix2 j e) = Ideal.exp2 (xs A b h t J) := by
  pointwise [k0_pay82]
  unfold ce at hm
  rw [select_iff _ _ hw, negInf, hm, dot_eq A b h t A.kb J _ hk hq hs]
  rfl

theorem pay83_at (w : IVec S128x256 1) (v : FVec Ideal S160x128 .bf16) (q : FVec Ideal S160x256 .fp8e4m3) (s : FVec Ideal S1x256 .f32) (m0 m1 : Vec Ideal S1x1x1x128 .f32)
    (kb : Vec Ideal S1x1x128x160 .bf16) :
    k0_pay83 w v q s m0 m1 kb (ix2 d e) = ∑ j : Fin 128, v (ix2 d j) * k0_pay82 w q s m0 m1 kb (ix2 j e) := by
  unfold k0_pay83
  generalize k0_pay82 w q s m0 m1 kb = y
  pointwise

theorem pay84_at (w : IVec S128x256 1) (q : FVec Ideal S160x256 .fp8e4m3) (s : FVec Ideal S1x256 .f32) (m0 m1 : Vec Ideal S1x1x1x128 .f32)
    (kb : Vec Ideal S1x1x128x160 .bf16) :
    k0_pay84 w q s m0 m1 kb (ix2 0 e) = ∑ j : Fin 128, k0_pay82 w q s m0 m1 kb (ix2 j e) := by
  unfold k0_pay84
  generalize k0_pay82 w q s m0 m1 kb = y
  pointwise

/-- The sum over the query's own block, read from the keys of its tile. -/
theorem own_sum (a : Fin 192) (ht : t.val / 128 = a.val) (f : Fin 24576 → EReal)
    (hf : ∀ J : Fin 24576, ¬ (J.val / 64 = t.val / 64 ∧ J.val ≤ t.val) → f J = 0) :
    ∑ j : Fin 128, f ⟨128 * a.val + j.val, by omega⟩ = ∑ J, f J := by
  refine Fintype.sum_of_injective (fun j : Fin 128 => (⟨128 * a.val + j.val, by omega⟩ : Fin 24576)) ?_ _ _ ?_ (fun _ => rfl)
  · intro x y hxy; have := congrArg Fin.val hxy; exact Fin.ext (by simpa using this)
  · intro J hJ
    apply hf
    rintro ⟨h1, h2⟩
    exact hJ ⟨⟨J.val - 128 * a.val, by omega⟩, Fin.ext (by show 128 * a.val + (J.val - 128 * a.val) = J.val; omega)⟩

/-- The selected branch's quotient. -/
theorem pay88_at (vs : Elt Ideal .f32) (o : FVec Ideal S160x256 .f32) (l : FVec Ideal S1x256 .f32) (a0 a1 a2 a3 : Vec Ideal S1x1x128x128 .f32)
    (ho : o (ix2 d e) = ∑ j, A.v b (kv h) d j * Ideal.exp2 (xs A b h t j)) (hl : l (ix2 0 e) = ∑ j, Ideal.exp2 (xs A b h t j))
    (hvs : vs = A.vs b (kv h))
    (hlo : ∀ l : Fin 128, ce (fun c => a0 (ix4 0 0 c l)) (fun c => a1 (ix4 0 0 c l)) e = A.acc b (kv h) ⟨t.val * 8 + h.val % 4, by omega⟩ l)
    (hhi : ∀ l : Fin 128, ce (fun c => a2 (ix4 0 0 c l)) (fun c => a3 (ix4 0 0 c l)) e = A.acc b (kv h) ⟨t.val * 8 + 4 + h.val % 4, by omega⟩ l) :
    k0_pay88 vs o l (k0_pay85 a0) (k0_pay86 a1) (k0_pay87 a2) a3 (ix2 d e) = os A b h d t := by
  pointwise [k0_pay88, k0_pay85, k0_pay86, k0_pay87]
  unfold ce at hlo hhi
  rw [ho, hl, hvs, hhi 32]
  unfold os restl
  congr 2
  unfold rest
  by_cases hd : d.val < 128
  · rw [dif_pos hd]
    refine (hlo ⟨d.val, hd⟩).trans ?_
    congr 1 <;> apply Fin.ext <;> simp <;> omega
  · rw [dif_neg hd]
    refine (hhi ⟨d.val - 128, by omega⟩).trans ?_
    congr 1 <;> apply Fin.ext <;> simp <;> omega

/-- The gated sum of two branches. -/
theorem pay90_at (l : FVec Ideal S1x256 .f32) (vs : Elt Ideal .f32) (o : FVec Ideal S160x256 .f32) (ls : FVec Ideal S1x256 .f32) (u0 u1 u2 : FVec Ideal S128x128 .f32) (u3 : Vec Ideal S1x1x128x128 .f32)
    (oc' : Vec Ideal S1x160x256 .f32) (gc0 gc1 gs0 gs1 : Vec Ideal S1x1x128 .f32) :
    k0_pay90 l vs o ls u0 u1 u2 u3 oc' gc0 gc1 gs0 gs1 (ix2 d e)
      = Ideal.logistic (ce (fun c => gc0 (ix3 0 0 c)) (fun c => gc1 (ix3 0 0 c)) e) * k0_pay89 l vs oc' (ix2 d e)
        + Ideal.logistic (ce (fun c => gs0 (ix3 0 0 c)) (fun c => gs1 (ix3 0 0 c)) e) * k0_pay88 vs o ls u0 u1 u2 u3 (ix2 d e) := by
  unfold k0_pay90
  generalize k0_pay89 l vs oc' = y
  generalize k0_pay88 vs o ls u0 u1 u2 u3 = z
  pointwise
  rfl

theorem pay91_at (w y : FVec Ideal S160x256 .f32) (g0 g1 : Vec Ideal S1x1x128 .f32) :
    k0_pay91 w y g0 g1 (ix2 d e) = y (ix2 d e) + Ideal.logistic (ce (fun c => g0 (ix3 0 0 c)) (fun c => g1 (ix3 0 0 c)) e) * w (ix2 d e) := by
  pointwise [k0_pay91]
  rfl

variable (c : Fin 128)

theorem lo_at (w : FVec Ideal S160x256 .f32) : k0_pay94 w (ix4 0 0 d c) = w (ix2 d ⟨c.val, by omega⟩) := by
  pointwise [k0_pay94]

theorem hi_at (w : FVec Ideal S160x256 .f32) : k0_pay99 w (ix4 0 0 d c) = w (ix2 d ⟨128 + c.val, by omega⟩) := by
  pointwise [k0_pay99]

theorem lo2_at (w y : FVec Ideal S160x256 .f32) (g0 g1 : Vec Ideal S1x1x128 .f32) : k0_pay95 w y g0 g1 (ix2 d c) = k0_pay91 w y g0 g1 (ix2 d ⟨c.val, by omega⟩) := by
  unfold k0_pay95
  generalize k0_pay91 w y g0 g1 = z
  pointwise

theorem hi2_at (w : FVec Ideal S160x256 .f32) : k0_pay100 w (ix2 d c) = w (ix2 d ⟨128 + c.val, by omega⟩) := by
  pointwise [k0_pay100]

theorem pay77_at (v : Vec Ideal S1x1x160x640 .fp8e4m3) (j : Fin 640) : k0_pay77 v (ix2 d j) = v (ix4 0 0 d j) := by
  pointwise [k0_pay77]

theorem pay78_at (v : Vec Ideal S1x1x160x128 .fp8e4m3) (j : Fin 128) : k0_pay78 v (ix2 d j) = v (ix4 0 0 d j) := by
  pointwise [k0_pay78]

theorem pay79_at (q0 q1 : Vec Ideal S1x1x160x128 .fp8e4m3) : k0_pay79 q0 q1 (ix2 d e) = ce (fun c => q0 (ix4 0 0 d c)) (fun c => q1 (ix4 0 0 d c)) e := by
  pointwise [k0_pay79]
  rfl

theorem pay80_at (s0 s1 : Vec Ideal S1x1x128 .f32) : k0_pay80 s0 s1 (ix2 0 e) = ce (fun c => s0 (ix3 0 0 c)) (fun c => s1 (ix3 0 0 c)) e := by
  pointwise [k0_pay80]
  rfl

/-- The gated sums, transposed. -/
theorem pay3_at (y : Vec Ideal S1280x128 .bf16) (ch : Fin 1280) : k0_pay3 y (ix3 0 c ch) = y (ix2 ch c) := by
  pointwise [k0_pay3]

end Cert.KernelIdeal.KPay

end
-- ==== Proof.KGeo.lean ====
/- The kernel's tiles in terms of coordinates: its blocks as arrays, its reads' offsets, its loops' trips. -/
module

public import proofs.«01_k».proof.Proof.KPay
public import proofs.«01_k».proof.Proof.IBody

@[expose] public section

set_option maxRecDepth 16384

noncomputable section

namespace Cert.KernelIdeal.KGeo

open Cert.KernelIdeal Cert.KernelIdeal.Gen Cert.KernelIdeal.KPay Idealize.ShloMosaic Cert.Soft Cert.Spec
open scoped BigOperators

/-- A tile's blocks as arrays: each coordinate taken within its block. -/
def tA (x0 : Vec Ideal S6 .f32) (x1 : Vec Ideal S1x8x160x128 .fp8e4m3) (x2 : Vec Ideal S1x8x128 .f32) (x3 : Vec Ideal S1x2x4x128 .f32) (x4 x5 x6 : Vec Ideal S1x8x128 .f32) (x7 : Vec Ideal S1x2x1024x128 .f32) (x8 : Vec Ideal S1x2x24576x256 .fp8e4m3) (x9 : Vec Ideal S1x2x160x24576 .fp8e4m3) (x10 : Vec Ideal S1x2x1536x256 .bf16) (x11 : Vec Ideal S1x2x160x1536 .bf16) (x12 : Vec Ideal S1x2x128x256 .bf16) : Arr where
  vs b k := x0 (ix1 ⟨b.val * 2 + k.val, by omega⟩)
  q _ h d t := x1 (ix4 0 h d ⟨t.val % 128, by omega⟩)
  scl _ h t := x2 (ix3 0 h ⟨t.val % 128, by omega⟩)
  m _ k g t := x3 (ix4 0 k g ⟨t.val % 128, by omega⟩)
  gc _ h t := x4 (ix3 0 h ⟨t.val % 128, by omega⟩)
  gs _ h t := x5 (ix3 0 h ⟨t.val % 128, by omega⟩)
  gw _ h t := x6 (ix3 0 h ⟨t.val % 128, by omega⟩)
  acc _ k r l := x7 (ix4 0 k ⟨r.val % 1024, by omega⟩ l)
  k8 _ k j d := x8 (ix4 0 k j d)
  v _ k d j := x9 (ix4 0 k d j)
  kc _ k j d := x10 (ix4 0 k j d)
  vc _ k d j := x11 (ix4 0 k d j)
  kb _ k j d := x12 (ix4 0 k ⟨j.val % 128, by omega⟩ d)

/-- The head of the first column of a pair. -/
def h0 (p : Fin 4) : Fin 8 := ⟨2 * p.val, by omega⟩
/-- The head of the second half of a pair. -/
def h1 (p : Fin 4) : Fin 8 := ⟨2 * p.val + 1, by omega⟩

/-- Two heads' rows of one block, side by side. -/
theorem ce_heads {α : Type} (f g : Fin 128 → α) (X : Fin 8 → Fin 128 → α) (p : Fin 4) (e : Fin 256)
    (hf : ∀ c, f c = X (h0 p) c) (hg : ∀ c, g c = X (h1 p) c) : ce f g e = X (hp p e) ⟨e.val % 128, by omega⟩ := by
  unfold ce
  split_ifs with hc
  · rw [hf]; congr 1 <;> apply Fin.ext
    · show 2 * p.val = 2 * p.val + e.val / 128; omega
    · show e.val = e.val % 128; omega
  · rw [hg]; congr 1 <;> apply Fin.ext
    · show 2 * p.val + 1 = 2 * p.val + e.val / 128; omega
    · show e.val - 128 = e.val % 128; omega

theorem tm_mod (a : Fin 192) (e : Fin 256) (hlt : (tm a e).val % 128 < 128) : (⟨(tm a e).val % 128, hlt⟩ : Fin 128) = ⟨e.val % 128, by omega⟩ := by
  apply Fin.ext; show (128 * a.val + e.val % 128) % 128 = e.val % 128; omega

/-- A read of a rank-4 memref holding `x`. -/
theorem rd4 {e : EltTy} {sp : Space} {n0 n1 n2 n3 : ℕ} {arg : Memref sig .tc sp ⟨4, ![n0, n1, n2, n3]⟩ e} (harg : arg.IsWhole)
    (x : Vec Ideal ⟨4, ![n0, n1, n2, n3]⟩ e) (r : LoadRect ⟨4, ![n0, n1, n2, n3]⟩) (j : r.shape.Idx) (a : Fin n0) (b : Fin n1) (c : Fin n2) (d : Fin n3)
    (ha : r.off 0 + r.stride 0 * (j 0).val = a.val) (hb : r.off 1 + r.stride 1 * (j 1).val = b.val)
    (hc : r.off 2 + r.stride 2 * (j 2).val = c.val) (hd : r.off 3 + r.stride 3 * (j 3).val = d.val) :
    View.readAt (Elt Ideal) arg.view r (harg.unread x) j = x (ix4 a b c d) := by
  show arg.view.read (Elt Ideal) (harg.unread x) (r.idx j) = x (ix4 a b c d)
  rw [harg.read_unread]
  congr 1
  funext k
  match k with
  | ⟨0, _⟩ => exact Fin.ext ha
  | ⟨1, _⟩ => exact Fin.ext hb
  | ⟨2, _⟩ => exact Fin.ext hc
  | ⟨3, _⟩ => exact Fin.ext hd

/-- A read of a rank-3 memref holding `x`. -/
theorem rd3 {e : EltTy} {sp : Space} {n0 n1 n2 : ℕ} {arg : Memref sig .tc sp ⟨3, ![n0, n1, n2]⟩ e} (harg : arg.IsWhole)
    (x : Vec Ideal ⟨3, ![n0, n1, n2]⟩ e) (r : LoadRect ⟨3, ![n0, n1, n2]⟩) (j : r.shape.Idx) (a : Fin n0) (b : Fin n1) (c : Fin n2)
    (ha : r.off 0 + r.stride 0 * (j 0).val = a.val) (hb : r.off 1 + r.stride 1 * (j 1).val = b.val)
    (hc : r.off 2 + r.stride 2 * (j 2).val = c.val) :
    View.readAt (Elt Ideal) arg.view r (harg.unread x) j = x (ix3 a b c) := by
  show arg.view.read (Elt Ideal) (harg.unread x) (r.idx j) = x (ix3 a b c)
  rw [harg.read_unread]
  congr 1
  funext k
  match k with
  | ⟨0, _⟩ => exact Fin.ext ha
  | ⟨1, _⟩ => exact Fin.ext hb
  | ⟨2, _⟩ => exact Fin.ext hc

/-- A read of a rank-1 memref holding `x`. -/
theorem rd1 {e : EltTy} {sp : Space} {n0 : ℕ} {arg : Memref sig .tc sp ⟨1, ![n0]⟩ e} (harg : arg.IsWhole)
    (x : Vec Ideal ⟨1, ![n0]⟩ e) (r : LoadRect ⟨1, ![n0]⟩) (j : r.shape.Idx) (a : Fin n0)
    (ha : r.off 0 + r.stride 0 * (j 0).val = a.val) :
    View.readAt (Elt Ideal) arg.view r (harg.unread x) j = x (ix1 a) := by
  show arg.view.read (Elt Ideal) (harg.unread x) (r.idx j) = x (ix1 a)
  rw [harg.read_unread]
  congr 1
  funext k
  match k with
  | ⟨0, _⟩ => exact Fin.ext ha

/-- A stored row block of a rank-3 buffer is a block of `G`. -/
theorem piece3 {n0 n1 n2 m1 m2 : ℕ} (G : (⟨3, ![n0, n1, n2]⟩ : Shape).Idx → EReal) (off : Fin 3 → ℕ)
    (inb : ∀ a, off a + (![1, m1, m2] : Fin 3 → ℕ) a ≤ (⟨3, ![n0, n1, n2]⟩ : Shape).size a)
    (w : (Rect.unit (s := ⟨3, ![n0, n1, n2]⟩) off ![1, m1, m2] inb).shape.Idx → EReal) (p : Fin n0) (K C : ℕ) (hoff : off = ![p.val, K, C])
    (hw : ∀ (j : Fin m1) (e : Fin m2) (hj : K + j.val < n1) (he : C + e.val < n2), w (ix3 0 j e) = G (ix3 p ⟨K + j.val, hj⟩ ⟨C + e.val, he⟩)) :
    ∀ x, w x = G ((Rect.unit (s := ⟨3, ![n0, n1, n2]⟩) off ![1, m1, m2] inb).emb x) := by
  intro x
  subst hoff
  have h1 : K + m1 ≤ n1 := inb 1
  have h2 : C + m2 ≤ n2 := inb 2
  obtain ⟨j, e, rfl⟩ : ∃ (j : Fin m1) (e : Fin m2), x = ix3 (0 : Fin 1) j e := ⟨x 1, x 2, by
    funext k
    match k with
    | ⟨0, _⟩ => exact Subsingleton.elim (α := Fin 1) _ _
    | ⟨1, _⟩ => rfl
    | ⟨2, _⟩ => rfl⟩
  have l1 := j.isLt
  have l2 := e.isLt
  refine (hw j e (by omega) (by omega)).trans ?_
  congr 1
  funext k
  match k with
  | ⟨0, _⟩ => exact Fin.ext (by show p.val = p.val + 1 * 0; omega)
  | ⟨1, _⟩ => exact Fin.ext (by show K + j.val = K + 1 * j.val; omega)
  | ⟨2, _⟩ => exact Fin.ext (by show C + e.val = C + 1 * e.val; omega)

/-- A stored row block of a rank-4 buffer is a block of `G`. -/
theorem piece4 {n0 n1 n2 n3 : ℕ} (G : (⟨4, ![n0, n1, n2, n3]⟩ : Shape).Idx → EReal) (off : Fin 4 → ℕ)
    (inb : ∀ a, off a + (![1, 1, n2, n3] : Fin 4 → ℕ) a ≤ (⟨4, ![n0, n1, n2, n3]⟩ : Shape).size a)
    (w : (Rect.unit (s := ⟨4, ![n0, n1, n2, n3]⟩) off ![1, 1, n2, n3] inb).shape.Idx → EReal) (a : Fin n0) (p : Fin n1) (hoff : off = ![a.val, p.val, 0, 0])
    (hw : ∀ (j : Fin n2) (e : Fin n3), w (ix4 0 0 j e) = G (ix4 a p j e)) :
    ∀ x, w x = G ((Rect.unit (s := ⟨4, ![n0, n1, n2, n3]⟩) off ![1, 1, n2, n3] inb).emb x) := by
  intro x
  subst hoff
  obtain ⟨j, e, rfl⟩ : ∃ (j : Fin n2) (e : Fin n3), x = ix4 (0 : Fin 1) (0 : Fin 1) j e := ⟨x 2, x 3, by
    funext k
    match k with
    | ⟨0, _⟩ => exact Subsingleton.elim (α := Fin 1) _ _
    | ⟨1, _⟩ => exact Subsingleton.elim (α := Fin 1) _ _
    | ⟨2, _⟩ => rfl
    | ⟨3, _⟩ => rfl⟩
  refine (hw j e).trans ?_
  congr 1
  funext k
  match k with
  | ⟨0, _⟩ => exact Fin.ext (by show a.val = a.val + 1 * 0; omega)
  | ⟨1, _⟩ => exact Fin.ext (by show p.val = p.val + 1 * 0; omega)
  | ⟨2, _⟩ => exact Fin.ext (by show j.val = 0 + 1 * j.val; omega)
  | ⟨3, _⟩ => exact Fin.ext (by show e.val = 0 + 1 * e.val; omega)

/-- A stored block of a rank-2 buffer is a block of `G`. -/
theorem piece2 {n0 n1 m0 : ℕ} (G : (⟨2, ![n0, n1]⟩ : Shape).Idx → EReal) (off : Fin 2 → ℕ)
    (inb : ∀ a, off a + (![m0, n1] : Fin 2 → ℕ) a ≤ (⟨2, ![n0, n1]⟩ : Shape).size a)
    (w : (Rect.unit (s := ⟨2, ![n0, n1]⟩) off ![m0, n1] inb).shape.Idx → EReal) (K : ℕ) (hoff : off = ![K, 0])
    (hw : ∀ (j : Fin m0) (e : Fin n1) (hj : K + j.val < n0), w (ix2 j e) = G (ix2 ⟨K + j.val, hj⟩ e)) :
    ∀ x, w x = G ((Rect.unit (s := ⟨2, ![n0, n1]⟩) off ![m0, n1] inb).emb x) := by
  intro x
  subst hoff
  have h1 : K + m0 ≤ n0 := inb 0
  obtain ⟨j, e, rfl⟩ : ∃ (j : Fin m0) (e : Fin n1), x = ix2 j e := ⟨x 0, x 1, by
    funext k
    match k with
    | ⟨0, _⟩ => rfl
    | ⟨1, _⟩ => rfl⟩
  have l1 := j.isLt
  refine (hw j e (by omega)).trans ?_
  congr 1
  funext k
  match k with
  | ⟨0, _⟩ => exact Fin.ext (by show K + j.val = K + 1 * j.val; omega)
  | ⟨1, _⟩ => exact Fin.ext (by show e.val = 0 + 1 * e.val; omega)

theorem off26 : ∀ i : grid0.Coords, k0_off26 i = ![0, 0, 0, 128 * (i 1).val - 512] := by decide +kernel
theorem off28 : ∀ i : grid0.Coords, k0_off28 i = ![0, 0, 128 * (i 1).val - 512, 0] := by decide +kernel
theorem off29 : ∀ i : grid0.Coords, k0_off29 i = ![0, 1, 0, 128 * (i 1).val - 512] := by decide +kernel
theorem off31 : ∀ i : grid0.Coords, k0_off31 i = ![0, 1, 128 * (i 1).val - 512, 0] := by decide +kernel
theorem t1_trips : ∀ i : grid0.Coords, (k0_t1_loop i).trips = (128 * (i 1).val + 96) / 4096 + 1 := by decide +kernel
theorem t2_trips : ∀ i : grid0.Coords, (k0_t2_loop i).trips = 0 := fun i => Nat.le_zero.mp (k0_t2_abs i).2.1
theorem t3_trips : ∀ i : grid0.Coords, (k0_t3_loop i).trips = (128 * (i 1).val + 96) / 4096 + 1 := by decide +kernel
theorem t4_trips : ∀ i : grid0.Coords, (k0_t4_loop i).trips = 0 := fun i => Nat.le_zero.mp (k0_t4_abs i).2.1
theorem v7_eq : ∀ i : grid0.Coords, Scalar.maxsi (Scalar.subi (Scalar.muli (BitVec.ofNat 32 (i 1).val) 128#32) 512#32) 0#32 = BitVec.ofNat 32 (128 * (i 1).val - 512) := by decide +kernel

end Cert.KernelIdeal.KGeo

end
-- ==== Proof.KLoop.lean ====
/- The kernel's loops over the compressed keys: the scores they store, their maxima, and the sums they accumulate. -/
module

public import proofs.«01_k».proof.Proof.KGeo
public import Idealize.ShloMosaic.Lib.Pipeline.ReadBack

@[expose] public section

set_option maxRecDepth 16384

noncomputable section

namespace Cert.KernelIdeal.KLoop

open Cert.KernelIdeal Cert.KernelIdeal.Gen Cert.KernelIdeal.KPay Cert.KernelIdeal.KGeo Idealize.ShloMosaic Cert.Soft Cert.Spec
open scoped BigOperators

variable (c : Dev nD) (i : grid0.Coords) (arg2 : Memref sig .tc .smem S6 .f32) (harg2 : arg2.IsWhole) (arg3 : Memref sig .tc .vmem S1x8x160x128 .fp8e4m3) (harg3 : arg3.IsWhole) (arg4 : Memref sig .tc .vmem S1x8x128 .f32) (harg4 : arg4.IsWhole) (arg5 : Memref sig .tc .vmem S1x2x4x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S1x2x1024x128 .f32) (harg9 : arg9.IsWhole) (arg10 : Memref sig .tc .vmem S1x2x24576x256 .fp8e4m3) (harg10 : arg10.IsWhole) (arg11 : Memref sig .tc .vmem S1x2x160x24576 .fp8e4m3) (harg11 : arg11.IsWhole) (arg12 : Memref sig .tc .vmem S1x2x1536x256 .bf16) (harg12 : arg12.IsWhole) (arg13 : Memref sig .tc .vmem S1x2x160x1536 .bf16) (harg13 : arg13.IsWhole) (arg14 : Memref sig .tc .vmem S1x2x128x256 .bf16) (harg14 : arg14.IsWhole) (arg15 : Memref sig .tc .vmem S1x128x1280 .bf16) (harg15 : arg15.IsWhole) (arg16 : Memref sig .tc .vmem S1x8x160x128 .bf16) (harg16 : arg16.IsWhole) (arg17 : Memref sig .tc .vmem S1x8x160x128 .bf16) (harg17 : arg17.IsWhole) (arg18 : Memref sig .tc .vmem S1x8x160x128 .bf16) (harg18 : arg18.IsWhole) (arg19 : Memref sig .tc .vmem S4x1536x256 .f32) (harg19 : arg19.IsWhole) (arg20 : Memref sig .tc .vmem S4x160x256 .f32) (harg20 : arg20.IsWhole) (arg21 : Memref sig .tc .vmem S1280x128 .bf16) (harg21 : arg21.IsWhole)
variable (x0 : Vec Ideal S6 .f32) (x1 : Vec Ideal S1x8x160x128 .fp8e4m3) (x2 : Vec Ideal S1x8x128 .f32) (x3 : Vec Ideal S1x2x4x128 .f32) (x4 x5 x6 : Vec Ideal S1x8x128 .f32) (x7 : Vec Ideal S1x2x1024x128 .f32) (x8 : Vec Ideal S1x2x24576x256 .fp8e4m3) (x9 : Vec Ideal S1x2x160x24576 .fp8e4m3) (x10 : Vec Ideal S1x2x1536x256 .bf16) (x11 : Vec Ideal S1x2x160x1536 .bf16) (x12 : Vec Ideal S1x2x128x256 .bf16)

/-- The scores as the kernel stores them: pair, key, column. -/
def GS : S4x1536x256.Idx → EReal := fun y => xc (tA x0 x1 x2 x3 x4 x5 x6 x7 x8 x9 x10 x11 x12) (i 0) (hp (y 0) (y 2)) (tm (i 1) (y 2)) (y 1)

/-- The scores' row of a pair's column. -/
def xr (p : Fin 4) (e : Fin 256) : Fin 1536 → EReal := xc (tA x0 x1 x2 x3 x4 x5 x6 x7 x8 x9 x10 x11 x12) (i 0) (hp p e) (tm (i 1) e)

/-- The last pair's scores, split over two parts of the body. -/
theorem pay57_eq (i : grid0.Coords) (v : IVec S256x256 32) (A : Vec Ideal S1x1x256x160 .bf16) (b q1 : Vec Ideal S1x1x160x128 .fp8e4m3) (s0 s1 : Vec Ideal S1x1x128 .f32) :
    k0_pay57 i v (k0_pay14 A) (k0_pay15 b) q1 s0 s1 = k0_pay6 (k0_pay8 (k0_pay54 i) v A b q1 s0 s1) := rfl

/-- The last pair's running maximum. -/
theorem pay58_eq (i : grid0.Coords) (a : FVec Ideal S1x256 .f32) (v : IVec S256x256 32) (A : Vec Ideal S1x1x256x160 .bf16) (b q1 : Vec Ideal S1x1x160x128 .fp8e4m3) (s0 s1 : Vec Ideal S1x1x128 .f32) :
    k0_pay58 i a v (k0_pay14 A) (k0_pay15 b) q1 s0 s1 = k0_pay7 a (k0_pay8 (k0_pay54 i) v A b q1 s0 s1) := rfl

include harg3 harg4 harg12 in
/-- One tile of scores, from the blocks read. -/
theorem tile_at (p : Fin 4) (k : Fin (k0_t1_loop i).trips) (kc : Vec Ideal S1x1x256x160 .bf16) (q0 q1 : Vec Ideal S1x1x160x128 .fp8e4m3) (s0 s1 : Vec Ideal S1x1x128 .f32)
    (hk : ∀ (j : Fin 256) (x : Fin 160) (hj : 256 * k.val + j.val < 1536), kc (ix4 0 0 j x) = x10 (ix4 0 ⟨p.val / 2, by omega⟩ ⟨256 * k.val + j.val, hj⟩ ⟨x.val, by omega⟩))
    (hq0 : ∀ d c, q0 (ix4 0 0 d c) = x1 (ix4 0 (h0 p) d c)) (hq1 : ∀ d c, q1 (ix4 0 0 d c) = x1 (ix4 0 (h1 p) d c))
    (hs0 : ∀ c, s0 (ix3 0 0 c) = x2 (ix3 0 (h0 p) c)) (hs1 : ∀ c, s1 (ix3 0 0 c) = x2 (ix3 0 (h1 p) c))
    (j e : Fin 256) (hj : 256 * k.val + j.val < 1536) :
    k0_pay8 (k0_pay54 i) (k0_pay4 i 0#32 1#32 k) kc q0 q1 s0 s1 (ix2 j e) = xr i x0 x1 x2 x3 x4 x5 x6 x7 x8 x9 x10 x11 x12 p e ⟨256 * k.val + j.val, hj⟩ := by
  have hk6 : k.val < 6 := Nat.lt_of_lt_of_le k.isLt (k0_t1_abs i).2.1
  have hkv : kv (hp p e) = ⟨p.val / 2, by omega⟩ := by
    apply Fin.ext; show (2 * p.val + e.val / 128) / 4 = p.val / 2; omega
  refine pay8_at (tA x0 x1 x2 x3 x4 x5 x6 x7 x8 x9 x10 x11 x12) (i 0) (hp p e) (tm (i 1) e) e _ _ kc q0 q1 s0 s1 j ⟨256 * k.val + j.val, hj⟩ (pay54_at i e) (pay4_at i k hk6 j e) ?_ ?_ ?_
  · intro x; rw [hkv]; exact hk j x hj
  · intro x
    refine (ce_heads _ _ (fun h c => x1 (ix4 0 h x c)) p e (fun c => hq0 x c) (fun c => hq1 x c)).trans ?_
    exact congrArg (fun z => x1 (ix4 0 (hp p e) x z)) (tm_mod (i 1) e (Nat.mod_lt _ (by norm_num))).symm
  · refine (ce_heads _ _ (fun h c => x2 (ix3 0 h c)) p e hs0 hs1).trans ?_
    exact congrArg (fun z => x2 (ix3 0 (hp p e) z)) (tm_mod (i 1) e (Nat.mod_lt _ (by norm_num))).symm

/-- Pair 0: a trip's tile of scores. -/
theorem sc0 (k : Fin (k0_t1_loop i).trips) (j e : Fin 256) (hj : 256 * k.val + j.val < 1536) :
    k0_pay8 (k0_pay54 i) (k0_pay4 i 0#32 1#32 k)
      (View.readAt (Elt Ideal) arg12.view (Rect.unit (s := S1x2x1536x256) (k0_off1 i k) S1x1x256x160.size (k0_off1_inb i k)).toLoadRect (harg12.unread x10))
      (View.readAt (Elt Ideal) arg3.view (Rect.unit (s := S1x8x160x128) ![0, 0, 0, 0] S1x1x160x128.size inb_S1x8x160x128_S1x1x160x128_0_0_0_0).toLoadRect (harg3.unread x1))
      (View.readAt (Elt Ideal) arg3.view (Rect.unit (s := S1x8x160x128) ![0, 1, 0, 0] S1x1x160x128.size inb_S1x8x160x128_S1x1x160x128_0_1_0_0).toLoadRect (harg3.unread x1))
      (View.readAt (Elt Ideal) arg4.view (Rect.unit (s := S1x8x128) ![0, 0, 0] S1x1x128.size inb_S1x8x128_S1x1x128_0_0_0).toLoadRect (harg4.unread x2))
      (View.readAt (Elt Ideal) arg4.view (Rect.unit (s := S1x8x128) ![0, 1, 0] S1x1x128.size inb_S1x8x128_S1x1x128_0_1_0).toLoadRect (harg4.unread x2)) (ix2 j e)
      = xr i x0 x1 x2 x3 x4 x5 x6 x7 x8 x9 x10 x11 x12 0 e ⟨256 * k.val + j.val, hj⟩ := by
  refine tile_at i arg3 harg3 arg4 harg4 arg12 harg12 x0 x1 x2 x3 x4 x5 x6 x7 x8 x9 x10 x11 x12 0 k _ _ _ _ _ ?_ ?_ ?_ ?_ ?_ j e hj
  · intro j x hj
    refine rd4 harg12 x10 _ _ 0 _ _ _ ?_ ?_ ?_ ?_
    all_goals simp only [Rect.off_unit, Rect.stride_unit, k0_off1_eq]
    all_goals simp
  · intro d c; exact rd4 harg3 x1 _ _ 0 (h0 0) d c rfl rfl (by simp) (by simp)
  · intro d c; exact rd4 harg3 x1 _ _ 0 (h1 0) d c rfl rfl (by simp) (by simp)
  · intro c; exact rd3 harg4 x2 _ _ 0 (h0 0) c rfl rfl (by simp)
  · intro c; exact rd3 harg4 x2 _ _ 0 (h1 0) c rfl rfl (by simp)

/-- Pair 1: a trip's tile of scores. -/
theorem sc1 (k : Fin (k0_t1_loop i).trips) (j e : Fin 256) (hj : 256 * k.val + j.val < 1536) :
    k0_pay8 (k0_pay54 i) (k0_pay4 i 0#32 1#32 k)
      (View.readAt (Elt Ideal) arg12.view (Rect.unit (s := S1x2x1536x256) (k0_off1 i k) S1x1x256x160.size (k0_off1_inb i k)).toLoadRect (harg12.unread x10))
      (View.readAt (Elt Ideal) arg3.view (Rect.unit (s := S1x8x160x128) ![0, 2, 0, 0] S1x1x160x128.size inb_S1x8x160x128_S1x1x160x128_0_2_0_0).toLoadRect (harg3.unread x1))
      (View.readAt (Elt Ideal) arg3.view (Rect.unit (s := S1x8x160x128) ![0, 3, 0, 0] S1x1x160x128.size inb_S1x8x160x128_S1x1x160x128_0_3_0_0).toLoadRect (harg3.unread x1))
      (View.readAt (Elt Ideal) arg4.view (Rect.unit (s := S1x8x128) ![0, 2, 0] S1x1x128.size inb_S1x8x128_S1x1x128_0_2_0).toLoadRect (harg4.unread x2))
      (View.readAt (Elt Ideal) arg4.view (Rect.unit (s := S1x8x128) ![0, 3, 0] S1x1x128.size inb_S1x8x128_S1x1x128_0_3_0).toLoadRect (harg4.unread x2)) (ix2 j e)
      = xr i x0 x1 x2 x3 x4 x5 x6 x7 x8 x9 x10 x11 x12 1 e ⟨256 * k.val + j.val, hj⟩ := by
  refine tile_at i arg3 harg3 arg4 harg4 arg12 harg12 x0 x1 x2 x3 x4 x5 x6 x7 x8 x9 x10 x11 x12 1 k _ _ _ _ _ ?_ ?_ ?_ ?_ ?_ j e hj
  · intro j x hj
    refine rd4 harg12 x10 _ _ 0 _ _ _ ?_ ?_ ?_ ?_
    all_goals simp only [Rect.off_unit, Rect.stride_unit, k0_off1_eq]
    all_goals simp
  · intro d c; exact rd4 harg3 x1 _ _ 0 (h0 1) d c rfl rfl (by simp) (by simp)
  · intro d c; exact rd4 harg3 x1 _ _ 0 (h1 1) d c rfl rfl (by simp) (by simp)
  · intro c; exact rd3 harg4 x2 _ _ 0 (h0 1) c rfl rfl (by simp)
  · intro c; exact rd3 harg4 x2 _ _ 0 (h1 1) c rfl rfl (by simp)

/-- Pair 2: a trip's tile of scores. -/
theorem sc2 (k : Fin (k0_t1_loop i).trips) (j e : Fin 256) (hj : 256 * k.val + j.val < 1536) :
    k0_pay8 (k0_pay54 i) (k0_pay4 i 0#32 1#32 k)
      (View.readAt (Elt Ideal) arg12.view (Rect.unit (s := S1x2x1536x256) (k0_off4 i k) S1x1x256x160.size (k0_off4_inb i k)).toLoadRect (harg12.unread x10))
      (View.readAt (Elt Ideal) arg3.view (Rect.unit (s := S1x8x160x128) ![0, 4, 0, 0] S1x1x160x128.size inb_S1x8x160x128_S1x1x160x128_0_4_0_0).toLoadRect (harg3.unread x1))
      (View.readAt (Elt Ideal) arg3.view (Rect.unit (s := S1x8x160x128) ![0, 5, 0, 0] S1x1x160x128.size inb_S1x8x160x128_S1x1x160x128_0_5_0_0).toLoadRect (harg3.unread x1))
      (View.readAt (Elt Ideal) arg4.view (Rect.unit (s := S1x8x128) ![0, 4, 0] S1x1x128.size inb_S1x8x128_S1x1x128_0_4_0).toLoadRect (harg4.unread x2))
      (View.readAt (Elt Ideal) arg4.view (Rect.unit (s := S1x8x128) ![0, 5, 0] S1x1x128.size inb_S1x8x128_S1x1x128_0_5_0).toLoadRect (harg4.unread x2)) (ix2 j e)
      = xr i x0 x1 x2 x3 x4 x5 x6 x7 x8 x9 x10 x11 x12 2 e ⟨256 * k.val + j.val, hj⟩ := by
  refine tile_at i arg3 harg3 arg4 harg4 arg12 harg12 x0 x1 x2 x3 x4 x5 x6 x7 x8 x9 x10 x11 x12 2 k _ _ _ _ _ ?_ ?_ ?_ ?_ ?_ j e hj
  · intro j x hj
    refine rd4 harg12 x10 _ _ 0 _ _ _ ?_ ?_ ?_ ?_
    all_goals simp only [Rect.off_unit, Rect.stride_unit, k0_off4_eq]
    all_goals simp
  · intro d c; exact rd4 harg3 x1 _ _ 0 (h0 2) d c rfl rfl (by simp) (by simp)
  · intro d c; exact rd4 harg3 x1 _ _ 0 (h1 2) d c rfl rfl (by simp) (by simp)
  · intro c; exact rd3 harg4 x2 _ _ 0 (h0 2) c rfl rfl (by simp)
  · intro c; exact rd3 harg4 x2 _ _ 0 (h1 2) c rfl rfl (by simp)

/-- Pair 3: a trip's tile of scores. -/
theorem sc3 (k : Fin (k0_t1_loop i).trips) (j e : Fin 256) (hj : 256 * k.val + j.val < 1536) :
    k0_pay8 (k0_pay54 i) (k0_pay4 i 0#32 1#32 k)
      (View.readAt (Elt Ideal) arg12.view (Rect.unit (s := S1x2x1536x256) (k0_off4 i k) S1x1x256x160.size (k0_off4_inb i k)).toLoadRect (harg12.unread x10))
      (View.readAt (Elt Ideal) arg3.view (Rect.unit (s := S1x8x160x128) ![0, 6, 0, 0] S1x1x160x128.size inb_S1x8x160x128_S1x1x160x128_0_6_0_0).toLoadRect (harg3.unread x1))
      (View.readAt (Elt Ideal) arg3.view (Rect.unit (s := S1x8x160x128) ![0, 7, 0, 0] S1x1x160x128.size inb_S1x8x160x128_S1x1x160x128_0_7_0_0).toLoadRect (harg3.unread x1))
      (View.readAt (Elt Ideal) arg4.view (Rect.unit (s := S1x8x128) ![0, 6, 0] S1x1x128.size inb_S1x8x128_S1x1x128_0_6_0).toLoadRect (harg4.unread x2))
      (View.readAt (Elt Ideal) arg4.view (Rect.unit (s := S1x8x128) ![0, 7, 0] S1x1x128.size inb_S1x8x128_S1x1x128_0_7_0).toLoadRect (harg4.unread x2)) (ix2 j e)
      = xr i x0 x1 x2 x3 x4 x5 x6 x7 x8 x9 x10 x11 x12 3 e ⟨256 * k.val + j.val, hj⟩ := by
  refine tile_at i arg3 harg3 arg4 harg4 arg12 harg12 x0 x1 x2 x3 x4 x5 x6 x7 x8 x9 x10 x11 x12 3 k _ _ _ _ _ ?_ ?_ ?_ ?_ ?_ j e hj
  · intro j x hj
    refine rd4 harg12 x10 _ _ 0 _ _ _ ?_ ?_ ?_ ?_
    all_goals simp only [Rect.off_unit, Rect.stride_unit, k0_off4_eq]
    all_goals simp
  · intro d c; exact rd4 harg3 x1 _ _ 0 (h0 3) d c rfl rfl (by simp) (by simp)
  · intro d c; exact rd4 harg3 x1 _ _ 0 (h1 3) d c rfl rfl (by simp) (by simp)
  · intro c; exact rd3 harg4 x2 _ _ 0 (h0 3) c rfl rfl (by simp)
  · intro c; exact rd3 harg4 x2 _ _ 0 (h1 3) c rfl rfl (by simp)

/-- Pair 0: a trip's running maximum. -/
theorem max0 (k : Fin (k0_t1_loop i).trips) (acc : FVec Ideal S1x256 .f32 × FVec Ideal S1x256 .f32 × FVec Ideal S1x256 .f32 × FVec Ideal S1x256 .f32) (e : Fin 256)
    (hk : 256 * k.val + 256 ≤ 1536) :
    (tripR_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg3.unread x1) (harg4.unread x2) (harg12.unread x10) k acc).1 (ix2 0 e)
      = max (acc.1 (ix2 0 e)) (top fun j : Fin 256 => xr i x0 x1 x2 x3 x4 x5 x6 x7 x8 x9 x10 x11 x12 0 e ⟨256 * k.val + j.val, by omega⟩) := by
  unfold tripR_k0_t1 trip_k0_t1
  dsimp only
  show k0_pay7 acc.1 (k0_pay8 _ _ _ _ _ _ _) (ix2 0 e) = _
  rw [pay7_at]
  congr 2
  funext j
  exact sc0 i arg3 harg3 arg4 harg4 arg12 harg12 x0 x1 x2 x3 x4 x5 x6 x7 x8 x9 x10 x11 x12 k j e (by omega)

/-- Pair 1: a trip's running maximum. -/
theorem max1 (k : Fin (k0_t1_loop i).trips) (acc : FVec Ideal S1x256 .f32 × FVec Ideal S1x256 .f32 × FVec Ideal S1x256 .f32 × FVec Ideal S1x256 .f32) (e : Fin 256)
    (hk : 256 * k.val + 256 ≤ 1536) :
    (tripR_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg3.unread x1) (harg4.unread x2) (harg12.unread x10) k acc).2.1 (ix2 0 e)
      = max (acc.2.1 (ix2 0 e)) (top fun j : Fin 256 => xr i x0 x1 x2 x3 x4 x5 x6 x7 x8 x9 x10 x11 x12 1 e ⟨256 * k.val + j.val, by omega⟩) := by
  unfold tripR_k0_t1 trip_k0_t1
  dsimp only
  show k0_pay7 acc.2.1 (k0_pay8 _ _ _ _ _ _ _) (ix2 0 e) = _
  rw [pay7_at]
  congr 2
  funext j
  exact sc1 i arg3 harg3 arg4 harg4 arg12 harg12 x0 x1 x2 x3 x4 x5 x6 x7 x8 x9 x10 x11 x12 k j e (by omega)

/-- Pair 2: a trip's running maximum. -/
theorem max2 (k : Fin (k0_t1_loop i).trips) (acc : FVec Ideal S1x256 .f32 × FVec Ideal S1x256 .f32 × FVec Ideal S1x256 .f32 × FVec Ideal S1x256 .f32) (e : Fin 256)
    (hk : 256 * k.val + 256 ≤ 1536) :
    (tripR_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg3.unread x1) (harg4.unread x2) (harg12.unread x10) k acc).2.2.1 (ix2 0 e)
      = max (acc.2.2.1 (ix2 0 e)) (top fun j : Fin 256 => xr i x0 x1 x2 x3 x4 x5 x6 x7 x8 x9 x10 x11 x12 2 e ⟨256 * k.val + j.val, by omega⟩) := by
  unfold tripR_k0_t1 trip_k0_t1
  dsimp only
  show k0_pay7 acc.2.2.1 (k0_pay8 _ _ _ _ _ _ _) (ix2 0 e) = _
  rw [pay7_at]
  congr 2
  funext j
  exact sc2 i arg3 harg3 arg4 harg4 arg12 harg12 x0 x1 x2 x3 x4 x5 x6 x7 x8 x9 x10 x11 x12 k j e (by omega)

/-- Pair 3: a trip's running maximum. -/
theorem max3 (k : Fin (k0_t1_loop i).trips) (acc : FVec Ideal S1x256 .f32 × FVec Ideal S1x256 .f32 × FVec Ideal S1x256 .f32 × FVec Ideal S1x256 .f32) (e : Fin 256)
    (hk : 256 * k.val + 256 ≤ 1536) :
    (tripR_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg3.unread x1) (harg4.unread x2) (harg12.unread x10) k acc).2.2.2 (ix2 0 e)
      = max (acc.2.2.2 (ix2 0 e)) (top fun j : Fin 256 => xr i x0 x1 x2 x3 x4 x5 x6 x7 x8 x9 x10 x11 x12 3 e ⟨256 * k.val + j.val, by omega⟩) := by
  unfold tripR_k0_t1 trip_k0_t1
  dsimp only
  refine (congrFun (pay58_eq _ _ _ _ _ _ _ _) _).trans ?_
  rw [pay7_at]
  congr 2
  funext j
  exact sc3 i arg3 harg3 arg4 harg4 arg12 harg12 x0 x1 x2 x3 x4 x5 x6 x7 x8 x9 x10 x11 x12 k j e (by omega)

/-- A trip stores blocks of the scores, and covers its keys. -/
theorem trip1 (k : Fin (k0_t1_loop i).trips) (acc : FVec Ideal S1x256 .f32 × FVec Ideal S1x256 .f32 × FVec Ideal S1x256 .f32 × FVec Ideal S1x256 .f32)
    (hk : 256 * k.val + 256 ≤ 1536) :
    View.PiecesOf (GS i x0 x1 x2 x3 x4 x5 x6 x7 x8 x9 x10 x11 x12) (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg3.unread x1) (harg4.unread x2) (harg12.unread x10) k acc)
      ∧ ∀ y : S4x1536x256.Idx, 256 * k.val ≤ (y 1).val → (y 1).val < 256 * k.val + 256 →
          ∃ q ∈ tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg3.unread x1) (harg4.unread x2) (harg12.unread x10) k acc, y ∈ q.1.set := by
  unfold tripL_k0_t1 trip_k0_t1
  dsimp only
  constructor
  · refine ⟨?_, ?_, ?_, ?_, trivial⟩
    · refine piece3 (GS i x0 x1 x2 x3 x4 x5 x6 x7 x8 x9 x10 x11 x12) _ (k0_off6_inb i k) _ 3 (256 * k.val) 0 (k0_off6_eq i k) fun j e hj he => ?_
      refine (congrFun (pay57_eq _ _ _ _ _ _ _) _).trans ?_
      refine (pay6_at e (k0_pay8 _ _ _ _ _ _ _) j).trans ?_
      refine (sc3 i arg3 harg3 arg4 harg4 arg12 harg12 x0 x1 x2 x3 x4 x5 x6 x7 x8 x9 x10 x11 x12 k j e hj).trans ?_
      unfold GS xr; simp
    · refine piece3 (GS i x0 x1 x2 x3 x4 x5 x6 x7 x8 x9 x10 x11 x12) _ (k0_off5_inb i k) _ 2 (256 * k.val) 0 (k0_off5_eq i k) fun j e hj he => ?_
      refine (pay6_at e (k0_pay8 _ _ _ _ _ _ _) j).trans ?_
      refine (sc2 i arg3 harg3 arg4 harg4 arg12 harg12 x0 x1 x2 x3 x4 x5 x6 x7 x8 x9 x10 x11 x12 k j e hj).trans ?_
      unfold GS xr; simp
    · refine piece3 (GS i x0 x1 x2 x3 x4 x5 x6 x7 x8 x9 x10 x11 x12) _ (k0_off3_inb i k) _ 1 (256 * k.val) 0 (k0_off3_eq i k) fun j e hj he => ?_
      refine (pay6_at e (k0_pay8 _ _ _ _ _ _ _) j).trans ?_
      refine (sc1 i arg3 harg3 arg4 harg4 arg12 harg12 x0 x1 x2 x3 x4 x5 x6 x7 x8 x9 x10 x11 x12 k j e hj).trans ?_
      unfold GS xr; simp
    · refine piece3 (GS i x0 x1 x2 x3 x4 x5 x6 x7 x8 x9 x10 x11 x12) _ (k0_off2_inb i k) _ 0 (256 * k.val) 0 (k0_off2_eq i k) fun j e hj he => ?_
      refine (pay6_at e (k0_pay8 _ _ _ _ _ _ _) j).trans ?_
      refine (sc0 i arg3 harg3 arg4 harg4 arg12 harg12 x0 x1 x2 x3 x4 x5 x6 x7 x8 x9 x10 x11 x12 k j e hj).trans ?_
      unfold GS xr; simp
  · intro y hlo hhi
    have h2 : (y 2).val < 256 := (y 2).isLt
    have h0' : (y 0).val < 4 := (y 0).isLt
    have cov : ∀ (p : ℕ) (off : Fin 3 → ℕ) (inb : ∀ a, off a + (![1, 256, 256] : Fin 3 → ℕ) a ≤ S4x1536x256.size a), off = ![p, 256 * k.val, 0] → (y 0).val = p →
        y ∈ (Rect.unit (s := S4x1536x256) off ![1, 256, 256] inb).set := by
      intro p off inb ho hp
      subst ho
      rw [Rect.mem_set_unit]
      intro a
      match a with
      | ⟨0, _⟩ => exact ⟨by show p ≤ (y 0).val; omega, by show (y 0).val < p + 1; omega⟩
      | ⟨1, _⟩ => exact ⟨by show 256 * k.val ≤ (y 1).val; omega, by show (y 1).val < 256 * k.val + 256; omega⟩
      | ⟨2, _⟩ => exact ⟨by show 0 ≤ (y 2).val; omega, by show (y 2).val < 0 + 256; omega⟩
    rcases (by omega : (y 0).val = 3 ∨ (y 0).val = 2 ∨ (y 0).val = 1 ∨ (y 0).val = 0) with h | h | h | h
    · exact ⟨_, List.mem_cons_self, cov 3 _ (k0_off6_inb i k) (k0_off6_eq i k) h⟩
    · exact ⟨_, List.mem_cons_of_mem _ List.mem_cons_self, cov 2 _ (k0_off5_inb i k) (k0_off5_eq i k) h⟩
    · exact ⟨_, List.mem_cons_of_mem _ (List.mem_cons_of_mem _ List.mem_cons_self), cov 1 _ (k0_off3_inb i k) (k0_off3_eq i k) h⟩
    · exact ⟨_, List.mem_cons_of_mem _ (List.mem_cons_of_mem _ (List.mem_cons_of_mem _ List.mem_cons_self)), cov 0 _ (k0_off2_inb i k) (k0_off2_eq i k) h⟩

/-- Blocks of one function joined. -/
theorem piecesOf_append {Val : EltTy → Type} {s : Shape} {e : EltTy} (G : s.Idx → Val e) (L L' : List (View.Piece Val s e)) (h : View.PiecesOf G L) (h' : View.PiecesOf G L') :
    View.PiecesOf G (L ++ L') := by
  induction L with
  | nil => exact h'
  | cons p L ih => exact ⟨h.1, ih h.2⟩

/-- The first loop's state after `n` trips. -/
theorem loop1 (n : ℕ) (hn : n ≤ (k0_t1_loop i).trips) :
    (∀ e, (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg3.unread x1) (harg4.unread x2) (harg12.unread x10) (k0_pay55, k0_pay55, k0_pay55, k0_pay55) n).1.1 (ix2 0 e) = topTo (xr i x0 x1 x2 x3 x4 x5 x6 x7 x8 x9 x10 x11 x12 0 e) (256 * n))
    ∧ (∀ e, (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg3.unread x1) (harg4.unread x2) (harg12.unread x10) (k0_pay55, k0_pay55, k0_pay55, k0_pay55) n).1.2.1 (ix2 0 e) = topTo (xr i x0 x1 x2 x3 x4 x5 x6 x7 x8 x9 x10 x11 x12 1 e) (256 * n))
    ∧ (∀ e, (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg3.unread x1) (harg4.unread x2) (harg12.unread x10) (k0_pay55, k0_pay55, k0_pay55, k0_pay55) n).1.2.2.1 (ix2 0 e) = topTo (xr i x0 x1 x2 x3 x4 x5 x6 x7 x8 x9 x10 x11 x12 2 e) (256 * n))
    ∧ (∀ e, (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg3.unread x1) (harg4.unread x2) (harg12.unread x10) (k0_pay55, k0_pay55, k0_pay55, k0_pay55) n).1.2.2.2 (ix2 0 e) = topTo (xr i x0 x1 x2 x3 x4 x5 x6 x7 x8 x9 x10 x11 x12 3 e) (256 * n))
    ∧ View.PiecesOf (GS i x0 x1 x2 x3 x4 x5 x6 x7 x8 x9 x10 x11 x12) (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg3.unread x1) (harg4.unread x2) (harg12.unread x10) (k0_pay55, k0_pay55, k0_pay55, k0_pay55) n).2
    ∧ ∀ y : S4x1536x256.Idx, (y 1).val < 256 * n → ∃ q ∈ (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg3.unread x1) (harg4.unread x2) (harg12.unread x10) (k0_pay55, k0_pay55, k0_pay55, k0_pay55) n).2, y ∈ q.1.set := by
  induction n with
  | zero =>
    refine ⟨fun e => ?_, fun e => ?_, fun e => ?_, fun e => ?_, trivial, fun y hy => absurd hy (by omega)⟩
    all_goals rw [Nat.mul_zero, topTo_zero]; exact pay55_at e
  | succ n ih =>
    obtain ⟨i0, i1, i2, i3, ip, ic⟩ := ih (by omega)
    have h6 := (k0_t1_abs i).2.1
    have hs := st_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg3.unread x1) (harg4.unread x2) (harg12.unread x10) (k0_pay55, k0_pay55, k0_pay55, k0_pay55) ⟨n, by omega⟩
    generalize st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg3.unread x1) (harg4.unread x2) (harg12.unread x10) (k0_pay55, k0_pay55, k0_pay55, k0_pay55) n = P at i0 i1 i2 i3 ip ic hs
    change st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg3.unread x1) (harg4.unread x2) (harg12.unread x10) (k0_pay55, k0_pay55, k0_pay55, k0_pay55) (n + 1) = _ at hs
    rw [hs]
    have ht := trip1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 ⟨n, by omega⟩ P.1 (by show 256 * n + 256 ≤ 1536; omega)
    refine ⟨fun e => ?_, fun e => ?_, fun e => ?_, fun e => ?_, piecesOf_append _ _ _ ht.1 ip, fun y hy => ?_⟩
    · refine (max0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 ⟨n, by omega⟩ P.1 e (by show 256 * n + 256 ≤ 1536; omega)).trans ?_
      rw [i0, show 256 * (n + 1) = 256 * n + 256 from by ring, topTo_step _ (by omega)]
    · refine (max1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 ⟨n, by omega⟩ P.1 e (by show 256 * n + 256 ≤ 1536; omega)).trans ?_
      rw [i1, show 256 * (n + 1) = 256 * n + 256 from by ring, topTo_step _ (by omega)]
    · refine (max2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 ⟨n, by omega⟩ P.1 e (by show 256 * n + 256 ≤ 1536; omega)).trans ?_
      rw [i2, show 256 * (n + 1) = 256 * n + 256 from by ring, topTo_step _ (by omega)]
    · refine (max3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 ⟨n, by omega⟩ P.1 e (by show 256 * n + 256 ≤ 1536; omega)).trans ?_
      rw [i3, show 256 * (n + 1) = 256 * n + 256 from by ring, topTo_step _ (by omega)]
    · by_cases hc : (y 1).val < 256 * n
      · obtain ⟨q, hq, hy'⟩ := ic y hc
        exact ⟨q, List.mem_append_right _ hq, hy'⟩
      · obtain ⟨q, hq, hy'⟩ := ht.2 y (by show 256 * n ≤ _; omega) (by show _ < 256 * n + 256; omega)
        exact ⟨q, List.mem_append_left _ hq, hy'⟩

end Cert.KernelIdeal.KLoop

end
-- ==== Proof.KSum.lean ====
/- The kernel's second loop over the compressed keys: the sums it accumulates. -/
module

public import proofs.«01_k».proof.Proof.KLoop
public import Idealize.ShloMosaic.Lib.Pipeline.ReadBack

@[expose] public section

set_option maxRecDepth 16384

noncomputable section

namespace Cert.KernelIdeal.KSum

open Cert.KernelIdeal Cert.KernelIdeal.KLoop Cert.KernelIdeal.Gen Cert.KernelIdeal.KPay Cert.KernelIdeal.KGeo Idealize.ShloMosaic Cert.Soft Cert.Spec
open scoped BigOperators

variable (c : Dev nD) (i : grid0.Coords) (arg2 : Memref sig .tc .smem S6 .f32) (harg2 : arg2.IsWhole) (arg3 : Memref sig .tc .vmem S1x8x160x128 .fp8e4m3) (harg3 : arg3.IsWhole) (arg4 : Memref sig .tc .vmem S1x8x128 .f32) (harg4 : arg4.IsWhole) (arg5 : Memref sig .tc .vmem S1x2x4x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S1x2x1024x128 .f32) (harg9 : arg9.IsWhole) (arg10 : Memref sig .tc .vmem S1x2x24576x256 .fp8e4m3) (harg10 : arg10.IsWhole) (arg11 : Memref sig .tc .vmem S1x2x160x24576 .fp8e4m3) (harg11 : arg11.IsWhole) (arg12 : Memref sig .tc .vmem S1x2x1536x256 .bf16) (harg12 : arg12.IsWhole) (arg13 : Memref sig .tc .vmem S1x2x160x1536 .bf16) (harg13 : arg13.IsWhole) (arg14 : Memref sig .tc .vmem S1x2x128x256 .bf16) (harg14 : arg14.IsWhole) (arg15 : Memref sig .tc .vmem S1x128x1280 .bf16) (harg15 : arg15.IsWhole) (arg16 : Memref sig .tc .vmem S1x8x160x128 .bf16) (harg16 : arg16.IsWhole) (arg17 : Memref sig .tc .vmem S1x8x160x128 .bf16) (harg17 : arg17.IsWhole) (arg18 : Memref sig .tc .vmem S1x8x160x128 .bf16) (harg18 : arg18.IsWhole) (arg19 : Memref sig .tc .vmem S4x1536x256 .f32) (harg19 : arg19.IsWhole) (arg20 : Memref sig .tc .vmem S4x160x256 .f32) (harg20 : arg20.IsWhole) (arg21 : Memref sig .tc .vmem S1280x128 .bf16) (harg21 : arg21.IsWhole)
variable (x0 : Vec Ideal S6 .f32) (x1 : Vec Ideal S1x8x160x128 .fp8e4m3) (x2 : Vec Ideal S1x8x128 .f32) (x3 : Vec Ideal S1x2x4x128 .f32) (x4 x5 x6 : Vec Ideal S1x8x128 .f32) (x7 : Vec Ideal S1x2x1024x128 .f32) (x8 : Vec Ideal S1x2x24576x256 .fp8e4m3) (x9 : Vec Ideal S1x2x160x24576 .fp8e4m3) (x10 : Vec Ideal S1x2x1536x256 .bf16) (x11 : Vec Ideal S1x2x160x1536 .bf16) (x12 : Vec Ideal S1x2x128x256 .bf16)
variable (v5 : IVec S1x256 32) (v8 v12 : BitVec 32) (v24 v28 v32 v36 : FVec Ideal S1x256 .f32) (X19 : BufTy.Contents (Elt Ideal) arg19.view.ty)
variable (M : Fin 4 → Fin 256 → EReal)

/-- A key's weight against a pair's column, from the column's maximum. -/
def ef (p : Fin 4) (e : Fin 256) (j : Fin 1536) : EReal := Ideal.exp2 (xr i x0 x1 x2 x3 x4 x5 x6 x7 x8 x9 x10 x11 x12 p e j - M p e)

/-- A key's weighted value. -/
def of (p : Fin 4) (d : Fin 160) (e : Fin 256) (j : Fin 1536) : EReal := x11 (ix4 0 ⟨p.val / 2, by omega⟩ d j) * ef i x0 x1 x2 x3 x4 x5 x6 x7 x8 x9 x10 x11 x12 M p e j

/-- A tile of the stored scores read back. -/
theorem rdX (p : Fin 4) (k : Fin (k0_t3_loop i).trips) (hX : ∀ y : S4x1536x256.Idx, (y 1).val < 256 * (k0_t3_loop i).trips → arg19.view.read (Elt Ideal) X19 y = GS i x0 x1 x2 x3 x4 x5 x6 x7 x8 x9 x10 x11 x12 y)
    (off : Fin 3 → ℕ) (inb : ∀ a, off a + S1x256x256.size a ≤ S4x1536x256.size a) (ho : off = ![p.val, 256 * k.val, 0]) (x e : Fin 256) (hk : 256 * k.val + x.val < 1536) :
    View.readAt (Elt Ideal) arg19.view (Rect.unit (s := S4x1536x256) off S1x256x256.size inb).toLoadRect X19 (ix3 0 x e) = xr i x0 x1 x2 x3 x4 x5 x6 x7 x8 x9 x10 x11 x12 p e ⟨256 * k.val + x.val, hk⟩ := by
  subst ho
  show arg19.view.read (Elt Ideal) X19 ((Rect.unit (s := S4x1536x256) ![p.val, 256 * k.val, 0] S1x256x256.size inb).toLoadRect.idx (ix3 0 x e)) = _
  have hi : (Rect.unit (s := S4x1536x256) ![p.val, 256 * k.val, 0] S1x256x256.size inb).toLoadRect.idx (ix3 0 x e) = ix3 p ⟨256 * k.val + x.val, hk⟩ e := by
    funext a
    apply Fin.ext
    match a with
    | ⟨0, _⟩ => simp [LoadRect.idx, ix3]
    | ⟨1, _⟩ => simp [LoadRect.idx, ix3]
    | ⟨2, _⟩ => simp [LoadRect.idx, ix3]
  rw [hi]
  have hkl := k.isLt
  refine (hX _ (by show 256 * k.val + x.val < _; omega)).trans ?_
  rfl

/-- Pair 0: a trip's running sum of weights. -/
theorem sum0 (k : Fin (k0_t3_loop i).trips) (hX : ∀ y : S4x1536x256.Idx, (y 1).val < 256 * (k0_t3_loop i).trips → arg19.view.read (Elt Ideal) X19 y = GS i x0 x1 x2 x3 x4 x5 x6 x7 x8 x9 x10 x11 x12 y) (hm : ∀ e, v24 (ix2 0 e) = M 0 e) (acc : FVec Ideal S1x256 .f32 × FVec Ideal S1x256 .f32 × FVec Ideal S1x256 .f32 × FVec Ideal S1x256 .f32)
    (f20 : BufTy.Contents (Elt Ideal) arg20.view.ty) (e : Fin 256) (hk : 256 * k.val + 256 ≤ 1536) :
    (tripR_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v8 v12 v24 v28 v32 v36 (harg13.unread x11) X19 k acc f20).1 (ix2 0 e)
      = acc.1 (ix2 0 e) + ∑ j : Fin 256, ef i x0 x1 x2 x3 x4 x5 x6 x7 x8 x9 x10 x11 x12 M 0 e ⟨256 * k.val + j.val, by omega⟩ := by
  unfold tripR_k0_t3 trip_k0_t3
  dsimp only
  show k0_pay30 v24 acc.1 (View.readAt (Elt Ideal) arg19.view (Rect.unit (s := S4x1536x256) (k0_off13 i k) S1x256x256.size (k0_off13_inb i k)).toLoadRect X19) (ix2 0 e) = _
  rw [pay30_at]
  congr 1
  refine Finset.sum_congr rfl fun x _ => ?_
  rw [hm, rdX i arg19 x0 x1 x2 x3 x4 x5 x6 x7 x8 x9 x10 x11 x12 X19 0 k hX _ _ (k0_off13_eq i k) x e (by omega)]
  rfl

/-- Pair 0: a trip's running weighted sum. -/
theorem ot0 (k : Fin (k0_t3_loop i).trips) (hX : ∀ y : S4x1536x256.Idx, (y 1).val < 256 * (k0_t3_loop i).trips → arg19.view.read (Elt Ideal) X19 y = GS i x0 x1 x2 x3 x4 x5 x6 x7 x8 x9 x10 x11 x12 y) (hm : ∀ e, v24 (ix2 0 e) = M 0 e)
    (f20 : BufTy.Contents (Elt Ideal) arg20.view.ty) (d : Fin 160) (e : Fin 256) (hk : 256 * k.val + 256 ≤ 1536) :
    k0_pay29 v24 (View.readAt (Elt Ideal) arg19.view (Rect.unit (s := S4x1536x256) (k0_off13 i k) S1x256x256.size (k0_off13_inb i k)).toLoadRect X19)
      (View.readAt (Elt Ideal) arg20.view (Rect.unit (s := S4x160x256) ![0, 0, 0] S1x160x256.size inb_S4x160x256_S1x160x256_0_0_0).toLoadRect f20)
      (View.readAt (Elt Ideal) arg13.view (Rect.unit (s := S1x2x160x1536) (k0_off14 i k) S1x1x160x256.size (k0_off14_inb i k)).toLoadRect (harg13.unread x11)) (ix3 0 d e)
      = arg20.view.read (Elt Ideal) f20 (ix3 0 d e) + ∑ j : Fin 256, of i x0 x1 x2 x3 x4 x5 x6 x7 x8 x9 x10 x11 x12 M 0 d e ⟨256 * k.val + j.val, by omega⟩ := by
  rw [pay29_at]
  congr 1
  · show arg20.view.read (Elt Ideal) f20 ((Rect.unit (s := S4x160x256) ![0, 0, 0] S1x160x256.size inb_S4x160x256_S1x160x256_0_0_0).toLoadRect.idx (ix3 0 d e)) = _
    congr 1
    funext a
    apply Fin.ext
    match a with
    | ⟨0, _⟩ => simp [LoadRect.idx, ix3]
    | ⟨1, _⟩ => simp [LoadRect.idx, ix3]
    | ⟨2, _⟩ => simp [LoadRect.idx, ix3]
  · refine Finset.sum_congr rfl fun x _ => ?_
    rw [hm, rdX i arg19 x0 x1 x2 x3 x4 x5 x6 x7 x8 x9 x10 x11 x12 X19 0 k hX _ _ (k0_off13_eq i k) x e (by omega)]
    refine congrArg (· * _) ?_
    refine rd4 harg13 x11 _ _ 0 _ _ _ ?_ ?_ ?_ ?_
    all_goals simp only [Rect.off_unit, Rect.stride_unit, k0_off14_eq]
    all_goals simp

/-- Pair 1: a trip's running sum of weights. -/
theorem sum1 (k : Fin (k0_t3_loop i).trips) (hX : ∀ y : S4x1536x256.Idx, (y 1).val < 256 * (k0_t3_loop i).trips → arg19.view.read (Elt Ideal) X19 y = GS i x0 x1 x2 x3 x4 x5 x6 x7 x8 x9 x10 x11 x12 y) (hm : ∀ e, v28 (ix2 0 e) = M 1 e) (acc : FVec Ideal S1x256 .f32 × FVec Ideal S1x256 .f32 × FVec Ideal S1x256 .f32 × FVec Ideal S1x256 .f32)
    (f20 : BufTy.Contents (Elt Ideal) arg20.view.ty) (e : Fin 256) (hk : 256 * k.val + 256 ≤ 1536) :
    (tripR_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v8 v12 v24 v28 v32 v36 (harg13.unread x11) X19 k acc f20).2.1 (ix2 0 e)
      = acc.2.1 (ix2 0 e) + ∑ j : Fin 256, ef i x0 x1 x2 x3 x4 x5 x6 x7 x8 x9 x10 x11 x12 M 1 e ⟨256 * k.val + j.val, by omega⟩ := by
  unfold tripR_k0_t3 trip_k0_t3
  dsimp only
  show k0_pay30 v28 acc.2.1 (View.readAt (Elt Ideal) arg19.view (Rect.unit (s := S4x1536x256) (k0_off15 i k) S1x256x256.size (k0_off15_inb i k)).toLoadRect X19) (ix2 0 e) = _
  rw [pay30_at]
  congr 1
  refine Finset.sum_congr rfl fun x _ => ?_
  rw [hm, rdX i arg19 x0 x1 x2 x3 x4 x5 x6 x7 x8 x9 x10 x11 x12 X19 1 k hX _ _ (k0_off15_eq i k) x e (by omega)]
  rfl

/-- Pair 1: a trip's running weighted sum. -/
theorem ot1 (k : Fin (k0_t3_loop i).trips) (hX : ∀ y : S4x1536x256.Idx, (y 1).val < 256 * (k0_t3_loop i).trips → arg19.view.read (Elt Ideal) X19 y = GS i x0 x1 x2 x3 x4 x5 x6 x7 x8 x9 x10 x11 x12 y) (hm : ∀ e, v28 (ix2 0 e) = M 1 e)
    (f20 : BufTy.Contents (Elt Ideal) arg20.view.ty) (d : Fin 160) (e : Fin 256) (hk : 256 * k.val + 256 ≤ 1536) :
    k0_pay29 v28 (View.readAt (Elt Ideal) arg19.view (Rect.unit (s := S4x1536x256) (k0_off15 i k) S1x256x256.size (k0_off15_inb i k)).toLoadRect X19)
      (View.readAt (Elt Ideal) arg20.view (Rect.unit (s := S4x160x256) ![1, 0, 0] S1x160x256.size inb_S4x160x256_S1x160x256_1_0_0).toLoadRect f20)
      (View.readAt (Elt Ideal) arg13.view (Rect.unit (s := S1x2x160x1536) (k0_off14 i k) S1x1x160x256.size (k0_off14_inb i k)).toLoadRect (harg13.unread x11)) (ix3 0 d e)
      = arg20.view.read (Elt Ideal) f20 (ix3 1 d e) + ∑ j : Fin 256, of i x0 x1 x2 x3 x4 x5 x6 x7 x8 x9 x10 x11 x12 M 1 d e ⟨256 * k.val + j.val, by omega⟩ := by
  rw [pay29_at]
  congr 1
  · show arg20.view.read (Elt Ideal) f20 ((Rect.unit (s := S4x160x256) ![1, 0, 0] S1x160x256.size inb_S4x160x256_S1x160x256_1_0_0).toLoadRect.idx (ix3 0 d e)) = _
    congr 1
    funext a
    apply Fin.ext
    match a with
    | ⟨0, _⟩ => simp [LoadRect.idx, ix3]
    | ⟨1, _⟩ => simp [LoadRect.idx, ix3]
    | ⟨2, _⟩ => simp [LoadRect.idx, ix3]
  · refine Finset.sum_congr rfl fun x _ => ?_
    rw [hm, rdX i arg19 x0 x1 x2 x3 x4 x5 x6 x7 x8 x9 x10 x11 x12 X19 1 k hX _ _ (k0_off15_eq i k) x e (by omega)]
    refine congrArg (· * _) ?_
    refine rd4 harg13 x11 _ _ 0 _ _ _ ?_ ?_ ?_ ?_
    all_goals simp only [Rect.off_unit, Rect.stride_unit, k0_off14_eq]
    all_goals simp

/-- Pair 2: a trip's running sum of weights. -/
theorem sum2 (k : Fin (k0_t3_loop i).trips) (hX : ∀ y : S4x1536x256.Idx, (y 1).val < 256 * (k0_t3_loop i).trips → arg19.view.read (Elt Ideal) X19 y = GS i x0 x1 x2 x3 x4 x5 x6 x7 x8 x9 x10 x11 x12 y) (hm : ∀ e, v32 (ix2 0 e) = M 2 e) (acc : FVec Ideal S1x256 .f32 × FVec Ideal S1x256 .f32 × FVec Ideal S1x256 .f32 × FVec Ideal S1x256 .f32)
    (f20 : BufTy.Contents (Elt Ideal) arg20.view.ty) (e : Fin 256) (hk : 256 * k.val + 256 ≤ 1536) :
    (tripR_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v8 v12 v24 v28 v32 v36 (harg13.unread x11) X19 k acc f20).2.2.1 (ix2 0 e)
      = acc.2.2.1 (ix2 0 e) + ∑ j : Fin 256, ef i x0 x1 x2 x3 x4 x5 x6 x7 x8 x9 x10 x11 x12 M 2 e ⟨256 * k.val + j.val, by omega⟩ := by
  unfold tripR_k0_t3 trip_k0_t3
  dsimp only
  show k0_pay30 v32 acc.2.2.1 (View.readAt (Elt Ideal) arg19.view (Rect.unit (s := S4x1536x256) (k0_off16 i k) S1x256x256.size (k0_off16_inb i k)).toLoadRect X19) (ix2 0 e) = _
  rw [pay30_at]
  congr 1
  refine Finset.sum_congr rfl fun x _ => ?_
  rw [hm, rdX i arg19 x0 x1 x2 x3 x4 x5 x6 x7 x8 x9 x10 x11 x12 X19 2 k hX _ _ (k0_off16_eq i k) x e (by omega)]
  rfl

/-- Pair 2: a trip's running weighted sum. -/
theorem ot2 (k : Fin (k0_t3_loop i).trips) (hX : ∀ y : S4x1536x256.Idx, (y 1).val < 256 * (k0_t3_loop i).trips → arg19.view.read (Elt Ideal) X19 y = GS i x0 x1 x2 x3 x4 x5 x6 x7 x8 x9 x10 x11 x12 y) (hm : ∀ e, v32 (ix2 0 e) = M 2 e)
    (f20 : BufTy.Contents (Elt Ideal) arg20.view.ty) (d : Fin 160) (e : Fin 256) (hk : 256 * k.val + 256 ≤ 1536) :
    k0_pay29 v32 (View.readAt (Elt Ideal) arg19.view (Rect.unit (s := S4x1536x256) (k0_off16 i k) S1x256x256.size (k0_off16_inb i k)).toLoadRect X19)
      (View.readAt (Elt Ideal) arg20.view (Rect.unit (s := S4x160x256) ![2, 0, 0] S1x160x256.size inb_S4x160x256_S1x160x256_2_0_0).toLoadRect f20)
      (View.readAt (Elt Ideal) arg13.view (Rect.unit (s := S1x2x160x1536) (k0_off17 i k) S1x1x160x256.size (k0_off17_inb i k)).toLoadRect (harg13.unread x11)) (ix3 0 d e)
      = arg20.view.read (Elt Ideal) f20 (ix3 2 d e) + ∑ j : Fin 256, of i x0 x1 x2 x3 x4 x5 x6 x7 x8 x9 x10 x11 x12 M 2 d e ⟨256 * k.val + j.val, by omega⟩ := by
  rw [pay29_at]
  congr 1
  · show arg20.view.read (Elt Ideal) f20 ((Rect.unit (s := S4x160x256) ![2, 0, 0] S1x160x256.size inb_S4x160x256_S1x160x256_2_0_0).toLoadRect.idx (ix3 0 d e)) = _
    congr 1
    funext a
    apply Fin.ext
    match a with
    | ⟨0, _⟩ => simp [LoadRect.idx, ix3]
    | ⟨1, _⟩ => simp [LoadRect.idx, ix3]
    | ⟨2, _⟩ => simp [LoadRect.idx, ix3]
  · refine Finset.sum_congr rfl fun x _ => ?_
    rw [hm, rdX i arg19 x0 x1 x2 x3 x4 x5 x6 x7 x8 x9 x10 x11 x12 X19 2 k hX _ _ (k0_off16_eq i k) x e (by omega)]
    refine congrArg (· * _) ?_
    refine rd4 harg13 x11 _ _ 0 _ _ _ ?_ ?_ ?_ ?_
    all_goals simp only [Rect.off_unit, Rect.stride_unit, k0_off17_eq]
    all_goals simp

/-- Pair 3: a trip's running sum of weights. -/
theorem sum3 (k : Fin (k0_t3_loop i).trips) (hX : ∀ y : S4x1536x256.Idx, (y 1).val < 256 * (k0_t3_loop i).trips → arg19.view.read (Elt Ideal) X19 y = GS i x0 x1 x2 x3 x4 x5 x6 x7 x8 x9 x10 x11 x12 y) (hm : ∀ e, v36 (ix2 0 e) = M 3 e) (acc : FVec Ideal S1x256 .f32 × FVec Ideal S1x256 .f32 × FVec Ideal S1x256 .f32 × FVec Ideal S1x256 .f32)
    (f20 : BufTy.Contents (Elt Ideal) arg20.view.ty) (e : Fin 256) (hk : 256 * k.val + 256 ≤ 1536) :
    (tripR_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v8 v12 v24 v28 v32 v36 (harg13.unread x11) X19 k acc f20).2.2.2 (ix2 0 e)
      = acc.2.2.2 (ix2 0 e) + ∑ j : Fin 256, ef i x0 x1 x2 x3 x4 x5 x6 x7 x8 x9 x10 x11 x12 M 3 e ⟨256 * k.val + j.val, by omega⟩ := by
  unfold tripR_k0_t3 trip_k0_t3
  dsimp only
  show k0_pay30 v36 acc.2.2.2 (View.readAt (Elt Ideal) arg19.view (Rect.unit (s := S4x1536x256) (k0_off18 i k) S1x256x256.size (k0_off18_inb i k)).toLoadRect X19) (ix2 0 e) = _
  rw [pay30_at]
  congr 1
  refine Finset.sum_congr rfl fun x _ => ?_
  rw [hm, rdX i arg19 x0 x1 x2 x3 x4 x5 x6 x7 x8 x9 x10 x11 x12 X19 3 k hX _ _ (k0_off18_eq i k) x e (by omega)]
  rfl

/-- Pair 3: a trip's running weighted sum. -/
theorem ot3 (k : Fin (k0_t3_loop i).trips) (hX : ∀ y : S4x1536x256.Idx, (y 1).val < 256 * (k0_t3_loop i).trips → arg19.view.read (Elt Ideal) X19 y = GS i x0 x1 x2 x3 x4 x5 x6 x7 x8 x9 x10 x11 x12 y) (hm : ∀ e, v36 (ix2 0 e) = M 3 e)
    (f20 : BufTy.Contents (Elt Ideal) arg20.view.ty) (d : Fin 160) (e : Fin 256) (hk : 256 * k.val + 256 ≤ 1536) :
    k0_pay29 v36 (View.readAt (Elt Ideal) arg19.view (Rect.unit (s := S4x1536x256) (k0_off18 i k) S1x256x256.size (k0_off18_inb i k)).toLoadRect X19)
      (View.readAt (Elt Ideal) arg20.view (Rect.unit (s := S4x160x256) ![3, 0, 0] S1x160x256.size inb_S4x160x256_S1x160x256_3_0_0).toLoadRect f20)
      (View.readAt (Elt Ideal) arg13.view (Rect.unit (s := S1x2x160x1536) (k0_off17 i k) S1x1x160x256.size (k0_off17_inb i k)).toLoadRect (harg13.unread x11)) (ix3 0 d e)
      = arg20.view.read (Elt Ideal) f20 (ix3 3 d e) + ∑ j : Fin 256, of i x0 x1 x2 x3 x4 x5 x6 x7 x8 x9 x10 x11 x12 M 3 d e ⟨256 * k.val + j.val, by omega⟩ := by
  rw [pay29_at]
  congr 1
  · show arg20.view.read (Elt Ideal) f20 ((Rect.unit (s := S4x160x256) ![3, 0, 0] S1x160x256.size inb_S4x160x256_S1x160x256_3_0_0).toLoadRect.idx (ix3 0 d e)) = _
    congr 1
    funext a
    apply Fin.ext
    match a with
    | ⟨0, _⟩ => simp [LoadRect.idx, ix3]
    | ⟨1, _⟩ => simp [LoadRect.idx, ix3]
    | ⟨2, _⟩ => simp [LoadRect.idx, ix3]
  · refine Finset.sum_congr rfl fun x _ => ?_
    rw [hm, rdX i arg19 x0 x1 x2 x3 x4 x5 x6 x7 x8 x9 x10 x11 x12 X19 3 k hX _ _ (k0_off18_eq i k) x e (by omega)]
    refine congrArg (· * _) ?_
    refine rd4 harg13 x11 _ _ 0 _ _ _ ?_ ?_ ?_ ?_
    all_goals simp only [Rect.off_unit, Rect.stride_unit, k0_off17_eq]
    all_goals simp

/-- The weighted sums after a trip, from those before it. -/
def GT (k : ℕ) (hk : 256 * k + 256 ≤ 1536) (f20 : BufTy.Contents (Elt Ideal) arg20.view.ty) : S4x160x256.Idx → EReal :=
  fun y => arg20.view.read (Elt Ideal) f20 y + ∑ j : Fin 256, of i x0 x1 x2 x3 x4 x5 x6 x7 x8 x9 x10 x11 x12 M (y 0) (y 1) (y 2) ⟨256 * k + j.val, by omega⟩

/-- A trip stores every weighted sum. -/
theorem trip3 (k : Fin (k0_t3_loop i).trips) (hX : ∀ y : S4x1536x256.Idx, (y 1).val < 256 * (k0_t3_loop i).trips → arg19.view.read (Elt Ideal) X19 y = GS i x0 x1 x2 x3 x4 x5 x6 x7 x8 x9 x10 x11 x12 y) (hm0 : ∀ e, v24 (ix2 0 e) = M 0 e) (hm1 : ∀ e, v28 (ix2 0 e) = M 1 e) (hm2 : ∀ e, v32 (ix2 0 e) = M 2 e) (hm3 : ∀ e, v36 (ix2 0 e) = M 3 e) (acc : FVec Ideal S1x256 .f32 × FVec Ideal S1x256 .f32 × FVec Ideal S1x256 .f32 × FVec Ideal S1x256 .f32)
    (f20 : BufTy.Contents (Elt Ideal) arg20.view.ty) (hk : 256 * k.val + 256 ≤ 1536) :
    View.PiecesOf (GT i arg20 x0 x1 x2 x3 x4 x5 x6 x7 x8 x9 x10 x11 x12 M k.val hk f20) (tripL_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v8 v12 v24 v28 v32 v36 (harg13.unread x11) X19 k acc f20)
      ∧ ∀ y : S4x160x256.Idx, ∃ q ∈ tripL_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v8 v12 v24 v28 v32 v36 (harg13.unread x11) X19 k acc f20, y ∈ q.1.set := by
  unfold tripL_k0_t3 trip_k0_t3
  dsimp only
  constructor
  · refine ⟨?_, ?_, ?_, ?_, trivial⟩
    · refine piece3 (GT i arg20 x0 x1 x2 x3 x4 x5 x6 x7 x8 x9 x10 x11 x12 M k.val hk f20) _ inb_S4x160x256_S1x160x256_3_0_0 _ 3 0 0 rfl fun d e hd he => ?_
      refine (ot3 i arg13 harg13 arg19 arg20 x0 x1 x2 x3 x4 x5 x6 x7 x8 x9 x10 x11 x12 v36 X19 M k hX hm3 f20 d e hk).trans ?_
      unfold GT; simp
    · refine piece3 (GT i arg20 x0 x1 x2 x3 x4 x5 x6 x7 x8 x9 x10 x11 x12 M k.val hk f20) _ inb_S4x160x256_S1x160x256_2_0_0 _ 2 0 0 rfl fun d e hd he => ?_
      refine (ot2 i arg13 harg13 arg19 arg20 x0 x1 x2 x3 x4 x5 x6 x7 x8 x9 x10 x11 x12 v32 X19 M k hX hm2 f20 d e hk).trans ?_
      unfold GT; simp
    · refine piece3 (GT i arg20 x0 x1 x2 x3 x4 x5 x6 x7 x8 x9 x10 x11 x12 M k.val hk f20) _ inb_S4x160x256_S1x160x256_1_0_0 _ 1 0 0 rfl fun d e hd he => ?_
      refine (ot1 i arg13 harg13 arg19 arg20 x0 x1 x2 x3 x4 x5 x6 x7 x8 x9 x10 x11 x12 v28 X19 M k hX hm1 f20 d e hk).trans ?_
      unfold GT; simp
    · refine piece3 (GT i arg20 x0 x1 x2 x3 x4 x5 x6 x7 x8 x9 x10 x11 x12 M k.val hk f20) _ inb_S4x160x256_S1x160x256_0_0_0 _ 0 0 0 rfl fun d e hd he => ?_
      refine (ot0 i arg13 harg13 arg19 arg20 x0 x1 x2 x3 x4 x5 x6 x7 x8 x9 x10 x11 x12 v24 X19 M k hX hm0 f20 d e hk).trans ?_
      unfold GT; simp
  · intro y
    have h1 : (y 1).val < 160 := (y 1).isLt
    have h2 : (y 2).val < 256 := (y 2).isLt
    have h0' : (y 0).val < 4 := (y 0).isLt
    have cov : ∀ (p : ℕ) (inb : ∀ a, (![p, 0, 0] : Fin 3 → ℕ) a + S1x160x256.size a ≤ S4x160x256.size a), (y 0).val = p →
        y ∈ (Rect.unit (s := S4x160x256) ![p, 0, 0] S1x160x256.size inb).set := by
      intro p inb hp
      rw [Rect.mem_set_unit]
      intro a
      match a with
      | ⟨0, _⟩ => exact ⟨by show p ≤ (y 0).val; omega, by show (y 0).val < p + 1; omega⟩
      | ⟨1, _⟩ => exact ⟨by show 0 ≤ (y 1).val; omega, by show (y 1).val < 0 + 160; omega⟩
      | ⟨2, _⟩ => exact ⟨by show 0 ≤ (y 2).val; omega, by show (y 2).val < 0 + 256; omega⟩
    rcases (by omega : (y 0).val = 3 ∨ (y 0).val = 2 ∨ (y 0).val = 1 ∨ (y 0).val = 0) with h | h | h | h
    · exact ⟨_, List.mem_cons_self, cov 3 inb_S4x160x256_S1x160x256_3_0_0 h⟩
    · exact ⟨_, List.mem_cons_of_mem _ List.mem_cons_self, cov 2 inb_S4x160x256_S1x160x256_2_0_0 h⟩
    · exact ⟨_, List.mem_cons_of_mem _ (List.mem_cons_of_mem _ List.mem_cons_self), cov 1 inb_S4x160x256_S1x160x256_1_0_0 h⟩
    · exact ⟨_, List.mem_cons_of_mem _ (List.mem_cons_of_mem _ (List.mem_cons_of_mem _ List.mem_cons_self)), cov 0 inb_S4x160x256_S1x160x256_0_0_0 h⟩

/-- The second loop's state after `n` trips. -/
theorem loop3 (hX : ∀ y : S4x1536x256.Idx, (y 1).val < 256 * (k0_t3_loop i).trips → arg19.view.read (Elt Ideal) X19 y = GS i x0 x1 x2 x3 x4 x5 x6 x7 x8 x9 x10 x11 x12 y) (hm0 : ∀ e, v24 (ix2 0 e) = M 0 e) (hm1 : ∀ e, v28 (ix2 0 e) = M 1 e) (hm2 : ∀ e, v32 (ix2 0 e) = M 2 e) (hm3 : ∀ e, v36 (ix2 0 e) = M 3 e) (G20 : BufTy.Contents (Elt Ideal) arg20.view.ty) (h20 : ∀ y, arg20.view.read (Elt Ideal) G20 y = (0 : EReal)) (n : ℕ) (hn : n ≤ (k0_t3_loop i).trips) :
    (∀ e, (st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v8 v12 v24 v28 v32 v36 (harg13.unread x11) X19 G20 (k0_pay67, k0_pay67, k0_pay67, k0_pay67) n).1.1 (ix2 0 e) = sumTo (ef i x0 x1 x2 x3 x4 x5 x6 x7 x8 x9 x10 x11 x12 M 0 e) (256 * n))
    ∧ (∀ e, (st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v8 v12 v24 v28 v32 v36 (harg13.unread x11) X19 G20 (k0_pay67, k0_pay67, k0_pay67, k0_pay67) n).1.2.1 (ix2 0 e) = sumTo (ef i x0 x1 x2 x3 x4 x5 x6 x7 x8 x9 x10 x11 x12 M 1 e) (256 * n))
    ∧ (∀ e, (st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v8 v12 v24 v28 v32 v36 (harg13.unread x11) X19 G20 (k0_pay67, k0_pay67, k0_pay67, k0_pay67) n).1.2.2.1 (ix2 0 e) = sumTo (ef i x0 x1 x2 x3 x4 x5 x6 x7 x8 x9 x10 x11 x12 M 2 e) (256 * n))
    ∧ (∀ e, (st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v8 v12 v24 v28 v32 v36 (harg13.unread x11) X19 G20 (k0_pay67, k0_pay67, k0_pay67, k0_pay67) n).1.2.2.2 (ix2 0 e) = sumTo (ef i x0 x1 x2 x3 x4 x5 x6 x7 x8 x9 x10 x11 x12 M 3 e) (256 * n))
    ∧ ∀ y, arg20.view.read (Elt Ideal) (arg20.view.writes (Elt Ideal) G20 (st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v8 v12 v24 v28 v32 v36 (harg13.unread x11) X19 G20 (k0_pay67, k0_pay67, k0_pay67, k0_pay67) n).2) y = sumTo (of i x0 x1 x2 x3 x4 x5 x6 x7 x8 x9 x10 x11 x12 M (y 0) (y 1) (y 2)) (256 * n) := by
  induction n with
  | zero =>
    refine ⟨fun e => ?_, fun e => ?_, fun e => ?_, fun e => ?_, fun y => ?_⟩
    case refine_5 => rw [Nat.mul_zero, sumTo_zero]; exact h20 y
    all_goals rw [Nat.mul_zero, sumTo_zero]; exact pay67_at e
  | succ n ih =>
    obtain ⟨i0, i1, i2, i3, ip⟩ := ih (by omega)
    have h6 := (k0_t3_abs i).2.1
    have hs := st_k0_t3_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v8 v12 v24 v28 v32 v36 (harg13.unread x11) X19 G20 (k0_pay67, k0_pay67, k0_pay67, k0_pay67) ⟨n, by omega⟩
    generalize st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v8 v12 v24 v28 v32 v36 (harg13.unread x11) X19 G20 (k0_pay67, k0_pay67, k0_pay67, k0_pay67) n = P at i0 i1 i2 i3 ip hs
    change st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v8 v12 v24 v28 v32 v36 (harg13.unread x11) X19 G20 (k0_pay67, k0_pay67, k0_pay67, k0_pay67) (n + 1) = _ at hs
    rw [hs]
    have ht := trip3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 v5 v8 v12 v24 v28 v32 v36 X19 M ⟨n, by omega⟩ hX hm0 hm1 hm2 hm3 P.1 (arg20.view.writes (Elt Ideal) G20 P.2) (by show 256 * n + 256 ≤ 1536; omega)
    refine ⟨fun e => ?_, fun e => ?_, fun e => ?_, fun e => ?_, fun y => ?_⟩
    · refine (sum0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 v5 v8 v12 v24 v28 v32 v36 X19 M ⟨n, by omega⟩ hX hm0 P.1 _ e (by show 256 * n + 256 ≤ 1536; omega)).trans ?_
      rw [i0, show 256 * (n + 1) = 256 * n + 256 from by ring, sumTo_step _ (by omega)]
    · refine (sum1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 v5 v8 v12 v24 v28 v32 v36 X19 M ⟨n, by omega⟩ hX hm1 P.1 _ e (by show 256 * n + 256 ≤ 1536; omega)).trans ?_
      rw [i1, show 256 * (n + 1) = 256 * n + 256 from by ring, sumTo_step _ (by omega)]
    · refine (sum2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 v5 v8 v12 v24 v28 v32 v36 X19 M ⟨n, by omega⟩ hX hm2 P.1 _ e (by show 256 * n + 256 ≤ 1536; omega)).trans ?_
      rw [i2, show 256 * (n + 1) = 256 * n + 256 from by ring, sumTo_step _ (by omega)]
    · refine (sum3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 v5 v8 v12 v24 v28 v32 v36 X19 M ⟨n, by omega⟩ hX hm3 P.1 _ e (by show 256 * n + 256 ≤ 1536; omega)).trans ?_
      rw [i3, show 256 * (n + 1) = 256 * n + 256 from by ring, sumTo_step _ (by omega)]
    · rw [View.writes_append, View.read_writes_apply_eq_canon _ _ _ _ (ht.2 y)]
      refine ((congrArg (fun L => View.canon L y) (List.append_nil _).symm).trans (View.canon_append_of_piecesOf _ [] _ ht.1 y (ht.2 y))).trans ?_
      show arg20.view.read (Elt Ideal) _ y + _ = _
      rw [ip, show 256 * (n + 1) = 256 * n + 256 from by ring, sumTo_step _ (by omega)]

end Cert.KernelIdeal.KSum

end
-- ==== Proof.KHead.lean ====
/- The kernel's window and selected branches, read at a column of a pair of heads. -/
module

public import proofs.«01_k».proof.Proof.KGeo
public import proofs.«01_k».proof.Proof.IBody
public import Idealize.ShloMosaic.Lib.Pipeline.ReadBack

@[expose] public section

set_option maxRecDepth 16384

noncomputable section

namespace Cert.KernelIdeal.KHead

open Cert.KernelIdeal Cert.KernelIdeal.Gen Cert.KernelIdeal.KPay Cert.KernelIdeal.KGeo Idealize.ShloMosaic Cert.Soft Cert.Spec
open scoped BigOperators

variable (c : Dev nD) (i : grid0.Coords) (arg2 : Memref sig .tc .smem S6 .f32) (harg2 : arg2.IsWhole) (arg3 : Memref sig .tc .vmem S1x8x160x128 .fp8e4m3) (harg3 : arg3.IsWhole) (arg4 : Memref sig .tc .vmem S1x8x128 .f32) (harg4 : arg4.IsWhole) (arg5 : Memref sig .tc .vmem S1x2x4x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S1x2x1024x128 .f32) (harg9 : arg9.IsWhole) (arg10 : Memref sig .tc .vmem S1x2x24576x256 .fp8e4m3) (harg10 : arg10.IsWhole) (arg11 : Memref sig .tc .vmem S1x2x160x24576 .fp8e4m3) (harg11 : arg11.IsWhole) (arg12 : Memref sig .tc .vmem S1x2x1536x256 .bf16) (harg12 : arg12.IsWhole) (arg13 : Memref sig .tc .vmem S1x2x160x1536 .bf16) (harg13 : arg13.IsWhole) (arg14 : Memref sig .tc .vmem S1x2x128x256 .bf16) (harg14 : arg14.IsWhole) (arg15 : Memref sig .tc .vmem S1x128x1280 .bf16) (harg15 : arg15.IsWhole) (arg16 : Memref sig .tc .vmem S1x8x160x128 .bf16) (harg16 : arg16.IsWhole) (arg17 : Memref sig .tc .vmem S1x8x160x128 .bf16) (harg17 : arg17.IsWhole) (arg18 : Memref sig .tc .vmem S1x8x160x128 .bf16) (harg18 : arg18.IsWhole) (arg19 : Memref sig .tc .vmem S4x1536x256 .f32) (harg19 : arg19.IsWhole) (arg20 : Memref sig .tc .vmem S4x160x256 .f32) (harg20 : arg20.IsWhole) (arg21 : Memref sig .tc .vmem S1280x128 .bf16) (harg21 : arg21.IsWhole)
variable (x0 : Vec Ideal S6 .f32) (x1 : Vec Ideal S1x8x160x128 .fp8e4m3) (x2 : Vec Ideal S1x8x128 .f32) (x3 : Vec Ideal S1x2x4x128 .f32) (x4 x5 x6 : Vec Ideal S1x8x128 .f32) (x7 : Vec Ideal S1x2x1024x128 .f32) (x8 : Vec Ideal S1x2x24576x256 .fp8e4m3) (x9 : Vec Ideal S1x2x160x24576 .fp8e4m3) (x10 : Vec Ideal S1x2x1536x256 .bf16) (x11 : Vec Ideal S1x2x160x1536 .bf16) (x12 : Vec Ideal S1x2x128x256 .bf16)

/-- A pair's key head. -/
theorem kv_hp (p : Fin 4) (e : Fin 256) : kv (hp p e) = ⟨p.val / 2, by omega⟩ := by
  apply Fin.ext; show (2 * p.val + e.val / 128) / 4 = p.val / 2; omega

/-- A pair's queries, from the two heads read. -/
theorem q_ce (p : Fin 4) (q0 q1 : Vec Ideal S1x1x160x128 .fp8e4m3)
    (hq0 : ∀ d c, q0 (ix4 0 0 d c) = x1 (ix4 0 (h0 p) d c)) (hq1 : ∀ d c, q1 (ix4 0 0 d c) = x1 (ix4 0 (h1 p) d c)) (x : Fin 160) (e : Fin 256) :
    ce (fun c => q0 (ix4 0 0 x c)) (fun c => q1 (ix4 0 0 x c)) e = (tA x0 x1 x2 x3 x4 x5 x6 x7 x8 x9 x10 x11 x12).q (i 0) (hp p e) x (tm (i 1) e) := by
  refine (ce_heads _ _ (fun h c => x1 (ix4 0 h x c)) p e (fun c => hq0 x c) (fun c => hq1 x c)).trans ?_
  exact congrArg (fun z => x1 (ix4 0 (hp p e) x z)) (tm_mod (i 1) e (Nat.mod_lt _ (by norm_num))).symm

/-- A pair's row of a per-head array, from the two heads read. -/
theorem s_ce (X : Vec Ideal S1x8x128 .f32) (p : Fin 4) (s0 s1 : Vec Ideal S1x1x128 .f32)
    (hs0 : ∀ c, s0 (ix3 0 0 c) = X (ix3 0 (h0 p) c)) (hs1 : ∀ c, s1 (ix3 0 0 c) = X (ix3 0 (h1 p) c)) (e : Fin 256) :
    ce (fun c => s0 (ix3 0 0 c)) (fun c => s1 (ix3 0 0 c)) e = X (ix3 0 (hp p e) ⟨(tm (i 1) e).val % 128, by omega⟩) := by
  refine (ce_heads _ _ (fun h c => X (ix3 0 h c)) p e hs0 hs1).trans ?_
  exact congrArg (fun z => X (ix3 0 (hp p e) z)) (tm_mod (i 1) e (Nat.mod_lt _ (by norm_num))).symm

/-- A pair's row of the maxima. -/
theorem m_ce (p : Fin 4) (m0 m1 : Vec Ideal S1x1x1x128 .f32)
    (hm0 : ∀ c, m0 (ix4 0 0 0 c) = x3 (ix4 0 (kv (h0 p)) (gq (h0 p)) c)) (hm1 : ∀ c, m1 (ix4 0 0 0 c) = x3 (ix4 0 (kv (h1 p)) (gq (h1 p)) c)) (e : Fin 256) :
    ce (fun c => m0 (ix4 0 0 0 c)) (fun c => m1 (ix4 0 0 0 c)) e = (tA x0 x1 x2 x3 x4 x5 x6 x7 x8 x9 x10 x11 x12).m (i 0) (kv (hp p e)) (gq (hp p e)) (tm (i 1) e) := by
  refine (ce_heads _ _ (fun h c => x3 (ix4 0 (kv h) (gq h) c)) p e hm0 hm1).trans ?_
  exact congrArg (fun z => x3 (ix4 0 (kv (hp p e)) (gq (hp p e)) z)) (tm_mod (i 1) e (Nat.mod_lt _ (by norm_num))).symm

/-- A pair's rows of the other blocks' sums: every eighth row from `r`. -/
theorem acc_ce (p : Fin 4) (u : ℕ) (hu : u = 0 ∨ u = 4) (a0 a1 : Vec Ideal S1x1x128x128 .f32)
    (ha0 : ∀ c l, a0 (ix4 0 0 c l) = x7 (ix4 0 (kv (h0 p)) ⟨8 * c.val + u + (h0 p).val % 4, by omega⟩ l))
    (ha1 : ∀ c l, a1 (ix4 0 0 c l) = x7 (ix4 0 (kv (h1 p)) ⟨8 * c.val + u + (h1 p).val % 4, by omega⟩ l)) (l : Fin 128) (e : Fin 256) :
    ce (fun c => a0 (ix4 0 0 c l)) (fun c => a1 (ix4 0 0 c l)) e
      = (tA x0 x1 x2 x3 x4 x5 x6 x7 x8 x9 x10 x11 x12).acc (i 0) (kv (hp p e)) ⟨(tm (i 1) e).val * 8 + u + (hp p e).val % 4, by omega⟩ l := by
  refine (ce_heads _ _ (fun h c => x7 (ix4 0 (kv h) ⟨8 * c.val + u + h.val % 4, by omega⟩ l)) p e (fun c => ha0 c l) (fun c => ha1 c l)).trans ?_
  refine congrArg (fun z => x7 (ix4 0 (kv (hp p e)) z l)) (Fin.ext ?_)
  have hi := (i 1).isLt
  show 8 * (e.val % 128) + u + (hp p e).val % 4 = ((128 * (i 1).val + e.val % 128) * 8 + u + (hp p e).val % 4) % 1024
  omega

/-- The value scale of key head 0. -/
theorem vs0 : (Hand.kernelRun.sl.r_9 (F := Ideal) c i arg2 harg2 x0) = (tA x0 x1 x2 x3 x4 x5 x6 x7 x8 x9 x10 x11 x12).vs (i 0) 0 := by
  refine (rd1 harg2 x0 (Rect.unit (s := S6) (k0_off25 i 0#32) S1.size (k0_off25_inb i 0)).toLoadRect _ ⟨(i 0).val * 2 + 0, by have : (i 0).val < 3 := (i 0).isLt; omega⟩ ?_).trans ?_
  · have h := congrFun (k0_off25_eq i 0) 0
    change k0_off25 i 0#32 0 = 2 * (i 0).val + 0 at h
    show k0_off25 i 0#32 0 + 1 * 0 = (i 0).val * 2 + 0
    omega
  · rfl

/-- The value scale of key head 1. -/
theorem vs1 : (Hand.kernelRun.sl.r_36 (F := Ideal) c i arg2 harg2 x0) = (tA x0 x1 x2 x3 x4 x5 x6 x7 x8 x9 x10 x11 x12).vs (i 0) 1 := by
  refine (rd1 harg2 x0 (Rect.unit (s := S6) (k0_off25 i 1#32) S1.size (k0_off25_inb i 1)).toLoadRect _ ⟨(i 0).val * 2 + 1, by have : (i 0).val < 3 := (i 0).isLt; omega⟩ ?_).trans ?_
  · have h := congrFun (k0_off25_eq i 1) 0
    change k0_off25 i 1#32 0 = 2 * (i 0).val + 1 at h
    show k0_off25 i 1#32 0 + 1 * 0 = (i 0).val * 2 + 1
    omega
  · rfl

/-- Pair 0: the window branch. -/
theorem win0 (d : Fin 160) (e : Fin 256) : (k0_pay81 (k0_pay72 (k0_pay54 i) (Scalar.maxsi (Scalar.subi (Scalar.muli (BitVec.ofNat 32 (i 1).val) 128#32) 512#32) 0#32)) (Hand.kernelRun.sl.r_9 (F := Ideal) c i arg2 harg2 x0) (k0_pay77 (View.readAt (Elt Ideal) arg11.view (Rect.unit (s := S1x2x160x24576) (k0_off26 i) S1x1x160x640.size (k0_off26_inb i)).toLoadRect (harg11.unread x9))) (View.readAt (Elt Ideal) arg3.view (Rect.unit (s := S1x8x160x128) ![0, 0, 0, 0] S1x1x160x128.size inb_S1x8x160x128_S1x1x160x128_0_0_0_0).toLoadRect (harg3.unread x1)) (View.readAt (Elt Ideal) arg3.view (Rect.unit (s := S1x8x160x128) ![0, 1, 0, 0] S1x1x160x128.size inb_S1x8x160x128_S1x1x160x128_0_1_0_0).toLoadRect (harg3.unread x1)) (View.readAt (Elt Ideal) arg4.view (Rect.unit (s := S1x8x128) ![0, 0, 0] S1x1x128.size inb_S1x8x128_S1x1x128_0_0_0).toLoadRect (harg4.unread x2)) (View.readAt (Elt Ideal) arg4.view (Rect.unit (s := S1x8x128) ![0, 1, 0] S1x1x128.size inb_S1x8x128_S1x1x128_0_1_0).toLoadRect (harg4.unread x2)) (View.readAt (Elt Ideal) arg10.view (Rect.unit (s := S1x2x24576x256) (k0_off28 i) S1x1x640x256.size (k0_off28_inb i)).toLoadRect (harg10.unread x8))) (ix2 d e) = ow (tA x0 x1 x2 x3 x4 x5 x6 x7 x8 x9 x10 x11 x12) (i 0) (hp 0 e) d (tm (i 1) e) := by
  have hi : (i 1).val < 192 := (i 1).isLt
  have ht : (tm (i 1) e).val = 128 * (i 1).val + e.val % 128 := rfl
  refine pay81_at (tA x0 x1 x2 x3 x4 x5 x6 x7 x8 x9 x10 x11 x12) (i 0) (hp 0 e) d (tm (i 1) e) e _ _ _ _ _ _ _ _ (128 * (i 1).val - 512) (by omega) ?_ ?_ ?_ ?_ ?_ ?_ ?_
  · intro x; exact q_ce i x0 x1 x2 x3 x4 x5 x6 x7 x8 x9 x10 x11 x12 0 _ _ (fun d c => rd4 harg3 x1 _ _ 0 (h0 0) d c rfl rfl (by simp) (by simp)) (fun d c => rd4 harg3 x1 _ _ 0 (h1 0) d c rfl rfl (by simp) (by simp)) x e
  · exact s_ce i x2 0 _ _ (fun c => rd3 harg4 x2 _ _ 0 (h0 0) c rfl rfl (by simp)) (fun c => rd3 harg4 x2 _ _ 0 (h1 0) c rfl rfl (by simp)) e
  · intro j x
    rw [kv_hp]
    refine rd4 harg10 x8 _ _ 0 0 _ _ ?_ ?_ ?_ ?_
    all_goals simp only [Rect.off_unit, Rect.stride_unit, off28]
    all_goals simp
  · intro j
    rw [kv_hp]
    refine (pay77_at d _ j).trans ?_
    refine rd4 harg11 x9 _ _ 0 0 _ _ ?_ ?_ ?_ ?_
    all_goals simp only [Rect.off_unit, Rect.stride_unit, off26]
    all_goals simp
  · rw [kv_hp]; exact vs0 c i arg2 harg2 x0 x1 x2 x3 x4 x5 x6 x7 x8 x9 x10 x11 x12
  · intro j; exact pay72_at (tm (i 1) e) e _ _ _ (by omega) j (pay54_at i e) (v7_eq i)
  · intro j hj; omega

/-- Pair 0: the scores of the query's own block. -/
theorem own0 (j : Fin 128) (e : Fin 256) :
    k0_pay82 (k0_pay76 (iota .tc S128x256 32 [0] iota_S128x256_d0_w32) k0_pay73 64#32 k0_pay74 k0_pay75) (k0_pay79 (View.readAt (Elt Ideal) arg3.view (Rect.unit (s := S1x8x160x128) ![0, 0, 0, 0] S1x1x160x128.size inb_S1x8x160x128_S1x1x160x128_0_0_0_0).toLoadRect (harg3.unread x1)) (View.readAt (Elt Ideal) arg3.view (Rect.unit (s := S1x8x160x128) ![0, 1, 0, 0] S1x1x160x128.size inb_S1x8x160x128_S1x1x160x128_0_1_0_0).toLoadRect (harg3.unread x1))) (k0_pay80 (View.readAt (Elt Ideal) arg4.view (Rect.unit (s := S1x8x128) ![0, 0, 0] S1x1x128.size inb_S1x8x128_S1x1x128_0_0_0).toLoadRect (harg4.unread x2)) (View.readAt (Elt Ideal) arg4.view (Rect.unit (s := S1x8x128) ![0, 1, 0] S1x1x128.size inb_S1x8x128_S1x1x128_0_1_0).toLoadRect (harg4.unread x2))) (View.readAt (Elt Ideal) arg5.view (Rect.unit (s := S1x2x4x128) ![0, 0, 0, 0] S1x1x1x128.size inb_S1x2x4x128_S1x1x1x128_0_0_0_0).toLoadRect (harg5.unread x3)) (View.readAt (Elt Ideal) arg5.view (Rect.unit (s := S1x2x4x128) ![0, 0, 1, 0] S1x1x1x128.size inb_S1x2x4x128_S1x1x1x128_0_0_1_0).toLoadRect (harg5.unread x3)) (View.readAt (Elt Ideal) arg14.view (Rect.unit (s := S1x2x128x256) ![0, 0, 0, 0] S1x1x128x160.size inb_S1x2x128x256_S1x1x128x160_0_0_0_0).toLoadRect (harg14.unread x12)) (ix2 j e)
      = Ideal.exp2 (xs (tA x0 x1 x2 x3 x4 x5 x6 x7 x8 x9 x10 x11 x12) (i 0) (hp 0 e) (tm (i 1) e) ⟨128 * (i 1).val + j.val, by have : (i 1).val < 192 := (i 1).isLt; omega⟩) := by
  have hi : (i 1).val < 192 := (i 1).isLt
  have ht : (tm (i 1) e).val = 128 * (i 1).val + e.val % 128 := rfl
  refine pay82_at (tA x0 x1 x2 x3 x4 x5 x6 x7 x8 x9 x10 x11 x12) (i 0) (hp 0 e) (tm (i 1) e) e _ _ _ _ _ _ j _ ?_ ?_ ?_ ?_ ?_
  · intro x; exact (pay79_at x e _ _).trans (q_ce i x0 x1 x2 x3 x4 x5 x6 x7 x8 x9 x10 x11 x12 0 _ _ (fun d c => rd4 harg3 x1 _ _ 0 (h0 0) d c rfl rfl (by simp) (by simp)) (fun d c => rd4 harg3 x1 _ _ 0 (h1 0) d c rfl rfl (by simp) (by simp)) x e)
  · exact (pay80_at e _ _).trans (s_ce i x2 0 _ _ (fun c => rd3 harg4 x2 _ _ 0 (h0 0) c rfl rfl (by simp)) (fun c => rd3 harg4 x2 _ _ 0 (h1 0) c rfl rfl (by simp)) e)
  · exact m_ce i x0 x1 x2 x3 x4 x5 x6 x7 x8 x9 x10 x11 x12 0 _ _ (fun c => rd4 harg5 x3 _ _ 0 (kv (h0 0)) (gq (h0 0)) c rfl rfl (by show 0 + 1 * 0 = (2 * 0) % 4; rfl) (by simp)) (fun c => rd4 harg5 x3 _ _ 0 (kv (h1 0)) (gq (h1 0)) c rfl rfl (by show 1 + 1 * 0 = (2 * 0 + 1) % 4; rfl) (by simp)) e
  · intro x
    rw [kv_hp]
    refine rd4 harg14 x12 _ _ 0 0 _ _ rfl rfl ?_ (by simp)
    show 0 + 1 * j.val = (128 * (i 1).val + j.val) % 128
    omega
  · refine (pay76_at e j).trans ?_
    show _ ↔ (128 * (i 1).val + j.val) / 64 = (tm (i 1) e).val / 64 ∧ 128 * (i 1).val + j.val ≤ (tm (i 1) e).val
    rw [ht]
    constructor <;> intro h <;> constructor <;> omega

/-- Pair 0: the selected branch. -/
theorem sel0 (d : Fin 160) (e : Fin 256) : (k0_pay88 (Hand.kernelRun.sl.r_9 (F := Ideal) c i arg2 harg2 x0) (k0_pay83 (k0_pay76 (iota .tc S128x256 32 [0] iota_S128x256_d0_w32) k0_pay73 64#32 k0_pay74 k0_pay75) (k0_pay78 (View.readAt (Elt Ideal) arg11.view (Rect.unit (s := S1x2x160x24576) (k0_off27 i) S1x1x160x128.size (k0_off27_inb i)).toLoadRect (harg11.unread x9))) (k0_pay79 (View.readAt (Elt Ideal) arg3.view (Rect.unit (s := S1x8x160x128) ![0, 0, 0, 0] S1x1x160x128.size inb_S1x8x160x128_S1x1x160x128_0_0_0_0).toLoadRect (harg3.unread x1)) (View.readAt (Elt Ideal) arg3.view (Rect.unit (s := S1x8x160x128) ![0, 1, 0, 0] S1x1x160x128.size inb_S1x8x160x128_S1x1x160x128_0_1_0_0).toLoadRect (harg3.unread x1))) (k0_pay80 (View.readAt (Elt Ideal) arg4.view (Rect.unit (s := S1x8x128) ![0, 0, 0] S1x1x128.size inb_S1x8x128_S1x1x128_0_0_0).toLoadRect (harg4.unread x2)) (View.readAt (Elt Ideal) arg4.view (Rect.unit (s := S1x8x128) ![0, 1, 0] S1x1x128.size inb_S1x8x128_S1x1x128_0_1_0).toLoadRect (harg4.unread x2))) (View.readAt (Elt Ideal) arg5.view (Rect.unit (s := S1x2x4x128) ![0, 0, 0, 0] S1x1x1x128.size inb_S1x2x4x128_S1x1x1x128_0_0_0_0).toLoadRect (harg5.unread x3)) (View.readAt (Elt Ideal) arg5.view (Rect.unit (s := S1x2x4x128) ![0, 0, 1, 0] S1x1x1x128.size inb_S1x2x4x128_S1x1x1x128_0_0_1_0).toLoadRect (harg5.unread x3)) (View.readAt (Elt Ideal) arg14.view (Rect.unit (s := S1x2x128x256) ![0, 0, 0, 0] S1x1x128x160.size inb_S1x2x128x256_S1x1x128x160_0_0_0_0).toLoadRect (harg14.unread x12))) (k0_pay84 (k0_pay76 (iota .tc S128x256 32 [0] iota_S128x256_d0_w32) k0_pay73 64#32 k0_pay74 k0_pay75) (k0_pay79 (View.readAt (Elt Ideal) arg3.view (Rect.unit (s := S1x8x160x128) ![0, 0, 0, 0] S1x1x160x128.size inb_S1x8x160x128_S1x1x160x128_0_0_0_0).toLoadRect (harg3.unread x1)) (View.readAt (Elt Ideal) arg3.view (Rect.unit (s := S1x8x160x128) ![0, 1, 0, 0] S1x1x160x128.size inb_S1x8x160x128_S1x1x160x128_0_1_0_0).toLoadRect (harg3.unread x1))) (k0_pay80 (View.readAt (Elt Ideal) arg4.view (Rect.unit (s := S1x8x128) ![0, 0, 0] S1x1x128.size inb_S1x8x128_S1x1x128_0_0_0).toLoadRect (harg4.unread x2)) (View.readAt (Elt Ideal) arg4.view (Rect.unit (s := S1x8x128) ![0, 1, 0] S1x1x128.size inb_S1x8x128_S1x1x128_0_1_0).toLoadRect (harg4.unread x2))) (View.readAt (Elt Ideal) arg5.view (Rect.unit (s := S1x2x4x128) ![0, 0, 0, 0] S1x1x1x128.size inb_S1x2x4x128_S1x1x1x128_0_0_0_0).toLoadRect (harg5.unread x3)) (View.readAt (Elt Ideal) arg5.view (Rect.unit (s := S1x2x4x128) ![0, 0, 1, 0] S1x1x1x128.size inb_S1x2x4x128_S1x1x1x128_0_0_1_0).toLoadRect (harg5.unread x3)) (View.readAt (Elt Ideal) arg14.view (Rect.unit (s := S1x2x128x256) ![0, 0, 0, 0] S1x1x128x160.size inb_S1x2x128x256_S1x1x128x160_0_0_0_0).toLoadRect (harg14.unread x12))) (k0_pay85 (View.readAt (Elt Ideal) arg9.view { off := ![0, 0, 0, 0], size := S1x1x128x128.size, stride := ![1, 1, 8, 1], inb := inb_S1x2x1024x128_S1x1x128x128_0_0_0_0_s_1_1_8_1 } (harg9.unread x7))) (k0_pay86 (View.readAt (Elt Ideal) arg9.view { off := ![0, 0, 1, 0], size := S1x1x128x128.size, stride := ![1, 1, 8, 1], inb := inb_S1x2x1024x128_S1x1x128x128_0_0_1_0_s_1_1_8_1 } (harg9.unread x7))) (k0_pay87 (View.readAt (Elt Ideal) arg9.view { off := ![0, 0, 4, 0], size := S1x1x128x128.size, stride := ![1, 1, 8, 1], inb := inb_S1x2x1024x128_S1x1x128x128_0_0_4_0_s_1_1_8_1 } (harg9.unread x7))) (View.readAt (Elt Ideal) arg9.view { off := ![0, 0, 5, 0], size := S1x1x128x128.size, stride := ![1, 1, 8, 1], inb := inb_S1x2x1024x128_S1x1x128x128_0_0_5_0_s_1_1_8_1 } (harg9.unread x7))) (ix2 d e) = os (tA x0 x1 x2 x3 x4 x5 x6 x7 x8 x9 x10 x11 x12) (i 0) (hp 0 e) d (tm (i 1) e) := by
  have hi : (i 1).val < 192 := (i 1).isLt
  have ht : (tm (i 1) e).val = 128 * (i 1).val + e.val % 128 := rfl
  have hb : ∀ J : Fin 24576, ¬ (J.val / 64 = (tm (i 1) e).val / 64 ∧ J.val ≤ (tm (i 1) e).val) → Ideal.exp2 (xs (tA x0 x1 x2 x3 x4 x5 x6 x7 x8 x9 x10 x11 x12) (i 0) (hp 0 e) (tm (i 1) e) J) = 0 := by
    intro J hJ; unfold xs; rw [if_neg hJ]; simp [exp2_bot]
  refine pay88_at (tA x0 x1 x2 x3 x4 x5 x6 x7 x8 x9 x10 x11 x12) (i 0) (hp 0 e) d (tm (i 1) e) e _ _ _ _ _ _ _ ?_ ?_ ?_ ?_ ?_
  · refine (pay83_at d e _ _ _ _ _ _ _).trans ?_
    refine Eq.trans (Finset.sum_congr rfl fun j _ => ?_) (own_sum (tm (i 1) e) (i 1) (by omega) (fun J => (tA x0 x1 x2 x3 x4 x5 x6 x7 x8 x9 x10 x11 x12).v (i 0) (kv (hp 0 e)) d J * Ideal.exp2 (xs (tA x0 x1 x2 x3 x4 x5 x6 x7 x8 x9 x10 x11 x12) (i 0) (hp 0 e) (tm (i 1) e) J)) fun J hJ => by show _ * _ = _; rw [hb J hJ, mul_zero])
    show _ = (tA x0 x1 x2 x3 x4 x5 x6 x7 x8 x9 x10 x11 x12).v (i 0) (kv (hp 0 e)) d _ * _
    rw [own0 i arg3 harg3 arg4 harg4 arg5 harg5 arg14 harg14 x0 x1 x2 x3 x4 x5 x6 x7 x8 x9 x10 x11 x12 j e]
    refine congrArg (· * _) ?_
    rw [kv_hp]
    refine (pay78_at d _ j).trans ?_
    refine rd4 harg11 x9 _ _ 0 0 _ _ ?_ ?_ ?_ ?_
    all_goals simp only [Rect.off_unit, Rect.stride_unit, k0_off27_eq]
    all_goals simp
  · refine (pay84_at e _ _ _ _ _ _).trans ?_
    refine Eq.trans (Finset.sum_congr rfl fun j _ => own0 i arg3 harg3 arg4 harg4 arg5 harg5 arg14 harg14 x0 x1 x2 x3 x4 x5 x6 x7 x8 x9 x10 x11 x12 j e) (own_sum (tm (i 1) e) (i 1) (by omega) (fun J => Ideal.exp2 (xs (tA x0 x1 x2 x3 x4 x5 x6 x7 x8 x9 x10 x11 x12) (i 0) (hp 0 e) (tm (i 1) e) J)) hb)
  · rw [kv_hp]; exact vs0 c i arg2 harg2 x0 x1 x2 x3 x4 x5 x6 x7 x8 x9 x10 x11 x12
  · intro l
    refine acc_ce i x0 x1 x2 x3 x4 x5 x6 x7 x8 x9 x10 x11 x12 0 0 (.inl rfl) _ _ (fun c l => rd4 harg9 x7 _ _ 0 (kv (h0 0)) _ l rfl rfl ?_ (by simp)) (fun c l => rd4 harg9 x7 _ _ 0 (kv (h1 0)) _ l rfl rfl ?_ (by simp)) l e
    · show 0 + 8 * c.val = 8 * c.val + 0 + (2 * 0) % 4; omega
    · show 1 + 8 * c.val = 8 * c.val + 0 + (2 * 0 + 1) % 4; omega
  · intro l
    refine acc_ce i x0 x1 x2 x3 x4 x5 x6 x7 x8 x9 x10 x11 x12 0 4 (.inr rfl) _ _ (fun c l => rd4 harg9 x7 _ _ 0 (kv (h0 0)) _ l rfl rfl ?_ (by simp)) (fun c l => rd4 harg9 x7 _ _ 0 (kv (h1 0)) _ l rfl rfl ?_ (by simp)) l e
    · show 4 + 8 * c.val = 8 * c.val + 4 + (2 * 0) % 4; omega
    · show 5 + 8 * c.val = 8 * c.val + 4 + (2 * 0 + 1) % 4; omega

/-- Pair 1: the window branch. -/
theorem win1 (d : Fin 160) (e : Fin 256) : (k0_pay81 (k0_pay72 (k0_pay54 i) (Scalar.maxsi (Scalar.subi (Scalar.muli (BitVec.ofNat 32 (i 1).val) 128#32) 512#32) 0#32)) (Hand.kernelRun.sl.r_9 (F := Ideal) c i arg2 harg2 x0) (k0_pay77 (View.readAt (Elt Ideal) arg11.view (Rect.unit (s := S1x2x160x24576) (k0_off26 i) S1x1x160x640.size (k0_off26_inb i)).toLoadRect (harg11.unread x9))) (View.readAt (Elt Ideal) arg3.view (Rect.unit (s := S1x8x160x128) ![0, 2, 0, 0] S1x1x160x128.size inb_S1x8x160x128_S1x1x160x128_0_2_0_0).toLoadRect (harg3.unread x1)) (View.readAt (Elt Ideal) arg3.view (Rect.unit (s := S1x8x160x128) ![0, 3, 0, 0] S1x1x160x128.size inb_S1x8x160x128_S1x1x160x128_0_3_0_0).toLoadRect (harg3.unread x1)) (View.readAt (Elt Ideal) arg4.view (Rect.unit (s := S1x8x128) ![0, 2, 0] S1x1x128.size inb_S1x8x128_S1x1x128_0_2_0).toLoadRect (harg4.unread x2)) (View.readAt (Elt Ideal) arg4.view (Rect.unit (s := S1x8x128) ![0, 3, 0] S1x1x128.size inb_S1x8x128_S1x1x128_0_3_0).toLoadRect (harg4.unread x2)) (View.readAt (Elt Ideal) arg10.view (Rect.unit (s := S1x2x24576x256) (k0_off28 i) S1x1x640x256.size (k0_off28_inb i)).toLoadRect (harg10.unread x8))) (ix2 d e) = ow (tA x0 x1 x2 x3 x4 x5 x6 x7 x8 x9 x10 x11 x12) (i 0) (hp 1 e) d (tm (i 1) e) := by
  have hi : (i 1).val < 192 := (i 1).isLt
  have ht : (tm (i 1) e).val = 128 * (i 1).val + e.val % 128 := rfl
  refine pay81_at (tA x0 x1 x2 x3 x4 x5 x6 x7 x8 x9 x10 x11 x12) (i 0) (hp 1 e) d (tm (i 1) e) e _ _ _ _ _ _ _ _ (128 * (i 1).val - 512) (by omega) ?_ ?_ ?_ ?_ ?_ ?_ ?_
  · intro x; exact q_ce i x0 x1 x2 x3 x4 x5 x6 x7 x8 x9 x10 x11 x12 1 _ _ (fun d c => rd4 harg3 x1 _ _ 0 (h0 1) d c rfl rfl (by simp) (by simp)) (fun d c => rd4 harg3 x1 _ _ 0 (h1 1) d c rfl rfl (by simp) (by simp)) x e
  · exact s_ce i x2 1 _ _ (fun c => rd3 harg4 x2 _ _ 0 (h0 1) c rfl rfl (by simp)) (fun c => rd3 harg4 x2 _ _ 0 (h1 1) c rfl rfl (by simp)) e
  · intro j x
    rw [kv_hp]
    refine rd4 harg10 x8 _ _ 0 0 _ _ ?_ ?_ ?_ ?_
    all_goals simp only [Rect.off_unit, Rect.stride_unit, off28]
    all_goals simp
  · intro j
    rw [kv_hp]
    refine (pay77_at d _ j).trans ?_
    refine rd4 harg11 x9 _ _ 0 0 _ _ ?_ ?_ ?_ ?_
    all_goals simp only [Rect.off_unit, Rect.stride_unit, off26]
    all_goals simp
  · rw [kv_hp]; exact vs0 c i arg2 harg2 x0 x1 x2 x3 x4 x5 x6 x7 x8 x9 x10 x11 x12
  · intro j; exact pay72_at (tm (i 1) e) e _ _ _ (by omega) j (pay54_at i e) (v7_eq i)
  · intro j hj; omega

/-- Pair 1: the scores of the query's own block. -/
theorem own1 (j : Fin 128) (e : Fin 256) :
    k0_pay82 (k0_pay76 (iota .tc S128x256 32 [0] iota_S128x256_d0_w32) k0_pay73 64#32 k0_pay74 k0_pay75) (k0_pay79 (View.readAt (Elt Ideal) arg3.view (Rect.unit (s := S1x8x160x128) ![0, 2, 0, 0] S1x1x160x128.size inb_S1x8x160x128_S1x1x160x128_0_2_0_0).toLoadRect (harg3.unread x1)) (View.readAt (Elt Ideal) arg3.view (Rect.unit (s := S1x8x160x128) ![0, 3, 0, 0] S1x1x160x128.size inb_S1x8x160x128_S1x1x160x128_0_3_0_0).toLoadRect (harg3.unread x1))) (k0_pay80 (View.readAt (Elt Ideal) arg4.view (Rect.unit (s := S1x8x128) ![0, 2, 0] S1x1x128.size inb_S1x8x128_S1x1x128_0_2_0).toLoadRect (harg4.unread x2)) (View.readAt (Elt Ideal) arg4.view (Rect.unit (s := S1x8x128) ![0, 3, 0] S1x1x128.size inb_S1x8x128_S1x1x128_0_3_0).toLoadRect (harg4.unread x2))) (View.readAt (Elt Ideal) arg5.view (Rect.unit (s := S1x2x4x128) ![0, 0, 2, 0] S1x1x1x128.size inb_S1x2x4x128_S1x1x1x128_0_0_2_0).toLoadRect (harg5.unread x3)) (View.readAt (Elt Ideal) arg5.view (Rect.unit (s := S1x2x4x128) ![0, 0, 3, 0] S1x1x1x128.size inb_S1x2x4x128_S1x1x1x128_0_0_3_0).toLoadRect (harg5.unread x3)) (View.readAt (Elt Ideal) arg14.view (Rect.unit (s := S1x2x128x256) ![0, 0, 0, 0] S1x1x128x160.size inb_S1x2x128x256_S1x1x128x160_0_0_0_0).toLoadRect (harg14.unread x12)) (ix2 j e)
      = Ideal.exp2 (xs (tA x0 x1 x2 x3 x4 x5 x6 x7 x8 x9 x10 x11 x12) (i 0) (hp 1 e) (tm (i 1) e) ⟨128 * (i 1).val + j.val, by have : (i 1).val < 192 := (i 1).isLt; omega⟩) := by
  have hi : (i 1).val < 192 := (i 1).isLt
  have ht : (tm (i 1) e).val = 128 * (i 1).val + e.val % 128 := rfl
  refine pay82_at (tA x0 x1 x2 x3 x4 x5 x6 x7 x8 x9 x10 x11 x12) (i 0) (hp 1 e) (tm (i 1) e) e _ _ _ _ _ _ j _ ?_ ?_ ?_ ?_ ?_
  · intro x; exact (pay79_at x e _ _).trans (q_ce i x0 x1 x2 x3 x4 x5 x6 x7 x8 x9 x10 x11 x12 1 _ _ (fun d c => rd4 harg3 x1 _ _ 0 (h0 1) d c rfl rfl (by simp) (by simp)) (fun d c => rd4 harg3 x1 _ _ 0 (h1 1) d c rfl rfl (by simp) (by simp)) x e)
  · exact (pay80_at e _ _).trans (s_ce i x2 1 _ _ (fun c => rd3 harg4 x2 _ _ 0 (h0 1) c rfl rfl (by simp)) (fun c => rd3 harg4 x2 _ _ 0 (h1 1) c rfl rfl (by simp)) e)
  · exact m_ce i x0 x1 x2 x3 x4 x5 x6 x7 x8 x9 x10 x11 x12 1 _ _ (fun c => rd4 harg5 x3 _ _ 0 (kv (h0 1)) (gq (h0 1)) c rfl rfl (by show 2 + 1 * 0 = (2 * 1) % 4; rfl) (by simp)) (fun c => rd4 harg5 x3 _ _ 0 (kv (h1 1)) (gq (h1 1)) c rfl rfl (by show 3 + 1 * 0 = (2 * 1 + 1) % 4; rfl) (by simp)) e
  · intro x
    rw [kv_hp]
    refine rd4 harg14 x12 _ _ 0 0 _ _ rfl rfl ?_ (by simp)
    show 0 + 1 * j.val = (128 * (i 1).val + j.val) % 128
    omega
  · refine (pay76_at e j).trans ?_
    show _ ↔ (128 * (i 1).val + j.val) / 64 = (tm (i 1) e).val / 64 ∧ 128 * (i 1).val + j.val ≤ (tm (i 1) e).val
    rw [ht]
    constructor <;> intro h <;> constructor <;> omega

/-- Pair 1: the selected branch. -/
theorem sel1 (d : Fin 160) (e : Fin 256) : (k0_pay88 (Hand.kernelRun.sl.r_9 (F := Ideal) c i arg2 harg2 x0) (k0_pay83 (k0_pay76 (iota .tc S128x256 32 [0] iota_S128x256_d0_w32) k0_pay73 64#32 k0_pay74 k0_pay75) (k0_pay78 (View.readAt (Elt Ideal) arg11.view (Rect.unit (s := S1x2x160x24576) (k0_off27 i) S1x1x160x128.size (k0_off27_inb i)).toLoadRect (harg11.unread x9))) (k0_pay79 (View.readAt (Elt Ideal) arg3.view (Rect.unit (s := S1x8x160x128) ![0, 2, 0, 0] S1x1x160x128.size inb_S1x8x160x128_S1x1x160x128_0_2_0_0).toLoadRect (harg3.unread x1)) (View.readAt (Elt Ideal) arg3.view (Rect.unit (s := S1x8x160x128) ![0, 3, 0, 0] S1x1x160x128.size inb_S1x8x160x128_S1x1x160x128_0_3_0_0).toLoadRect (harg3.unread x1))) (k0_pay80 (View.readAt (Elt Ideal) arg4.view (Rect.unit (s := S1x8x128) ![0, 2, 0] S1x1x128.size inb_S1x8x128_S1x1x128_0_2_0).toLoadRect (harg4.unread x2)) (View.readAt (Elt Ideal) arg4.view (Rect.unit (s := S1x8x128) ![0, 3, 0] S1x1x128.size inb_S1x8x128_S1x1x128_0_3_0).toLoadRect (harg4.unread x2))) (View.readAt (Elt Ideal) arg5.view (Rect.unit (s := S1x2x4x128) ![0, 0, 2, 0] S1x1x1x128.size inb_S1x2x4x128_S1x1x1x128_0_0_2_0).toLoadRect (harg5.unread x3)) (View.readAt (Elt Ideal) arg5.view (Rect.unit (s := S1x2x4x128) ![0, 0, 3, 0] S1x1x1x128.size inb_S1x2x4x128_S1x1x1x128_0_0_3_0).toLoadRect (harg5.unread x3)) (View.readAt (Elt Ideal) arg14.view (Rect.unit (s := S1x2x128x256) ![0, 0, 0, 0] S1x1x128x160.size inb_S1x2x128x256_S1x1x128x160_0_0_0_0).toLoadRect (harg14.unread x12))) (k0_pay84 (k0_pay76 (iota .tc S128x256 32 [0] iota_S128x256_d0_w32) k0_pay73 64#32 k0_pay74 k0_pay75) (k0_pay79 (View.readAt (Elt Ideal) arg3.view (Rect.unit (s := S1x8x160x128) ![0, 2, 0, 0] S1x1x160x128.size inb_S1x8x160x128_S1x1x160x128_0_2_0_0).toLoadRect (harg3.unread x1)) (View.readAt (Elt Ideal) arg3.view (Rect.unit (s := S1x8x160x128) ![0, 3, 0, 0] S1x1x160x128.size inb_S1x8x160x128_S1x1x160x128_0_3_0_0).toLoadRect (harg3.unread x1))) (k0_pay80 (View.readAt (Elt Ideal) arg4.view (Rect.unit (s := S1x8x128) ![0, 2, 0] S1x1x128.size inb_S1x8x128_S1x1x128_0_2_0).toLoadRect (harg4.unread x2)) (View.readAt (Elt Ideal) arg4.view (Rect.unit (s := S1x8x128) ![0, 3, 0] S1x1x128.size inb_S1x8x128_S1x1x128_0_3_0).toLoadRect (harg4.unread x2))) (View.readAt (Elt Ideal) arg5.view (Rect.unit (s := S1x2x4x128) ![0, 0, 2, 0] S1x1x1x128.size inb_S1x2x4x128_S1x1x1x128_0_0_2_0).toLoadRect (harg5.unread x3)) (View.readAt (Elt Ideal) arg5.view (Rect.unit (s := S1x2x4x128) ![0, 0, 3, 0] S1x1x1x128.size inb_S1x2x4x128_S1x1x1x128_0_0_3_0).toLoadRect (harg5.unread x3)) (View.readAt (Elt Ideal) arg14.view (Rect.unit (s := S1x2x128x256) ![0, 0, 0, 0] S1x1x128x160.size inb_S1x2x128x256_S1x1x128x160_0_0_0_0).toLoadRect (harg14.unread x12))) (k0_pay85 (View.readAt (Elt Ideal) arg9.view { off := ![0, 0, 2, 0], size := S1x1x128x128.size, stride := ![1, 1, 8, 1], inb := inb_S1x2x1024x128_S1x1x128x128_0_0_2_0_s_1_1_8_1 } (harg9.unread x7))) (k0_pay86 (View.readAt (Elt Ideal) arg9.view { off := ![0, 0, 3, 0], size := S1x1x128x128.size, stride := ![1, 1, 8, 1], inb := inb_S1x2x1024x128_S1x1x128x128_0_0_3_0_s_1_1_8_1 } (harg9.unread x7))) (k0_pay87 (View.readAt (Elt Ideal) arg9.view { off := ![0, 0, 6, 0], size := S1x1x128x128.size, stride := ![1, 1, 8, 1], inb := inb_S1x2x1024x128_S1x1x128x128_0_0_6_0_s_1_1_8_1 } (harg9.unread x7))) (View.readAt (Elt Ideal) arg9.view { off := ![0, 0, 7, 0], size := S1x1x128x128.size, stride := ![1, 1, 8, 1], inb := inb_S1x2x1024x128_S1x1x128x128_0_0_7_0_s_1_1_8_1 } (harg9.unread x7))) (ix2 d e) = os (tA x0 x1 x2 x3 x4 x5 x6 x7 x8 x9 x10 x11 x12) (i 0) (hp 1 e) d (tm (i 1) e) := by
  have hi : (i 1).val < 192 := (i 1).isLt
  have ht : (tm (i 1) e).val = 128 * (i 1).val + e.val % 128 := rfl
  have hb : ∀ J : Fin 24576, ¬ (J.val / 64 = (tm (i 1) e).val / 64 ∧ J.val ≤ (tm (i 1) e).val) → Ideal.exp2 (xs (tA x0 x1 x2 x3 x4 x5 x6 x7 x8 x9 x10 x11 x12) (i 0) (hp 1 e) (tm (i 1) e) J) = 0 := by
    intro J hJ; unfold xs; rw [if_neg hJ]; simp [exp2_bot]
  refine pay88_at (tA x0 x1 x2 x3 x4 x5 x6 x7 x8 x9 x10 x11 x12) (i 0) (hp 1 e) d (tm (i 1) e) e _ _ _ _ _ _ _ ?_ ?_ ?_ ?_ ?_
  · refine (pay83_at d e _ _ _ _ _ _ _).trans ?_
    refine Eq.trans (Finset.sum_congr rfl fun j _ => ?_) (own_sum (tm (i 1) e) (i 1) (by omega) (fun J => (tA x0 x1 x2 x3 x4 x5 x6 x7 x8 x9 x10 x11 x12).v (i 0) (kv (hp 1 e)) d J * Ideal.exp2 (xs (tA x0 x1 x2 x3 x4 x5 x6 x7 x8 x9 x10 x11 x12) (i 0) (hp 1 e) (tm (i 1) e) J)) fun J hJ => by show _ * _ = _; rw [hb J hJ, mul_zero])
    show _ = (tA x0 x1 x2 x3 x4 x5 x6 x7 x8 x9 x10 x11 x12).v (i 0) (kv (hp 1 e)) d _ * _
    rw [own1 i arg3 harg3 arg4 harg4 arg5 harg5 arg14 harg14 x0 x1 x2 x3 x4 x5 x6 x7 x8 x9 x10 x11 x12 j e]
    refine congrArg (· * _) ?_
    rw [kv_hp]
    refine (pay78_at d _ j).trans ?_
    refine rd4 harg11 x9 _ _ 0 0 _ _ ?_ ?_ ?_ ?_
    all_goals simp only [Rect.off_unit, Rect.stride_unit, k0_off27_eq]
    all_goals simp
  · refine (pay84_at e _ _ _ _ _ _).trans ?_
    refine Eq.trans (Finset.sum_congr rfl fun j _ => own1 i arg3 harg3 arg4 harg4 arg5 harg5 arg14 harg14 x0 x1 x2 x3 x4 x5 x6 x7 x8 x9 x10 x11 x12 j e) (own_sum (tm (i 1) e) (i 1) (by omega) (fun J => Ideal.exp2 (xs (tA x0 x1 x2 x3 x4 x5 x6 x7 x8 x9 x10 x11 x12) (i 0) (hp 1 e) (tm (i 1) e) J)) hb)
  · rw [kv_hp]; exact vs0 c i arg2 harg2 x0 x1 x2 x3 x4 x5 x6 x7 x8 x9 x10 x11 x12
  · intro l
    refine acc_ce i x0 x1 x2 x3 x4 x5 x6 x7 x8 x9 x10 x11 x12 1 0 (.inl rfl) _ _ (fun c l => rd4 harg9 x7 _ _ 0 (kv (h0 1)) _ l rfl rfl ?_ (by simp)) (fun c l => rd4 harg9 x7 _ _ 0 (kv (h1 1)) _ l rfl rfl ?_ (by simp)) l e
    · show 2 + 8 * c.val = 8 * c.val + 0 + (2 * 1) % 4; omega
    · show 3 + 8 * c.val = 8 * c.val + 0 + (2 * 1 + 1) % 4; omega
  · intro l
    refine acc_ce i x0 x1 x2 x3 x4 x5 x6 x7 x8 x9 x10 x11 x12 1 4 (.inr rfl) _ _ (fun c l => rd4 harg9 x7 _ _ 0 (kv (h0 1)) _ l rfl rfl ?_ (by simp)) (fun c l => rd4 harg9 x7 _ _ 0 (kv (h1 1)) _ l rfl rfl ?_ (by simp)) l e
    · show 6 + 8 * c.val = 8 * c.val + 4 + (2 * 1) % 4; omega
    · show 7 + 8 * c.val = 8 * c.val + 4 + (2 * 1 + 1) % 4; omega

/-- Pair 2: the window branch. -/
theorem win2 (d : Fin 160) (e : Fin 256) : (k0_pay81 (k0_pay72 (k0_pay54 i) (Scalar.maxsi (Scalar.subi (Scalar.muli (BitVec.ofNat 32 (i 1).val) 128#32) 512#32) 0#32)) (Hand.kernelRun.sl.r_36 (F := Ideal) c i arg2 harg2 x0) (k0_pay77 (View.readAt (Elt Ideal) arg11.view (Rect.unit (s := S1x2x160x24576) (k0_off29 i) S1x1x160x640.size (k0_off29_inb i)).toLoadRect (harg11.unread x9))) (View.readAt (Elt Ideal) arg3.view (Rect.unit (s := S1x8x160x128) ![0, 4, 0, 0] S1x1x160x128.size inb_S1x8x160x128_S1x1x160x128_0_4_0_0).toLoadRect (harg3.unread x1)) (View.readAt (Elt Ideal) arg3.view (Rect.unit (s := S1x8x160x128) ![0, 5, 0, 0] S1x1x160x128.size inb_S1x8x160x128_S1x1x160x128_0_5_0_0).toLoadRect (harg3.unread x1)) (View.readAt (Elt Ideal) arg4.view (Rect.unit (s := S1x8x128) ![0, 4, 0] S1x1x128.size inb_S1x8x128_S1x1x128_0_4_0).toLoadRect (harg4.unread x2)) (View.readAt (Elt Ideal) arg4.view (Rect.unit (s := S1x8x128) ![0, 5, 0] S1x1x128.size inb_S1x8x128_S1x1x128_0_5_0).toLoadRect (harg4.unread x2)) (View.readAt (Elt Ideal) arg10.view (Rect.unit (s := S1x2x24576x256) (k0_off31 i) S1x1x640x256.size (k0_off31_inb i)).toLoadRect (harg10.unread x8))) (ix2 d e) = ow (tA x0 x1 x2 x3 x4 x5 x6 x7 x8 x9 x10 x11 x12) (i 0) (hp 2 e) d (tm (i 1) e) := by
  have hi : (i 1).val < 192 := (i 1).isLt
  have ht : (tm (i 1) e).val = 128 * (i 1).val + e.val % 128 := rfl
  refine pay81_at (tA x0 x1 x2 x3 x4 x5 x6 x7 x8 x9 x10 x11 x12) (i 0) (hp 2 e) d (tm (i 1) e) e _ _ _ _ _ _ _ _ (128 * (i 1).val - 512) (by omega) ?_ ?_ ?_ ?_ ?_ ?_ ?_
  · intro x; exact q_ce i x0 x1 x2 x3 x4 x5 x6 x7 x8 x9 x10 x11 x12 2 _ _ (fun d c => rd4 harg3 x1 _ _ 0 (h0 2) d c rfl rfl (by simp) (by simp)) (fun d c => rd4 harg3 x1 _ _ 0 (h1 2) d c rfl rfl (by simp) (by simp)) x e
  · exact s_ce i x2 2 _ _ (fun c => rd3 harg4 x2 _ _ 0 (h0 2) c rfl rfl (by simp)) (fun c => rd3 harg4 x2 _ _ 0 (h1 2) c rfl rfl (by simp)) e
  · intro j x
    rw [kv_hp]
    refine rd4 harg10 x8 _ _ 0 1 _ _ ?_ ?_ ?_ ?_
    all_goals simp only [Rect.off_unit, Rect.stride_unit, off31]
    all_goals simp
  · intro j
    rw [kv_hp]
    refine (pay77_at d _ j).trans ?_
    refine rd4 harg11 x9 _ _ 0 1 _ _ ?_ ?_ ?_ ?_
    all_goals simp only [Rect.off_unit, Rect.stride_unit, off29]
    all_goals simp
  · rw [kv_hp]; exact vs1 c i arg2 harg2 x0 x1 x2 x3 x4 x5 x6 x7 x8 x9 x10 x11 x12
  · intro j; exact pay72_at (tm (i 1) e) e _ _ _ (by omega) j (pay54_at i e) (v7_eq i)
  · intro j hj; omega

/-- Pair 2: the scores of the query's own block. -/
theorem own2 (j : Fin 128) (e : Fin 256) :
    k0_pay82 (k0_pay76 (iota .tc S128x256 32 [0] iota_S128x256_d0_w32) k0_pay73 64#32 k0_pay74 k0_pay75) (k0_pay79 (View.readAt (Elt Ideal) arg3.view (Rect.unit (s := S1x8x160x128) ![0, 4, 0, 0] S1x1x160x128.size inb_S1x8x160x128_S1x1x160x128_0_4_0_0).toLoadRect (harg3.unread x1)) (View.readAt (Elt Ideal) arg3.view (Rect.unit (s := S1x8x160x128) ![0, 5, 0, 0] S1x1x160x128.size inb_S1x8x160x128_S1x1x160x128_0_5_0_0).toLoadRect (harg3.unread x1))) (k0_pay80 (View.readAt (Elt Ideal) arg4.view (Rect.unit (s := S1x8x128) ![0, 4, 0] S1x1x128.size inb_S1x8x128_S1x1x128_0_4_0).toLoadRect (harg4.unread x2)) (View.readAt (Elt Ideal) arg4.view (Rect.unit (s := S1x8x128) ![0, 5, 0] S1x1x128.size inb_S1x8x128_S1x1x128_0_5_0).toLoadRect (harg4.unread x2))) (View.readAt (Elt Ideal) arg5.view (Rect.unit (s := S1x2x4x128) ![0, 1, 0, 0] S1x1x1x128.size inb_S1x2x4x128_S1x1x1x128_0_1_0_0).toLoadRect (harg5.unread x3)) (View.readAt (Elt Ideal) arg5.view (Rect.unit (s := S1x2x4x128) ![0, 1, 1, 0] S1x1x1x128.size inb_S1x2x4x128_S1x1x1x128_0_1_1_0).toLoadRect (harg5.unread x3)) (View.readAt (Elt Ideal) arg14.view (Rect.unit (s := S1x2x128x256) ![0, 1, 0, 0] S1x1x128x160.size inb_S1x2x128x256_S1x1x128x160_0_1_0_0).toLoadRect (harg14.unread x12)) (ix2 j e)
      = Ideal.exp2 (xs (tA x0 x1 x2 x3 x4 x5 x6 x7 x8 x9 x10 x11 x12) (i 0) (hp 2 e) (tm (i 1) e) ⟨128 * (i 1).val + j.val, by have : (i 1).val < 192 := (i 1).isLt; omega⟩) := by
  have hi : (i 1).val < 192 := (i 1).isLt
  have ht : (tm (i 1) e).val = 128 * (i 1).val + e.val % 128 := rfl
  refine pay82_at (tA x0 x1 x2 x3 x4 x5 x6 x7 x8 x9 x10 x11 x12) (i 0) (hp 2 e) (tm (i 1) e) e _ _ _ _ _ _ j _ ?_ ?_ ?_ ?_ ?_
  · intro x; exact (pay79_at x e _ _).trans (q_ce i x0 x1 x2 x3 x4 x5 x6 x7 x8 x9 x10 x11 x12 2 _ _ (fun d c => rd4 harg3 x1 _ _ 0 (h0 2) d c rfl rfl (by simp) (by simp)) (fun d c => rd4 harg3 x1 _ _ 0 (h1 2) d c rfl rfl (by simp) (by simp)) x e)
  · exact (pay80_at e _ _).trans (s_ce i x2 2 _ _ (fun c => rd3 harg4 x2 _ _ 0 (h0 2) c rfl rfl (by simp)) (fun c => rd3 harg4 x2 _ _ 0 (h1 2) c rfl rfl (by simp)) e)
  · exact m_ce i x0 x1 x2 x3 x4 x5 x6 x7 x8 x9 x10 x11 x12 2 _ _ (fun c => rd4 harg5 x3 _ _ 0 (kv (h0 2)) (gq (h0 2)) c rfl rfl (by show 0 + 1 * 0 = (2 * 2) % 4; rfl) (by simp)) (fun c => rd4 harg5 x3 _ _ 0 (kv (h1 2)) (gq (h1 2)) c rfl rfl (by show 1 + 1 * 0 = (2 * 2 + 1) % 4; rfl) (by simp)) e
  · intro x
    rw [kv_hp]
    refine rd4 harg14 x12 _ _ 0 1 _ _ rfl rfl ?_ (by simp)
    show 0 + 1 * j.val = (128 * (i 1).val + j.val) % 128
    omega
  · refine (pay76_at e j).trans ?_
    show _ ↔ (128 * (i 1).val + j.val) / 64 = (tm (i 1) e).val / 64 ∧ 128 * (i 1).val + j.val ≤ (tm (i 1) e).val
    rw [ht]
    constructor <;> intro h <;> constructor <;> omega

/-- Pair 2: the selected branch. -/
theorem sel2 (d : Fin 160) (e : Fin 256) : (k0_pay88 (Hand.kernelRun.sl.r_36 (F := Ideal) c i arg2 harg2 x0) (k0_pay83 (k0_pay76 (iota .tc S128x256 32 [0] iota_S128x256_d0_w32) k0_pay73 64#32 k0_pay74 k0_pay75) (k0_pay78 (View.readAt (Elt Ideal) arg11.view (Rect.unit (s := S1x2x160x24576) (k0_off30 i) S1x1x160x128.size (k0_off30_inb i)).toLoadRect (harg11.unread x9))) (k0_pay79 (View.readAt (Elt Ideal) arg3.view (Rect.unit (s := S1x8x160x128) ![0, 4, 0, 0] S1x1x160x128.size inb_S1x8x160x128_S1x1x160x128_0_4_0_0).toLoadRect (harg3.unread x1)) (View.readAt (Elt Ideal) arg3.view (Rect.unit (s := S1x8x160x128) ![0, 5, 0, 0] S1x1x160x128.size inb_S1x8x160x128_S1x1x160x128_0_5_0_0).toLoadRect (harg3.unread x1))) (k0_pay80 (View.readAt (Elt Ideal) arg4.view (Rect.unit (s := S1x8x128) ![0, 4, 0] S1x1x128.size inb_S1x8x128_S1x1x128_0_4_0).toLoadRect (harg4.unread x2)) (View.readAt (Elt Ideal) arg4.view (Rect.unit (s := S1x8x128) ![0, 5, 0] S1x1x128.size inb_S1x8x128_S1x1x128_0_5_0).toLoadRect (harg4.unread x2))) (View.readAt (Elt Ideal) arg5.view (Rect.unit (s := S1x2x4x128) ![0, 1, 0, 0] S1x1x1x128.size inb_S1x2x4x128_S1x1x1x128_0_1_0_0).toLoadRect (harg5.unread x3)) (View.readAt (Elt Ideal) arg5.view (Rect.unit (s := S1x2x4x128) ![0, 1, 1, 0] S1x1x1x128.size inb_S1x2x4x128_S1x1x1x128_0_1_1_0).toLoadRect (harg5.unread x3)) (View.readAt (Elt Ideal) arg14.view (Rect.unit (s := S1x2x128x256) ![0, 1, 0, 0] S1x1x128x160.size inb_S1x2x128x256_S1x1x128x160_0_1_0_0).toLoadRect (harg14.unread x12))) (k0_pay84 (k0_pay76 (iota .tc S128x256 32 [0] iota_S128x256_d0_w32) k0_pay73 64#32 k0_pay74 k0_pay75) (k0_pay79 (View.readAt (Elt Ideal) arg3.view (Rect.unit (s := S1x8x160x128) ![0, 4, 0, 0] S1x1x160x128.size inb_S1x8x160x128_S1x1x160x128_0_4_0_0).toLoadRect (harg3.unread x1)) (View.readAt (Elt Ideal) arg3.view (Rect.unit (s := S1x8x160x128) ![0, 5, 0, 0] S1x1x160x128.size inb_S1x8x160x128_S1x1x160x128_0_5_0_0).toLoadRect (harg3.unread x1))) (k0_pay80 (View.readAt (Elt Ideal) arg4.view (Rect.unit (s := S1x8x128) ![0, 4, 0] S1x1x128.size inb_S1x8x128_S1x1x128_0_4_0).toLoadRect (harg4.unread x2)) (View.readAt (Elt Ideal) arg4.view (Rect.unit (s := S1x8x128) ![0, 5, 0] S1x1x128.size inb_S1x8x128_S1x1x128_0_5_0).toLoadRect (harg4.unread x2))) (View.readAt (Elt Ideal) arg5.view (Rect.unit (s := S1x2x4x128) ![0, 1, 0, 0] S1x1x1x128.size inb_S1x2x4x128_S1x1x1x128_0_1_0_0).toLoadRect (harg5.unread x3)) (View.readAt (Elt Ideal) arg5.view (Rect.unit (s := S1x2x4x128) ![0, 1, 1, 0] S1x1x1x128.size inb_S1x2x4x128_S1x1x1x128_0_1_1_0).toLoadRect (harg5.unread x3)) (View.readAt (Elt Ideal) arg14.view (Rect.unit (s := S1x2x128x256) ![0, 1, 0, 0] S1x1x128x160.size inb_S1x2x128x256_S1x1x128x160_0_1_0_0).toLoadRect (harg14.unread x12))) (k0_pay85 (View.readAt (Elt Ideal) arg9.view { off := ![0, 1, 0, 0], size := S1x1x128x128.size, stride := ![1, 1, 8, 1], inb := inb_S1x2x1024x128_S1x1x128x128_0_1_0_0_s_1_1_8_1 } (harg9.unread x7))) (k0_pay86 (View.readAt (Elt Ideal) arg9.view { off := ![0, 1, 1, 0], size := S1x1x128x128.size, stride := ![1, 1, 8, 1], inb := inb_S1x2x1024x128_S1x1x128x128_0_1_1_0_s_1_1_8_1 } (harg9.unread x7))) (k0_pay87 (View.readAt (Elt Ideal) arg9.view { off := ![0, 1, 4, 0], size := S1x1x128x128.size, stride := ![1, 1, 8, 1], inb := inb_S1x2x1024x128_S1x1x128x128_0_1_4_0_s_1_1_8_1 } (harg9.unread x7))) (View.readAt (Elt Ideal) arg9.view { off := ![0, 1, 5, 0], size := S1x1x128x128.size, stride := ![1, 1, 8, 1], inb := inb_S1x2x1024x128_S1x1x128x128_0_1_5_0_s_1_1_8_1 } (harg9.unread x7))) (ix2 d e) = os (tA x0 x1 x2 x3 x4 x5 x6 x7 x8 x9 x10 x11 x12) (i 0) (hp 2 e) d (tm (i 1) e) := by
  have hi : (i 1).val < 192 := (i 1).isLt
  have ht : (tm (i 1) e).val = 128 * (i 1).val + e.val % 128 := rfl
  have hb : ∀ J : Fin 24576, ¬ (J.val / 64 = (tm (i 1) e).val / 64 ∧ J.val ≤ (tm (i 1) e).val) → Ideal.exp2 (xs (tA x0 x1 x2 x3 x4 x5 x6 x7 x8 x9 x10 x11 x12) (i 0) (hp 2 e) (tm (i 1) e) J) = 0 := by
    intro J hJ; unfold xs; rw [if_neg hJ]; simp [exp2_bot]
  refine pay88_at (tA x0 x1 x2 x3 x4 x5 x6 x7 x8 x9 x10 x11 x12) (i 0) (hp 2 e) d (tm (i 1) e) e _ _ _ _ _ _ _ ?_ ?_ ?_ ?_ ?_
  · refine (pay83_at d e _ _ _ _ _ _ _).trans ?_
    refine Eq.trans (Finset.sum_congr rfl fun j _ => ?_) (own_sum (tm (i 1) e) (i 1) (by omega) (fun J => (tA x0 x1 x2 x3 x4 x5 x6 x7 x8 x9 x10 x11 x12).v (i 0) (kv (hp 2 e)) d J * Ideal.exp2 (xs (tA x0 x1 x2 x3 x4 x5 x6 x7 x8 x9 x10 x11 x12) (i 0) (hp 2 e) (tm (i 1) e) J)) fun J hJ => by show _ * _ = _; rw [hb J hJ, mul_zero])
    show _ = (tA x0 x1 x2 x3 x4 x5 x6 x7 x8 x9 x10 x11 x12).v (i 0) (kv (hp 2 e)) d _ * _
    rw [own2 i arg3 harg3 arg4 harg4 arg5 harg5 arg14 harg14 x0 x1 x2 x3 x4 x5 x6 x7 x8 x9 x10 x11 x12 j e]
    refine congrArg (· * _) ?_
    rw [kv_hp]
    refine (pay78_at d _ j).trans ?_
    refine rd4 harg11 x9 _ _ 0 1 _ _ ?_ ?_ ?_ ?_
    all_goals simp only [Rect.off_unit, Rect.stride_unit, k0_off30_eq]
    all_goals simp
  · refine (pay84_at e _ _ _ _ _ _).trans ?_
    refine Eq.trans (Finset.sum_congr rfl fun j _ => own2 i arg3 harg3 arg4 harg4 arg5 harg5 arg14 harg14 x0 x1 x2 x3 x4 x5 x6 x7 x8 x9 x10 x11 x12 j e) (own_sum (tm (i 1) e) (i 1) (by omega) (fun J => Ideal.exp2 (xs (tA x0 x1 x2 x3 x4 x5 x6 x7 x8 x9 x10 x11 x12) (i 0) (hp 2 e) (tm (i 1) e) J)) hb)
  · rw [kv_hp]; exact vs1 c i arg2 harg2 x0 x1 x2 x3 x4 x5 x6 x7 x8 x9 x10 x11 x12
  · intro l
    refine acc_ce i x0 x1 x2 x3 x4 x5 x6 x7 x8 x9 x10 x11 x12 2 0 (.inl rfl) _ _ (fun c l => rd4 harg9 x7 _ _ 0 (kv (h0 2)) _ l rfl rfl ?_ (by simp)) (fun c l => rd4 harg9 x7 _ _ 0 (kv (h1 2)) _ l rfl rfl ?_ (by simp)) l e
    · show 0 + 8 * c.val = 8 * c.val + 0 + (2 * 2) % 4; omega
    · show 1 + 8 * c.val = 8 * c.val + 0 + (2 * 2 + 1) % 4; omega
  · intro l
    refine acc_ce i x0 x1 x2 x3 x4 x5 x6 x7 x8 x9 x10 x11 x12 2 4 (.inr rfl) _ _ (fun c l => rd4 harg9 x7 _ _ 0 (kv (h0 2)) _ l rfl rfl ?_ (by simp)) (fun c l => rd4 harg9 x7 _ _ 0 (kv (h1 2)) _ l rfl rfl ?_ (by simp)) l e
    · show 4 + 8 * c.val = 8 * c.val + 4 + (2 * 2) % 4; omega
    · show 5 + 8 * c.val = 8 * c.val + 4 + (2 * 2 + 1) % 4; omega

/-- Pair 3: the window branch. -/
theorem win3 (d : Fin 160) (e : Fin 256) : (k0_pay81 (k0_pay72 (k0_pay54 i) (Scalar.maxsi (Scalar.subi (Scalar.muli (BitVec.ofNat 32 (i 1).val) 128#32) 512#32) 0#32)) (Hand.kernelRun.sl.r_36 (F := Ideal) c i arg2 harg2 x0) (k0_pay77 (View.readAt (Elt Ideal) arg11.view (Rect.unit (s := S1x2x160x24576) (k0_off29 i) S1x1x160x640.size (k0_off29_inb i)).toLoadRect (harg11.unread x9))) (View.readAt (Elt Ideal) arg3.view (Rect.unit (s := S1x8x160x128) ![0, 6, 0, 0] S1x1x160x128.size inb_S1x8x160x128_S1x1x160x128_0_6_0_0).toLoadRect (harg3.unread x1)) (View.readAt (Elt Ideal) arg3.view (Rect.unit (s := S1x8x160x128) ![0, 7, 0, 0] S1x1x160x128.size inb_S1x8x160x128_S1x1x160x128_0_7_0_0).toLoadRect (harg3.unread x1)) (View.readAt (Elt Ideal) arg4.view (Rect.unit (s := S1x8x128) ![0, 6, 0] S1x1x128.size inb_S1x8x128_S1x1x128_0_6_0).toLoadRect (harg4.unread x2)) (View.readAt (Elt Ideal) arg4.view (Rect.unit (s := S1x8x128) ![0, 7, 0] S1x1x128.size inb_S1x8x128_S1x1x128_0_7_0).toLoadRect (harg4.unread x2)) (View.readAt (Elt Ideal) arg10.view (Rect.unit (s := S1x2x24576x256) (k0_off31 i) S1x1x640x256.size (k0_off31_inb i)).toLoadRect (harg10.unread x8))) (ix2 d e) = ow (tA x0 x1 x2 x3 x4 x5 x6 x7 x8 x9 x10 x11 x12) (i 0) (hp 3 e) d (tm (i 1) e) := by
  have hi : (i 1).val < 192 := (i 1).isLt
  have ht : (tm (i 1) e).val = 128 * (i 1).val + e.val % 128 := rfl
  refine pay81_at (tA x0 x1 x2 x3 x4 x5 x6 x7 x8 x9 x10 x11 x12) (i 0) (hp 3 e) d (tm (i 1) e) e _ _ _ _ _ _ _ _ (128 * (i 1).val - 512) (by omega) ?_ ?_ ?_ ?_ ?_ ?_ ?_
  · intro x; exact q_ce i x0 x1 x2 x3 x4 x5 x6 x7 x8 x9 x10 x11 x12 3 _ _ (fun d c => rd4 harg3 x1 _ _ 0 (h0 3) d c rfl rfl (by simp) (by simp)) (fun d c => rd4 harg3 x1 _ _ 0 (h1 3) d c rfl rfl (by simp) (by simp)) x e
  · exact s_ce i x2 3 _ _ (fun c => rd3 harg4 x2 _ _ 0 (h0 3) c rfl rfl (by simp)) (fun c => rd3 harg4 x2 _ _ 0 (h1 3) c rfl rfl (by simp)) e
  · intro j x
    rw [kv_hp]
    refine rd4 harg10 x8 _ _ 0 1 _ _ ?_ ?_ ?_ ?_
    all_goals simp only [Rect.off_unit, Rect.stride_unit, off31]
    all_goals simp
  · intro j
    rw [kv_hp]
    refine (pay77_at d _ j).trans ?_
    refine rd4 harg11 x9 _ _ 0 1 _ _ ?_ ?_ ?_ ?_
    all_goals simp only [Rect.off_unit, Rect.stride_unit, off29]
    all_goals simp
  · rw [kv_hp]; exact vs1 c i arg2 harg2 x0 x1 x2 x3 x4 x5 x6 x7 x8 x9 x10 x11 x12
  · intro j; exact pay72_at (tm (i 1) e) e _ _ _ (by omega) j (pay54_at i e) (v7_eq i)
  · intro j hj; omega

/-- Pair 3: the scores of the query's own block. -/
theorem own3 (j : Fin 128) (e : Fin 256) :
    k0_pay82 (k0_pay76 (iota .tc S128x256 32 [0] iota_S128x256_d0_w32) k0_pay73 64#32 k0_pay74 k0_pay75) (k0_pay79 (View.readAt (Elt Ideal) arg3.view (Rect.unit (s := S1x8x160x128) ![0, 6, 0, 0] S1x1x160x128.size inb_S1x8x160x128_S1x1x160x128_0_6_0_0).toLoadRect (harg3.unread x1)) (View.readAt (Elt Ideal) arg3.view (Rect.unit (s := S1x8x160x128) ![0, 7, 0, 0] S1x1x160x128.size inb_S1x8x160x128_S1x1x160x128_0_7_0_0).toLoadRect (harg3.unread x1))) (k0_pay80 (View.readAt (Elt Ideal) arg4.view (Rect.unit (s := S1x8x128) ![0, 6, 0] S1x1x128.size inb_S1x8x128_S1x1x128_0_6_0).toLoadRect (harg4.unread x2)) (View.readAt (Elt Ideal) arg4.view (Rect.unit (s := S1x8x128) ![0, 7, 0] S1x1x128.size inb_S1x8x128_S1x1x128_0_7_0).toLoadRect (harg4.unread x2))) (View.readAt (Elt Ideal) arg5.view (Rect.unit (s := S1x2x4x128) ![0, 1, 2, 0] S1x1x1x128.size inb_S1x2x4x128_S1x1x1x128_0_1_2_0).toLoadRect (harg5.unread x3)) (View.readAt (Elt Ideal) arg5.view (Rect.unit (s := S1x2x4x128) ![0, 1, 3, 0] S1x1x1x128.size inb_S1x2x4x128_S1x1x1x128_0_1_3_0).toLoadRect (harg5.unread x3)) (View.readAt (Elt Ideal) arg14.view (Rect.unit (s := S1x2x128x256) ![0, 1, 0, 0] S1x1x128x160.size inb_S1x2x128x256_S1x1x128x160_0_1_0_0).toLoadRect (harg14.unread x12)) (ix2 j e)
      = Ideal.exp2 (xs (tA x0 x1 x2 x3 x4 x5 x6 x7 x8 x9 x10 x11 x12) (i 0) (hp 3 e) (tm (i 1) e) ⟨128 * (i 1).val + j.val, by have : (i 1).val < 192 := (i 1).isLt; omega⟩) := by
  have hi : (i 1).val < 192 := (i 1).isLt
  have ht : (tm (i 1) e).val = 128 * (i 1).val + e.val % 128 := rfl
  refine pay82_at (tA x0 x1 x2 x3 x4 x5 x6 x7 x8 x9 x10 x11 x12) (i 0) (hp 3 e) (tm (i 1) e) e _ _ _ _ _ _ j _ ?_ ?_ ?_ ?_ ?_
  · intro x; exact (pay79_at x e _ _).trans (q_ce i x0 x1 x2 x3 x4 x5 x6 x7 x8 x9 x10 x11 x12 3 _ _ (fun d c => rd4 harg3 x1 _ _ 0 (h0 3) d c rfl rfl (by simp) (by simp)) (fun d c => rd4 harg3 x1 _ _ 0 (h1 3) d c rfl rfl (by simp) (by simp)) x e)
  · exact (pay80_at e _ _).trans (s_ce i x2 3 _ _ (fun c => rd3 harg4 x2 _ _ 0 (h0 3) c rfl rfl (by simp)) (fun c => rd3 harg4 x2 _ _ 0 (h1 3) c rfl rfl (by simp)) e)
  · exact m_ce i x0 x1 x2 x3 x4 x5 x6 x7 x8 x9 x10 x11 x12 3 _ _ (fun c => rd4 harg5 x3 _ _ 0 (kv (h0 3)) (gq (h0 3)) c rfl rfl (by show 2 + 1 * 0 = (2 * 3) % 4; rfl) (by simp)) (fun c => rd4 harg5 x3 _ _ 0 (kv (h1 3)) (gq (h1 3)) c rfl rfl (by show 3 + 1 * 0 = (2 * 3 + 1) % 4; rfl) (by simp)) e
  · intro x
    rw [kv_hp]
    refine rd4 harg14 x12 _ _ 0 1 _ _ rfl rfl ?_ (by simp)
    show 0 + 1 * j.val = (128 * (i 1).val + j.val) % 128
    omega
  · refine (pay76_at e j).trans ?_
    show _ ↔ (128 * (i 1).val + j.val) / 64 = (tm (i 1) e).val / 64 ∧ 128 * (i 1).val + j.val ≤ (tm (i 1) e).val
    rw [ht]
    constructor <;> intro h <;> constructor <;> omega

/-- Pair 3: the selected branch. -/
theorem sel3 (d : Fin 160) (e : Fin 256) : (k0_pay88 (Hand.kernelRun.sl.r_36 (F := Ideal) c i arg2 harg2 x0) (k0_pay83 (k0_pay76 (iota .tc S128x256 32 [0] iota_S128x256_d0_w32) k0_pay73 64#32 k0_pay74 k0_pay75) (k0_pay78 (View.readAt (Elt Ideal) arg11.view (Rect.unit (s := S1x2x160x24576) (k0_off30 i) S1x1x160x128.size (k0_off30_inb i)).toLoadRect (harg11.unread x9))) (k0_pay79 (View.readAt (Elt Ideal) arg3.view (Rect.unit (s := S1x8x160x128) ![0, 6, 0, 0] S1x1x160x128.size inb_S1x8x160x128_S1x1x160x128_0_6_0_0).toLoadRect (harg3.unread x1)) (View.readAt (Elt Ideal) arg3.view (Rect.unit (s := S1x8x160x128) ![0, 7, 0, 0] S1x1x160x128.size inb_S1x8x160x128_S1x1x160x128_0_7_0_0).toLoadRect (harg3.unread x1))) (k0_pay80 (View.readAt (Elt Ideal) arg4.view (Rect.unit (s := S1x8x128) ![0, 6, 0] S1x1x128.size inb_S1x8x128_S1x1x128_0_6_0).toLoadRect (harg4.unread x2)) (View.readAt (Elt Ideal) arg4.view (Rect.unit (s := S1x8x128) ![0, 7, 0] S1x1x128.size inb_S1x8x128_S1x1x128_0_7_0).toLoadRect (harg4.unread x2))) (View.readAt (Elt Ideal) arg5.view (Rect.unit (s := S1x2x4x128) ![0, 1, 2, 0] S1x1x1x128.size inb_S1x2x4x128_S1x1x1x128_0_1_2_0).toLoadRect (harg5.unread x3)) (View.readAt (Elt Ideal) arg5.view (Rect.unit (s := S1x2x4x128) ![0, 1, 3, 0] S1x1x1x128.size inb_S1x2x4x128_S1x1x1x128_0_1_3_0).toLoadRect (harg5.unread x3)) (View.readAt (Elt Ideal) arg14.view (Rect.unit (s := S1x2x128x256) ![0, 1, 0, 0] S1x1x128x160.size inb_S1x2x128x256_S1x1x128x160_0_1_0_0).toLoadRect (harg14.unread x12))) (k0_pay84 (k0_pay76 (iota .tc S128x256 32 [0] iota_S128x256_d0_w32) k0_pay73 64#32 k0_pay74 k0_pay75) (k0_pay79 (View.readAt (Elt Ideal) arg3.view (Rect.unit (s := S1x8x160x128) ![0, 6, 0, 0] S1x1x160x128.size inb_S1x8x160x128_S1x1x160x128_0_6_0_0).toLoadRect (harg3.unread x1)) (View.readAt (Elt Ideal) arg3.view (Rect.unit (s := S1x8x160x128) ![0, 7, 0, 0] S1x1x160x128.size inb_S1x8x160x128_S1x1x160x128_0_7_0_0).toLoadRect (harg3.unread x1))) (k0_pay80 (View.readAt (Elt Ideal) arg4.view (Rect.unit (s := S1x8x128) ![0, 6, 0] S1x1x128.size inb_S1x8x128_S1x1x128_0_6_0).toLoadRect (harg4.unread x2)) (View.readAt (Elt Ideal) arg4.view (Rect.unit (s := S1x8x128) ![0, 7, 0] S1x1x128.size inb_S1x8x128_S1x1x128_0_7_0).toLoadRect (harg4.unread x2))) (View.readAt (Elt Ideal) arg5.view (Rect.unit (s := S1x2x4x128) ![0, 1, 2, 0] S1x1x1x128.size inb_S1x2x4x128_S1x1x1x128_0_1_2_0).toLoadRect (harg5.unread x3)) (View.readAt (Elt Ideal) arg5.view (Rect.unit (s := S1x2x4x128) ![0, 1, 3, 0] S1x1x1x128.size inb_S1x2x4x128_S1x1x1x128_0_1_3_0).toLoadRect (harg5.unread x3)) (View.readAt (Elt Ideal) arg14.view (Rect.unit (s := S1x2x128x256) ![0, 1, 0, 0] S1x1x128x160.size inb_S1x2x128x256_S1x1x128x160_0_1_0_0).toLoadRect (harg14.unread x12))) (k0_pay85 (View.readAt (Elt Ideal) arg9.view { off := ![0, 1, 2, 0], size := S1x1x128x128.size, stride := ![1, 1, 8, 1], inb := inb_S1x2x1024x128_S1x1x128x128_0_1_2_0_s_1_1_8_1 } (harg9.unread x7))) (k0_pay86 (View.readAt (Elt Ideal) arg9.view { off := ![0, 1, 3, 0], size := S1x1x128x128.size, stride := ![1, 1, 8, 1], inb := inb_S1x2x1024x128_S1x1x128x128_0_1_3_0_s_1_1_8_1 } (harg9.unread x7))) (k0_pay87 (View.readAt (Elt Ideal) arg9.view { off := ![0, 1, 6, 0], size := S1x1x128x128.size, stride := ![1, 1, 8, 1], inb := inb_S1x2x1024x128_S1x1x128x128_0_1_6_0_s_1_1_8_1 } (harg9.unread x7))) (View.readAt (Elt Ideal) arg9.view { off := ![0, 1, 7, 0], size := S1x1x128x128.size, stride := ![1, 1, 8, 1], inb := inb_S1x2x1024x128_S1x1x128x128_0_1_7_0_s_1_1_8_1 } (harg9.unread x7))) (ix2 d e) = os (tA x0 x1 x2 x3 x4 x5 x6 x7 x8 x9 x10 x11 x12) (i 0) (hp 3 e) d (tm (i 1) e) := by
  have hi : (i 1).val < 192 := (i 1).isLt
  have ht : (tm (i 1) e).val = 128 * (i 1).val + e.val % 128 := rfl
  have hb : ∀ J : Fin 24576, ¬ (J.val / 64 = (tm (i 1) e).val / 64 ∧ J.val ≤ (tm (i 1) e).val) → Ideal.exp2 (xs (tA x0 x1 x2 x3 x4 x5 x6 x7 x8 x9 x10 x11 x12) (i 0) (hp 3 e) (tm (i 1) e) J) = 0 := by
    intro J hJ; unfold xs; rw [if_neg hJ]; simp [exp2_bot]
  refine pay88_at (tA x0 x1 x2 x3 x4 x5 x6 x7 x8 x9 x10 x11 x12) (i 0) (hp 3 e) d (tm (i 1) e) e _ _ _ _ _ _ _ ?_ ?_ ?_ ?_ ?_
  · refine (pay83_at d e _ _ _ _ _ _ _).trans ?_
    refine Eq.trans (Finset.sum_congr rfl fun j _ => ?_) (own_sum (tm (i 1) e) (i 1) (by omega) (fun J => (tA x0 x1 x2 x3 x4 x5 x6 x7 x8 x9 x10 x11 x12).v (i 0) (kv (hp 3 e)) d J * Ideal.exp2 (xs (tA x0 x1 x2 x3 x4 x5 x6 x7 x8 x9 x10 x11 x12) (i 0) (hp 3 e) (tm (i 1) e) J)) fun J hJ => by show _ * _ = _; rw [hb J hJ, mul_zero])
    show _ = (tA x0 x1 x2 x3 x4 x5 x6 x7 x8 x9 x10 x11 x12).v (i 0) (kv (hp 3 e)) d _ * _
    rw [own3 i arg3 harg3 arg4 harg4 arg5 harg5 arg14 harg14 x0 x1 x2 x3 x4 x5 x6 x7 x8 x9 x10 x11 x12 j e]
    refine congrArg (· * _) ?_
    rw [kv_hp]
    refine (pay78_at d _ j).trans ?_
    refine rd4 harg11 x9 _ _ 0 1 _ _ ?_ ?_ ?_ ?_
    all_goals simp only [Rect.off_unit, Rect.stride_unit, k0_off30_eq]
    all_goals simp
  · refine (pay84_at e _ _ _ _ _ _).trans ?_
    refine Eq.trans (Finset.sum_congr rfl fun j _ => own3 i arg3 harg3 arg4 harg4 arg5 harg5 arg14 harg14 x0 x1 x2 x3 x4 x5 x6 x7 x8 x9 x10 x11 x12 j e) (own_sum (tm (i 1) e) (i 1) (by omega) (fun J => Ideal.exp2 (xs (tA x0 x1 x2 x3 x4 x5 x6 x7 x8 x9 x10 x11 x12) (i 0) (hp 3 e) (tm (i 1) e) J)) hb)
  · rw [kv_hp]; exact vs1 c i arg2 harg2 x0 x1 x2 x3 x4 x5 x6 x7 x8 x9 x10 x11 x12
  · intro l
    refine acc_ce i x0 x1 x2 x3 x4 x5 x6 x7 x8 x9 x10 x11 x12 3 0 (.inl rfl) _ _ (fun c l => rd4 harg9 x7 _ _ 0 (kv (h0 3)) _ l rfl rfl ?_ (by simp)) (fun c l => rd4 harg9 x7 _ _ 0 (kv (h1 3)) _ l rfl rfl ?_ (by simp)) l e
    · show 2 + 8 * c.val = 8 * c.val + 0 + (2 * 3) % 4; omega
    · show 3 + 8 * c.val = 8 * c.val + 0 + (2 * 3 + 1) % 4; omega
  · intro l
    refine acc_ce i x0 x1 x2 x3 x4 x5 x6 x7 x8 x9 x10 x11 x12 3 4 (.inr rfl) _ _ (fun c l => rd4 harg9 x7 _ _ 0 (kv (h0 3)) _ l rfl rfl ?_ (by simp)) (fun c l => rd4 harg9 x7 _ _ 0 (kv (h1 3)) _ l rfl rfl ?_ (by simp)) l e
    · show 6 + 8 * c.val = 8 * c.val + 4 + (2 * 3) % 4; omega
    · show 7 + 8 * c.val = 8 * c.val + 4 + (2 * 3 + 1) % 4; omega

end Cert.KernelIdeal.KHead

end
-- ==== Proof.KCmp.lean ====
/- The kernel's compressed branch, read at a column of a pair of heads. -/
module

public import proofs.«01_k».proof.Proof.KSum
public import proofs.«01_k».proof.Proof.KHead
public import Idealize.ShloMosaic.Lib.Pipeline.ReadBack

@[expose] public section

set_option maxRecDepth 16384

noncomputable section

namespace Cert.KernelIdeal.KCmp

open Cert.KernelIdeal Cert.KernelIdeal.KLoop Cert.KernelIdeal.KSum Cert.KernelIdeal.KHead Cert.KernelIdeal.Gen Cert.KernelIdeal.KPay Cert.KernelIdeal.KGeo Idealize.ShloMosaic Cert.Soft Cert.Spec
open scoped BigOperators

variable (c : Dev nD) (i : grid0.Coords) (arg2 : Memref sig .tc .smem S6 .f32) (harg2 : arg2.IsWhole) (arg3 : Memref sig .tc .vmem S1x8x160x128 .fp8e4m3) (harg3 : arg3.IsWhole) (arg4 : Memref sig .tc .vmem S1x8x128 .f32) (harg4 : arg4.IsWhole) (arg5 : Memref sig .tc .vmem S1x2x4x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S1x2x1024x128 .f32) (harg9 : arg9.IsWhole) (arg10 : Memref sig .tc .vmem S1x2x24576x256 .fp8e4m3) (harg10 : arg10.IsWhole) (arg11 : Memref sig .tc .vmem S1x2x160x24576 .fp8e4m3) (harg11 : arg11.IsWhole) (arg12 : Memref sig .tc .vmem S1x2x1536x256 .bf16) (harg12 : arg12.IsWhole) (arg13 : Memref sig .tc .vmem S1x2x160x1536 .bf16) (harg13 : arg13.IsWhole) (arg14 : Memref sig .tc .vmem S1x2x128x256 .bf16) (harg14 : arg14.IsWhole) (arg15 : Memref sig .tc .vmem S1x128x1280 .bf16) (harg15 : arg15.IsWhole) (arg16 : Memref sig .tc .vmem S1x8x160x128 .bf16) (harg16 : arg16.IsWhole) (arg17 : Memref sig .tc .vmem S1x8x160x128 .bf16) (harg17 : arg17.IsWhole) (arg18 : Memref sig .tc .vmem S1x8x160x128 .bf16) (harg18 : arg18.IsWhole) (arg19 : Memref sig .tc .vmem S4x1536x256 .f32) (harg19 : arg19.IsWhole) (arg20 : Memref sig .tc .vmem S4x160x256 .f32) (harg20 : arg20.IsWhole) (arg21 : Memref sig .tc .vmem S1280x128 .bf16) (harg21 : arg21.IsWhole)
variable (x0 : Vec Ideal S6 .f32) (x1 : Vec Ideal S1x8x160x128 .fp8e4m3) (x2 : Vec Ideal S1x8x128 .f32) (x3 : Vec Ideal S1x2x4x128 .f32) (x4 x5 x6 : Vec Ideal S1x8x128 .f32) (x7 : Vec Ideal S1x2x1024x128 .f32) (x8 : Vec Ideal S1x2x24576x256 .fp8e4m3) (x9 : Vec Ideal S1x2x160x24576 .fp8e4m3) (x10 : Vec Ideal S1x2x1536x256 .bf16) (x11 : Vec Ideal S1x2x160x1536 .bf16) (x12 : Vec Ideal S1x2x128x256 .bf16)
variable (fs0 : BufTy.Contents (Elt Ideal) arg19.view.ty)

/-- The maximum the second loop subtracts: the first loop's, guarded. -/
def Mx (p : Fin 4) (e : Fin 256) : EReal := gd (topTo (xr i x0 x1 x2 x3 x4 x5 x6 x7 x8 x9 x10 x11 x12 p e) (256 * (k0_t1_loop i).trips))

theorem n1 : Scf.trips (k0_t1_loop i).lb (k0_t1_loop i).ub (k0_t1_loop i).st = (k0_t1_loop i).trips := rfl
theorem n3 : Scf.trips (k0_t3_loop i).lb (k0_t3_loop i).ub (k0_t3_loop i).st = (k0_t3_loop i).trips := rfl
theorem n2 : Scf.trips (k0_t2_loop i).lb (k0_t2_loop i).ub (k0_t2_loop i).st = 0 := t2_trips i
theorem n4 : Scf.trips (k0_t4_loop i).lb (k0_t4_loop i).ub (k0_t4_loop i).st = 0 := t4_trips i
theorem n31 : (k0_t3_loop i).trips = (k0_t1_loop i).trips := (t3_trips i).trans (t1_trips i).symm

/-- Pair 0: the maxima after the first loop. -/
theorem mx0 (e : Fin 256) : (Hand.kernelRun.sl.r (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10) (ix2 0 e) = Mx i x0 x1 x2 x3 x4 x5 x6 x7 x8 x9 x10 x11 x12 0 e := by
  unfold Hand.kernelRun.sl.r
  unfold Mx
  have h1 := n1 i
  rw [n2]
  generalize Scf.trips (k0_t1_loop i).lb (k0_t1_loop i).ub (k0_t1_loop i).st = N at h1 ⊢
  rw [← h1]
  refine (pay62_at e _).trans (congrArg gd ?_)
  exact (loop1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 N (Nat.le_of_eq h1)).1 e

/-- Pair 1: the maxima after the first loop. -/
theorem mx1 (e : Fin 256) : (Hand.kernelRun.sl.r_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10) (ix2 0 e) = Mx i x0 x1 x2 x3 x4 x5 x6 x7 x8 x9 x10 x11 x12 1 e := by
  unfold Hand.kernelRun.sl.r_1
  unfold Mx
  have h1 := n1 i
  rw [n2]
  generalize Scf.trips (k0_t1_loop i).lb (k0_t1_loop i).ub (k0_t1_loop i).st = N at h1 ⊢
  rw [← h1]
  refine (pay62_at e _).trans (congrArg gd ?_)
  exact (loop1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 N (Nat.le_of_eq h1)).2.1 e

/-- Pair 2: the maxima after the first loop. -/
theorem mx2 (e : Fin 256) : (Hand.kernelRun.sl.r_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10) (ix2 0 e) = Mx i x0 x1 x2 x3 x4 x5 x6 x7 x8 x9 x10 x11 x12 2 e := by
  unfold Hand.kernelRun.sl.r_2
  unfold Mx
  have h1 := n1 i
  rw [n2]
  generalize Scf.trips (k0_t1_loop i).lb (k0_t1_loop i).ub (k0_t1_loop i).st = N at h1 ⊢
  rw [← h1]
  refine (pay62_at e _).trans (congrArg gd ?_)
  exact (loop1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 N (Nat.le_of_eq h1)).2.2.1 e

/-- Pair 3: the maxima after the first loop. -/
theorem mx3 (e : Fin 256) : (Hand.kernelRun.sl.r_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10) (ix2 0 e) = Mx i x0 x1 x2 x3 x4 x5 x6 x7 x8 x9 x10 x11 x12 3 e := by
  unfold Hand.kernelRun.sl.r_3
  unfold Mx
  have h1 := n1 i
  rw [n2]
  generalize Scf.trips (k0_t1_loop i).lb (k0_t1_loop i).ub (k0_t1_loop i).st = N at h1 ⊢
  rw [← h1]
  refine (pay62_at e _).trans (congrArg gd ?_)
  exact (loop1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 N (Nat.le_of_eq h1)).2.2.2.1 e

/-- The stored scores, read back. -/
theorem scX (N : ℕ) (hN : N = (k0_t1_loop i).trips) (L2 : List (View.Piece (Elt Ideal) S4x1536x256 .f32)) (h2 : L2 = []) (y : S4x1536x256.Idx) (hy : (y 1).val < 256 * (k0_t3_loop i).trips) :
    arg19.view.read (Elt Ideal) (arg19.view.writes (Elt Ideal) fs0 (L2 ++ (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg3.unread x1) (harg4.unread x2) (harg12.unread x10) (k0_pay55, k0_pay55, k0_pay55, k0_pay55) N).2)) y = GS i x0 x1 x2 x3 x4 x5 x6 x7 x8 x9 x10 x11 x12 y := by
  subst h2
  rw [n31, ← hN] at hy
  obtain ⟨-, -, -, -, hp, hc⟩ := loop1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 N (Nat.le_of_eq hN)
  rw [List.nil_append, View.read_writes_apply_eq_canon _ _ _ _ (hc y hy)]
  exact (congrArg (fun L => View.canon L y) (List.append_nil _).symm).trans (View.canon_append_of_piecesOf _ [] _ hp y (hc y hy))

/-- The cleared sums, read back. -/
theorem zero20 (y : S4x160x256.Idx) : arg20.view.read (Elt Ideal) (arg20.view.writes (Elt Ideal) arg20.view.junk (Hand.kernelRun.sl.HS1_1 (F := Ideal) )) y = (0 : EReal) := by
  rw [View.read_writes_junk_apply_eq_canon]
  have hp : View.PiecesOf (Val := Elt Ideal) (e := .f32) (fun _ : S4x160x256.Idx => (0 : EReal)) (Hand.kernelRun.sl.HS1_1 (F := Ideal) ) := by
    refine ⟨fun x => ?_, trivial⟩
    obtain ⟨p, d, e, rfl⟩ : ∃ (p : Fin 4) (d : Fin 160) (e : Fin 256), x = ix3 p d e := ⟨x 0, x 1, x 2, by funext a; match a with | ⟨0, _⟩ => rfl | ⟨1, _⟩ => rfl | ⟨2, _⟩ => rfl⟩
    exact pay66_at d e p
  have hc : ∃ q ∈ (Hand.kernelRun.sl.HS1_1 (F := Ideal) ), y ∈ q.1.set := by
    refine ⟨_, List.mem_cons_self, ?_⟩
    show y ∈ (Rect.unit (s := S4x160x256) ![0, 0, 0] S4x160x256.size inb_S4x160x256_S4x160x256_0_0_0).set
    rw [Rect.mem_set_unit]
    intro a
    match a with
    | ⟨0, _⟩ => exact ⟨Nat.zero_le _, by show (y 0).val < 0 + 4; have : (y 0).val < 4 := (y 0).isLt; omega⟩
    | ⟨1, _⟩ => exact ⟨Nat.zero_le _, by show (y 1).val < 0 + 160; have : (y 1).val < 160 := (y 1).isLt; omega⟩
    | ⟨2, _⟩ => exact ⟨Nat.zero_le _, by show (y 2).val < 0 + 256; have : (y 2).val < 256 := (y 2).isLt; omega⟩
  exact (congrArg (fun L => View.canon L y) (List.append_nil _).symm).trans (View.canon_append_of_piecesOf _ [] _ hp y hc)

/-- Pair 0: the sum of weights after the second loop. -/
theorem ls0 (e : Fin 256) : (Hand.kernelRun.sl.r_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (ix2 0 e) = sumTo (ef i x0 x1 x2 x3 x4 x5 x6 x7 x8 x9 x10 x11 x12 (Mx i x0 x1 x2 x3 x4 x5 x6 x7 x8 x9 x10 x11 x12) 0 e) (256 * (k0_t1_loop i).trips) := by
  unfold Hand.kernelRun.sl.r_4
  have h1 := n1 i
  have h3 := (n31 i).symm
  have h4 := n4 i
  generalize Scf.trips (k0_t4_loop i).lb (k0_t4_loop i).ub (k0_t4_loop i).st = N4 at h4 ⊢
  subst h4
  rw [st_k0_t4.eq_1, st_k0_t2.eq_1]
  dsimp only
  generalize Scf.trips (k0_t1_loop i).lb (k0_t1_loop i).ub (k0_t1_loop i).st = N at h1 ⊢
  rw [← h1]
  exact (loop3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 _ _ _ _ _ _ _ _ (Mx i x0 x1 x2 x3 x4 x5 x6 x7 x8 x9 x10 x11 x12) (scX c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 N h1 _ rfl) (fun e => mx0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 e) (fun e => mx1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 e) (fun e => mx2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 e) (fun e => mx3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 e) _ (zero20 arg20) N (Nat.le_of_eq (h1.trans h3))).1 e

/-- Pair 0: the weighted sums after the second loop. -/
theorem os0 (d : Fin 160) (e : Fin 256) : (Hand.kernelRun.sl.v204 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (ix3 0 d e) = sumTo (of i x0 x1 x2 x3 x4 x5 x6 x7 x8 x9 x10 x11 x12 (Mx i x0 x1 x2 x3 x4 x5 x6 x7 x8 x9 x10 x11 x12) 0 d e) (256 * (k0_t1_loop i).trips) := by
  unfold Hand.kernelRun.sl.v204
  have h1 := n1 i
  have h3 := (n31 i).symm
  have h4 := n4 i
  generalize Scf.trips (k0_t4_loop i).lb (k0_t4_loop i).ub (k0_t4_loop i).st = N4 at h4 ⊢
  subst h4
  rw [st_k0_t4.eq_1, st_k0_t2.eq_1]
  dsimp only
  generalize Scf.trips (k0_t1_loop i).lb (k0_t1_loop i).ub (k0_t1_loop i).st = N at h1 ⊢
  rw [← h1]
  have h := (loop3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 (k0_pay54 i) (Hand.kernelRun.sl.v7 i) (Hand.kernelRun.sl.v12 i) (Hand.kernelRun.sl.r (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10) (Hand.kernelRun.sl.r_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10) (Hand.kernelRun.sl.r_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10) (Hand.kernelRun.sl.r_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10) _ (Mx i x0 x1 x2 x3 x4 x5 x6 x7 x8 x9 x10 x11 x12) (scX c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 N h1 [] rfl) (fun e => mx0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 e) (fun e => mx1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 e) (fun e => mx2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 e) (fun e => mx3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 e) _ (zero20 arg20) N (Nat.le_of_eq (h1.trans h3))).2.2.2.2 (ix3 0 d e)
  rw [← View.writes_append, View.read_writes_junk_apply_eq_canon] at h
  refine (congrFun (View.readCov_eq_canon' (Val := Elt Ideal) _ _ _) _).trans (Eq.trans (congrArg (View.canon (Val := Elt Ideal) _) ?_) h)
  funext a
  apply Fin.ext
  match a with
  | ⟨0, _⟩ => simp [LoadRect.idx, ix3]
  | ⟨1, _⟩ => simp [LoadRect.idx, ix3]
  | ⟨2, _⟩ => simp [LoadRect.idx, ix3]

/-- Pair 0: the compressed branch. -/
theorem cmp0 (d : Fin 160) (e : Fin 256) : k0_pay89 (Hand.kernelRun.sl.r_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (Hand.kernelRun.sl.r_9 (F := Ideal) c i arg2 harg2 x0) (Hand.kernelRun.sl.v204 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (ix2 d e) = oc (tA x0 x1 x2 x3 x4 x5 x6 x7 x8 x9 x10 x11 x12) (i 0) (hp 0 e) d (tm (i 1) e) := by
  have hi : (i 1).val < 192 := (i 1).isLt
  have ht : (tm (i 1) e).val = 128 * (i 1).val + e.val % 128 := rfl
  rw [pay89_at, os0, ls0]
  refine Eq.trans ?_ (attend_to (K := 256 * (k0_t1_loop i).trips) (xc (tA x0 x1 x2 x3 x4 x5 x6 x7 x8 x9 x10 x11 x12) (i 0) (hp 0 e) (tm (i 1) e)) (fun j => (tA x0 x1 x2 x3 x4 x5 x6 x7 x8 x9 x10 x11 x12).vc (i 0) (kv (hp 0 e)) d j) (fun j hj => ?_) _)
  · rw [kv_hp, vs0 c i arg2 harg2 x0 x1 x2 x3 x4 x5 x6 x7 x8 x9 x10 x11 x12]
    rfl
  · unfold xc
    rw [if_neg]
    rw [t1_trips] at hj
    omega

/-- Pair 1: the sum of weights after the second loop. -/
theorem ls1 (e : Fin 256) : (Hand.kernelRun.sl.r_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (ix2 0 e) = sumTo (ef i x0 x1 x2 x3 x4 x5 x6 x7 x8 x9 x10 x11 x12 (Mx i x0 x1 x2 x3 x4 x5 x6 x7 x8 x9 x10 x11 x12) 1 e) (256 * (k0_t1_loop i).trips) := by
  unfold Hand.kernelRun.sl.r_5
  have h1 := n1 i
  have h3 := (n31 i).symm
  have h4 := n4 i
  generalize Scf.trips (k0_t4_loop i).lb (k0_t4_loop i).ub (k0_t4_loop i).st = N4 at h4 ⊢
  subst h4
  rw [st_k0_t4.eq_1, st_k0_t2.eq_1]
  dsimp only
  generalize Scf.trips (k0_t1_loop i).lb (k0_t1_loop i).ub (k0_t1_loop i).st = N at h1 ⊢
  rw [← h1]
  exact (loop3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 _ _ _ _ _ _ _ _ (Mx i x0 x1 x2 x3 x4 x5 x6 x7 x8 x9 x10 x11 x12) (scX c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 N h1 _ rfl) (fun e => mx0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 e) (fun e => mx1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 e) (fun e => mx2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 e) (fun e => mx3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 e) _ (zero20 arg20) N (Nat.le_of_eq (h1.trans h3))).2.1 e

/-- Pair 1: the weighted sums after the second loop. -/
theorem os1 (d : Fin 160) (e : Fin 256) : (Hand.kernelRun.sl.v357 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (ix3 0 d e) = sumTo (of i x0 x1 x2 x3 x4 x5 x6 x7 x8 x9 x10 x11 x12 (Mx i x0 x1 x2 x3 x4 x5 x6 x7 x8 x9 x10 x11 x12) 1 d e) (256 * (k0_t1_loop i).trips) := by
  unfold Hand.kernelRun.sl.v357
  have h1 := n1 i
  have h3 := (n31 i).symm
  have h4 := n4 i
  generalize Scf.trips (k0_t4_loop i).lb (k0_t4_loop i).ub (k0_t4_loop i).st = N4 at h4 ⊢
  subst h4
  rw [st_k0_t4.eq_1, st_k0_t2.eq_1]
  dsimp only
  generalize Scf.trips (k0_t1_loop i).lb (k0_t1_loop i).ub (k0_t1_loop i).st = N at h1 ⊢
  rw [← h1]
  have h := (loop3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 (k0_pay54 i) (Hand.kernelRun.sl.v7 i) (Hand.kernelRun.sl.v12 i) (Hand.kernelRun.sl.r (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10) (Hand.kernelRun.sl.r_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10) (Hand.kernelRun.sl.r_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10) (Hand.kernelRun.sl.r_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10) _ (Mx i x0 x1 x2 x3 x4 x5 x6 x7 x8 x9 x10 x11 x12) (scX c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 N h1 [] rfl) (fun e => mx0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 e) (fun e => mx1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 e) (fun e => mx2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 e) (fun e => mx3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 e) _ (zero20 arg20) N (Nat.le_of_eq (h1.trans h3))).2.2.2.2 (ix3 1 d e)
  rw [← View.writes_append, View.read_writes_junk_apply_eq_canon] at h
  refine (congrFun (View.readCov_eq_canon' (Val := Elt Ideal) _ _ _) _).trans (Eq.trans (congrArg (View.canon (Val := Elt Ideal) _) ?_) h)
  funext a
  apply Fin.ext
  match a with
  | ⟨0, _⟩ => simp [LoadRect.idx, ix3]
  | ⟨1, _⟩ => simp [LoadRect.idx, ix3]
  | ⟨2, _⟩ => simp [LoadRect.idx, ix3]

/-- Pair 1: the compressed branch. -/
theorem cmp1 (d : Fin 160) (e : Fin 256) : k0_pay89 (Hand.kernelRun.sl.r_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (Hand.kernelRun.sl.r_9 (F := Ideal) c i arg2 harg2 x0) (Hand.kernelRun.sl.v357 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (ix2 d e) = oc (tA x0 x1 x2 x3 x4 x5 x6 x7 x8 x9 x10 x11 x12) (i 0) (hp 1 e) d (tm (i 1) e) := by
  have hi : (i 1).val < 192 := (i 1).isLt
  have ht : (tm (i 1) e).val = 128 * (i 1).val + e.val % 128 := rfl
  rw [pay89_at, os1, ls1]
  refine Eq.trans ?_ (attend_to (K := 256 * (k0_t1_loop i).trips) (xc (tA x0 x1 x2 x3 x4 x5 x6 x7 x8 x9 x10 x11 x12) (i 0) (hp 1 e) (tm (i 1) e)) (fun j => (tA x0 x1 x2 x3 x4 x5 x6 x7 x8 x9 x10 x11 x12).vc (i 0) (kv (hp 1 e)) d j) (fun j hj => ?_) _)
  · rw [kv_hp, vs0 c i arg2 harg2 x0 x1 x2 x3 x4 x5 x6 x7 x8 x9 x10 x11 x12]
    rfl
  · unfold xc
    rw [if_neg]
    rw [t1_trips] at hj
    omega

/-- Pair 2: the sum of weights after the second loop. -/
theorem ls2 (e : Fin 256) : (Hand.kernelRun.sl.r_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (ix2 0 e) = sumTo (ef i x0 x1 x2 x3 x4 x5 x6 x7 x8 x9 x10 x11 x12 (Mx i x0 x1 x2 x3 x4 x5 x6 x7 x8 x9 x10 x11 x12) 2 e) (256 * (k0_t1_loop i).trips) := by
  unfold Hand.kernelRun.sl.r_6
  have h1 := n1 i
  have h3 := (n31 i).symm
  have h4 := n4 i
  generalize Scf.trips (k0_t4_loop i).lb (k0_t4_loop i).ub (k0_t4_loop i).st = N4 at h4 ⊢
  subst h4
  rw [st_k0_t4.eq_1, st_k0_t2.eq_1]
  dsimp only
  generalize Scf.trips (k0_t1_loop i).lb (k0_t1_loop i).ub (k0_t1_loop i).st = N at h1 ⊢
  rw [← h1]
  exact (loop3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 _ _ _ _ _ _ _ _ (Mx i x0 x1 x2 x3 x4 x5 x6 x7 x8 x9 x10 x11 x12) (scX c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 N h1 _ rfl) (fun e => mx0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 e) (fun e => mx1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 e) (fun e => mx2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 e) (fun e => mx3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 e) _ (zero20 arg20) N (Nat.le_of_eq (h1.trans h3))).2.2.1 e

/-- Pair 2: the weighted sums after the second loop. -/
theorem os2 (d : Fin 160) (e : Fin 256) : (Hand.kernelRun.sl.v523 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (ix3 0 d e) = sumTo (of i x0 x1 x2 x3 x4 x5 x6 x7 x8 x9 x10 x11 x12 (Mx i x0 x1 x2 x3 x4 x5 x6 x7 x8 x9 x10 x11 x12) 2 d e) (256 * (k0_t1_loop i).trips) := by
  unfold Hand.kernelRun.sl.v523
  have h1 := n1 i
  have h3 := (n31 i).symm
  have h4 := n4 i
  generalize Scf.trips (k0_t4_loop i).lb (k0_t4_loop i).ub (k0_t4_loop i).st = N4 at h4 ⊢
  subst h4
  rw [st_k0_t4.eq_1, st_k0_t2.eq_1]
  dsimp only
  generalize Scf.trips (k0_t1_loop i).lb (k0_t1_loop i).ub (k0_t1_loop i).st = N at h1 ⊢
  rw [← h1]
  have h := (loop3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 (k0_pay54 i) (Hand.kernelRun.sl.v7 i) (Hand.kernelRun.sl.v12 i) (Hand.kernelRun.sl.r (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10) (Hand.kernelRun.sl.r_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10) (Hand.kernelRun.sl.r_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10) (Hand.kernelRun.sl.r_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10) _ (Mx i x0 x1 x2 x3 x4 x5 x6 x7 x8 x9 x10 x11 x12) (scX c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 N h1 [] rfl) (fun e => mx0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 e) (fun e => mx1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 e) (fun e => mx2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 e) (fun e => mx3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 e) _ (zero20 arg20) N (Nat.le_of_eq (h1.trans h3))).2.2.2.2 (ix3 2 d e)
  rw [← View.writes_append, View.read_writes_junk_apply_eq_canon] at h
  refine (congrFun (View.readCov_eq_canon' (Val := Elt Ideal) _ _ _) _).trans (Eq.trans (congrArg (View.canon (Val := Elt Ideal) _) ?_) h)
  funext a
  apply Fin.ext
  match a with
  | ⟨0, _⟩ => simp [LoadRect.idx, ix3]
  | ⟨1, _⟩ => simp [LoadRect.idx, ix3]
  | ⟨2, _⟩ => simp [LoadRect.idx, ix3]

/-- Pair 2: the compressed branch. -/
theorem cmp2 (d : Fin 160) (e : Fin 256) : k0_pay89 (Hand.kernelRun.sl.r_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (Hand.kernelRun.sl.r_36 (F := Ideal) c i arg2 harg2 x0) (Hand.kernelRun.sl.v523 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (ix2 d e) = oc (tA x0 x1 x2 x3 x4 x5 x6 x7 x8 x9 x10 x11 x12) (i 0) (hp 2 e) d (tm (i 1) e) := by
  have hi : (i 1).val < 192 := (i 1).isLt
  have ht : (tm (i 1) e).val = 128 * (i 1).val + e.val % 128 := rfl
  rw [pay89_at, os2, ls2]
  refine Eq.trans ?_ (attend_to (K := 256 * (k0_t1_loop i).trips) (xc (tA x0 x1 x2 x3 x4 x5 x6 x7 x8 x9 x10 x11 x12) (i 0) (hp 2 e) (tm (i 1) e)) (fun j => (tA x0 x1 x2 x3 x4 x5 x6 x7 x8 x9 x10 x11 x12).vc (i 0) (kv (hp 2 e)) d j) (fun j hj => ?_) _)
  · rw [kv_hp, vs1 c i arg2 harg2 x0 x1 x2 x3 x4 x5 x6 x7 x8 x9 x10 x11 x12]
    rfl
  · unfold xc
    rw [if_neg]
    rw [t1_trips] at hj
    omega

/-- Pair 3: the sum of weights after the second loop. -/
theorem ls3 (e : Fin 256) : (Hand.kernelRun.sl.r_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (ix2 0 e) = sumTo (ef i x0 x1 x2 x3 x4 x5 x6 x7 x8 x9 x10 x11 x12 (Mx i x0 x1 x2 x3 x4 x5 x6 x7 x8 x9 x10 x11 x12) 3 e) (256 * (k0_t1_loop i).trips) := by
  unfold Hand.kernelRun.sl.r_7
  have h1 := n1 i
  have h3 := (n31 i).symm
  have h4 := n4 i
  generalize Scf.trips (k0_t4_loop i).lb (k0_t4_loop i).ub (k0_t4_loop i).st = N4 at h4 ⊢
  subst h4
  rw [st_k0_t4.eq_1, st_k0_t2.eq_1]
  dsimp only
  generalize Scf.trips (k0_t1_loop i).lb (k0_t1_loop i).ub (k0_t1_loop i).st = N at h1 ⊢
  rw [← h1]
  exact (loop3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 _ _ _ _ _ _ _ _ (Mx i x0 x1 x2 x3 x4 x5 x6 x7 x8 x9 x10 x11 x12) (scX c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 N h1 _ rfl) (fun e => mx0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 e) (fun e => mx1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 e) (fun e => mx2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 e) (fun e => mx3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 e) _ (zero20 arg20) N (Nat.le_of_eq (h1.trans h3))).2.2.2.1 e

/-- Pair 3: the weighted sums after the second loop. -/
theorem os3 (d : Fin 160) (e : Fin 256) : (Hand.kernelRun.sl.v676 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (ix3 0 d e) = sumTo (of i x0 x1 x2 x3 x4 x5 x6 x7 x8 x9 x10 x11 x12 (Mx i x0 x1 x2 x3 x4 x5 x6 x7 x8 x9 x10 x11 x12) 3 d e) (256 * (k0_t1_loop i).trips) := by
  unfold Hand.kernelRun.sl.v676
  have h1 := n1 i
  have h3 := (n31 i).symm
  have h4 := n4 i
  generalize Scf.trips (k0_t4_loop i).lb (k0_t4_loop i).ub (k0_t4_loop i).st = N4 at h4 ⊢
  subst h4
  rw [st_k0_t4.eq_1, st_k0_t2.eq_1]
  dsimp only
  generalize Scf.trips (k0_t1_loop i).lb (k0_t1_loop i).ub (k0_t1_loop i).st = N at h1 ⊢
  rw [← h1]
  have h := (loop3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 (k0_pay54 i) (Hand.kernelRun.sl.v7 i) (Hand.kernelRun.sl.v12 i) (Hand.kernelRun.sl.r (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10) (Hand.kernelRun.sl.r_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10) (Hand.kernelRun.sl.r_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10) (Hand.kernelRun.sl.r_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10) _ (Mx i x0 x1 x2 x3 x4 x5 x6 x7 x8 x9 x10 x11 x12) (scX c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 N h1 [] rfl) (fun e => mx0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 e) (fun e => mx1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 e) (fun e => mx2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 e) (fun e => mx3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 e) _ (zero20 arg20) N (Nat.le_of_eq (h1.trans h3))).2.2.2.2 (ix3 3 d e)
  rw [← View.writes_append, View.read_writes_junk_apply_eq_canon] at h
  refine (congrFun (View.readCov_eq_canon' (Val := Elt Ideal) _ _ _) _).trans (Eq.trans (congrArg (View.canon (Val := Elt Ideal) _) ?_) h)
  funext a
  apply Fin.ext
  match a with
  | ⟨0, _⟩ => simp [LoadRect.idx, ix3]
  | ⟨1, _⟩ => simp [LoadRect.idx, ix3]
  | ⟨2, _⟩ => simp [LoadRect.idx, ix3]

/-- Pair 3: the compressed branch. -/
theorem cmp3 (d : Fin 160) (e : Fin 256) : k0_pay89 (Hand.kernelRun.sl.r_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (Hand.kernelRun.sl.r_36 (F := Ideal) c i arg2 harg2 x0) (Hand.kernelRun.sl.v676 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (ix2 d e) = oc (tA x0 x1 x2 x3 x4 x5 x6 x7 x8 x9 x10 x11 x12) (i 0) (hp 3 e) d (tm (i 1) e) := by
  have hi : (i 1).val < 192 := (i 1).isLt
  have ht : (tm (i 1) e).val = 128 * (i 1).val + e.val % 128 := rfl
  rw [pay89_at, os3, ls3]
  refine Eq.trans ?_ (attend_to (K := 256 * (k0_t1_loop i).trips) (xc (tA x0 x1 x2 x3 x4 x5 x6 x7 x8 x9 x10 x11 x12) (i 0) (hp 3 e) (tm (i 1) e)) (fun j => (tA x0 x1 x2 x3 x4 x5 x6 x7 x8 x9 x10 x11 x12).vc (i 0) (kv (hp 3 e)) d j) (fun j hj => ?_) _)
  · rw [kv_hp, vs1 c i arg2 harg2 x0 x1 x2 x3 x4 x5 x6 x7 x8 x9 x10 x11 x12]
    rfl
  · unfold xc
    rw [if_neg]
    rw [t1_trips] at hj
    omega

end Cert.KernelIdeal.KCmp

end
-- ==== Proof.KTile.lean ====
/- What one grid point of the kernel stores: the specification's values at its tile of queries. -/
module

public import proofs.«01_k».proof.Proof.KCmp
public import Idealize.ShloMosaic.Lib.Pipeline.ReadBack

@[expose] public section

set_option maxRecDepth 16384

noncomputable section

namespace Cert.KernelIdeal.KTile

open Cert.KernelIdeal Cert.KernelIdeal.KLoop Cert.KernelIdeal.KSum Cert.KernelIdeal.KHead Cert.KernelIdeal.KCmp Cert.KernelIdeal.Gen Cert.KernelIdeal.KPay Cert.KernelIdeal.KGeo Idealize.ShloMosaic Cert.Soft Cert.Spec
open scoped BigOperators

variable (c : Dev nD) (i : grid0.Coords) (arg2 : Memref sig .tc .smem S6 .f32) (harg2 : arg2.IsWhole) (arg3 : Memref sig .tc .vmem S1x8x160x128 .fp8e4m3) (harg3 : arg3.IsWhole) (arg4 : Memref sig .tc .vmem S1x8x128 .f32) (harg4 : arg4.IsWhole) (arg5 : Memref sig .tc .vmem S1x2x4x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S1x2x1024x128 .f32) (harg9 : arg9.IsWhole) (arg10 : Memref sig .tc .vmem S1x2x24576x256 .fp8e4m3) (harg10 : arg10.IsWhole) (arg11 : Memref sig .tc .vmem S1x2x160x24576 .fp8e4m3) (harg11 : arg11.IsWhole) (arg12 : Memref sig .tc .vmem S1x2x1536x256 .bf16) (harg12 : arg12.IsWhole) (arg13 : Memref sig .tc .vmem S1x2x160x1536 .bf16) (harg13 : arg13.IsWhole) (arg14 : Memref sig .tc .vmem S1x2x128x256 .bf16) (harg14 : arg14.IsWhole) (arg15 : Memref sig .tc .vmem S1x128x1280 .bf16) (harg15 : arg15.IsWhole) (arg16 : Memref sig .tc .vmem S1x8x160x128 .bf16) (harg16 : arg16.IsWhole) (arg17 : Memref sig .tc .vmem S1x8x160x128 .bf16) (harg17 : arg17.IsWhole) (arg18 : Memref sig .tc .vmem S1x8x160x128 .bf16) (harg18 : arg18.IsWhole) (arg19 : Memref sig .tc .vmem S4x1536x256 .f32) (harg19 : arg19.IsWhole) (arg20 : Memref sig .tc .vmem S4x160x256 .f32) (harg20 : arg20.IsWhole) (arg21 : Memref sig .tc .vmem S1280x128 .bf16) (harg21 : arg21.IsWhole)
variable (x0 : Vec Ideal S6 .f32) (x1 : Vec Ideal S1x8x160x128 .fp8e4m3) (x2 : Vec Ideal S1x8x128 .f32) (x3 : Vec Ideal S1x2x4x128 .f32) (x4 x5 x6 : Vec Ideal S1x8x128 .f32) (x7 : Vec Ideal S1x2x1024x128 .f32) (x8 : Vec Ideal S1x2x24576x256 .fp8e4m3) (x9 : Vec Ideal S1x2x160x24576 .fp8e4m3) (x10 : Vec Ideal S1x2x1536x256 .bf16) (x11 : Vec Ideal S1x2x160x1536 .bf16) (x12 : Vec Ideal S1x2x128x256 .bf16)
variable (fs0 : BufTy.Contents (Elt Ideal) arg19.view.ty) (fs1 : BufTy.Contents (Elt Ideal) arg20.view.ty) (fs2 : BufTy.Contents (Elt Ideal) arg21.view.ty)

/-- A tile's query. -/
def tq (a : Fin 192) (c : Fin 128) : Fin 24576 := ⟨128 * a.val + c.val, by omega⟩

theorem hp_lo (p : Fin 4) (c : Fin 128) : hp p ⟨c.val, by omega⟩ = h0 p := Fin.ext (by show 2 * p.val + c.val / 128 = 2 * p.val; omega)
theorem hp_hi (p : Fin 4) (c : Fin 128) : hp p ⟨128 + c.val, by omega⟩ = h1 p := Fin.ext (by show 2 * p.val + (128 + c.val) / 128 = 2 * p.val + 1; omega)
theorem tm_lo (a : Fin 192) (c : Fin 128) : tm a ⟨c.val, by omega⟩ = tq a c := Fin.ext (by show 128 * a.val + c.val % 128 = 128 * a.val + c.val; omega)
theorem tm_hi (a : Fin 192) (c : Fin 128) : tm a ⟨128 + c.val, by omega⟩ = tq a c := Fin.ext (by show 128 * a.val + (128 + c.val) % 128 = 128 * a.val + c.val; omega)

/-- The tile's compressed branch. -/
def Gc : S1x8x160x128.Idx → EReal := fun y => oc (tA x0 x1 x2 x3 x4 x5 x6 x7 x8 x9 x10 x11 x12) (i 0) (y 1) (y 2) (tq (i 1) (y 3))
/-- The tile's selected branch. -/
def Gs : S1x8x160x128.Idx → EReal := fun y => os (tA x0 x1 x2 x3 x4 x5 x6 x7 x8 x9 x10 x11 x12) (i 0) (y 1) (y 2) (tq (i 1) (y 3))
/-- The tile's window branch. -/
def Gw : S1x8x160x128.Idx → EReal := fun y => ow (tA x0 x1 x2 x3 x4 x5 x6 x7 x8 x9 x10 x11 x12) (i 0) (y 1) (y 2) (tq (i 1) (y 3))
/-- The tile's gated sum, channels as rows. -/
def Gy : S1280x128.Idx → EReal := fun y => Spec.y (tA x0 x1 x2 x3 x4 x5 x6 x7 x8 x9 x10 x11 x12) (i 0) ⟨(y 0).val / 160, by have : (y 0).val < 1280 := (y 0).isLt; omega⟩ ⟨(y 0).val % 160, by omega⟩ (tq (i 1) (y 1))
/-- The tile's gated sum, channels as columns. -/
def Go : S1x128x1280.Idx → EReal := fun y => Spec.y (tA x0 x1 x2 x3 x4 x5 x6 x7 x8 x9 x10 x11 x12) (i 0) ⟨(y 2).val / 160, by have : (y 2).val < 1280 := (y 2).isLt; omega⟩ ⟨(y 2).val % 160, by omega⟩ (tq (i 1) (y 1))

/-- Heads' blocks cover an output's tile. -/
theorem cov4 (y : S1x8x160x128.Idx) (p : ℕ) (inb : ∀ a, (![0, p, 0, 0] : Fin 4 → ℕ) a + (![1, 1, 160, 128] : Fin 4 → ℕ) a ≤ S1x8x160x128.size a) (hp : (y 1).val = p) :
    y ∈ (Rect.unit (s := S1x8x160x128) ![0, p, 0, 0] ![1, 1, 160, 128] inb).set := by
  have h0 : (y 0).val < 1 := (y 0).isLt
  have h2 : (y 2).val < 160 := (y 2).isLt
  have h3 : (y 3).val < 128 := (y 3).isLt
  rw [Rect.mem_set_unit]
  intro a
  match a with
  | ⟨0, _⟩ => exact ⟨Nat.zero_le _, by show (y 0).val < 0 + 1; omega⟩
  | ⟨1, _⟩ => exact ⟨by show p ≤ (y 1).val; omega, by show (y 1).val < p + 1; omega⟩
  | ⟨2, _⟩ => exact ⟨Nat.zero_le _, by show (y 2).val < 0 + 160; omega⟩
  | ⟨3, _⟩ => exact ⟨Nat.zero_le _, by show (y 3).val < 0 + 128; omega⟩

theorem win_0 (d : Fin 160) (c' : Fin 128) : k0_pay94 (k0_pay81 (k0_pay72 (k0_pay54 i) (Scalar.maxsi (Scalar.subi (Scalar.muli (BitVec.ofNat 32 (i 1).val) 128#32) 512#32) 0#32)) (Hand.kernelRun.sl.r_9 (F := Ideal) c i arg2 harg2 x0) (k0_pay77 (View.readAt (Elt Ideal) arg11.view (Rect.unit (s := S1x2x160x24576) (k0_off26 i) S1x1x160x640.size (k0_off26_inb i)).toLoadRect (harg11.unread x9))) (View.readAt (Elt Ideal) arg3.view (Rect.unit (s := S1x8x160x128) ![0, 0, 0, 0] S1x1x160x128.size inb_S1x8x160x128_S1x1x160x128_0_0_0_0).toLoadRect (harg3.unread x1)) (View.readAt (Elt Ideal) arg3.view (Rect.unit (s := S1x8x160x128) ![0, 1, 0, 0] S1x1x160x128.size inb_S1x8x160x128_S1x1x160x128_0_1_0_0).toLoadRect (harg3.unread x1)) (View.readAt (Elt Ideal) arg4.view (Rect.unit (s := S1x8x128) ![0, 0, 0] S1x1x128.size inb_S1x8x128_S1x1x128_0_0_0).toLoadRect (harg4.unread x2)) (View.readAt (Elt Ideal) arg4.view (Rect.unit (s := S1x8x128) ![0, 1, 0] S1x1x128.size inb_S1x8x128_S1x1x128_0_1_0).toLoadRect (harg4.unread x2)) (View.readAt (Elt Ideal) arg10.view (Rect.unit (s := S1x2x24576x256) (k0_off28 i) S1x1x640x256.size (k0_off28_inb i)).toLoadRect (harg10.unread x8))) (ix4 0 0 d c') = ow (tA x0 x1 x2 x3 x4 x5 x6 x7 x8 x9 x10 x11 x12) (i 0) 0 d (tq (i 1) c') := by
  refine (lo_at d c' _).trans ((KHead.win0 c i arg2 harg2 arg3 harg3 arg4 harg4 arg10 harg10 arg11 harg11 x0 x1 x2 x3 x4 x5 x6 x7 x8 x9 x10 x11 x12 d ⟨c'.val, by omega⟩).trans ?_)
  exact congrArg₂ (fun h t => ow (tA x0 x1 x2 x3 x4 x5 x6 x7 x8 x9 x10 x11 x12) (i 0) h d t) (hp_lo 0 c') (tm_lo (i 1) c')

theorem win_1 (d : Fin 160) (c' : Fin 128) : k0_pay99 (k0_pay81 (k0_pay72 (k0_pay54 i) (Scalar.maxsi (Scalar.subi (Scalar.muli (BitVec.ofNat 32 (i 1).val) 128#32) 512#32) 0#32)) (Hand.kernelRun.sl.r_9 (F := Ideal) c i arg2 harg2 x0) (k0_pay77 (View.readAt (Elt Ideal) arg11.view (Rect.unit (s := S1x2x160x24576) (k0_off26 i) S1x1x160x640.size (k0_off26_inb i)).toLoadRect (harg11.unread x9))) (View.readAt (Elt Ideal) arg3.view (Rect.unit (s := S1x8x160x128) ![0, 0, 0, 0] S1x1x160x128.size inb_S1x8x160x128_S1x1x160x128_0_0_0_0).toLoadRect (harg3.unread x1)) (View.readAt (Elt Ideal) arg3.view (Rect.unit (s := S1x8x160x128) ![0, 1, 0, 0] S1x1x160x128.size inb_S1x8x160x128_S1x1x160x128_0_1_0_0).toLoadRect (harg3.unread x1)) (View.readAt (Elt Ideal) arg4.view (Rect.unit (s := S1x8x128) ![0, 0, 0] S1x1x128.size inb_S1x8x128_S1x1x128_0_0_0).toLoadRect (harg4.unread x2)) (View.readAt (Elt Ideal) arg4.view (Rect.unit (s := S1x8x128) ![0, 1, 0] S1x1x128.size inb_S1x8x128_S1x1x128_0_1_0).toLoadRect (harg4.unread x2)) (View.readAt (Elt Ideal) arg10.view (Rect.unit (s := S1x2x24576x256) (k0_off28 i) S1x1x640x256.size (k0_off28_inb i)).toLoadRect (harg10.unread x8))) (ix4 0 0 d c') = ow (tA x0 x1 x2 x3 x4 x5 x6 x7 x8 x9 x10 x11 x12) (i 0) 1 d (tq (i 1) c') := by
  refine (hi_at d c' _).trans ((KHead.win0 c i arg2 harg2 arg3 harg3 arg4 harg4 arg10 harg10 arg11 harg11 x0 x1 x2 x3 x4 x5 x6 x7 x8 x9 x10 x11 x12 d ⟨128 + c'.val, by omega⟩).trans ?_)
  exact congrArg₂ (fun h t => ow (tA x0 x1 x2 x3 x4 x5 x6 x7 x8 x9 x10 x11 x12) (i 0) h d t) (hp_hi 0 c') (tm_hi (i 1) c')

theorem win_2 (d : Fin 160) (c' : Fin 128) : k0_pay94 (k0_pay81 (k0_pay72 (k0_pay54 i) (Scalar.maxsi (Scalar.subi (Scalar.muli (BitVec.ofNat 32 (i 1).val) 128#32) 512#32) 0#32)) (Hand.kernelRun.sl.r_9 (F := Ideal) c i arg2 harg2 x0) (k0_pay77 (View.readAt (Elt Ideal) arg11.view (Rect.unit (s := S1x2x160x24576) (k0_off26 i) S1x1x160x640.size (k0_off26_inb i)).toLoadRect (harg11.unread x9))) (View.readAt (Elt Ideal) arg3.view (Rect.unit (s := S1x8x160x128) ![0, 2, 0, 0] S1x1x160x128.size inb_S1x8x160x128_S1x1x160x128_0_2_0_0).toLoadRect (harg3.unread x1)) (View.readAt (Elt Ideal) arg3.view (Rect.unit (s := S1x8x160x128) ![0, 3, 0, 0] S1x1x160x128.size inb_S1x8x160x128_S1x1x160x128_0_3_0_0).toLoadRect (harg3.unread x1)) (View.readAt (Elt Ideal) arg4.view (Rect.unit (s := S1x8x128) ![0, 2, 0] S1x1x128.size inb_S1x8x128_S1x1x128_0_2_0).toLoadRect (harg4.unread x2)) (View.readAt (Elt Ideal) arg4.view (Rect.unit (s := S1x8x128) ![0, 3, 0] S1x1x128.size inb_S1x8x128_S1x1x128_0_3_0).toLoadRect (harg4.unread x2)) (View.readAt (Elt Ideal) arg10.view (Rect.unit (s := S1x2x24576x256) (k0_off28 i) S1x1x640x256.size (k0_off28_inb i)).toLoadRect (harg10.unread x8))) (ix4 0 0 d c') = ow (tA x0 x1 x2 x3 x4 x5 x6 x7 x8 x9 x10 x11 x12) (i 0) 2 d (tq (i 1) c') := by
  refine (lo_at d c' _).trans ((KHead.win1 c i arg2 harg2 arg3 harg3 arg4 harg4 arg10 harg10 arg11 harg11 x0 x1 x2 x3 x4 x5 x6 x7 x8 x9 x10 x11 x12 d ⟨c'.val, by omega⟩).trans ?_)
  exact congrArg₂ (fun h t => ow (tA x0 x1 x2 x3 x4 x5 x6 x7 x8 x9 x10 x11 x12) (i 0) h d t) (hp_lo 1 c') (tm_lo (i 1) c')

theorem win_3 (d : Fin 160) (c' : Fin 128) : k0_pay99 (k0_pay81 (k0_pay72 (k0_pay54 i) (Scalar.maxsi (Scalar.subi (Scalar.muli (BitVec.ofNat 32 (i 1).val) 128#32) 512#32) 0#32)) (Hand.kernelRun.sl.r_9 (F := Ideal) c i arg2 harg2 x0) (k0_pay77 (View.readAt (Elt Ideal) arg11.view (Rect.unit (s := S1x2x160x24576) (k0_off26 i) S1x1x160x640.size (k0_off26_inb i)).toLoadRect (harg11.unread x9))) (View.readAt (Elt Ideal) arg3.view (Rect.unit (s := S1x8x160x128) ![0, 2, 0, 0] S1x1x160x128.size inb_S1x8x160x128_S1x1x160x128_0_2_0_0).toLoadRect (harg3.unread x1)) (View.readAt (Elt Ideal) arg3.view (Rect.unit (s := S1x8x160x128) ![0, 3, 0, 0] S1x1x160x128.size inb_S1x8x160x128_S1x1x160x128_0_3_0_0).toLoadRect (harg3.unread x1)) (View.readAt (Elt Ideal) arg4.view (Rect.unit (s := S1x8x128) ![0, 2, 0] S1x1x128.size inb_S1x8x128_S1x1x128_0_2_0).toLoadRect (harg4.unread x2)) (View.readAt (Elt Ideal) arg4.view (Rect.unit (s := S1x8x128) ![0, 3, 0] S1x1x128.size inb_S1x8x128_S1x1x128_0_3_0).toLoadRect (harg4.unread x2)) (View.readAt (Elt Ideal) arg10.view (Rect.unit (s := S1x2x24576x256) (k0_off28 i) S1x1x640x256.size (k0_off28_inb i)).toLoadRect (harg10.unread x8))) (ix4 0 0 d c') = ow (tA x0 x1 x2 x3 x4 x5 x6 x7 x8 x9 x10 x11 x12) (i 0) 3 d (tq (i 1) c') := by
  refine (hi_at d c' _).trans ((KHead.win1 c i arg2 harg2 arg3 harg3 arg4 harg4 arg10 harg10 arg11 harg11 x0 x1 x2 x3 x4 x5 x6 x7 x8 x9 x10 x11 x12 d ⟨128 + c'.val, by omega⟩).trans ?_)
  exact congrArg₂ (fun h t => ow (tA x0 x1 x2 x3 x4 x5 x6 x7 x8 x9 x10 x11 x12) (i 0) h d t) (hp_hi 1 c') (tm_hi (i 1) c')

theorem win_4 (d : Fin 160) (c' : Fin 128) : k0_pay94 (k0_pay81 (k0_pay72 (k0_pay54 i) (Scalar.maxsi (Scalar.subi (Scalar.muli (BitVec.ofNat 32 (i 1).val) 128#32) 512#32) 0#32)) (Hand.kernelRun.sl.r_36 (F := Ideal) c i arg2 harg2 x0) (k0_pay77 (View.readAt (Elt Ideal) arg11.view (Rect.unit (s := S1x2x160x24576) (k0_off29 i) S1x1x160x640.size (k0_off29_inb i)).toLoadRect (harg11.unread x9))) (View.readAt (Elt Ideal) arg3.view (Rect.unit (s := S1x8x160x128) ![0, 4, 0, 0] S1x1x160x128.size inb_S1x8x160x128_S1x1x160x128_0_4_0_0).toLoadRect (harg3.unread x1)) (View.readAt (Elt Ideal) arg3.view (Rect.unit (s := S1x8x160x128) ![0, 5, 0, 0] S1x1x160x128.size inb_S1x8x160x128_S1x1x160x128_0_5_0_0).toLoadRect (harg3.unread x1)) (View.readAt (Elt Ideal) arg4.view (Rect.unit (s := S1x8x128) ![0, 4, 0] S1x1x128.size inb_S1x8x128_S1x1x128_0_4_0).toLoadRect (harg4.unread x2)) (View.readAt (Elt Ideal) arg4.view (Rect.unit (s := S1x8x128) ![0, 5, 0] S1x1x128.size inb_S1x8x128_S1x1x128_0_5_0).toLoadRect (harg4.unread x2)) (View.readAt (Elt Ideal) arg10.view (Rect.unit (s := S1x2x24576x256) (k0_off31 i) S1x1x640x256.size (k0_off31_inb i)).toLoadRect (harg10.unread x8))) (ix4 0 0 d c') = ow (tA x0 x1 x2 x3 x4 x5 x6 x7 x8 x9 x10 x11 x12) (i 0) 4 d (tq (i 1) c') := by
  refine (lo_at d c' _).trans ((KHead.win2 c i arg2 harg2 arg3 harg3 arg4 harg4 arg10 harg10 arg11 harg11 x0 x1 x2 x3 x4 x5 x6 x7 x8 x9 x10 x11 x12 d ⟨c'.val, by omega⟩).trans ?_)
  exact congrArg₂ (fun h t => ow (tA x0 x1 x2 x3 x4 x5 x6 x7 x8 x9 x10 x11 x12) (i 0) h d t) (hp_lo 2 c') (tm_lo (i 1) c')

theorem win_5 (d : Fin 160) (c' : Fin 128) : k0_pay99 (k0_pay81 (k0_pay72 (k0_pay54 i) (Scalar.maxsi (Scalar.subi (Scalar.muli (BitVec.ofNat 32 (i 1).val) 128#32) 512#32) 0#32)) (Hand.kernelRun.sl.r_36 (F := Ideal) c i arg2 harg2 x0) (k0_pay77 (View.readAt (Elt Ideal) arg11.view (Rect.unit (s := S1x2x160x24576) (k0_off29 i) S1x1x160x640.size (k0_off29_inb i)).toLoadRect (harg11.unread x9))) (View.readAt (Elt Ideal) arg3.view (Rect.unit (s := S1x8x160x128) ![0, 4, 0, 0] S1x1x160x128.size inb_S1x8x160x128_S1x1x160x128_0_4_0_0).toLoadRect (harg3.unread x1)) (View.readAt (Elt Ideal) arg3.view (Rect.unit (s := S1x8x160x128) ![0, 5, 0, 0] S1x1x160x128.size inb_S1x8x160x128_S1x1x160x128_0_5_0_0).toLoadRect (harg3.unread x1)) (View.readAt (Elt Ideal) arg4.view (Rect.unit (s := S1x8x128) ![0, 4, 0] S1x1x128.size inb_S1x8x128_S1x1x128_0_4_0).toLoadRect (harg4.unread x2)) (View.readAt (Elt Ideal) arg4.view (Rect.unit (s := S1x8x128) ![0, 5, 0] S1x1x128.size inb_S1x8x128_S1x1x128_0_5_0).toLoadRect (harg4.unread x2)) (View.readAt (Elt Ideal) arg10.view (Rect.unit (s := S1x2x24576x256) (k0_off31 i) S1x1x640x256.size (k0_off31_inb i)).toLoadRect (harg10.unread x8))) (ix4 0 0 d c') = ow (tA x0 x1 x2 x3 x4 x5 x6 x7 x8 x9 x10 x11 x12) (i 0) 5 d (tq (i 1) c') := by
  refine (hi_at d c' _).trans ((KHead.win2 c i arg2 harg2 arg3 harg3 arg4 harg4 arg10 harg10 arg11 harg11 x0 x1 x2 x3 x4 x5 x6 x7 x8 x9 x10 x11 x12 d ⟨128 + c'.val, by omega⟩).trans ?_)
  exact congrArg₂ (fun h t => ow (tA x0 x1 x2 x3 x4 x5 x6 x7 x8 x9 x10 x11 x12) (i 0) h d t) (hp_hi 2 c') (tm_hi (i 1) c')

theorem win_6 (d : Fin 160) (c' : Fin 128) : k0_pay94 (k0_pay81 (k0_pay72 (k0_pay54 i) (Scalar.maxsi (Scalar.subi (Scalar.muli (BitVec.ofNat 32 (i 1).val) 128#32) 512#32) 0#32)) (Hand.kernelRun.sl.r_36 (F := Ideal) c i arg2 harg2 x0) (k0_pay77 (View.readAt (Elt Ideal) arg11.view (Rect.unit (s := S1x2x160x24576) (k0_off29 i) S1x1x160x640.size (k0_off29_inb i)).toLoadRect (harg11.unread x9))) (View.readAt (Elt Ideal) arg3.view (Rect.unit (s := S1x8x160x128) ![0, 6, 0, 0] S1x1x160x128.size inb_S1x8x160x128_S1x1x160x128_0_6_0_0).toLoadRect (harg3.unread x1)) (View.readAt (Elt Ideal) arg3.view (Rect.unit (s := S1x8x160x128) ![0, 7, 0, 0] S1x1x160x128.size inb_S1x8x160x128_S1x1x160x128_0_7_0_0).toLoadRect (harg3.unread x1)) (View.readAt (Elt Ideal) arg4.view (Rect.unit (s := S1x8x128) ![0, 6, 0] S1x1x128.size inb_S1x8x128_S1x1x128_0_6_0).toLoadRect (harg4.unread x2)) (View.readAt (Elt Ideal) arg4.view (Rect.unit (s := S1x8x128) ![0, 7, 0] S1x1x128.size inb_S1x8x128_S1x1x128_0_7_0).toLoadRect (harg4.unread x2)) (View.readAt (Elt Ideal) arg10.view (Rect.unit (s := S1x2x24576x256) (k0_off31 i) S1x1x640x256.size (k0_off31_inb i)).toLoadRect (harg10.unread x8))) (ix4 0 0 d c') = ow (tA x0 x1 x2 x3 x4 x5 x6 x7 x8 x9 x10 x11 x12) (i 0) 6 d (tq (i 1) c') := by
  refine (lo_at d c' _).trans ((KHead.win3 c i arg2 harg2 arg3 harg3 arg4 harg4 arg10 harg10 arg11 harg11 x0 x1 x2 x3 x4 x5 x6 x7 x8 x9 x10 x11 x12 d ⟨c'.val, by omega⟩).trans ?_)
  exact congrArg₂ (fun h t => ow (tA x0 x1 x2 x3 x4 x5 x6 x7 x8 x9 x10 x11 x12) (i 0) h d t) (hp_lo 3 c') (tm_lo (i 1) c')

theorem win_7 (d : Fin 160) (c' : Fin 128) : k0_pay99 (k0_pay81 (k0_pay72 (k0_pay54 i) (Scalar.maxsi (Scalar.subi (Scalar.muli (BitVec.ofNat 32 (i 1).val) 128#32) 512#32) 0#32)) (Hand.kernelRun.sl.r_36 (F := Ideal) c i arg2 harg2 x0) (k0_pay77 (View.readAt (Elt Ideal) arg11.view (Rect.unit (s := S1x2x160x24576) (k0_off29 i) S1x1x160x640.size (k0_off29_inb i)).toLoadRect (harg11.unread x9))) (View.readAt (Elt Ideal) arg3.view (Rect.unit (s := S1x8x160x128) ![0, 6, 0, 0] S1x1x160x128.size inb_S1x8x160x128_S1x1x160x128_0_6_0_0).toLoadRect (harg3.unread x1)) (View.readAt (Elt Ideal) arg3.view (Rect.unit (s := S1x8x160x128) ![0, 7, 0, 0] S1x1x160x128.size inb_S1x8x160x128_S1x1x160x128_0_7_0_0).toLoadRect (harg3.unread x1)) (View.readAt (Elt Ideal) arg4.view (Rect.unit (s := S1x8x128) ![0, 6, 0] S1x1x128.size inb_S1x8x128_S1x1x128_0_6_0).toLoadRect (harg4.unread x2)) (View.readAt (Elt Ideal) arg4.view (Rect.unit (s := S1x8x128) ![0, 7, 0] S1x1x128.size inb_S1x8x128_S1x1x128_0_7_0).toLoadRect (harg4.unread x2)) (View.readAt (Elt Ideal) arg10.view (Rect.unit (s := S1x2x24576x256) (k0_off31 i) S1x1x640x256.size (k0_off31_inb i)).toLoadRect (harg10.unread x8))) (ix4 0 0 d c') = ow (tA x0 x1 x2 x3 x4 x5 x6 x7 x8 x9 x10 x11 x12) (i 0) 7 d (tq (i 1) c') := by
  refine (hi_at d c' _).trans ((KHead.win3 c i arg2 harg2 arg3 harg3 arg4 harg4 arg10 harg10 arg11 harg11 x0 x1 x2 x3 x4 x5 x6 x7 x8 x9 x10 x11 x12 d ⟨128 + c'.val, by omega⟩).trans ?_)
  exact congrArg₂ (fun h t => ow (tA x0 x1 x2 x3 x4 x5 x6 x7 x8 x9 x10 x11 x12) (i 0) h d t) (hp_hi 3 c') (tm_hi (i 1) c')

/-- The stored blocks are the branch's. -/
theorem win_pieces : View.PiecesOf (Gw i x0 x1 x2 x3 x4 x5 x6 x7 x8 x9 x10 x11 x12) ((Hand.kernelRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12).2.2.2.1 fs0 fs1 fs2) := by
  unfold Hand.kernelRun
  dsimp only
  refine ⟨?_, ?_, ?_, ?_, ?_, ?_, ?_, ?_, trivial⟩
  · refine piece4 (Gw i x0 x1 x2 x3 x4 x5 x6 x7 x8 x9 x10 x11 x12) _ inb_S1x8x160x128_S1x1x160x128_0_7_0_0 _ 0 7 rfl fun d c' => ?_
    exact win_7 c i arg2 harg2 arg3 harg3 arg4 harg4 arg10 harg10 arg11 harg11 x0 x1 x2 x3 x4 x5 x6 x7 x8 x9 x10 x11 x12 d c'
  · refine piece4 (Gw i x0 x1 x2 x3 x4 x5 x6 x7 x8 x9 x10 x11 x12) _ inb_S1x8x160x128_S1x1x160x128_0_6_0_0 _ 0 6 rfl fun d c' => ?_
    exact win_6 c i arg2 harg2 arg3 harg3 arg4 harg4 arg10 harg10 arg11 harg11 x0 x1 x2 x3 x4 x5 x6 x7 x8 x9 x10 x11 x12 d c'
  · refine piece4 (Gw i x0 x1 x2 x3 x4 x5 x6 x7 x8 x9 x10 x11 x12) _ inb_S1x8x160x128_S1x1x160x128_0_5_0_0 _ 0 5 rfl fun d c' => ?_
    exact win_5 c i arg2 harg2 arg3 harg3 arg4 harg4 arg10 harg10 arg11 harg11 x0 x1 x2 x3 x4 x5 x6 x7 x8 x9 x10 x11 x12 d c'
  · refine piece4 (Gw i x0 x1 x2 x3 x4 x5 x6 x7 x8 x9 x10 x11 x12) _ inb_S1x8x160x128_S1x1x160x128_0_4_0_0 _ 0 4 rfl fun d c' => ?_
    exact win_4 c i arg2 harg2 arg3 harg3 arg4 harg4 arg10 harg10 arg11 harg11 x0 x1 x2 x3 x4 x5 x6 x7 x8 x9 x10 x11 x12 d c'
  · refine piece4 (Gw i x0 x1 x2 x3 x4 x5 x6 x7 x8 x9 x10 x11 x12) _ inb_S1x8x160x128_S1x1x160x128_0_3_0_0 _ 0 3 rfl fun d c' => ?_
    exact win_3 c i arg2 harg2 arg3 harg3 arg4 harg4 arg10 harg10 arg11 harg11 x0 x1 x2 x3 x4 x5 x6 x7 x8 x9 x10 x11 x12 d c'
  · refine piece4 (Gw i x0 x1 x2 x3 x4 x5 x6 x7 x8 x9 x10 x11 x12) _ inb_S1x8x160x128_S1x1x160x128_0_2_0_0 _ 0 2 rfl fun d c' => ?_
    exact win_2 c i arg2 harg2 arg3 harg3 arg4 harg4 arg10 harg10 arg11 harg11 x0 x1 x2 x3 x4 x5 x6 x7 x8 x9 x10 x11 x12 d c'
  · refine piece4 (Gw i x0 x1 x2 x3 x4 x5 x6 x7 x8 x9 x10 x11 x12) _ inb_S1x8x160x128_S1x1x160x128_0_1_0_0 _ 0 1 rfl fun d c' => ?_
    exact win_1 c i arg2 harg2 arg3 harg3 arg4 harg4 arg10 harg10 arg11 harg11 x0 x1 x2 x3 x4 x5 x6 x7 x8 x9 x10 x11 x12 d c'
  · refine piece4 (Gw i x0 x1 x2 x3 x4 x5 x6 x7 x8 x9 x10 x11 x12) _ inb_S1x8x160x128_S1x1x160x128_0_0_0_0 _ 0 0 rfl fun d c' => ?_
    exact win_0 c i arg2 harg2 arg3 harg3 arg4 harg4 arg10 harg10 arg11 harg11 x0 x1 x2 x3 x4 x5 x6 x7 x8 x9 x10 x11 x12 d c'

/-- They cover the tile. -/
theorem win_cover (y : S1x8x160x128.Idx) : ∃ q ∈ ((Hand.kernelRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12).2.2.2.1 fs0 fs1 fs2), y ∈ q.1.set := by
  unfold Hand.kernelRun
  dsimp only
  have h1 : (y 1).val < 8 := (y 1).isLt
  rcases (by omega : (y 1).val = 7 ∨ (y 1).val = 6 ∨ (y 1).val = 5 ∨ (y 1).val = 4 ∨ (y 1).val = 3 ∨ (y 1).val = 2 ∨ (y 1).val = 1 ∨ (y 1).val = 0) with h | h | h | h | h | h | h | h
  · exact ⟨_, List.mem_cons_self, cov4 y 7 inb_S1x8x160x128_S1x1x160x128_0_7_0_0 h⟩
  · exact ⟨_, (List.mem_cons_of_mem _ List.mem_cons_self), cov4 y 6 inb_S1x8x160x128_S1x1x160x128_0_6_0_0 h⟩
  · exact ⟨_, (List.mem_cons_of_mem _ (List.mem_cons_of_mem _ List.mem_cons_self)), cov4 y 5 inb_S1x8x160x128_S1x1x160x128_0_5_0_0 h⟩
  · exact ⟨_, (List.mem_cons_of_mem _ (List.mem_cons_of_mem _ (List.mem_cons_of_mem _ List.mem_cons_self))), cov4 y 4 inb_S1x8x160x128_S1x1x160x128_0_4_0_0 h⟩
  · exact ⟨_, (List.mem_cons_of_mem _ (List.mem_cons_of_mem _ (List.mem_cons_of_mem _ (List.mem_cons_of_mem _ List.mem_cons_self)))), cov4 y 3 inb_S1x8x160x128_S1x1x160x128_0_3_0_0 h⟩
  · exact ⟨_, (List.mem_cons_of_mem _ (List.mem_cons_of_mem _ (List.mem_cons_of_mem _ (List.mem_cons_of_mem _ (List.mem_cons_of_mem _ List.mem_cons_self))))), cov4 y 2 inb_S1x8x160x128_S1x1x160x128_0_2_0_0 h⟩
  · exact ⟨_, (List.mem_cons_of_mem _ (List.mem_cons_of_mem _ (List.mem_cons_of_mem _ (List.mem_cons_of_mem _ (List.mem_cons_of_mem _ (List.mem_cons_of_mem _ List.mem_cons_self)))))), cov4 y 1 inb_S1x8x160x128_S1x1x160x128_0_1_0_0 h⟩
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), cov4 y 0 inb_S1x8x160x128_S1x1x160x128_0_0_0_0 h⟩

theorem sel_0 (d : Fin 160) (c' : Fin 128) : k0_pay94 (k0_pay88 (Hand.kernelRun.sl.r_9 (F := Ideal) c i arg2 harg2 x0) (k0_pay83 (k0_pay76 (iota .tc S128x256 32 [0] iota_S128x256_d0_w32) k0_pay73 64#32 k0_pay74 k0_pay75) (k0_pay78 (View.readAt (Elt Ideal) arg11.view (Rect.unit (s := S1x2x160x24576) (k0_off27 i) S1x1x160x128.size (k0_off27_inb i)).toLoadRect (harg11.unread x9))) (k0_pay79 (View.readAt (Elt Ideal) arg3.view (Rect.unit (s := S1x8x160x128) ![0, 0, 0, 0] S1x1x160x128.size inb_S1x8x160x128_S1x1x160x128_0_0_0_0).toLoadRect (harg3.unread x1)) (View.readAt (Elt Ideal) arg3.view (Rect.unit (s := S1x8x160x128) ![0, 1, 0, 0] S1x1x160x128.size inb_S1x8x160x128_S1x1x160x128_0_1_0_0).toLoadRect (harg3.unread x1))) (k0_pay80 (View.readAt (Elt Ideal) arg4.view (Rect.unit (s := S1x8x128) ![0, 0, 0] S1x1x128.size inb_S1x8x128_S1x1x128_0_0_0).toLoadRect (harg4.unread x2)) (View.readAt (Elt Ideal) arg4.view (Rect.unit (s := S1x8x128) ![0, 1, 0] S1x1x128.size inb_S1x8x128_S1x1x128_0_1_0).toLoadRect (harg4.unread x2))) (View.readAt (Elt Ideal) arg5.view (Rect.unit (s := S1x2x4x128) ![0, 0, 0, 0] S1x1x1x128.size inb_S1x2x4x128_S1x1x1x128_0_0_0_0).toLoadRect (harg5.unread x3)) (View.readAt (Elt Ideal) arg5.view (Rect.unit (s := S1x2x4x128) ![0, 0, 1, 0] S1x1x1x128.size inb_S1x2x4x128_S1x1x1x128_0_0_1_0).toLoadRect (harg5.unread x3)) (View.readAt (Elt Ideal) arg14.view (Rect.unit (s := S1x2x128x256) ![0, 0, 0, 0] S1x1x128x160.size inb_S1x2x128x256_S1x1x128x160_0_0_0_0).toLoadRect (harg14.unread x12))) (k0_pay84 (k0_pay76 (iota .tc S128x256 32 [0] iota_S128x256_d0_w32) k0_pay73 64#32 k0_pay74 k0_pay75) (k0_pay79 (View.readAt (Elt Ideal) arg3.view (Rect.unit (s := S1x8x160x128) ![0, 0, 0, 0] S1x1x160x128.size inb_S1x8x160x128_S1x1x160x128_0_0_0_0).toLoadRect (harg3.unread x1)) (View.readAt (Elt Ideal) arg3.view (Rect.unit (s := S1x8x160x128) ![0, 1, 0, 0] S1x1x160x128.size inb_S1x8x160x128_S1x1x160x128_0_1_0_0).toLoadRect (harg3.unread x1))) (k0_pay80 (View.readAt (Elt Ideal) arg4.view (Rect.unit (s := S1x8x128) ![0, 0, 0] S1x1x128.size inb_S1x8x128_S1x1x128_0_0_0).toLoadRect (harg4.unread x2)) (View.readAt (Elt Ideal) arg4.view (Rect.unit (s := S1x8x128) ![0, 1, 0] S1x1x128.size inb_S1x8x128_S1x1x128_0_1_0).toLoadRect (harg4.unread x2))) (View.readAt (Elt Ideal) arg5.view (Rect.unit (s := S1x2x4x128) ![0, 0, 0, 0] S1x1x1x128.size inb_S1x2x4x128_S1x1x1x128_0_0_0_0).toLoadRect (harg5.unread x3)) (View.readAt (Elt Ideal) arg5.view (Rect.unit (s := S1x2x4x128) ![0, 0, 1, 0] S1x1x1x128.size inb_S1x2x4x128_S1x1x1x128_0_0_1_0).toLoadRect (harg5.unread x3)) (View.readAt (Elt Ideal) arg14.view (Rect.unit (s := S1x2x128x256) ![0, 0, 0, 0] S1x1x128x160.size inb_S1x2x128x256_S1x1x128x160_0_0_0_0).toLoadRect (harg14.unread x12))) (k0_pay85 (View.readAt (Elt Ideal) arg9.view { off := ![0, 0, 0, 0], size := S1x1x128x128.size, stride := ![1, 1, 8, 1], inb := inb_S1x2x1024x128_S1x1x128x128_0_0_0_0_s_1_1_8_1 } (harg9.unread x7))) (k0_pay86 (View.readAt (Elt Ideal) arg9.view { off := ![0, 0, 1, 0], size := S1x1x128x128.size, stride := ![1, 1, 8, 1], inb := inb_S1x2x1024x128_S1x1x128x128_0_0_1_0_s_1_1_8_1 } (harg9.unread x7))) (k0_pay87 (View.readAt (Elt Ideal) arg9.view { off := ![0, 0, 4, 0], size := S1x1x128x128.size, stride := ![1, 1, 8, 1], inb := inb_S1x2x1024x128_S1x1x128x128_0_0_4_0_s_1_1_8_1 } (harg9.unread x7))) (View.readAt (Elt Ideal) arg9.view { off := ![0, 0, 5, 0], size := S1x1x128x128.size, stride := ![1, 1, 8, 1], inb := inb_S1x2x1024x128_S1x1x128x128_0_0_5_0_s_1_1_8_1 } (harg9.unread x7))) (ix4 0 0 d c') = os (tA x0 x1 x2 x3 x4 x5 x6 x7 x8 x9 x10 x11 x12) (i 0) 0 d (tq (i 1) c') := by
  refine (lo_at d c' _).trans ((KHead.sel0 c i arg2 harg2 arg3 harg3 arg4 harg4 arg5 harg5 arg9 harg9 arg11 harg11 arg14 harg14 x0 x1 x2 x3 x4 x5 x6 x7 x8 x9 x10 x11 x12 d ⟨c'.val, by omega⟩).trans ?_)
  exact congrArg₂ (fun h t => os (tA x0 x1 x2 x3 x4 x5 x6 x7 x8 x9 x10 x11 x12) (i 0) h d t) (hp_lo 0 c') (tm_lo (i 1) c')

theorem sel_1 (d : Fin 160) (c' : Fin 128) : k0_pay99 (k0_pay88 (Hand.kernelRun.sl.r_9 (F := Ideal) c i arg2 harg2 x0) (k0_pay83 (k0_pay76 (iota .tc S128x256 32 [0] iota_S128x256_d0_w32) k0_pay73 64#32 k0_pay74 k0_pay75) (k0_pay78 (View.readAt (Elt Ideal) arg11.view (Rect.unit (s := S1x2x160x24576) (k0_off27 i) S1x1x160x128.size (k0_off27_inb i)).toLoadRect (harg11.unread x9))) (k0_pay79 (View.readAt (Elt Ideal) arg3.view (Rect.unit (s := S1x8x160x128) ![0, 0, 0, 0] S1x1x160x128.size inb_S1x8x160x128_S1x1x160x128_0_0_0_0).toLoadRect (harg3.unread x1)) (View.readAt (Elt Ideal) arg3.view (Rect.unit (s := S1x8x160x128) ![0, 1, 0, 0] S1x1x160x128.size inb_S1x8x160x128_S1x1x160x128_0_1_0_0).toLoadRect (harg3.unread x1))) (k0_pay80 (View.readAt (Elt Ideal) arg4.view (Rect.unit (s := S1x8x128) ![0, 0, 0] S1x1x128.size inb_S1x8x128_S1x1x128_0_0_0).toLoadRect (harg4.unread x2)) (View.readAt (Elt Ideal) arg4.view (Rect.unit (s := S1x8x128) ![0, 1, 0] S1x1x128.size inb_S1x8x128_S1x1x128_0_1_0).toLoadRect (harg4.unread x2))) (View.readAt (Elt Ideal) arg5.view (Rect.unit (s := S1x2x4x128) ![0, 0, 0, 0] S1x1x1x128.size inb_S1x2x4x128_S1x1x1x128_0_0_0_0).toLoadRect (harg5.unread x3)) (View.readAt (Elt Ideal) arg5.view (Rect.unit (s := S1x2x4x128) ![0, 0, 1, 0] S1x1x1x128.size inb_S1x2x4x128_S1x1x1x128_0_0_1_0).toLoadRect (harg5.unread x3)) (View.readAt (Elt Ideal) arg14.view (Rect.unit (s := S1x2x128x256) ![0, 0, 0, 0] S1x1x128x160.size inb_S1x2x128x256_S1x1x128x160_0_0_0_0).toLoadRect (harg14.unread x12))) (k0_pay84 (k0_pay76 (iota .tc S128x256 32 [0] iota_S128x256_d0_w32) k0_pay73 64#32 k0_pay74 k0_pay75) (k0_pay79 (View.readAt (Elt Ideal) arg3.view (Rect.unit (s := S1x8x160x128) ![0, 0, 0, 0] S1x1x160x128.size inb_S1x8x160x128_S1x1x160x128_0_0_0_0).toLoadRect (harg3.unread x1)) (View.readAt (Elt Ideal) arg3.view (Rect.unit (s := S1x8x160x128) ![0, 1, 0, 0] S1x1x160x128.size inb_S1x8x160x128_S1x1x160x128_0_1_0_0).toLoadRect (harg3.unread x1))) (k0_pay80 (View.readAt (Elt Ideal) arg4.view (Rect.unit (s := S1x8x128) ![0, 0, 0] S1x1x128.size inb_S1x8x128_S1x1x128_0_0_0).toLoadRect (harg4.unread x2)) (View.readAt (Elt Ideal) arg4.view (Rect.unit (s := S1x8x128) ![0, 1, 0] S1x1x128.size inb_S1x8x128_S1x1x128_0_1_0).toLoadRect (harg4.unread x2))) (View.readAt (Elt Ideal) arg5.view (Rect.unit (s := S1x2x4x128) ![0, 0, 0, 0] S1x1x1x128.size inb_S1x2x4x128_S1x1x1x128_0_0_0_0).toLoadRect (harg5.unread x3)) (View.readAt (Elt Ideal) arg5.view (Rect.unit (s := S1x2x4x128) ![0, 0, 1, 0] S1x1x1x128.size inb_S1x2x4x128_S1x1x1x128_0_0_1_0).toLoadRect (harg5.unread x3)) (View.readAt (Elt Ideal) arg14.view (Rect.unit (s := S1x2x128x256) ![0, 0, 0, 0] S1x1x128x160.size inb_S1x2x128x256_S1x1x128x160_0_0_0_0).toLoadRect (harg14.unread x12))) (k0_pay85 (View.readAt (Elt Ideal) arg9.view { off := ![0, 0, 0, 0], size := S1x1x128x128.size, stride := ![1, 1, 8, 1], inb := inb_S1x2x1024x128_S1x1x128x128_0_0_0_0_s_1_1_8_1 } (harg9.unread x7))) (k0_pay86 (View.readAt (Elt Ideal) arg9.view { off := ![0, 0, 1, 0], size := S1x1x128x128.size, stride := ![1, 1, 8, 1], inb := inb_S1x2x1024x128_S1x1x128x128_0_0_1_0_s_1_1_8_1 } (harg9.unread x7))) (k0_pay87 (View.readAt (Elt Ideal) arg9.view { off := ![0, 0, 4, 0], size := S1x1x128x128.size, stride := ![1, 1, 8, 1], inb := inb_S1x2x1024x128_S1x1x128x128_0_0_4_0_s_1_1_8_1 } (harg9.unread x7))) (View.readAt (Elt Ideal) arg9.view { off := ![0, 0, 5, 0], size := S1x1x128x128.size, stride := ![1, 1, 8, 1], inb := inb_S1x2x1024x128_S1x1x128x128_0_0_5_0_s_1_1_8_1 } (harg9.unread x7))) (ix4 0 0 d c') = os (tA x0 x1 x2 x3 x4 x5 x6 x7 x8 x9 x10 x11 x12) (i 0) 1 d (tq (i 1) c') := by
  refine (hi_at d c' _).trans ((KHead.sel0 c i arg2 harg2 arg3 harg3 arg4 harg4 arg5 harg5 arg9 harg9 arg11 harg11 arg14 harg14 x0 x1 x2 x3 x4 x5 x6 x7 x8 x9 x10 x11 x12 d ⟨128 + c'.val, by omega⟩).trans ?_)
  exact congrArg₂ (fun h t => os (tA x0 x1 x2 x3 x4 x5 x6 x7 x8 x9 x10 x11 x12) (i 0) h d t) (hp_hi 0 c') (tm_hi (i 1) c')

theorem sel_2 (d : Fin 160) (c' : Fin 128) : k0_pay94 (k0_pay88 (Hand.kernelRun.sl.r_9 (F := Ideal) c i arg2 harg2 x0) (k0_pay83 (k0_pay76 (iota .tc S128x256 32 [0] iota_S128x256_d0_w32) k0_pay73 64#32 k0_pay74 k0_pay75) (k0_pay78 (View.readAt (Elt Ideal) arg11.view (Rect.unit (s := S1x2x160x24576) (k0_off27 i) S1x1x160x128.size (k0_off27_inb i)).toLoadRect (harg11.unread x9))) (k0_pay79 (View.readAt (Elt Ideal) arg3.view (Rect.unit (s := S1x8x160x128) ![0, 2, 0, 0] S1x1x160x128.size inb_S1x8x160x128_S1x1x160x128_0_2_0_0).toLoadRect (harg3.unread x1)) (View.readAt (Elt Ideal) arg3.view (Rect.unit (s := S1x8x160x128) ![0, 3, 0, 0] S1x1x160x128.size inb_S1x8x160x128_S1x1x160x128_0_3_0_0).toLoadRect (harg3.unread x1))) (k0_pay80 (View.readAt (Elt Ideal) arg4.view (Rect.unit (s := S1x8x128) ![0, 2, 0] S1x1x128.size inb_S1x8x128_S1x1x128_0_2_0).toLoadRect (harg4.unread x2)) (View.readAt (Elt Ideal) arg4.view (Rect.unit (s := S1x8x128) ![0, 3, 0] S1x1x128.size inb_S1x8x128_S1x1x128_0_3_0).toLoadRect (harg4.unread x2))) (View.readAt (Elt Ideal) arg5.view (Rect.unit (s := S1x2x4x128) ![0, 0, 2, 0] S1x1x1x128.size inb_S1x2x4x128_S1x1x1x128_0_0_2_0).toLoadRect (harg5.unread x3)) (View.readAt (Elt Ideal) arg5.view (Rect.unit (s := S1x2x4x128) ![0, 0, 3, 0] S1x1x1x128.size inb_S1x2x4x128_S1x1x1x128_0_0_3_0).toLoadRect (harg5.unread x3)) (View.readAt (Elt Ideal) arg14.view (Rect.unit (s := S1x2x128x256) ![0, 0, 0, 0] S1x1x128x160.size inb_S1x2x128x256_S1x1x128x160_0_0_0_0).toLoadRect (harg14.unread x12))) (k0_pay84 (k0_pay76 (iota .tc S128x256 32 [0] iota_S128x256_d0_w32) k0_pay73 64#32 k0_pay74 k0_pay75) (k0_pay79 (View.readAt (Elt Ideal) arg3.view (Rect.unit (s := S1x8x160x128) ![0, 2, 0, 0] S1x1x160x128.size inb_S1x8x160x128_S1x1x160x128_0_2_0_0).toLoadRect (harg3.unread x1)) (View.readAt (Elt Ideal) arg3.view (Rect.unit (s := S1x8x160x128) ![0, 3, 0, 0] S1x1x160x128.size inb_S1x8x160x128_S1x1x160x128_0_3_0_0).toLoadRect (harg3.unread x1))) (k0_pay80 (View.readAt (Elt Ideal) arg4.view (Rect.unit (s := S1x8x128) ![0, 2, 0] S1x1x128.size inb_S1x8x128_S1x1x128_0_2_0).toLoadRect (harg4.unread x2)) (View.readAt (Elt Ideal) arg4.view (Rect.unit (s := S1x8x128) ![0, 3, 0] S1x1x128.size inb_S1x8x128_S1x1x128_0_3_0).toLoadRect (harg4.unread x2))) (View.readAt (Elt Ideal) arg5.view (Rect.unit (s := S1x2x4x128) ![0, 0, 2, 0] S1x1x1x128.size inb_S1x2x4x128_S1x1x1x128_0_0_2_0).toLoadRect (harg5.unread x3)) (View.readAt (Elt Ideal) arg5.view (Rect.unit (s := S1x2x4x128) ![0, 0, 3, 0] S1x1x1x128.size inb_S1x2x4x128_S1x1x1x128_0_0_3_0).toLoadRect (harg5.unread x3)) (View.readAt (Elt Ideal) arg14.view (Rect.unit (s := S1x2x128x256) ![0, 0, 0, 0] S1x1x128x160.size inb_S1x2x128x256_S1x1x128x160_0_0_0_0).toLoadRect (harg14.unread x12))) (k0_pay85 (View.readAt (Elt Ideal) arg9.view { off := ![0, 0, 2, 0], size := S1x1x128x128.size, stride := ![1, 1, 8, 1], inb := inb_S1x2x1024x128_S1x1x128x128_0_0_2_0_s_1_1_8_1 } (harg9.unread x7))) (k0_pay86 (View.readAt (Elt Ideal) arg9.view { off := ![0, 0, 3, 0], size := S1x1x128x128.size, stride := ![1, 1, 8, 1], inb := inb_S1x2x1024x128_S1x1x128x128_0_0_3_0_s_1_1_8_1 } (harg9.unread x7))) (k0_pay87 (View.readAt (Elt Ideal) arg9.view { off := ![0, 0, 6, 0], size := S1x1x128x128.size, stride := ![1, 1, 8, 1], inb := inb_S1x2x1024x128_S1x1x128x128_0_0_6_0_s_1_1_8_1 } (harg9.unread x7))) (View.readAt (Elt Ideal) arg9.view { off := ![0, 0, 7, 0], size := S1x1x128x128.size, stride := ![1, 1, 8, 1], inb := inb_S1x2x1024x128_S1x1x128x128_0_0_7_0_s_1_1_8_1 } (harg9.unread x7))) (ix4 0 0 d c') = os (tA x0 x1 x2 x3 x4 x5 x6 x7 x8 x9 x10 x11 x12) (i 0) 2 d (tq (i 1) c') := by
  refine (lo_at d c' _).trans ((KHead.sel1 c i arg2 harg2 arg3 harg3 arg4 harg4 arg5 harg5 arg9 harg9 arg11 harg11 arg14 harg14 x0 x1 x2 x3 x4 x5 x6 x7 x8 x9 x10 x11 x12 d ⟨c'.val, by omega⟩).trans ?_)
  exact congrArg₂ (fun h t => os (tA x0 x1 x2 x3 x4 x5 x6 x7 x8 x9 x10 x11 x12) (i 0) h d t) (hp_lo 1 c') (tm_lo (i 1) c')

theorem sel_3 (d : Fin 160) (c' : Fin 128) : k0_pay99 (k0_pay88 (Hand.kernelRun.sl.r_9 (F := Ideal) c i arg2 harg2 x0) (k0_pay83 (k0_pay76 (iota .tc S128x256 32 [0] iota_S128x256_d0_w32) k0_pay73 64#32 k0_pay74 k0_pay75) (k0_pay78 (View.readAt (Elt Ideal) arg11.view (Rect.unit (s := S1x2x160x24576) (k0_off27 i) S1x1x160x128.size (k0_off27_inb i)).toLoadRect (harg11.unread x9))) (k0_pay79 (View.readAt (Elt Ideal) arg3.view (Rect.unit (s := S1x8x160x128) ![0, 2, 0, 0] S1x1x160x128.size inb_S1x8x160x128_S1x1x160x128_0_2_0_0).toLoadRect (harg3.unread x1)) (View.readAt (Elt Ideal) arg3.view (Rect.unit (s := S1x8x160x128) ![0, 3, 0, 0] S1x1x160x128.size inb_S1x8x160x128_S1x1x160x128_0_3_0_0).toLoadRect (harg3.unread x1))) (k0_pay80 (View.readAt (Elt Ideal) arg4.view (Rect.unit (s := S1x8x128) ![0, 2, 0] S1x1x128.size inb_S1x8x128_S1x1x128_0_2_0).toLoadRect (harg4.unread x2)) (View.readAt (Elt Ideal) arg4.view (Rect.unit (s := S1x8x128) ![0, 3, 0] S1x1x128.size inb_S1x8x128_S1x1x128_0_3_0).toLoadRect (harg4.unread x2))) (View.readAt (Elt Ideal) arg5.view (Rect.unit (s := S1x2x4x128) ![0, 0, 2, 0] S1x1x1x128.size inb_S1x2x4x128_S1x1x1x128_0_0_2_0).toLoadRect (harg5.unread x3)) (View.readAt (Elt Ideal) arg5.view (Rect.unit (s := S1x2x4x128) ![0, 0, 3, 0] S1x1x1x128.size inb_S1x2x4x128_S1x1x1x128_0_0_3_0).toLoadRect (harg5.unread x3)) (View.readAt (Elt Ideal) arg14.view (Rect.unit (s := S1x2x128x256) ![0, 0, 0, 0] S1x1x128x160.size inb_S1x2x128x256_S1x1x128x160_0_0_0_0).toLoadRect (harg14.unread x12))) (k0_pay84 (k0_pay76 (iota .tc S128x256 32 [0] iota_S128x256_d0_w32) k0_pay73 64#32 k0_pay74 k0_pay75) (k0_pay79 (View.readAt (Elt Ideal) arg3.view (Rect.unit (s := S1x8x160x128) ![0, 2, 0, 0] S1x1x160x128.size inb_S1x8x160x128_S1x1x160x128_0_2_0_0).toLoadRect (harg3.unread x1)) (View.readAt (Elt Ideal) arg3.view (Rect.unit (s := S1x8x160x128) ![0, 3, 0, 0] S1x1x160x128.size inb_S1x8x160x128_S1x1x160x128_0_3_0_0).toLoadRect (harg3.unread x1))) (k0_pay80 (View.readAt (Elt Ideal) arg4.view (Rect.unit (s := S1x8x128) ![0, 2, 0] S1x1x128.size inb_S1x8x128_S1x1x128_0_2_0).toLoadRect (harg4.unread x2)) (View.readAt (Elt Ideal) arg4.view (Rect.unit (s := S1x8x128) ![0, 3, 0] S1x1x128.size inb_S1x8x128_S1x1x128_0_3_0).toLoadRect (harg4.unread x2))) (View.readAt (Elt Ideal) arg5.view (Rect.unit (s := S1x2x4x128) ![0, 0, 2, 0] S1x1x1x128.size inb_S1x2x4x128_S1x1x1x128_0_0_2_0).toLoadRect (harg5.unread x3)) (View.readAt (Elt Ideal) arg5.view (Rect.unit (s := S1x2x4x128) ![0, 0, 3, 0] S1x1x1x128.size inb_S1x2x4x128_S1x1x1x128_0_0_3_0).toLoadRect (harg5.unread x3)) (View.readAt (Elt Ideal) arg14.view (Rect.unit (s := S1x2x128x256) ![0, 0, 0, 0] S1x1x128x160.size inb_S1x2x128x256_S1x1x128x160_0_0_0_0).toLoadRect (harg14.unread x12))) (k0_pay85 (View.readAt (Elt Ideal) arg9.view { off := ![0, 0, 2, 0], size := S1x1x128x128.size, stride := ![1, 1, 8, 1], inb := inb_S1x2x1024x128_S1x1x128x128_0_0_2_0_s_1_1_8_1 } (harg9.unread x7))) (k0_pay86 (View.readAt (Elt Ideal) arg9.view { off := ![0, 0, 3, 0], size := S1x1x128x128.size, stride := ![1, 1, 8, 1], inb := inb_S1x2x1024x128_S1x1x128x128_0_0_3_0_s_1_1_8_1 } (harg9.unread x7))) (k0_pay87 (View.readAt (Elt Ideal) arg9.view { off := ![0, 0, 6, 0], size := S1x1x128x128.size, stride := ![1, 1, 8, 1], inb := inb_S1x2x1024x128_S1x1x128x128_0_0_6_0_s_1_1_8_1 } (harg9.unread x7))) (View.readAt (Elt Ideal) arg9.view { off := ![0, 0, 7, 0], size := S1x1x128x128.size, stride := ![1, 1, 8, 1], inb := inb_S1x2x1024x128_S1x1x128x128_0_0_7_0_s_1_1_8_1 } (harg9.unread x7))) (ix4 0 0 d c') = os (tA x0 x1 x2 x3 x4 x5 x6 x7 x8 x9 x10 x11 x12) (i 0) 3 d (tq (i 1) c') := by
  refine (hi_at d c' _).trans ((KHead.sel1 c i arg2 harg2 arg3 harg3 arg4 harg4 arg5 harg5 arg9 harg9 arg11 harg11 arg14 harg14 x0 x1 x2 x3 x4 x5 x6 x7 x8 x9 x10 x11 x12 d ⟨128 + c'.val, by omega⟩).trans ?_)
  exact congrArg₂ (fun h t => os (tA x0 x1 x2 x3 x4 x5 x6 x7 x8 x9 x10 x11 x12) (i 0) h d t) (hp_hi 1 c') (tm_hi (i 1) c')

theorem sel_4 (d : Fin 160) (c' : Fin 128) : k0_pay94 (k0_pay88 (Hand.kernelRun.sl.r_36 (F := Ideal) c i arg2 harg2 x0) (k0_pay83 (k0_pay76 (iota .tc S128x256 32 [0] iota_S128x256_d0_w32) k0_pay73 64#32 k0_pay74 k0_pay75) (k0_pay78 (View.readAt (Elt Ideal) arg11.view (Rect.unit (s := S1x2x160x24576) (k0_off30 i) S1x1x160x128.size (k0_off30_inb i)).toLoadRect (harg11.unread x9))) (k0_pay79 (View.readAt (Elt Ideal) arg3.view (Rect.unit (s := S1x8x160x128) ![0, 4, 0, 0] S1x1x160x128.size inb_S1x8x160x128_S1x1x160x128_0_4_0_0).toLoadRect (harg3.unread x1)) (View.readAt (Elt Ideal) arg3.view (Rect.unit (s := S1x8x160x128) ![0, 5, 0, 0] S1x1x160x128.size inb_S1x8x160x128_S1x1x160x128_0_5_0_0).toLoadRect (harg3.unread x1))) (k0_pay80 (View.readAt (Elt Ideal) arg4.view (Rect.unit (s := S1x8x128) ![0, 4, 0] S1x1x128.size inb_S1x8x128_S1x1x128_0_4_0).toLoadRect (harg4.unread x2)) (View.readAt (Elt Ideal) arg4.view (Rect.unit (s := S1x8x128) ![0, 5, 0] S1x1x128.size inb_S1x8x128_S1x1x128_0_5_0).toLoadRect (harg4.unread x2))) (View.readAt (Elt Ideal) arg5.view (Rect.unit (s := S1x2x4x128) ![0, 1, 0, 0] S1x1x1x128.size inb_S1x2x4x128_S1x1x1x128_0_1_0_0).toLoadRect (harg5.unread x3)) (View.readAt (Elt Ideal) arg5.view (Rect.unit (s := S1x2x4x128) ![0, 1, 1, 0] S1x1x1x128.size inb_S1x2x4x128_S1x1x1x128_0_1_1_0).toLoadRect (harg5.unread x3)) (View.readAt (Elt Ideal) arg14.view (Rect.unit (s := S1x2x128x256) ![0, 1, 0, 0] S1x1x128x160.size inb_S1x2x128x256_S1x1x128x160_0_1_0_0).toLoadRect (harg14.unread x12))) (k0_pay84 (k0_pay76 (iota .tc S128x256 32 [0] iota_S128x256_d0_w32) k0_pay73 64#32 k0_pay74 k0_pay75) (k0_pay79 (View.readAt (Elt Ideal) arg3.view (Rect.unit (s := S1x8x160x128) ![0, 4, 0, 0] S1x1x160x128.size inb_S1x8x160x128_S1x1x160x128_0_4_0_0).toLoadRect (harg3.unread x1)) (View.readAt (Elt Ideal) arg3.view (Rect.unit (s := S1x8x160x128) ![0, 5, 0, 0] S1x1x160x128.size inb_S1x8x160x128_S1x1x160x128_0_5_0_0).toLoadRect (harg3.unread x1))) (k0_pay80 (View.readAt (Elt Ideal) arg4.view (Rect.unit (s := S1x8x128) ![0, 4, 0] S1x1x128.size inb_S1x8x128_S1x1x128_0_4_0).toLoadRect (harg4.unread x2)) (View.readAt (Elt Ideal) arg4.view (Rect.unit (s := S1x8x128) ![0, 5, 0] S1x1x128.size inb_S1x8x128_S1x1x128_0_5_0).toLoadRect (harg4.unread x2))) (View.readAt (Elt Ideal) arg5.view (Rect.unit (s := S1x2x4x128) ![0, 1, 0, 0] S1x1x1x128.size inb_S1x2x4x128_S1x1x1x128_0_1_0_0).toLoadRect (harg5.unread x3)) (View.readAt (Elt Ideal) arg5.view (Rect.unit (s := S1x2x4x128) ![0, 1, 1, 0] S1x1x1x128.size inb_S1x2x4x128_S1x1x1x128_0_1_1_0).toLoadRect (harg5.unread x3)) (View.readAt (Elt Ideal) arg14.view (Rect.unit (s := S1x2x128x256) ![0, 1, 0, 0] S1x1x128x160.size inb_S1x2x128x256_S1x1x128x160_0_1_0_0).toLoadRect (harg14.unread x12))) (k0_pay85 (View.readAt (Elt Ideal) arg9.view { off := ![0, 1, 0, 0], size := S1x1x128x128.size, stride := ![1, 1, 8, 1], inb := inb_S1x2x1024x128_S1x1x128x128_0_1_0_0_s_1_1_8_1 } (harg9.unread x7))) (k0_pay86 (View.readAt (Elt Ideal) arg9.view { off := ![0, 1, 1, 0], size := S1x1x128x128.size, stride := ![1, 1, 8, 1], inb := inb_S1x2x1024x128_S1x1x128x128_0_1_1_0_s_1_1_8_1 } (harg9.unread x7))) (k0_pay87 (View.readAt (Elt Ideal) arg9.view { off := ![0, 1, 4, 0], size := S1x1x128x128.size, stride := ![1, 1, 8, 1], inb := inb_S1x2x1024x128_S1x1x128x128_0_1_4_0_s_1_1_8_1 } (harg9.unread x7))) (View.readAt (Elt Ideal) arg9.view { off := ![0, 1, 5, 0], size := S1x1x128x128.size, stride := ![1, 1, 8, 1], inb := inb_S1x2x1024x128_S1x1x128x128_0_1_5_0_s_1_1_8_1 } (harg9.unread x7))) (ix4 0 0 d c') = os (tA x0 x1 x2 x3 x4 x5 x6 x7 x8 x9 x10 x11 x12) (i 0) 4 d (tq (i 1) c') := by
  refine (lo_at d c' _).trans ((KHead.sel2 c i arg2 harg2 arg3 harg3 arg4 harg4 arg5 harg5 arg9 harg9 arg11 harg11 arg14 harg14 x0 x1 x2 x3 x4 x5 x6 x7 x8 x9 x10 x11 x12 d ⟨c'.val, by omega⟩).trans ?_)
  exact congrArg₂ (fun h t => os (tA x0 x1 x2 x3 x4 x5 x6 x7 x8 x9 x10 x11 x12) (i 0) h d t) (hp_lo 2 c') (tm_lo (i 1) c')

theorem sel_5 (d : Fin 160) (c' : Fin 128) : k0_pay99 (k0_pay88 (Hand.kernelRun.sl.r_36 (F := Ideal) c i arg2 harg2 x0) (k0_pay83 (k0_pay76 (iota .tc S128x256 32 [0] iota_S128x256_d0_w32) k0_pay73 64#32 k0_pay74 k0_pay75) (k0_pay78 (View.readAt (Elt Ideal) arg11.view (Rect.unit (s := S1x2x160x24576) (k0_off30 i) S1x1x160x128.size (k0_off30_inb i)).toLoadRect (harg11.unread x9))) (k0_pay79 (View.readAt (Elt Ideal) arg3.view (Rect.unit (s := S1x8x160x128) ![0, 4, 0, 0] S1x1x160x128.size inb_S1x8x160x128_S1x1x160x128_0_4_0_0).toLoadRect (harg3.unread x1)) (View.readAt (Elt Ideal) arg3.view (Rect.unit (s := S1x8x160x128) ![0, 5, 0, 0] S1x1x160x128.size inb_S1x8x160x128_S1x1x160x128_0_5_0_0).toLoadRect (harg3.unread x1))) (k0_pay80 (View.readAt (Elt Ideal) arg4.view (Rect.unit (s := S1x8x128) ![0, 4, 0] S1x1x128.size inb_S1x8x128_S1x1x128_0_4_0).toLoadRect (harg4.unread x2)) (View.readAt (Elt Ideal) arg4.view (Rect.unit (s := S1x8x128) ![0, 5, 0] S1x1x128.size inb_S1x8x128_S1x1x128_0_5_0).toLoadRect (harg4.unread x2))) (View.readAt (Elt Ideal) arg5.view (Rect.unit (s := S1x2x4x128) ![0, 1, 0, 0] S1x1x1x128.size inb_S1x2x4x128_S1x1x1x128_0_1_0_0).toLoadRect (harg5.unread x3)) (View.readAt (Elt Ideal) arg5.view (Rect.unit (s := S1x2x4x128) ![0, 1, 1, 0] S1x1x1x128.size inb_S1x2x4x128_S1x1x1x128_0_1_1_0).toLoadRect (harg5.unread x3)) (View.readAt (Elt Ideal) arg14.view (Rect.unit (s := S1x2x128x256) ![0, 1, 0, 0] S1x1x128x160.size inb_S1x2x128x256_S1x1x128x160_0_1_0_0).toLoadRect (harg14.unread x12))) (k0_pay84 (k0_pay76 (iota .tc S128x256 32 [0] iota_S128x256_d0_w32) k0_pay73 64#32 k0_pay74 k0_pay75) (k0_pay79 (View.readAt (Elt Ideal) arg3.view (Rect.unit (s := S1x8x160x128) ![0, 4, 0, 0] S1x1x160x128.size inb_S1x8x160x128_S1x1x160x128_0_4_0_0).toLoadRect (harg3.unread x1)) (View.readAt (Elt Ideal) arg3.view (Rect.unit (s := S1x8x160x128) ![0, 5, 0, 0] S1x1x160x128.size inb_S1x8x160x128_S1x1x160x128_0_5_0_0).toLoadRect (harg3.unread x1))) (k0_pay80 (View.readAt (Elt Ideal) arg4.view (Rect.unit (s := S1x8x128) ![0, 4, 0] S1x1x128.size inb_S1x8x128_S1x1x128_0_4_0).toLoadRect (harg4.unread x2)) (View.readAt (Elt Ideal) arg4.view (Rect.unit (s := S1x8x128) ![0, 5, 0] S1x1x128.size inb_S1x8x128_S1x1x128_0_5_0).toLoadRect (harg4.unread x2))) (View.readAt (Elt Ideal) arg5.view (Rect.unit (s := S1x2x4x128) ![0, 1, 0, 0] S1x1x1x128.size inb_S1x2x4x128_S1x1x1x128_0_1_0_0).toLoadRect (harg5.unread x3)) (View.readAt (Elt Ideal) arg5.view (Rect.unit (s := S1x2x4x128) ![0, 1, 1, 0] S1x1x1x128.size inb_S1x2x4x128_S1x1x1x128_0_1_1_0).toLoadRect (harg5.unread x3)) (View.readAt (Elt Ideal) arg14.view (Rect.unit (s := S1x2x128x256) ![0, 1, 0, 0] S1x1x128x160.size inb_S1x2x128x256_S1x1x128x160_0_1_0_0).toLoadRect (harg14.unread x12))) (k0_pay85 (View.readAt (Elt Ideal) arg9.view { off := ![0, 1, 0, 0], size := S1x1x128x128.size, stride := ![1, 1, 8, 1], inb := inb_S1x2x1024x128_S1x1x128x128_0_1_0_0_s_1_1_8_1 } (harg9.unread x7))) (k0_pay86 (View.readAt (Elt Ideal) arg9.view { off := ![0, 1, 1, 0], size := S1x1x128x128.size, stride := ![1, 1, 8, 1], inb := inb_S1x2x1024x128_S1x1x128x128_0_1_1_0_s_1_1_8_1 } (harg9.unread x7))) (k0_pay87 (View.readAt (Elt Ideal) arg9.view { off := ![0, 1, 4, 0], size := S1x1x128x128.size, stride := ![1, 1, 8, 1], inb := inb_S1x2x1024x128_S1x1x128x128_0_1_4_0_s_1_1_8_1 } (harg9.unread x7))) (View.readAt (Elt Ideal) arg9.view { off := ![0, 1, 5, 0], size := S1x1x128x128.size, stride := ![1, 1, 8, 1], inb := inb_S1x2x1024x128_S1x1x128x128_0_1_5_0_s_1_1_8_1 } (harg9.unread x7))) (ix4 0 0 d c') = os (tA x0 x1 x2 x3 x4 x5 x6 x7 x8 x9 x10 x11 x12) (i 0) 5 d (tq (i 1) c') := by
  refine (hi_at d c' _).trans ((KHead.sel2 c i arg2 harg2 arg3 harg3 arg4 harg4 arg5 harg5 arg9 harg9 arg11 harg11 arg14 harg14 x0 x1 x2 x3 x4 x5 x6 x7 x8 x9 x10 x11 x12 d ⟨128 + c'.val, by omega⟩).trans ?_)
  exact congrArg₂ (fun h t => os (tA x0 x1 x2 x3 x4 x5 x6 x7 x8 x9 x10 x11 x12) (i 0) h d t) (hp_hi 2 c') (tm_hi (i 1) c')

theorem sel_6 (d : Fin 160) (c' : Fin 128) : k0_pay94 (k0_pay88 (Hand.kernelRun.sl.r_36 (F := Ideal) c i arg2 harg2 x0) (k0_pay83 (k0_pay76 (iota .tc S128x256 32 [0] iota_S128x256_d0_w32) k0_pay73 64#32 k0_pay74 k0_pay75) (k0_pay78 (View.readAt (Elt Ideal) arg11.view (Rect.unit (s := S1x2x160x24576) (k0_off30 i) S1x1x160x128.size (k0_off30_inb i)).toLoadRect (harg11.unread x9))) (k0_pay79 (View.readAt (Elt Ideal) arg3.view (Rect.unit (s := S1x8x160x128) ![0, 6, 0, 0] S1x1x160x128.size inb_S1x8x160x128_S1x1x160x128_0_6_0_0).toLoadRect (harg3.unread x1)) (View.readAt (Elt Ideal) arg3.view (Rect.unit (s := S1x8x160x128) ![0, 7, 0, 0] S1x1x160x128.size inb_S1x8x160x128_S1x1x160x128_0_7_0_0).toLoadRect (harg3.unread x1))) (k0_pay80 (View.readAt (Elt Ideal) arg4.view (Rect.unit (s := S1x8x128) ![0, 6, 0] S1x1x128.size inb_S1x8x128_S1x1x128_0_6_0).toLoadRect (harg4.unread x2)) (View.readAt (Elt Ideal) arg4.view (Rect.unit (s := S1x8x128) ![0, 7, 0] S1x1x128.size inb_S1x8x128_S1x1x128_0_7_0).toLoadRect (harg4.unread x2))) (View.readAt (Elt Ideal) arg5.view (Rect.unit (s := S1x2x4x128) ![0, 1, 2, 0] S1x1x1x128.size inb_S1x2x4x128_S1x1x1x128_0_1_2_0).toLoadRect (harg5.unread x3)) (View.readAt (Elt Ideal) arg5.view (Rect.unit (s := S1x2x4x128) ![0, 1, 3, 0] S1x1x1x128.size inb_S1x2x4x128_S1x1x1x128_0_1_3_0).toLoadRect (harg5.unread x3)) (View.readAt (Elt Ideal) arg14.view (Rect.unit (s := S1x2x128x256) ![0, 1, 0, 0] S1x1x128x160.size inb_S1x2x128x256_S1x1x128x160_0_1_0_0).toLoadRect (harg14.unread x12))) (k0_pay84 (k0_pay76 (iota .tc S128x256 32 [0] iota_S128x256_d0_w32) k0_pay73 64#32 k0_pay74 k0_pay75) (k0_pay79 (View.readAt (Elt Ideal) arg3.view (Rect.unit (s := S1x8x160x128) ![0, 6, 0, 0] S1x1x160x128.size inb_S1x8x160x128_S1x1x160x128_0_6_0_0).toLoadRect (harg3.unread x1)) (View.readAt (Elt Ideal) arg3.view (Rect.unit (s := S1x8x160x128) ![0, 7, 0, 0] S1x1x160x128.size inb_S1x8x160x128_S1x1x160x128_0_7_0_0).toLoadRect (harg3.unread x1))) (k0_pay80 (View.readAt (Elt Ideal) arg4.view (Rect.unit (s := S1x8x128) ![0, 6, 0] S1x1x128.size inb_S1x8x128_S1x1x128_0_6_0).toLoadRect (harg4.unread x2)) (View.readAt (Elt Ideal) arg4.view (Rect.unit (s := S1x8x128) ![0, 7, 0] S1x1x128.size inb_S1x8x128_S1x1x128_0_7_0).toLoadRect (harg4.unread x2))) (View.readAt (Elt Ideal) arg5.view (Rect.unit (s := S1x2x4x128) ![0, 1, 2, 0] S1x1x1x128.size inb_S1x2x4x128_S1x1x1x128_0_1_2_0).toLoadRect (harg5.unread x3)) (View.readAt (Elt Ideal) arg5.view (Rect.unit (s := S1x2x4x128) ![0, 1, 3, 0] S1x1x1x128.size inb_S1x2x4x128_S1x1x1x128_0_1_3_0).toLoadRect (harg5.unread x3)) (View.readAt (Elt Ideal) arg14.view (Rect.unit (s := S1x2x128x256) ![0, 1, 0, 0] S1x1x128x160.size inb_S1x2x128x256_S1x1x128x160_0_1_0_0).toLoadRect (harg14.unread x12))) (k0_pay85 (View.readAt (Elt Ideal) arg9.view { off := ![0, 1, 2, 0], size := S1x1x128x128.size, stride := ![1, 1, 8, 1], inb := inb_S1x2x1024x128_S1x1x128x128_0_1_2_0_s_1_1_8_1 } (harg9.unread x7))) (k0_pay86 (View.readAt (Elt Ideal) arg9.view { off := ![0, 1, 3, 0], size := S1x1x128x128.size, stride := ![1, 1, 8, 1], inb := inb_S1x2x1024x128_S1x1x128x128_0_1_3_0_s_1_1_8_1 } (harg9.unread x7))) (k0_pay87 (View.readAt (Elt Ideal) arg9.view { off := ![0, 1, 6, 0], size := S1x1x128x128.size, stride := ![1, 1, 8, 1], inb := inb_S1x2x1024x128_S1x1x128x128_0_1_6_0_s_1_1_8_1 } (harg9.unread x7))) (View.readAt (Elt Ideal) arg9.view { off := ![0, 1, 7, 0], size := S1x1x128x128.size, stride := ![1, 1, 8, 1], inb := inb_S1x2x1024x128_S1x1x128x128_0_1_7_0_s_1_1_8_1 } (harg9.unread x7))) (ix4 0 0 d c') = os (tA x0 x1 x2 x3 x4 x5 x6 x7 x8 x9 x10 x11 x12) (i 0) 6 d (tq (i 1) c') := by
  refine (lo_at d c' _).trans ((KHead.sel3 c i arg2 harg2 arg3 harg3 arg4 harg4 arg5 harg5 arg9 harg9 arg11 harg11 arg14 harg14 x0 x1 x2 x3 x4 x5 x6 x7 x8 x9 x10 x11 x12 d ⟨c'.val, by omega⟩).trans ?_)
  exact congrArg₂ (fun h t => os (tA x0 x1 x2 x3 x4 x5 x6 x7 x8 x9 x10 x11 x12) (i 0) h d t) (hp_lo 3 c') (tm_lo (i 1) c')

theorem sel_7 (d : Fin 160) (c' : Fin 128) : k0_pay99 (k0_pay88 (Hand.kernelRun.sl.r_36 (F := Ideal) c i arg2 harg2 x0) (k0_pay83 (k0_pay76 (iota .tc S128x256 32 [0] iota_S128x256_d0_w32) k0_pay73 64#32 k0_pay74 k0_pay75) (k0_pay78 (View.readAt (Elt Ideal) arg11.view (Rect.unit (s := S1x2x160x24576) (k0_off30 i) S1x1x160x128.size (k0_off30_inb i)).toLoadRect (harg11.unread x9))) (k0_pay79 (View.readAt (Elt Ideal) arg3.view (Rect.unit (s := S1x8x160x128) ![0, 6, 0, 0] S1x1x160x128.size inb_S1x8x160x128_S1x1x160x128_0_6_0_0).toLoadRect (harg3.unread x1)) (View.readAt (Elt Ideal) arg3.view (Rect.unit (s := S1x8x160x128) ![0, 7, 0, 0] S1x1x160x128.size inb_S1x8x160x128_S1x1x160x128_0_7_0_0).toLoadRect (harg3.unread x1))) (k0_pay80 (View.readAt (Elt Ideal) arg4.view (Rect.unit (s := S1x8x128) ![0, 6, 0] S1x1x128.size inb_S1x8x128_S1x1x128_0_6_0).toLoadRect (harg4.unread x2)) (View.readAt (Elt Ideal) arg4.view (Rect.unit (s := S1x8x128) ![0, 7, 0] S1x1x128.size inb_S1x8x128_S1x1x128_0_7_0).toLoadRect (harg4.unread x2))) (View.readAt (Elt Ideal) arg5.view (Rect.unit (s := S1x2x4x128) ![0, 1, 2, 0] S1x1x1x128.size inb_S1x2x4x128_S1x1x1x128_0_1_2_0).toLoadRect (harg5.unread x3)) (View.readAt (Elt Ideal) arg5.view (Rect.unit (s := S1x2x4x128) ![0, 1, 3, 0] S1x1x1x128.size inb_S1x2x4x128_S1x1x1x128_0_1_3_0).toLoadRect (harg5.unread x3)) (View.readAt (Elt Ideal) arg14.view (Rect.unit (s := S1x2x128x256) ![0, 1, 0, 0] S1x1x128x160.size inb_S1x2x128x256_S1x1x128x160_0_1_0_0).toLoadRect (harg14.unread x12))) (k0_pay84 (k0_pay76 (iota .tc S128x256 32 [0] iota_S128x256_d0_w32) k0_pay73 64#32 k0_pay74 k0_pay75) (k0_pay79 (View.readAt (Elt Ideal) arg3.view (Rect.unit (s := S1x8x160x128) ![0, 6, 0, 0] S1x1x160x128.size inb_S1x8x160x128_S1x1x160x128_0_6_0_0).toLoadRect (harg3.unread x1)) (View.readAt (Elt Ideal) arg3.view (Rect.unit (s := S1x8x160x128) ![0, 7, 0, 0] S1x1x160x128.size inb_S1x8x160x128_S1x1x160x128_0_7_0_0).toLoadRect (harg3.unread x1))) (k0_pay80 (View.readAt (Elt Ideal) arg4.view (Rect.unit (s := S1x8x128) ![0, 6, 0] S1x1x128.size inb_S1x8x128_S1x1x128_0_6_0).toLoadRect (harg4.unread x2)) (View.readAt (Elt Ideal) arg4.view (Rect.unit (s := S1x8x128) ![0, 7, 0] S1x1x128.size inb_S1x8x128_S1x1x128_0_7_0).toLoadRect (harg4.unread x2))) (View.readAt (Elt Ideal) arg5.view (Rect.unit (s := S1x2x4x128) ![0, 1, 2, 0] S1x1x1x128.size inb_S1x2x4x128_S1x1x1x128_0_1_2_0).toLoadRect (harg5.unread x3)) (View.readAt (Elt Ideal) arg5.view (Rect.unit (s := S1x2x4x128) ![0, 1, 3, 0] S1x1x1x128.size inb_S1x2x4x128_S1x1x1x128_0_1_3_0).toLoadRect (harg5.unread x3)) (View.readAt (Elt Ideal) arg14.view (Rect.unit (s := S1x2x128x256) ![0, 1, 0, 0] S1x1x128x160.size inb_S1x2x128x256_S1x1x128x160_0_1_0_0).toLoadRect (harg14.unread x12))) (k0_pay85 (View.readAt (Elt Ideal) arg9.view { off := ![0, 1, 2, 0], size := S1x1x128x128.size, stride := ![1, 1, 8, 1], inb := inb_S1x2x1024x128_S1x1x128x128_0_1_2_0_s_1_1_8_1 } (harg9.unread x7))) (k0_pay86 (View.readAt (Elt Ideal) arg9.view { off := ![0, 1, 3, 0], size := S1x1x128x128.size, stride := ![1, 1, 8, 1], inb := inb_S1x2x1024x128_S1x1x128x128_0_1_3_0_s_1_1_8_1 } (harg9.unread x7))) (k0_pay87 (View.readAt (Elt Ideal) arg9.view { off := ![0, 1, 6, 0], size := S1x1x128x128.size, stride := ![1, 1, 8, 1], inb := inb_S1x2x1024x128_S1x1x128x128_0_1_6_0_s_1_1_8_1 } (harg9.unread x7))) (View.readAt (Elt Ideal) arg9.view { off := ![0, 1, 7, 0], size := S1x1x128x128.size, stride := ![1, 1, 8, 1], inb := inb_S1x2x1024x128_S1x1x128x128_0_1_7_0_s_1_1_8_1 } (harg9.unread x7))) (ix4 0 0 d c') = os (tA x0 x1 x2 x3 x4 x5 x6 x7 x8 x9 x10 x11 x12) (i 0) 7 d (tq (i 1) c') := by
  refine (hi_at d c' _).trans ((KHead.sel3 c i arg2 harg2 arg3 harg3 arg4 harg4 arg5 harg5 arg9 harg9 arg11 harg11 arg14 harg14 x0 x1 x2 x3 x4 x5 x6 x7 x8 x9 x10 x11 x12 d ⟨128 + c'.val, by omega⟩).trans ?_)
  exact congrArg₂ (fun h t => os (tA x0 x1 x2 x3 x4 x5 x6 x7 x8 x9 x10 x11 x12) (i 0) h d t) (hp_hi 3 c') (tm_hi (i 1) c')

/-- The stored blocks are the branch's. -/
theorem sel_pieces : View.PiecesOf (Gs i x0 x1 x2 x3 x4 x5 x6 x7 x8 x9 x10 x11 x12) ((Hand.kernelRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12).2.2.1 fs0 fs1 fs2) := by
  unfold Hand.kernelRun
  dsimp only
  refine ⟨?_, ?_, ?_, ?_, ?_, ?_, ?_, ?_, trivial⟩
  · refine piece4 (Gs i x0 x1 x2 x3 x4 x5 x6 x7 x8 x9 x10 x11 x12) _ inb_S1x8x160x128_S1x1x160x128_0_7_0_0 _ 0 7 rfl fun d c' => ?_
    exact sel_7 c i arg2 harg2 arg3 harg3 arg4 harg4 arg5 harg5 arg9 harg9 arg11 harg11 arg14 harg14 x0 x1 x2 x3 x4 x5 x6 x7 x8 x9 x10 x11 x12 d c'
  · refine piece4 (Gs i x0 x1 x2 x3 x4 x5 x6 x7 x8 x9 x10 x11 x12) _ inb_S1x8x160x128_S1x1x160x128_0_6_0_0 _ 0 6 rfl fun d c' => ?_
    exact sel_6 c i arg2 harg2 arg3 harg3 arg4 harg4 arg5 harg5 arg9 harg9 arg11 harg11 arg14 harg14 x0 x1 x2 x3 x4 x5 x6 x7 x8 x9 x10 x11 x12 d c'
  · refine piece4 (Gs i x0 x1 x2 x3 x4 x5 x6 x7 x8 x9 x10 x11 x12) _ inb_S1x8x160x128_S1x1x160x128_0_5_0_0 _ 0 5 rfl fun d c' => ?_
    exact sel_5 c i arg2 harg2 arg3 harg3 arg4 harg4 arg5 harg5 arg9 harg9 arg11 harg11 arg14 harg14 x0 x1 x2 x3 x4 x5 x6 x7 x8 x9 x10 x11 x12 d c'
  · refine piece4 (Gs i x0 x1 x2 x3 x4 x5 x6 x7 x8 x9 x10 x11 x12) _ inb_S1x8x160x128_S1x1x160x128_0_4_0_0 _ 0 4 rfl fun d c' => ?_
    exact sel_4 c i arg2 harg2 arg3 harg3 arg4 harg4 arg5 harg5 arg9 harg9 arg11 harg11 arg14 harg14 x0 x1 x2 x3 x4 x5 x6 x7 x8 x9 x10 x11 x12 d c'
  · refine piece4 (Gs i x0 x1 x2 x3 x4 x5 x6 x7 x8 x9 x10 x11 x12) _ inb_S1x8x160x128_S1x1x160x128_0_3_0_0 _ 0 3 rfl fun d c' => ?_
    exact sel_3 c i arg2 harg2 arg3 harg3 arg4 harg4 arg5 harg5 arg9 harg9 arg11 harg11 arg14 harg14 x0 x1 x2 x3 x4 x5 x6 x7 x8 x9 x10 x11 x12 d c'
  · refine piece4 (Gs i x0 x1 x2 x3 x4 x5 x6 x7 x8 x9 x10 x11 x12) _ inb_S1x8x160x128_S1x1x160x128_0_2_0_0 _ 0 2 rfl fun d c' => ?_
    exact sel_2 c i arg2 harg2 arg3 harg3 arg4 harg4 arg5 harg5 arg9 harg9 arg11 harg11 arg14 harg14 x0 x1 x2 x3 x4 x5 x6 x7 x8 x9 x10 x11 x12 d c'
  · refine piece4 (Gs i x0 x1 x2 x3 x4 x5 x6 x7 x8 x9 x10 x11 x12) _ inb_S1x8x160x128_S1x1x160x128_0_1_0_0 _ 0 1 rfl fun d c' => ?_
    exact sel_1 c i arg2 harg2 arg3 harg3 arg4 harg4 arg5 harg5 arg9 harg9 arg11 harg11 arg14 harg14 x0 x1 x2 x3 x4 x5 x6 x7 x8 x9 x10 x11 x12 d c'
  · refine piece4 (Gs i x0 x1 x2 x3 x4 x5 x6 x7 x8 x9 x10 x11 x12) _ inb_S1x8x160x128_S1x1x160x128_0_0_0_0 _ 0 0 rfl fun d c' => ?_
    exact sel_0 c i arg2 harg2 arg3 harg3 arg4 harg4 arg5 harg5 arg9 harg9 arg11 harg11 arg14 harg14 x0 x1 x2 x3 x4 x5 x6 x7 x8 x9 x10 x11 x12 d c'

/-- They cover the tile. -/
theorem sel_cover (y : S1x8x160x128.Idx) : ∃ q ∈ ((Hand.kernelRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12).2.2.1 fs0 fs1 fs2), y ∈ q.1.set := by
  unfold Hand.kernelRun
  dsimp only
  have h1 : (y 1).val < 8 := (y 1).isLt
  rcases (by omega : (y 1).val = 7 ∨ (y 1).val = 6 ∨ (y 1).val = 5 ∨ (y 1).val = 4 ∨ (y 1).val = 3 ∨ (y 1).val = 2 ∨ (y 1).val = 1 ∨ (y 1).val = 0) with h | h | h | h | h | h | h | h
  · exact ⟨_, List.mem_cons_self, cov4 y 7 inb_S1x8x160x128_S1x1x160x128_0_7_0_0 h⟩
  · exact ⟨_, (List.mem_cons_of_mem _ List.mem_cons_self), cov4 y 6 inb_S1x8x160x128_S1x1x160x128_0_6_0_0 h⟩
  · exact ⟨_, (List.mem_cons_of_mem _ (List.mem_cons_of_mem _ List.mem_cons_self)), cov4 y 5 inb_S1x8x160x128_S1x1x160x128_0_5_0_0 h⟩
  · exact ⟨_, (List.mem_cons_of_mem _ (List.mem_cons_of_mem _ (List.mem_cons_of_mem _ List.mem_cons_self))), cov4 y 4 inb_S1x8x160x128_S1x1x160x128_0_4_0_0 h⟩
  · exact ⟨_, (List.mem_cons_of_mem _ (List.mem_cons_of_mem _ (List.mem_cons_of_mem _ (List.mem_cons_of_mem _ List.mem_cons_self)))), cov4 y 3 inb_S1x8x160x128_S1x1x160x128_0_3_0_0 h⟩
  · exact ⟨_, (List.mem_cons_of_mem _ (List.mem_cons_of_mem _ (List.mem_cons_of_mem _ (List.mem_cons_of_mem _ (List.mem_cons_of_mem _ List.mem_cons_self))))), cov4 y 2 inb_S1x8x160x128_S1x1x160x128_0_2_0_0 h⟩
  · exact ⟨_, (List.mem_cons_of_mem _ (List.mem_cons_of_mem _ (List.mem_cons_of_mem _ (List.mem_cons_of_mem _ (List.mem_cons_of_mem _ (List.mem_cons_of_mem _ List.mem_cons_self)))))), cov4 y 1 inb_S1x8x160x128_S1x1x160x128_0_1_0_0 h⟩
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), cov4 y 0 inb_S1x8x160x128_S1x1x160x128_0_0_0_0 h⟩

theorem cmp_0 (d : Fin 160) (c' : Fin 128) : k0_pay94 (k0_pay89 (Hand.kernelRun.sl.r_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (Hand.kernelRun.sl.r_9 (F := Ideal) c i arg2 harg2 x0) (Hand.kernelRun.sl.v204 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0)) (ix4 0 0 d c') = oc (tA x0 x1 x2 x3 x4 x5 x6 x7 x8 x9 x10 x11 x12) (i 0) 0 d (tq (i 1) c') := by
  refine (lo_at d c' _).trans ((KCmp.cmp0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 d ⟨c'.val, by omega⟩).trans ?_)
  exact congrArg₂ (fun h t => oc (tA x0 x1 x2 x3 x4 x5 x6 x7 x8 x9 x10 x11 x12) (i 0) h d t) (hp_lo 0 c') (tm_lo (i 1) c')

theorem cmp_1 (d : Fin 160) (c' : Fin 128) : k0_pay99 (k0_pay89 (Hand.kernelRun.sl.r_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (Hand.kernelRun.sl.r_9 (F := Ideal) c i arg2 harg2 x0) (Hand.kernelRun.sl.v204 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0)) (ix4 0 0 d c') = oc (tA x0 x1 x2 x3 x4 x5 x6 x7 x8 x9 x10 x11 x12) (i 0) 1 d (tq (i 1) c') := by
  refine (hi_at d c' _).trans ((KCmp.cmp0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 d ⟨128 + c'.val, by omega⟩).trans ?_)
  exact congrArg₂ (fun h t => oc (tA x0 x1 x2 x3 x4 x5 x6 x7 x8 x9 x10 x11 x12) (i 0) h d t) (hp_hi 0 c') (tm_hi (i 1) c')

theorem cmp_2 (d : Fin 160) (c' : Fin 128) : k0_pay94 (k0_pay89 (Hand.kernelRun.sl.r_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (Hand.kernelRun.sl.r_9 (F := Ideal) c i arg2 harg2 x0) (Hand.kernelRun.sl.v357 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0)) (ix4 0 0 d c') = oc (tA x0 x1 x2 x3 x4 x5 x6 x7 x8 x9 x10 x11 x12) (i 0) 2 d (tq (i 1) c') := by
  refine (lo_at d c' _).trans ((KCmp.cmp1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 d ⟨c'.val, by omega⟩).trans ?_)
  exact congrArg₂ (fun h t => oc (tA x0 x1 x2 x3 x4 x5 x6 x7 x8 x9 x10 x11 x12) (i 0) h d t) (hp_lo 1 c') (tm_lo (i 1) c')

theorem cmp_3 (d : Fin 160) (c' : Fin 128) : k0_pay99 (k0_pay89 (Hand.kernelRun.sl.r_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (Hand.kernelRun.sl.r_9 (F := Ideal) c i arg2 harg2 x0) (Hand.kernelRun.sl.v357 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0)) (ix4 0 0 d c') = oc (tA x0 x1 x2 x3 x4 x5 x6 x7 x8 x9 x10 x11 x12) (i 0) 3 d (tq (i 1) c') := by
  refine (hi_at d c' _).trans ((KCmp.cmp1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 d ⟨128 + c'.val, by omega⟩).trans ?_)
  exact congrArg₂ (fun h t => oc (tA x0 x1 x2 x3 x4 x5 x6 x7 x8 x9 x10 x11 x12) (i 0) h d t) (hp_hi 1 c') (tm_hi (i 1) c')

theorem cmp_4 (d : Fin 160) (c' : Fin 128) : k0_pay94 (k0_pay89 (Hand.kernelRun.sl.r_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (Hand.kernelRun.sl.r_36 (F := Ideal) c i arg2 harg2 x0) (Hand.kernelRun.sl.v523 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0)) (ix4 0 0 d c') = oc (tA x0 x1 x2 x3 x4 x5 x6 x7 x8 x9 x10 x11 x12) (i 0) 4 d (tq (i 1) c') := by
  refine (lo_at d c' _).trans ((KCmp.cmp2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 d ⟨c'.val, by omega⟩).trans ?_)
  exact congrArg₂ (fun h t => oc (tA x0 x1 x2 x3 x4 x5 x6 x7 x8 x9 x10 x11 x12) (i 0) h d t) (hp_lo 2 c') (tm_lo (i 1) c')

theorem cmp_5 (d : Fin 160) (c' : Fin 128) : k0_pay99 (k0_pay89 (Hand.kernelRun.sl.r_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (Hand.kernelRun.sl.r_36 (F := Ideal) c i arg2 harg2 x0) (Hand.kernelRun.sl.v523 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0)) (ix4 0 0 d c') = oc (tA x0 x1 x2 x3 x4 x5 x6 x7 x8 x9 x10 x11 x12) (i 0) 5 d (tq (i 1) c') := by
  refine (hi_at d c' _).trans ((KCmp.cmp2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 d ⟨128 + c'.val, by omega⟩).trans ?_)
  exact congrArg₂ (fun h t => oc (tA x0 x1 x2 x3 x4 x5 x6 x7 x8 x9 x10 x11 x12) (i 0) h d t) (hp_hi 2 c') (tm_hi (i 1) c')

theorem cmp_6 (d : Fin 160) (c' : Fin 128) : k0_pay94 (k0_pay89 (Hand.kernelRun.sl.r_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (Hand.kernelRun.sl.r_36 (F := Ideal) c i arg2 harg2 x0) (Hand.kernelRun.sl.v676 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0)) (ix4 0 0 d c') = oc (tA x0 x1 x2 x3 x4 x5 x6 x7 x8 x9 x10 x11 x12) (i 0) 6 d (tq (i 1) c') := by
  refine (lo_at d c' _).trans ((KCmp.cmp3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 d ⟨c'.val, by omega⟩).trans ?_)
  exact congrArg₂ (fun h t => oc (tA x0 x1 x2 x3 x4 x5 x6 x7 x8 x9 x10 x11 x12) (i 0) h d t) (hp_lo 3 c') (tm_lo (i 1) c')

theorem cmp_7 (d : Fin 160) (c' : Fin 128) : k0_pay99 (k0_pay89 (Hand.kernelRun.sl.r_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (Hand.kernelRun.sl.r_36 (F := Ideal) c i arg2 harg2 x0) (Hand.kernelRun.sl.v676 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0)) (ix4 0 0 d c') = oc (tA x0 x1 x2 x3 x4 x5 x6 x7 x8 x9 x10 x11 x12) (i 0) 7 d (tq (i 1) c') := by
  refine (hi_at d c' _).trans ((KCmp.cmp3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 d ⟨128 + c'.val, by omega⟩).trans ?_)
  exact congrArg₂ (fun h t => oc (tA x0 x1 x2 x3 x4 x5 x6 x7 x8 x9 x10 x11 x12) (i 0) h d t) (hp_hi 3 c') (tm_hi (i 1) c')

/-- The stored blocks are the branch's. -/
theorem cmp_pieces : View.PiecesOf (Gc i x0 x1 x2 x3 x4 x5 x6 x7 x8 x9 x10 x11 x12) ((Hand.kernelRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12).2.1 fs0 fs1 fs2) := by
  unfold Hand.kernelRun
  dsimp only
  refine ⟨?_, ?_, ?_, ?_, ?_, ?_, ?_, ?_, trivial⟩
  · refine piece4 (Gc i x0 x1 x2 x3 x4 x5 x6 x7 x8 x9 x10 x11 x12) _ inb_S1x8x160x128_S1x1x160x128_0_7_0_0 _ 0 7 rfl fun d c' => ?_
    exact cmp_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 d c'
  · refine piece4 (Gc i x0 x1 x2 x3 x4 x5 x6 x7 x8 x9 x10 x11 x12) _ inb_S1x8x160x128_S1x1x160x128_0_6_0_0 _ 0 6 rfl fun d c' => ?_
    exact cmp_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 d c'
  · refine piece4 (Gc i x0 x1 x2 x3 x4 x5 x6 x7 x8 x9 x10 x11 x12) _ inb_S1x8x160x128_S1x1x160x128_0_5_0_0 _ 0 5 rfl fun d c' => ?_
    exact cmp_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 d c'
  · refine piece4 (Gc i x0 x1 x2 x3 x4 x5 x6 x7 x8 x9 x10 x11 x12) _ inb_S1x8x160x128_S1x1x160x128_0_4_0_0 _ 0 4 rfl fun d c' => ?_
    exact cmp_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 d c'
  · refine piece4 (Gc i x0 x1 x2 x3 x4 x5 x6 x7 x8 x9 x10 x11 x12) _ inb_S1x8x160x128_S1x1x160x128_0_3_0_0 _ 0 3 rfl fun d c' => ?_
    exact cmp_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 d c'
  · refine piece4 (Gc i x0 x1 x2 x3 x4 x5 x6 x7 x8 x9 x10 x11 x12) _ inb_S1x8x160x128_S1x1x160x128_0_2_0_0 _ 0 2 rfl fun d c' => ?_
    exact cmp_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 d c'
  · refine piece4 (Gc i x0 x1 x2 x3 x4 x5 x6 x7 x8 x9 x10 x11 x12) _ inb_S1x8x160x128_S1x1x160x128_0_1_0_0 _ 0 1 rfl fun d c' => ?_
    exact cmp_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 d c'
  · refine piece4 (Gc i x0 x1 x2 x3 x4 x5 x6 x7 x8 x9 x10 x11 x12) _ inb_S1x8x160x128_S1x1x160x128_0_0_0_0 _ 0 0 rfl fun d c' => ?_
    exact cmp_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 d c'

/-- They cover the tile. -/
theorem cmp_cover (y : S1x8x160x128.Idx) : ∃ q ∈ ((Hand.kernelRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12).2.1 fs0 fs1 fs2), y ∈ q.1.set := by
  unfold Hand.kernelRun
  dsimp only
  have h1 : (y 1).val < 8 := (y 1).isLt
  rcases (by omega : (y 1).val = 7 ∨ (y 1).val = 6 ∨ (y 1).val = 5 ∨ (y 1).val = 4 ∨ (y 1).val = 3 ∨ (y 1).val = 2 ∨ (y 1).val = 1 ∨ (y 1).val = 0) with h | h | h | h | h | h | h | h
  · exact ⟨_, List.mem_cons_self, cov4 y 7 inb_S1x8x160x128_S1x1x160x128_0_7_0_0 h⟩
  · exact ⟨_, (List.mem_cons_of_mem _ List.mem_cons_self), cov4 y 6 inb_S1x8x160x128_S1x1x160x128_0_6_0_0 h⟩
  · exact ⟨_, (List.mem_cons_of_mem _ (List.mem_cons_of_mem _ List.mem_cons_self)), cov4 y 5 inb_S1x8x160x128_S1x1x160x128_0_5_0_0 h⟩
  · exact ⟨_, (List.mem_cons_of_mem _ (List.mem_cons_of_mem _ (List.mem_cons_of_mem _ List.mem_cons_self))), cov4 y 4 inb_S1x8x160x128_S1x1x160x128_0_4_0_0 h⟩
  · exact ⟨_, (List.mem_cons_of_mem _ (List.mem_cons_of_mem _ (List.mem_cons_of_mem _ (List.mem_cons_of_mem _ List.mem_cons_self)))), cov4 y 3 inb_S1x8x160x128_S1x1x160x128_0_3_0_0 h⟩
  · exact ⟨_, (List.mem_cons_of_mem _ (List.mem_cons_of_mem _ (List.mem_cons_of_mem _ (List.mem_cons_of_mem _ (List.mem_cons_of_mem _ List.mem_cons_self))))), cov4 y 2 inb_S1x8x160x128_S1x1x160x128_0_2_0_0 h⟩
  · exact ⟨_, (List.mem_cons_of_mem _ (List.mem_cons_of_mem _ (List.mem_cons_of_mem _ (List.mem_cons_of_mem _ (List.mem_cons_of_mem _ (List.mem_cons_of_mem _ List.mem_cons_self)))))), cov4 y 1 inb_S1x8x160x128_S1x1x160x128_0_1_0_0 h⟩
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), cov4 y 0 inb_S1x8x160x128_S1x1x160x128_0_0_0_0 h⟩

end Cert.KernelIdeal.KTile

end
-- ==== Proof.KOut.lean ====
/- What one grid point of the kernel stores: the specification's values at its tile of queries. -/
module

public import proofs.«01_k».proof.Proof.KTile
public import Idealize.ShloMosaic.Lib.Pipeline.ReadBack

@[expose] public section

set_option maxRecDepth 16384

noncomputable section

namespace Cert.KernelIdeal.KOut

open Cert.KernelIdeal Cert.KernelIdeal.KTile Cert.KernelIdeal.KLoop Cert.KernelIdeal.KSum Cert.KernelIdeal.KHead Cert.KernelIdeal.KCmp Cert.KernelIdeal.Gen Cert.KernelIdeal.KPay Cert.KernelIdeal.KGeo Idealize.ShloMosaic Cert.Soft Cert.Spec
open scoped BigOperators

variable (c : Dev nD) (i : grid0.Coords) (arg2 : Memref sig .tc .smem S6 .f32) (harg2 : arg2.IsWhole) (arg3 : Memref sig .tc .vmem S1x8x160x128 .fp8e4m3) (harg3 : arg3.IsWhole) (arg4 : Memref sig .tc .vmem S1x8x128 .f32) (harg4 : arg4.IsWhole) (arg5 : Memref sig .tc .vmem S1x2x4x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S1x2x1024x128 .f32) (harg9 : arg9.IsWhole) (arg10 : Memref sig .tc .vmem S1x2x24576x256 .fp8e4m3) (harg10 : arg10.IsWhole) (arg11 : Memref sig .tc .vmem S1x2x160x24576 .fp8e4m3) (harg11 : arg11.IsWhole) (arg12 : Memref sig .tc .vmem S1x2x1536x256 .bf16) (harg12 : arg12.IsWhole) (arg13 : Memref sig .tc .vmem S1x2x160x1536 .bf16) (harg13 : arg13.IsWhole) (arg14 : Memref sig .tc .vmem S1x2x128x256 .bf16) (harg14 : arg14.IsWhole) (arg15 : Memref sig .tc .vmem S1x128x1280 .bf16) (harg15 : arg15.IsWhole) (arg16 : Memref sig .tc .vmem S1x8x160x128 .bf16) (harg16 : arg16.IsWhole) (arg17 : Memref sig .tc .vmem S1x8x160x128 .bf16) (harg17 : arg17.IsWhole) (arg18 : Memref sig .tc .vmem S1x8x160x128 .bf16) (harg18 : arg18.IsWhole) (arg19 : Memref sig .tc .vmem S4x1536x256 .f32) (harg19 : arg19.IsWhole) (arg20 : Memref sig .tc .vmem S4x160x256 .f32) (harg20 : arg20.IsWhole) (arg21 : Memref sig .tc .vmem S1280x128 .bf16) (harg21 : arg21.IsWhole)
variable (x0 : Vec Ideal S6 .f32) (x1 : Vec Ideal S1x8x160x128 .fp8e4m3) (x2 : Vec Ideal S1x8x128 .f32) (x3 : Vec Ideal S1x2x4x128 .f32) (x4 x5 x6 : Vec Ideal S1x8x128 .f32) (x7 : Vec Ideal S1x2x1024x128 .f32) (x8 : Vec Ideal S1x2x24576x256 .fp8e4m3) (x9 : Vec Ideal S1x2x160x24576 .fp8e4m3) (x10 : Vec Ideal S1x2x1536x256 .bf16) (x11 : Vec Ideal S1x2x160x1536 .bf16) (x12 : Vec Ideal S1x2x128x256 .bf16)
variable (fs0 : BufTy.Contents (Elt Ideal) arg19.view.ty) (fs1 : BufTy.Contents (Elt Ideal) arg20.view.ty) (fs2 : BufTy.Contents (Elt Ideal) arg21.view.ty)

/-- Pair 0: the gated sum. -/
theorem y0 (d : Fin 160) (e : Fin 256) : (k0_pay91 (k0_pay81 (k0_pay72 (k0_pay54 i) (Scalar.maxsi (Scalar.subi (Scalar.muli (BitVec.ofNat 32 (i 1).val) 128#32) 512#32) 0#32)) (Hand.kernelRun.sl.r_9 (F := Ideal) c i arg2 harg2 x0) (k0_pay77 (View.readAt (Elt Ideal) arg11.view (Rect.unit (s := S1x2x160x24576) (k0_off26 i) S1x1x160x640.size (k0_off26_inb i)).toLoadRect (harg11.unread x9))) (View.readAt (Elt Ideal) arg3.view (Rect.unit (s := S1x8x160x128) ![0, 0, 0, 0] S1x1x160x128.size inb_S1x8x160x128_S1x1x160x128_0_0_0_0).toLoadRect (harg3.unread x1)) (View.readAt (Elt Ideal) arg3.view (Rect.unit (s := S1x8x160x128) ![0, 1, 0, 0] S1x1x160x128.size inb_S1x8x160x128_S1x1x160x128_0_1_0_0).toLoadRect (harg3.unread x1)) (View.readAt (Elt Ideal) arg4.view (Rect.unit (s := S1x8x128) ![0, 0, 0] S1x1x128.size inb_S1x8x128_S1x1x128_0_0_0).toLoadRect (harg4.unread x2)) (View.readAt (Elt Ideal) arg4.view (Rect.unit (s := S1x8x128) ![0, 1, 0] S1x1x128.size inb_S1x8x128_S1x1x128_0_1_0).toLoadRect (harg4.unread x2)) (View.readAt (Elt Ideal) arg10.view (Rect.unit (s := S1x2x24576x256) (k0_off28 i) S1x1x640x256.size (k0_off28_inb i)).toLoadRect (harg10.unread x8))) (k0_pay90 (Hand.kernelRun.sl.r_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (Hand.kernelRun.sl.r_9 (F := Ideal) c i arg2 harg2 x0) (k0_pay83 (k0_pay76 (iota .tc S128x256 32 [0] iota_S128x256_d0_w32) k0_pay73 64#32 k0_pay74 k0_pay75) (k0_pay78 (View.readAt (Elt Ideal) arg11.view (Rect.unit (s := S1x2x160x24576) (k0_off27 i) S1x1x160x128.size (k0_off27_inb i)).toLoadRect (harg11.unread x9))) (k0_pay79 (View.readAt (Elt Ideal) arg3.view (Rect.unit (s := S1x8x160x128) ![0, 0, 0, 0] S1x1x160x128.size inb_S1x8x160x128_S1x1x160x128_0_0_0_0).toLoadRect (harg3.unread x1)) (View.readAt (Elt Ideal) arg3.view (Rect.unit (s := S1x8x160x128) ![0, 1, 0, 0] S1x1x160x128.size inb_S1x8x160x128_S1x1x160x128_0_1_0_0).toLoadRect (harg3.unread x1))) (k0_pay80 (View.readAt (Elt Ideal) arg4.view (Rect.unit (s := S1x8x128) ![0, 0, 0] S1x1x128.size inb_S1x8x128_S1x1x128_0_0_0).toLoadRect (harg4.unread x2)) (View.readAt (Elt Ideal) arg4.view (Rect.unit (s := S1x8x128) ![0, 1, 0] S1x1x128.size inb_S1x8x128_S1x1x128_0_1_0).toLoadRect (harg4.unread x2))) (View.readAt (Elt Ideal) arg5.view (Rect.unit (s := S1x2x4x128) ![0, 0, 0, 0] S1x1x1x128.size inb_S1x2x4x128_S1x1x1x128_0_0_0_0).toLoadRect (harg5.unread x3)) (View.readAt (Elt Ideal) arg5.view (Rect.unit (s := S1x2x4x128) ![0, 0, 1, 0] S1x1x1x128.size inb_S1x2x4x128_S1x1x1x128_0_0_1_0).toLoadRect (harg5.unread x3)) (View.readAt (Elt Ideal) arg14.view (Rect.unit (s := S1x2x128x256) ![0, 0, 0, 0] S1x1x128x160.size inb_S1x2x128x256_S1x1x128x160_0_0_0_0).toLoadRect (harg14.unread x12))) (k0_pay84 (k0_pay76 (iota .tc S128x256 32 [0] iota_S128x256_d0_w32) k0_pay73 64#32 k0_pay74 k0_pay75) (k0_pay79 (View.readAt (Elt Ideal) arg3.view (Rect.unit (s := S1x8x160x128) ![0, 0, 0, 0] S1x1x160x128.size inb_S1x8x160x128_S1x1x160x128_0_0_0_0).toLoadRect (harg3.unread x1)) (View.readAt (Elt Ideal) arg3.view (Rect.unit (s := S1x8x160x128) ![0, 1, 0, 0] S1x1x160x128.size inb_S1x8x160x128_S1x1x160x128_0_1_0_0).toLoadRect (harg3.unread x1))) (k0_pay80 (View.readAt (Elt Ideal) arg4.view (Rect.unit (s := S1x8x128) ![0, 0, 0] S1x1x128.size inb_S1x8x128_S1x1x128_0_0_0).toLoadRect (harg4.unread x2)) (View.readAt (Elt Ideal) arg4.view (Rect.unit (s := S1x8x128) ![0, 1, 0] S1x1x128.size inb_S1x8x128_S1x1x128_0_1_0).toLoadRect (harg4.unread x2))) (View.readAt (Elt Ideal) arg5.view (Rect.unit (s := S1x2x4x128) ![0, 0, 0, 0] S1x1x1x128.size inb_S1x2x4x128_S1x1x1x128_0_0_0_0).toLoadRect (harg5.unread x3)) (View.readAt (Elt Ideal) arg5.view (Rect.unit (s := S1x2x4x128) ![0, 0, 1, 0] S1x1x1x128.size inb_S1x2x4x128_S1x1x1x128_0_0_1_0).toLoadRect (harg5.unread x3)) (View.readAt (Elt Ideal) arg14.view (Rect.unit (s := S1x2x128x256) ![0, 0, 0, 0] S1x1x128x160.size inb_S1x2x128x256_S1x1x128x160_0_0_0_0).toLoadRect (harg14.unread x12))) (k0_pay85 (View.readAt (Elt Ideal) arg9.view { off := ![0, 0, 0, 0], size := S1x1x128x128.size, stride := ![1, 1, 8, 1], inb := inb_S1x2x1024x128_S1x1x128x128_0_0_0_0_s_1_1_8_1 } (harg9.unread x7))) (k0_pay86 (View.readAt (Elt Ideal) arg9.view { off := ![0, 0, 1, 0], size := S1x1x128x128.size, stride := ![1, 1, 8, 1], inb := inb_S1x2x1024x128_S1x1x128x128_0_0_1_0_s_1_1_8_1 } (harg9.unread x7))) (k0_pay87 (View.readAt (Elt Ideal) arg9.view { off := ![0, 0, 4, 0], size := S1x1x128x128.size, stride := ![1, 1, 8, 1], inb := inb_S1x2x1024x128_S1x1x128x128_0_0_4_0_s_1_1_8_1 } (harg9.unread x7))) (View.readAt (Elt Ideal) arg9.view { off := ![0, 0, 5, 0], size := S1x1x128x128.size, stride := ![1, 1, 8, 1], inb := inb_S1x2x1024x128_S1x1x128x128_0_0_5_0_s_1_1_8_1 } (harg9.unread x7)) (Hand.kernelRun.sl.v204 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (View.readAt (Elt Ideal) arg6.view (Rect.unit (s := S1x8x128) ![0, 0, 0] S1x1x128.size inb_S1x8x128_S1x1x128_0_0_0).toLoadRect (harg6.unread x4)) (View.readAt (Elt Ideal) arg6.view (Rect.unit (s := S1x8x128) ![0, 1, 0] S1x1x128.size inb_S1x8x128_S1x1x128_0_1_0).toLoadRect (harg6.unread x4)) (View.readAt (Elt Ideal) arg7.view (Rect.unit (s := S1x8x128) ![0, 0, 0] S1x1x128.size inb_S1x8x128_S1x1x128_0_0_0).toLoadRect (harg7.unread x5)) (View.readAt (Elt Ideal) arg7.view (Rect.unit (s := S1x8x128) ![0, 1, 0] S1x1x128.size inb_S1x8x128_S1x1x128_0_1_0).toLoadRect (harg7.unread x5))) (View.readAt (Elt Ideal) arg8.view (Rect.unit (s := S1x8x128) ![0, 0, 0] S1x1x128.size inb_S1x8x128_S1x1x128_0_0_0).toLoadRect (harg8.unread x6)) (View.readAt (Elt Ideal) arg8.view (Rect.unit (s := S1x8x128) ![0, 1, 0] S1x1x128.size inb_S1x8x128_S1x1x128_0_1_0).toLoadRect (harg8.unread x6))) (ix2 d e) = Spec.y (tA x0 x1 x2 x3 x4 x5 x6 x7 x8 x9 x10 x11 x12) (i 0) (hp 0 e) d (tm (i 1) e) := by
  rw [pay91_at, pay90_at, KHead.win0 c i arg2 harg2 arg3 harg3 arg4 harg4 arg10 harg10 arg11 harg11 x0 x1 x2 x3 x4 x5 x6 x7 x8 x9 x10 x11 x12, cmp0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0, sel0 c i arg2 harg2 arg3 harg3 arg4 harg4 arg5 harg5 arg9 harg9 arg11 harg11 arg14 harg14 x0 x1 x2 x3 x4 x5 x6 x7 x8 x9 x10 x11 x12]
  rw [s_ce i x4 0 _ _ (fun c => rd3 harg6 x4 _ _ 0 (h0 0) c rfl rfl (by simp)) (fun c => rd3 harg6 x4 _ _ 0 (h1 0) c rfl rfl (by simp)) e]
  rw [s_ce i x5 0 _ _ (fun c => rd3 harg7 x5 _ _ 0 (h0 0) c rfl rfl (by simp)) (fun c => rd3 harg7 x5 _ _ 0 (h1 0) c rfl rfl (by simp)) e]
  rw [s_ce i x6 0 _ _ (fun c => rd3 harg8 x6 _ _ 0 (h0 0) c rfl rfl (by simp)) (fun c => rd3 harg8 x6 _ _ 0 (h1 0) c rfl rfl (by simp)) e]
  rfl

theorem y_0 (d : Fin 160) (c' : Fin 128) : k0_pay95 (k0_pay81 (k0_pay72 (k0_pay54 i) (Scalar.maxsi (Scalar.subi (Scalar.muli (BitVec.ofNat 32 (i 1).val) 128#32) 512#32) 0#32)) (Hand.kernelRun.sl.r_9 (F := Ideal) c i arg2 harg2 x0) (k0_pay77 (View.readAt (Elt Ideal) arg11.view (Rect.unit (s := S1x2x160x24576) (k0_off26 i) S1x1x160x640.size (k0_off26_inb i)).toLoadRect (harg11.unread x9))) (View.readAt (Elt Ideal) arg3.view (Rect.unit (s := S1x8x160x128) ![0, 0, 0, 0] S1x1x160x128.size inb_S1x8x160x128_S1x1x160x128_0_0_0_0).toLoadRect (harg3.unread x1)) (View.readAt (Elt Ideal) arg3.view (Rect.unit (s := S1x8x160x128) ![0, 1, 0, 0] S1x1x160x128.size inb_S1x8x160x128_S1x1x160x128_0_1_0_0).toLoadRect (harg3.unread x1)) (View.readAt (Elt Ideal) arg4.view (Rect.unit (s := S1x8x128) ![0, 0, 0] S1x1x128.size inb_S1x8x128_S1x1x128_0_0_0).toLoadRect (harg4.unread x2)) (View.readAt (Elt Ideal) arg4.view (Rect.unit (s := S1x8x128) ![0, 1, 0] S1x1x128.size inb_S1x8x128_S1x1x128_0_1_0).toLoadRect (harg4.unread x2)) (View.readAt (Elt Ideal) arg10.view (Rect.unit (s := S1x2x24576x256) (k0_off28 i) S1x1x640x256.size (k0_off28_inb i)).toLoadRect (harg10.unread x8))) (k0_pay90 (Hand.kernelRun.sl.r_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (Hand.kernelRun.sl.r_9 (F := Ideal) c i arg2 harg2 x0) (k0_pay83 (k0_pay76 (iota .tc S128x256 32 [0] iota_S128x256_d0_w32) k0_pay73 64#32 k0_pay74 k0_pay75) (k0_pay78 (View.readAt (Elt Ideal) arg11.view (Rect.unit (s := S1x2x160x24576) (k0_off27 i) S1x1x160x128.size (k0_off27_inb i)).toLoadRect (harg11.unread x9))) (k0_pay79 (View.readAt (Elt Ideal) arg3.view (Rect.unit (s := S1x8x160x128) ![0, 0, 0, 0] S1x1x160x128.size inb_S1x8x160x128_S1x1x160x128_0_0_0_0).toLoadRect (harg3.unread x1)) (View.readAt (Elt Ideal) arg3.view (Rect.unit (s := S1x8x160x128) ![0, 1, 0, 0] S1x1x160x128.size inb_S1x8x160x128_S1x1x160x128_0_1_0_0).toLoadRect (harg3.unread x1))) (k0_pay80 (View.readAt (Elt Ideal) arg4.view (Rect.unit (s := S1x8x128) ![0, 0, 0] S1x1x128.size inb_S1x8x128_S1x1x128_0_0_0).toLoadRect (harg4.unread x2)) (View.readAt (Elt Ideal) arg4.view (Rect.unit (s := S1x8x128) ![0, 1, 0] S1x1x128.size inb_S1x8x128_S1x1x128_0_1_0).toLoadRect (harg4.unread x2))) (View.readAt (Elt Ideal) arg5.view (Rect.unit (s := S1x2x4x128) ![0, 0, 0, 0] S1x1x1x128.size inb_S1x2x4x128_S1x1x1x128_0_0_0_0).toLoadRect (harg5.unread x3)) (View.readAt (Elt Ideal) arg5.view (Rect.unit (s := S1x2x4x128) ![0, 0, 1, 0] S1x1x1x128.size inb_S1x2x4x128_S1x1x1x128_0_0_1_0).toLoadRect (harg5.unread x3)) (View.readAt (Elt Ideal) arg14.view (Rect.unit (s := S1x2x128x256) ![0, 0, 0, 0] S1x1x128x160.size inb_S1x2x128x256_S1x1x128x160_0_0_0_0).toLoadRect (harg14.unread x12))) (k0_pay84 (k0_pay76 (iota .tc S128x256 32 [0] iota_S128x256_d0_w32) k0_pay73 64#32 k0_pay74 k0_pay75) (k0_pay79 (View.readAt (Elt Ideal) arg3.view (Rect.unit (s := S1x8x160x128) ![0, 0, 0, 0] S1x1x160x128.size inb_S1x8x160x128_S1x1x160x128_0_0_0_0).toLoadRect (harg3.unread x1)) (View.readAt (Elt Ideal) arg3.view (Rect.unit (s := S1x8x160x128) ![0, 1, 0, 0] S1x1x160x128.size inb_S1x8x160x128_S1x1x160x128_0_1_0_0).toLoadRect (harg3.unread x1))) (k0_pay80 (View.readAt (Elt Ideal) arg4.view (Rect.unit (s := S1x8x128) ![0, 0, 0] S1x1x128.size inb_S1x8x128_S1x1x128_0_0_0).toLoadRect (harg4.unread x2)) (View.readAt (Elt Ideal) arg4.view (Rect.unit (s := S1x8x128) ![0, 1, 0] S1x1x128.size inb_S1x8x128_S1x1x128_0_1_0).toLoadRect (harg4.unread x2))) (View.readAt (Elt Ideal) arg5.view (Rect.unit (s := S1x2x4x128) ![0, 0, 0, 0] S1x1x1x128.size inb_S1x2x4x128_S1x1x1x128_0_0_0_0).toLoadRect (harg5.unread x3)) (View.readAt (Elt Ideal) arg5.view (Rect.unit (s := S1x2x4x128) ![0, 0, 1, 0] S1x1x1x128.size inb_S1x2x4x128_S1x1x1x128_0_0_1_0).toLoadRect (harg5.unread x3)) (View.readAt (Elt Ideal) arg14.view (Rect.unit (s := S1x2x128x256) ![0, 0, 0, 0] S1x1x128x160.size inb_S1x2x128x256_S1x1x128x160_0_0_0_0).toLoadRect (harg14.unread x12))) (k0_pay85 (View.readAt (Elt Ideal) arg9.view { off := ![0, 0, 0, 0], size := S1x1x128x128.size, stride := ![1, 1, 8, 1], inb := inb_S1x2x1024x128_S1x1x128x128_0_0_0_0_s_1_1_8_1 } (harg9.unread x7))) (k0_pay86 (View.readAt (Elt Ideal) arg9.view { off := ![0, 0, 1, 0], size := S1x1x128x128.size, stride := ![1, 1, 8, 1], inb := inb_S1x2x1024x128_S1x1x128x128_0_0_1_0_s_1_1_8_1 } (harg9.unread x7))) (k0_pay87 (View.readAt (Elt Ideal) arg9.view { off := ![0, 0, 4, 0], size := S1x1x128x128.size, stride := ![1, 1, 8, 1], inb := inb_S1x2x1024x128_S1x1x128x128_0_0_4_0_s_1_1_8_1 } (harg9.unread x7))) (View.readAt (Elt Ideal) arg9.view { off := ![0, 0, 5, 0], size := S1x1x128x128.size, stride := ![1, 1, 8, 1], inb := inb_S1x2x1024x128_S1x1x128x128_0_0_5_0_s_1_1_8_1 } (harg9.unread x7)) (Hand.kernelRun.sl.v204 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (View.readAt (Elt Ideal) arg6.view (Rect.unit (s := S1x8x128) ![0, 0, 0] S1x1x128.size inb_S1x8x128_S1x1x128_0_0_0).toLoadRect (harg6.unread x4)) (View.readAt (Elt Ideal) arg6.view (Rect.unit (s := S1x8x128) ![0, 1, 0] S1x1x128.size inb_S1x8x128_S1x1x128_0_1_0).toLoadRect (harg6.unread x4)) (View.readAt (Elt Ideal) arg7.view (Rect.unit (s := S1x8x128) ![0, 0, 0] S1x1x128.size inb_S1x8x128_S1x1x128_0_0_0).toLoadRect (harg7.unread x5)) (View.readAt (Elt Ideal) arg7.view (Rect.unit (s := S1x8x128) ![0, 1, 0] S1x1x128.size inb_S1x8x128_S1x1x128_0_1_0).toLoadRect (harg7.unread x5))) (View.readAt (Elt Ideal) arg8.view (Rect.unit (s := S1x8x128) ![0, 0, 0] S1x1x128.size inb_S1x8x128_S1x1x128_0_0_0).toLoadRect (harg8.unread x6)) (View.readAt (Elt Ideal) arg8.view (Rect.unit (s := S1x8x128) ![0, 1, 0] S1x1x128.size inb_S1x8x128_S1x1x128_0_1_0).toLoadRect (harg8.unread x6)) (ix2 d c') = Spec.y (tA x0 x1 x2 x3 x4 x5 x6 x7 x8 x9 x10 x11 x12) (i 0) 0 d (tq (i 1) c') := by
  refine (lo2_at d c' _ _ _ _).trans ((y0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 d ⟨c'.val, by omega⟩).trans ?_)
  exact congrArg₂ (fun h t => Spec.y (tA x0 x1 x2 x3 x4 x5 x6 x7 x8 x9 x10 x11 x12) (i 0) h d t) (hp_lo 0 c') (tm_lo (i 1) c')

theorem y_1 (d : Fin 160) (c' : Fin 128) : k0_pay100 (k0_pay91 (k0_pay81 (k0_pay72 (k0_pay54 i) (Scalar.maxsi (Scalar.subi (Scalar.muli (BitVec.ofNat 32 (i 1).val) 128#32) 512#32) 0#32)) (Hand.kernelRun.sl.r_9 (F := Ideal) c i arg2 harg2 x0) (k0_pay77 (View.readAt (Elt Ideal) arg11.view (Rect.unit (s := S1x2x160x24576) (k0_off26 i) S1x1x160x640.size (k0_off26_inb i)).toLoadRect (harg11.unread x9))) (View.readAt (Elt Ideal) arg3.view (Rect.unit (s := S1x8x160x128) ![0, 0, 0, 0] S1x1x160x128.size inb_S1x8x160x128_S1x1x160x128_0_0_0_0).toLoadRect (harg3.unread x1)) (View.readAt (Elt Ideal) arg3.view (Rect.unit (s := S1x8x160x128) ![0, 1, 0, 0] S1x1x160x128.size inb_S1x8x160x128_S1x1x160x128_0_1_0_0).toLoadRect (harg3.unread x1)) (View.readAt (Elt Ideal) arg4.view (Rect.unit (s := S1x8x128) ![0, 0, 0] S1x1x128.size inb_S1x8x128_S1x1x128_0_0_0).toLoadRect (harg4.unread x2)) (View.readAt (Elt Ideal) arg4.view (Rect.unit (s := S1x8x128) ![0, 1, 0] S1x1x128.size inb_S1x8x128_S1x1x128_0_1_0).toLoadRect (harg4.unread x2)) (View.readAt (Elt Ideal) arg10.view (Rect.unit (s := S1x2x24576x256) (k0_off28 i) S1x1x640x256.size (k0_off28_inb i)).toLoadRect (harg10.unread x8))) (k0_pay90 (Hand.kernelRun.sl.r_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (Hand.kernelRun.sl.r_9 (F := Ideal) c i arg2 harg2 x0) (k0_pay83 (k0_pay76 (iota .tc S128x256 32 [0] iota_S128x256_d0_w32) k0_pay73 64#32 k0_pay74 k0_pay75) (k0_pay78 (View.readAt (Elt Ideal) arg11.view (Rect.unit (s := S1x2x160x24576) (k0_off27 i) S1x1x160x128.size (k0_off27_inb i)).toLoadRect (harg11.unread x9))) (k0_pay79 (View.readAt (Elt Ideal) arg3.view (Rect.unit (s := S1x8x160x128) ![0, 0, 0, 0] S1x1x160x128.size inb_S1x8x160x128_S1x1x160x128_0_0_0_0).toLoadRect (harg3.unread x1)) (View.readAt (Elt Ideal) arg3.view (Rect.unit (s := S1x8x160x128) ![0, 1, 0, 0] S1x1x160x128.size inb_S1x8x160x128_S1x1x160x128_0_1_0_0).toLoadRect (harg3.unread x1))) (k0_pay80 (View.readAt (Elt Ideal) arg4.view (Rect.unit (s := S1x8x128) ![0, 0, 0] S1x1x128.size inb_S1x8x128_S1x1x128_0_0_0).toLoadRect (harg4.unread x2)) (View.readAt (Elt Ideal) arg4.view (Rect.unit (s := S1x8x128) ![0, 1, 0] S1x1x128.size inb_S1x8x128_S1x1x128_0_1_0).toLoadRect (harg4.unread x2))) (View.readAt (Elt Ideal) arg5.view (Rect.unit (s := S1x2x4x128) ![0, 0, 0, 0] S1x1x1x128.size inb_S1x2x4x128_S1x1x1x128_0_0_0_0).toLoadRect (harg5.unread x3)) (View.readAt (Elt Ideal) arg5.view (Rect.unit (s := S1x2x4x128) ![0, 0, 1, 0] S1x1x1x128.size inb_S1x2x4x128_S1x1x1x128_0_0_1_0).toLoadRect (harg5.unread x3)) (View.readAt (Elt Ideal) arg14.view (Rect.unit (s := S1x2x128x256) ![0, 0, 0, 0] S1x1x128x160.size inb_S1x2x128x256_S1x1x128x160_0_0_0_0).toLoadRect (harg14.unread x12))) (k0_pay84 (k0_pay76 (iota .tc S128x256 32 [0] iota_S128x256_d0_w32) k0_pay73 64#32 k0_pay74 k0_pay75) (k0_pay79 (View.readAt (Elt Ideal) arg3.view (Rect.unit (s := S1x8x160x128) ![0, 0, 0, 0] S1x1x160x128.size inb_S1x8x160x128_S1x1x160x128_0_0_0_0).toLoadRect (harg3.unread x1)) (View.readAt (Elt Ideal) arg3.view (Rect.unit (s := S1x8x160x128) ![0, 1, 0, 0] S1x1x160x128.size inb_S1x8x160x128_S1x1x160x128_0_1_0_0).toLoadRect (harg3.unread x1))) (k0_pay80 (View.readAt (Elt Ideal) arg4.view (Rect.unit (s := S1x8x128) ![0, 0, 0] S1x1x128.size inb_S1x8x128_S1x1x128_0_0_0).toLoadRect (harg4.unread x2)) (View.readAt (Elt Ideal) arg4.view (Rect.unit (s := S1x8x128) ![0, 1, 0] S1x1x128.size inb_S1x8x128_S1x1x128_0_1_0).toLoadRect (harg4.unread x2))) (View.readAt (Elt Ideal) arg5.view (Rect.unit (s := S1x2x4x128) ![0, 0, 0, 0] S1x1x1x128.size inb_S1x2x4x128_S1x1x1x128_0_0_0_0).toLoadRect (harg5.unread x3)) (View.readAt (Elt Ideal) arg5.view (Rect.unit (s := S1x2x4x128) ![0, 0, 1, 0] S1x1x1x128.size inb_S1x2x4x128_S1x1x1x128_0_0_1_0).toLoadRect (harg5.unread x3)) (View.readAt (Elt Ideal) arg14.view (Rect.unit (s := S1x2x128x256) ![0, 0, 0, 0] S1x1x128x160.size inb_S1x2x128x256_S1x1x128x160_0_0_0_0).toLoadRect (harg14.unread x12))) (k0_pay85 (View.readAt (Elt Ideal) arg9.view { off := ![0, 0, 0, 0], size := S1x1x128x128.size, stride := ![1, 1, 8, 1], inb := inb_S1x2x1024x128_S1x1x128x128_0_0_0_0_s_1_1_8_1 } (harg9.unread x7))) (k0_pay86 (View.readAt (Elt Ideal) arg9.view { off := ![0, 0, 1, 0], size := S1x1x128x128.size, stride := ![1, 1, 8, 1], inb := inb_S1x2x1024x128_S1x1x128x128_0_0_1_0_s_1_1_8_1 } (harg9.unread x7))) (k0_pay87 (View.readAt (Elt Ideal) arg9.view { off := ![0, 0, 4, 0], size := S1x1x128x128.size, stride := ![1, 1, 8, 1], inb := inb_S1x2x1024x128_S1x1x128x128_0_0_4_0_s_1_1_8_1 } (harg9.unread x7))) (View.readAt (Elt Ideal) arg9.view { off := ![0, 0, 5, 0], size := S1x1x128x128.size, stride := ![1, 1, 8, 1], inb := inb_S1x2x1024x128_S1x1x128x128_0_0_5_0_s_1_1_8_1 } (harg9.unread x7)) (Hand.kernelRun.sl.v204 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (View.readAt (Elt Ideal) arg6.view (Rect.unit (s := S1x8x128) ![0, 0, 0] S1x1x128.size inb_S1x8x128_S1x1x128_0_0_0).toLoadRect (harg6.unread x4)) (View.readAt (Elt Ideal) arg6.view (Rect.unit (s := S1x8x128) ![0, 1, 0] S1x1x128.size inb_S1x8x128_S1x1x128_0_1_0).toLoadRect (harg6.unread x4)) (View.readAt (Elt Ideal) arg7.view (Rect.unit (s := S1x8x128) ![0, 0, 0] S1x1x128.size inb_S1x8x128_S1x1x128_0_0_0).toLoadRect (harg7.unread x5)) (View.readAt (Elt Ideal) arg7.view (Rect.unit (s := S1x8x128) ![0, 1, 0] S1x1x128.size inb_S1x8x128_S1x1x128_0_1_0).toLoadRect (harg7.unread x5))) (View.readAt (Elt Ideal) arg8.view (Rect.unit (s := S1x8x128) ![0, 0, 0] S1x1x128.size inb_S1x8x128_S1x1x128_0_0_0).toLoadRect (harg8.unread x6)) (View.readAt (Elt Ideal) arg8.view (Rect.unit (s := S1x8x128) ![0, 1, 0] S1x1x128.size inb_S1x8x128_S1x1x128_0_1_0).toLoadRect (harg8.unread x6))) (ix2 d c') = Spec.y (tA x0 x1 x2 x3 x4 x5 x6 x7 x8 x9 x10 x11 x12) (i 0) 1 d (tq (i 1) c') := by
  refine (hi2_at d c' _).trans ((y0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 d ⟨128 + c'.val, by omega⟩).trans ?_)
  exact congrArg₂ (fun h t => Spec.y (tA x0 x1 x2 x3 x4 x5 x6 x7 x8 x9 x10 x11 x12) (i 0) h d t) (hp_hi 0 c') (tm_hi (i 1) c')

/-- Pair 1: the gated sum. -/
theorem y1 (d : Fin 160) (e : Fin 256) : (k0_pay91 (k0_pay81 (k0_pay72 (k0_pay54 i) (Scalar.maxsi (Scalar.subi (Scalar.muli (BitVec.ofNat 32 (i 1).val) 128#32) 512#32) 0#32)) (Hand.kernelRun.sl.r_9 (F := Ideal) c i arg2 harg2 x0) (k0_pay77 (View.readAt (Elt Ideal) arg11.view (Rect.unit (s := S1x2x160x24576) (k0_off26 i) S1x1x160x640.size (k0_off26_inb i)).toLoadRect (harg11.unread x9))) (View.readAt (Elt Ideal) arg3.view (Rect.unit (s := S1x8x160x128) ![0, 2, 0, 0] S1x1x160x128.size inb_S1x8x160x128_S1x1x160x128_0_2_0_0).toLoadRect (harg3.unread x1)) (View.readAt (Elt Ideal) arg3.view (Rect.unit (s := S1x8x160x128) ![0, 3, 0, 0] S1x1x160x128.size inb_S1x8x160x128_S1x1x160x128_0_3_0_0).toLoadRect (harg3.unread x1)) (View.readAt (Elt Ideal) arg4.view (Rect.unit (s := S1x8x128) ![0, 2, 0] S1x1x128.size inb_S1x8x128_S1x1x128_0_2_0).toLoadRect (harg4.unread x2)) (View.readAt (Elt Ideal) arg4.view (Rect.unit (s := S1x8x128) ![0, 3, 0] S1x1x128.size inb_S1x8x128_S1x1x128_0_3_0).toLoadRect (harg4.unread x2)) (View.readAt (Elt Ideal) arg10.view (Rect.unit (s := S1x2x24576x256) (k0_off28 i) S1x1x640x256.size (k0_off28_inb i)).toLoadRect (harg10.unread x8))) (k0_pay90 (Hand.kernelRun.sl.r_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (Hand.kernelRun.sl.r_9 (F := Ideal) c i arg2 harg2 x0) (k0_pay83 (k0_pay76 (iota .tc S128x256 32 [0] iota_S128x256_d0_w32) k0_pay73 64#32 k0_pay74 k0_pay75) (k0_pay78 (View.readAt (Elt Ideal) arg11.view (Rect.unit (s := S1x2x160x24576) (k0_off27 i) S1x1x160x128.size (k0_off27_inb i)).toLoadRect (harg11.unread x9))) (k0_pay79 (View.readAt (Elt Ideal) arg3.view (Rect.unit (s := S1x8x160x128) ![0, 2, 0, 0] S1x1x160x128.size inb_S1x8x160x128_S1x1x160x128_0_2_0_0).toLoadRect (harg3.unread x1)) (View.readAt (Elt Ideal) arg3.view (Rect.unit (s := S1x8x160x128) ![0, 3, 0, 0] S1x1x160x128.size inb_S1x8x160x128_S1x1x160x128_0_3_0_0).toLoadRect (harg3.unread x1))) (k0_pay80 (View.readAt (Elt Ideal) arg4.view (Rect.unit (s := S1x8x128) ![0, 2, 0] S1x1x128.size inb_S1x8x128_S1x1x128_0_2_0).toLoadRect (harg4.unread x2)) (View.readAt (Elt Ideal) arg4.view (Rect.unit (s := S1x8x128) ![0, 3, 0] S1x1x128.size inb_S1x8x128_S1x1x128_0_3_0).toLoadRect (harg4.unread x2))) (View.readAt (Elt Ideal) arg5.view (Rect.unit (s := S1x2x4x128) ![0, 0, 2, 0] S1x1x1x128.size inb_S1x2x4x128_S1x1x1x128_0_0_2_0).toLoadRect (harg5.unread x3)) (View.readAt (Elt Ideal) arg5.view (Rect.unit (s := S1x2x4x128) ![0, 0, 3, 0] S1x1x1x128.size inb_S1x2x4x128_S1x1x1x128_0_0_3_0).toLoadRect (harg5.unread x3)) (View.readAt (Elt Ideal) arg14.view (Rect.unit (s := S1x2x128x256) ![0, 0, 0, 0] S1x1x128x160.size inb_S1x2x128x256_S1x1x128x160_0_0_0_0).toLoadRect (harg14.unread x12))) (k0_pay84 (k0_pay76 (iota .tc S128x256 32 [0] iota_S128x256_d0_w32) k0_pay73 64#32 k0_pay74 k0_pay75) (k0_pay79 (View.readAt (Elt Ideal) arg3.view (Rect.unit (s := S1x8x160x128) ![0, 2, 0, 0] S1x1x160x128.size inb_S1x8x160x128_S1x1x160x128_0_2_0_0).toLoadRect (harg3.unread x1)) (View.readAt (Elt Ideal) arg3.view (Rect.unit (s := S1x8x160x128) ![0, 3, 0, 0] S1x1x160x128.size inb_S1x8x160x128_S1x1x160x128_0_3_0_0).toLoadRect (harg3.unread x1))) (k0_pay80 (View.readAt (Elt Ideal) arg4.view (Rect.unit (s := S1x8x128) ![0, 2, 0] S1x1x128.size inb_S1x8x128_S1x1x128_0_2_0).toLoadRect (harg4.unread x2)) (View.readAt (Elt Ideal) arg4.view (Rect.unit (s := S1x8x128) ![0, 3, 0] S1x1x128.size inb_S1x8x128_S1x1x128_0_3_0).toLoadRect (harg4.unread x2))) (View.readAt (Elt Ideal) arg5.view (Rect.unit (s := S1x2x4x128) ![0, 0, 2, 0] S1x1x1x128.size inb_S1x2x4x128_S1x1x1x128_0_0_2_0).toLoadRect (harg5.unread x3)) (View.readAt (Elt Ideal) arg5.view (Rect.unit (s := S1x2x4x128) ![0, 0, 3, 0] S1x1x1x128.size inb_S1x2x4x128_S1x1x1x128_0_0_3_0).toLoadRect (harg5.unread x3)) (View.readAt (Elt Ideal) arg14.view (Rect.unit (s := S1x2x128x256) ![0, 0, 0, 0] S1x1x128x160.size inb_S1x2x128x256_S1x1x128x160_0_0_0_0).toLoadRect (harg14.unread x12))) (k0_pay85 (View.readAt (Elt Ideal) arg9.view { off := ![0, 0, 2, 0], size := S1x1x128x128.size, stride := ![1, 1, 8, 1], inb := inb_S1x2x1024x128_S1x1x128x128_0_0_2_0_s_1_1_8_1 } (harg9.unread x7))) (k0_pay86 (View.readAt (Elt Ideal) arg9.view { off := ![0, 0, 3, 0], size := S1x1x128x128.size, stride := ![1, 1, 8, 1], inb := inb_S1x2x1024x128_S1x1x128x128_0_0_3_0_s_1_1_8_1 } (harg9.unread x7))) (k0_pay87 (View.readAt (Elt Ideal) arg9.view { off := ![0, 0, 6, 0], size := S1x1x128x128.size, stride := ![1, 1, 8, 1], inb := inb_S1x2x1024x128_S1x1x128x128_0_0_6_0_s_1_1_8_1 } (harg9.unread x7))) (View.readAt (Elt Ideal) arg9.view { off := ![0, 0, 7, 0], size := S1x1x128x128.size, stride := ![1, 1, 8, 1], inb := inb_S1x2x1024x128_S1x1x128x128_0_0_7_0_s_1_1_8_1 } (harg9.unread x7)) (Hand.kernelRun.sl.v357 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (View.readAt (Elt Ideal) arg6.view (Rect.unit (s := S1x8x128) ![0, 2, 0] S1x1x128.size inb_S1x8x128_S1x1x128_0_2_0).toLoadRect (harg6.unread x4)) (View.readAt (Elt Ideal) arg6.view (Rect.unit (s := S1x8x128) ![0, 3, 0] S1x1x128.size inb_S1x8x128_S1x1x128_0_3_0).toLoadRect (harg6.unread x4)) (View.readAt (Elt Ideal) arg7.view (Rect.unit (s := S1x8x128) ![0, 2, 0] S1x1x128.size inb_S1x8x128_S1x1x128_0_2_0).toLoadRect (harg7.unread x5)) (View.readAt (Elt Ideal) arg7.view (Rect.unit (s := S1x8x128) ![0, 3, 0] S1x1x128.size inb_S1x8x128_S1x1x128_0_3_0).toLoadRect (harg7.unread x5))) (View.readAt (Elt Ideal) arg8.view (Rect.unit (s := S1x8x128) ![0, 2, 0] S1x1x128.size inb_S1x8x128_S1x1x128_0_2_0).toLoadRect (harg8.unread x6)) (View.readAt (Elt Ideal) arg8.view (Rect.unit (s := S1x8x128) ![0, 3, 0] S1x1x128.size inb_S1x8x128_S1x1x128_0_3_0).toLoadRect (harg8.unread x6))) (ix2 d e) = Spec.y (tA x0 x1 x2 x3 x4 x5 x6 x7 x8 x9 x10 x11 x12) (i 0) (hp 1 e) d (tm (i 1) e) := by
  rw [pay91_at, pay90_at, KHead.win1 c i arg2 harg2 arg3 harg3 arg4 harg4 arg10 harg10 arg11 harg11 x0 x1 x2 x3 x4 x5 x6 x7 x8 x9 x10 x11 x12, cmp1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0, sel1 c i arg2 harg2 arg3 harg3 arg4 harg4 arg5 harg5 arg9 harg9 arg11 harg11 arg14 harg14 x0 x1 x2 x3 x4 x5 x6 x7 x8 x9 x10 x11 x12]
  rw [s_ce i x4 1 _ _ (fun c => rd3 harg6 x4 _ _ 0 (h0 1) c rfl rfl (by simp)) (fun c => rd3 harg6 x4 _ _ 0 (h1 1) c rfl rfl (by simp)) e]
  rw [s_ce i x5 1 _ _ (fun c => rd3 harg7 x5 _ _ 0 (h0 1) c rfl rfl (by simp)) (fun c => rd3 harg7 x5 _ _ 0 (h1 1) c rfl rfl (by simp)) e]
  rw [s_ce i x6 1 _ _ (fun c => rd3 harg8 x6 _ _ 0 (h0 1) c rfl rfl (by simp)) (fun c => rd3 harg8 x6 _ _ 0 (h1 1) c rfl rfl (by simp)) e]
  rfl

theorem y_2 (d : Fin 160) (c' : Fin 128) : k0_pay95 (k0_pay81 (k0_pay72 (k0_pay54 i) (Scalar.maxsi (Scalar.subi (Scalar.muli (BitVec.ofNat 32 (i 1).val) 128#32) 512#32) 0#32)) (Hand.kernelRun.sl.r_9 (F := Ideal) c i arg2 harg2 x0) (k0_pay77 (View.readAt (Elt Ideal) arg11.view (Rect.unit (s := S1x2x160x24576) (k0_off26 i) S1x1x160x640.size (k0_off26_inb i)).toLoadRect (harg11.unread x9))) (View.readAt (Elt Ideal) arg3.view (Rect.unit (s := S1x8x160x128) ![0, 2, 0, 0] S1x1x160x128.size inb_S1x8x160x128_S1x1x160x128_0_2_0_0).toLoadRect (harg3.unread x1)) (View.readAt (Elt Ideal) arg3.view (Rect.unit (s := S1x8x160x128) ![0, 3, 0, 0] S1x1x160x128.size inb_S1x8x160x128_S1x1x160x128_0_3_0_0).toLoadRect (harg3.unread x1)) (View.readAt (Elt Ideal) arg4.view (Rect.unit (s := S1x8x128) ![0, 2, 0] S1x1x128.size inb_S1x8x128_S1x1x128_0_2_0).toLoadRect (harg4.unread x2)) (View.readAt (Elt Ideal) arg4.view (Rect.unit (s := S1x8x128) ![0, 3, 0] S1x1x128.size inb_S1x8x128_S1x1x128_0_3_0).toLoadRect (harg4.unread x2)) (View.readAt (Elt Ideal) arg10.view (Rect.unit (s := S1x2x24576x256) (k0_off28 i) S1x1x640x256.size (k0_off28_inb i)).toLoadRect (harg10.unread x8))) (k0_pay90 (Hand.kernelRun.sl.r_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (Hand.kernelRun.sl.r_9 (F := Ideal) c i arg2 harg2 x0) (k0_pay83 (k0_pay76 (iota .tc S128x256 32 [0] iota_S128x256_d0_w32) k0_pay73 64#32 k0_pay74 k0_pay75) (k0_pay78 (View.readAt (Elt Ideal) arg11.view (Rect.unit (s := S1x2x160x24576) (k0_off27 i) S1x1x160x128.size (k0_off27_inb i)).toLoadRect (harg11.unread x9))) (k0_pay79 (View.readAt (Elt Ideal) arg3.view (Rect.unit (s := S1x8x160x128) ![0, 2, 0, 0] S1x1x160x128.size inb_S1x8x160x128_S1x1x160x128_0_2_0_0).toLoadRect (harg3.unread x1)) (View.readAt (Elt Ideal) arg3.view (Rect.unit (s := S1x8x160x128) ![0, 3, 0, 0] S1x1x160x128.size inb_S1x8x160x128_S1x1x160x128_0_3_0_0).toLoadRect (harg3.unread x1))) (k0_pay80 (View.readAt (Elt Ideal) arg4.view (Rect.unit (s := S1x8x128) ![0, 2, 0] S1x1x128.size inb_S1x8x128_S1x1x128_0_2_0).toLoadRect (harg4.unread x2)) (View.readAt (Elt Ideal) arg4.view (Rect.unit (s := S1x8x128) ![0, 3, 0] S1x1x128.size inb_S1x8x128_S1x1x128_0_3_0).toLoadRect (harg4.unread x2))) (View.readAt (Elt Ideal) arg5.view (Rect.unit (s := S1x2x4x128) ![0, 0, 2, 0] S1x1x1x128.size inb_S1x2x4x128_S1x1x1x128_0_0_2_0).toLoadRect (harg5.unread x3)) (View.readAt (Elt Ideal) arg5.view (Rect.unit (s := S1x2x4x128) ![0, 0, 3, 0] S1x1x1x128.size inb_S1x2x4x128_S1x1x1x128_0_0_3_0).toLoadRect (harg5.unread x3)) (View.readAt (Elt Ideal) arg14.view (Rect.unit (s := S1x2x128x256) ![0, 0, 0, 0] S1x1x128x160.size inb_S1x2x128x256_S1x1x128x160_0_0_0_0).toLoadRect (harg14.unread x12))) (k0_pay84 (k0_pay76 (iota .tc S128x256 32 [0] iota_S128x256_d0_w32) k0_pay73 64#32 k0_pay74 k0_pay75) (k0_pay79 (View.readAt (Elt Ideal) arg3.view (Rect.unit (s := S1x8x160x128) ![0, 2, 0, 0] S1x1x160x128.size inb_S1x8x160x128_S1x1x160x128_0_2_0_0).toLoadRect (harg3.unread x1)) (View.readAt (Elt Ideal) arg3.view (Rect.unit (s := S1x8x160x128) ![0, 3, 0, 0] S1x1x160x128.size inb_S1x8x160x128_S1x1x160x128_0_3_0_0).toLoadRect (harg3.unread x1))) (k0_pay80 (View.readAt (Elt Ideal) arg4.view (Rect.unit (s := S1x8x128) ![0, 2, 0] S1x1x128.size inb_S1x8x128_S1x1x128_0_2_0).toLoadRect (harg4.unread x2)) (View.readAt (Elt Ideal) arg4.view (Rect.unit (s := S1x8x128) ![0, 3, 0] S1x1x128.size inb_S1x8x128_S1x1x128_0_3_0).toLoadRect (harg4.unread x2))) (View.readAt (Elt Ideal) arg5.view (Rect.unit (s := S1x2x4x128) ![0, 0, 2, 0] S1x1x1x128.size inb_S1x2x4x128_S1x1x1x128_0_0_2_0).toLoadRect (harg5.unread x3)) (View.readAt (Elt Ideal) arg5.view (Rect.unit (s := S1x2x4x128) ![0, 0, 3, 0] S1x1x1x128.size inb_S1x2x4x128_S1x1x1x128_0_0_3_0).toLoadRect (harg5.unread x3)) (View.readAt (Elt Ideal) arg14.view (Rect.unit (s := S1x2x128x256) ![0, 0, 0, 0] S1x1x128x160.size inb_S1x2x128x256_S1x1x128x160_0_0_0_0).toLoadRect (harg14.unread x12))) (k0_pay85 (View.readAt (Elt Ideal) arg9.view { off := ![0, 0, 2, 0], size := S1x1x128x128.size, stride := ![1, 1, 8, 1], inb := inb_S1x2x1024x128_S1x1x128x128_0_0_2_0_s_1_1_8_1 } (harg9.unread x7))) (k0_pay86 (View.readAt (Elt Ideal) arg9.view { off := ![0, 0, 3, 0], size := S1x1x128x128.size, stride := ![1, 1, 8, 1], inb := inb_S1x2x1024x128_S1x1x128x128_0_0_3_0_s_1_1_8_1 } (harg9.unread x7))) (k0_pay87 (View.readAt (Elt Ideal) arg9.view { off := ![0, 0, 6, 0], size := S1x1x128x128.size, stride := ![1, 1, 8, 1], inb := inb_S1x2x1024x128_S1x1x128x128_0_0_6_0_s_1_1_8_1 } (harg9.unread x7))) (View.readAt (Elt Ideal) arg9.view { off := ![0, 0, 7, 0], size := S1x1x128x128.size, stride := ![1, 1, 8, 1], inb := inb_S1x2x1024x128_S1x1x128x128_0_0_7_0_s_1_1_8_1 } (harg9.unread x7)) (Hand.kernelRun.sl.v357 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (View.readAt (Elt Ideal) arg6.view (Rect.unit (s := S1x8x128) ![0, 2, 0] S1x1x128.size inb_S1x8x128_S1x1x128_0_2_0).toLoadRect (harg6.unread x4)) (View.readAt (Elt Ideal) arg6.view (Rect.unit (s := S1x8x128) ![0, 3, 0] S1x1x128.size inb_S1x8x128_S1x1x128_0_3_0).toLoadRect (harg6.unread x4)) (View.readAt (Elt Ideal) arg7.view (Rect.unit (s := S1x8x128) ![0, 2, 0] S1x1x128.size inb_S1x8x128_S1x1x128_0_2_0).toLoadRect (harg7.unread x5)) (View.readAt (Elt Ideal) arg7.view (Rect.unit (s := S1x8x128) ![0, 3, 0] S1x1x128.size inb_S1x8x128_S1x1x128_0_3_0).toLoadRect (harg7.unread x5))) (View.readAt (Elt Ideal) arg8.view (Rect.unit (s := S1x8x128) ![0, 2, 0] S1x1x128.size inb_S1x8x128_S1x1x128_0_2_0).toLoadRect (harg8.unread x6)) (View.readAt (Elt Ideal) arg8.view (Rect.unit (s := S1x8x128) ![0, 3, 0] S1x1x128.size inb_S1x8x128_S1x1x128_0_3_0).toLoadRect (harg8.unread x6)) (ix2 d c') = Spec.y (tA x0 x1 x2 x3 x4 x5 x6 x7 x8 x9 x10 x11 x12) (i 0) 2 d (tq (i 1) c') := by
  refine (lo2_at d c' _ _ _ _).trans ((y1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 d ⟨c'.val, by omega⟩).trans ?_)
  exact congrArg₂ (fun h t => Spec.y (tA x0 x1 x2 x3 x4 x5 x6 x7 x8 x9 x10 x11 x12) (i 0) h d t) (hp_lo 1 c') (tm_lo (i 1) c')

theorem y_3 (d : Fin 160) (c' : Fin 128) : k0_pay100 (k0_pay91 (k0_pay81 (k0_pay72 (k0_pay54 i) (Scalar.maxsi (Scalar.subi (Scalar.muli (BitVec.ofNat 32 (i 1).val) 128#32) 512#32) 0#32)) (Hand.kernelRun.sl.r_9 (F := Ideal) c i arg2 harg2 x0) (k0_pay77 (View.readAt (Elt Ideal) arg11.view (Rect.unit (s := S1x2x160x24576) (k0_off26 i) S1x1x160x640.size (k0_off26_inb i)).toLoadRect (harg11.unread x9))) (View.readAt (Elt Ideal) arg3.view (Rect.unit (s := S1x8x160x128) ![0, 2, 0, 0] S1x1x160x128.size inb_S1x8x160x128_S1x1x160x128_0_2_0_0).toLoadRect (harg3.unread x1)) (View.readAt (Elt Ideal) arg3.view (Rect.unit (s := S1x8x160x128) ![0, 3, 0, 0] S1x1x160x128.size inb_S1x8x160x128_S1x1x160x128_0_3_0_0).toLoadRect (harg3.unread x1)) (View.readAt (Elt Ideal) arg4.view (Rect.unit (s := S1x8x128) ![0, 2, 0] S1x1x128.size inb_S1x8x128_S1x1x128_0_2_0).toLoadRect (harg4.unread x2)) (View.readAt (Elt Ideal) arg4.view (Rect.unit (s := S1x8x128) ![0, 3, 0] S1x1x128.size inb_S1x8x128_S1x1x128_0_3_0).toLoadRect (harg4.unread x2)) (View.readAt (Elt Ideal) arg10.view (Rect.unit (s := S1x2x24576x256) (k0_off28 i) S1x1x640x256.size (k0_off28_inb i)).toLoadRect (harg10.unread x8))) (k0_pay90 (Hand.kernelRun.sl.r_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (Hand.kernelRun.sl.r_9 (F := Ideal) c i arg2 harg2 x0) (k0_pay83 (k0_pay76 (iota .tc S128x256 32 [0] iota_S128x256_d0_w32) k0_pay73 64#32 k0_pay74 k0_pay75) (k0_pay78 (View.readAt (Elt Ideal) arg11.view (Rect.unit (s := S1x2x160x24576) (k0_off27 i) S1x1x160x128.size (k0_off27_inb i)).toLoadRect (harg11.unread x9))) (k0_pay79 (View.readAt (Elt Ideal) arg3.view (Rect.unit (s := S1x8x160x128) ![0, 2, 0, 0] S1x1x160x128.size inb_S1x8x160x128_S1x1x160x128_0_2_0_0).toLoadRect (harg3.unread x1)) (View.readAt (Elt Ideal) arg3.view (Rect.unit (s := S1x8x160x128) ![0, 3, 0, 0] S1x1x160x128.size inb_S1x8x160x128_S1x1x160x128_0_3_0_0).toLoadRect (harg3.unread x1))) (k0_pay80 (View.readAt (Elt Ideal) arg4.view (Rect.unit (s := S1x8x128) ![0, 2, 0] S1x1x128.size inb_S1x8x128_S1x1x128_0_2_0).toLoadRect (harg4.unread x2)) (View.readAt (Elt Ideal) arg4.view (Rect.unit (s := S1x8x128) ![0, 3, 0] S1x1x128.size inb_S1x8x128_S1x1x128_0_3_0).toLoadRect (harg4.unread x2))) (View.readAt (Elt Ideal) arg5.view (Rect.unit (s := S1x2x4x128) ![0, 0, 2, 0] S1x1x1x128.size inb_S1x2x4x128_S1x1x1x128_0_0_2_0).toLoadRect (harg5.unread x3)) (View.readAt (Elt Ideal) arg5.view (Rect.unit (s := S1x2x4x128) ![0, 0, 3, 0] S1x1x1x128.size inb_S1x2x4x128_S1x1x1x128_0_0_3_0).toLoadRect (harg5.unread x3)) (View.readAt (Elt Ideal) arg14.view (Rect.unit (s := S1x2x128x256) ![0, 0, 0, 0] S1x1x128x160.size inb_S1x2x128x256_S1x1x128x160_0_0_0_0).toLoadRect (harg14.unread x12))) (k0_pay84 (k0_pay76 (iota .tc S128x256 32 [0] iota_S128x256_d0_w32) k0_pay73 64#32 k0_pay74 k0_pay75) (k0_pay79 (View.readAt (Elt Ideal) arg3.view (Rect.unit (s := S1x8x160x128) ![0, 2, 0, 0] S1x1x160x128.size inb_S1x8x160x128_S1x1x160x128_0_2_0_0).toLoadRect (harg3.unread x1)) (View.readAt (Elt Ideal) arg3.view (Rect.unit (s := S1x8x160x128) ![0, 3, 0, 0] S1x1x160x128.size inb_S1x8x160x128_S1x1x160x128_0_3_0_0).toLoadRect (harg3.unread x1))) (k0_pay80 (View.readAt (Elt Ideal) arg4.view (Rect.unit (s := S1x8x128) ![0, 2, 0] S1x1x128.size inb_S1x8x128_S1x1x128_0_2_0).toLoadRect (harg4.unread x2)) (View.readAt (Elt Ideal) arg4.view (Rect.unit (s := S1x8x128) ![0, 3, 0] S1x1x128.size inb_S1x8x128_S1x1x128_0_3_0).toLoadRect (harg4.unread x2))) (View.readAt (Elt Ideal) arg5.view (Rect.unit (s := S1x2x4x128) ![0, 0, 2, 0] S1x1x1x128.size inb_S1x2x4x128_S1x1x1x128_0_0_2_0).toLoadRect (harg5.unread x3)) (View.readAt (Elt Ideal) arg5.view (Rect.unit (s := S1x2x4x128) ![0, 0, 3, 0] S1x1x1x128.size inb_S1x2x4x128_S1x1x1x128_0_0_3_0).toLoadRect (harg5.unread x3)) (View.readAt (Elt Ideal) arg14.view (Rect.unit (s := S1x2x128x256) ![0, 0, 0, 0] S1x1x128x160.size inb_S1x2x128x256_S1x1x128x160_0_0_0_0).toLoadRect (harg14.unread x12))) (k0_pay85 (View.readAt (Elt Ideal) arg9.view { off := ![0, 0, 2, 0], size := S1x1x128x128.size, stride := ![1, 1, 8, 1], inb := inb_S1x2x1024x128_S1x1x128x128_0_0_2_0_s_1_1_8_1 } (harg9.unread x7))) (k0_pay86 (View.readAt (Elt Ideal) arg9.view { off := ![0, 0, 3, 0], size := S1x1x128x128.size, stride := ![1, 1, 8, 1], inb := inb_S1x2x1024x128_S1x1x128x128_0_0_3_0_s_1_1_8_1 } (harg9.unread x7))) (k0_pay87 (View.readAt (Elt Ideal) arg9.view { off := ![0, 0, 6, 0], size := S1x1x128x128.size, stride := ![1, 1, 8, 1], inb := inb_S1x2x1024x128_S1x1x128x128_0_0_6_0_s_1_1_8_1 } (harg9.unread x7))) (View.readAt (Elt Ideal) arg9.view { off := ![0, 0, 7, 0], size := S1x1x128x128.size, stride := ![1, 1, 8, 1], inb := inb_S1x2x1024x128_S1x1x128x128_0_0_7_0_s_1_1_8_1 } (harg9.unread x7)) (Hand.kernelRun.sl.v357 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (View.readAt (Elt Ideal) arg6.view (Rect.unit (s := S1x8x128) ![0, 2, 0] S1x1x128.size inb_S1x8x128_S1x1x128_0_2_0).toLoadRect (harg6.unread x4)) (View.readAt (Elt Ideal) arg6.view (Rect.unit (s := S1x8x128) ![0, 3, 0] S1x1x128.size inb_S1x8x128_S1x1x128_0_3_0).toLoadRect (harg6.unread x4)) (View.readAt (Elt Ideal) arg7.view (Rect.unit (s := S1x8x128) ![0, 2, 0] S1x1x128.size inb_S1x8x128_S1x1x128_0_2_0).toLoadRect (harg7.unread x5)) (View.readAt (Elt Ideal) arg7.view (Rect.unit (s := S1x8x128) ![0, 3, 0] S1x1x128.size inb_S1x8x128_S1x1x128_0_3_0).toLoadRect (harg7.unread x5))) (View.readAt (Elt Ideal) arg8.view (Rect.unit (s := S1x8x128) ![0, 2, 0] S1x1x128.size inb_S1x8x128_S1x1x128_0_2_0).toLoadRect (harg8.unread x6)) (View.readAt (Elt Ideal) arg8.view (Rect.unit (s := S1x8x128) ![0, 3, 0] S1x1x128.size inb_S1x8x128_S1x1x128_0_3_0).toLoadRect (harg8.unread x6))) (ix2 d c') = Spec.y (tA x0 x1 x2 x3 x4 x5 x6 x7 x8 x9 x10 x11 x12) (i 0) 3 d (tq (i 1) c') := by
  refine (hi2_at d c' _).trans ((y1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 d ⟨128 + c'.val, by omega⟩).trans ?_)
  exact congrArg₂ (fun h t => Spec.y (tA x0 x1 x2 x3 x4 x5 x6 x7 x8 x9 x10 x11 x12) (i 0) h d t) (hp_hi 1 c') (tm_hi (i 1) c')

/-- Pair 2: the gated sum. -/
theorem y2 (d : Fin 160) (e : Fin 256) : (k0_pay91 (k0_pay81 (k0_pay72 (k0_pay54 i) (Scalar.maxsi (Scalar.subi (Scalar.muli (BitVec.ofNat 32 (i 1).val) 128#32) 512#32) 0#32)) (Hand.kernelRun.sl.r_36 (F := Ideal) c i arg2 harg2 x0) (k0_pay77 (View.readAt (Elt Ideal) arg11.view (Rect.unit (s := S1x2x160x24576) (k0_off29 i) S1x1x160x640.size (k0_off29_inb i)).toLoadRect (harg11.unread x9))) (View.readAt (Elt Ideal) arg3.view (Rect.unit (s := S1x8x160x128) ![0, 4, 0, 0] S1x1x160x128.size inb_S1x8x160x128_S1x1x160x128_0_4_0_0).toLoadRect (harg3.unread x1)) (View.readAt (Elt Ideal) arg3.view (Rect.unit (s := S1x8x160x128) ![0, 5, 0, 0] S1x1x160x128.size inb_S1x8x160x128_S1x1x160x128_0_5_0_0).toLoadRect (harg3.unread x1)) (View.readAt (Elt Ideal) arg4.view (Rect.unit (s := S1x8x128) ![0, 4, 0] S1x1x128.size inb_S1x8x128_S1x1x128_0_4_0).toLoadRect (harg4.unread x2)) (View.readAt (Elt Ideal) arg4.view (Rect.unit (s := S1x8x128) ![0, 5, 0] S1x1x128.size inb_S1x8x128_S1x1x128_0_5_0).toLoadRect (harg4.unread x2)) (View.readAt (Elt Ideal) arg10.view (Rect.unit (s := S1x2x24576x256) (k0_off31 i) S1x1x640x256.size (k0_off31_inb i)).toLoadRect (harg10.unread x8))) (k0_pay90 (Hand.kernelRun.sl.r_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (Hand.kernelRun.sl.r_36 (F := Ideal) c i arg2 harg2 x0) (k0_pay83 (k0_pay76 (iota .tc S128x256 32 [0] iota_S128x256_d0_w32) k0_pay73 64#32 k0_pay74 k0_pay75) (k0_pay78 (View.readAt (Elt Ideal) arg11.view (Rect.unit (s := S1x2x160x24576) (k0_off30 i) S1x1x160x128.size (k0_off30_inb i)).toLoadRect (harg11.unread x9))) (k0_pay79 (View.readAt (Elt Ideal) arg3.view (Rect.unit (s := S1x8x160x128) ![0, 4, 0, 0] S1x1x160x128.size inb_S1x8x160x128_S1x1x160x128_0_4_0_0).toLoadRect (harg3.unread x1)) (View.readAt (Elt Ideal) arg3.view (Rect.unit (s := S1x8x160x128) ![0, 5, 0, 0] S1x1x160x128.size inb_S1x8x160x128_S1x1x160x128_0_5_0_0).toLoadRect (harg3.unread x1))) (k0_pay80 (View.readAt (Elt Ideal) arg4.view (Rect.unit (s := S1x8x128) ![0, 4, 0] S1x1x128.size inb_S1x8x128_S1x1x128_0_4_0).toLoadRect (harg4.unread x2)) (View.readAt (Elt Ideal) arg4.view (Rect.unit (s := S1x8x128) ![0, 5, 0] S1x1x128.size inb_S1x8x128_S1x1x128_0_5_0).toLoadRect (harg4.unread x2))) (View.readAt (Elt Ideal) arg5.view (Rect.unit (s := S1x2x4x128) ![0, 1, 0, 0] S1x1x1x128.size inb_S1x2x4x128_S1x1x1x128_0_1_0_0).toLoadRect (harg5.unread x3)) (View.readAt (Elt Ideal) arg5.view (Rect.unit (s := S1x2x4x128) ![0, 1, 1, 0] S1x1x1x128.size inb_S1x2x4x128_S1x1x1x128_0_1_1_0).toLoadRect (harg5.unread x3)) (View.readAt (Elt Ideal) arg14.view (Rect.unit (s := S1x2x128x256) ![0, 1, 0, 0] S1x1x128x160.size inb_S1x2x128x256_S1x1x128x160_0_1_0_0).toLoadRect (harg14.unread x12))) (k0_pay84 (k0_pay76 (iota .tc S128x256 32 [0] iota_S128x256_d0_w32) k0_pay73 64#32 k0_pay74 k0_pay75) (k0_pay79 (View.readAt (Elt Ideal) arg3.view (Rect.unit (s := S1x8x160x128) ![0, 4, 0, 0] S1x1x160x128.size inb_S1x8x160x128_S1x1x160x128_0_4_0_0).toLoadRect (harg3.unread x1)) (View.readAt (Elt Ideal) arg3.view (Rect.unit (s := S1x8x160x128) ![0, 5, 0, 0] S1x1x160x128.size inb_S1x8x160x128_S1x1x160x128_0_5_0_0).toLoadRect (harg3.unread x1))) (k0_pay80 (View.readAt (Elt Ideal) arg4.view (Rect.unit (s := S1x8x128) ![0, 4, 0] S1x1x128.size inb_S1x8x128_S1x1x128_0_4_0).toLoadRect (harg4.unread x2)) (View.readAt (Elt Ideal) arg4.view (Rect.unit (s := S1x8x128) ![0, 5, 0] S1x1x128.size inb_S1x8x128_S1x1x128_0_5_0).toLoadRect (harg4.unread x2))) (View.readAt (Elt Ideal) arg5.view (Rect.unit (s := S1x2x4x128) ![0, 1, 0, 0] S1x1x1x128.size inb_S1x2x4x128_S1x1x1x128_0_1_0_0).toLoadRect (harg5.unread x3)) (View.readAt (Elt Ideal) arg5.view (Rect.unit (s := S1x2x4x128) ![0, 1, 1, 0] S1x1x1x128.size inb_S1x2x4x128_S1x1x1x128_0_1_1_0).toLoadRect (harg5.unread x3)) (View.readAt (Elt Ideal) arg14.view (Rect.unit (s := S1x2x128x256) ![0, 1, 0, 0] S1x1x128x160.size inb_S1x2x128x256_S1x1x128x160_0_1_0_0).toLoadRect (harg14.unread x12))) (k0_pay85 (View.readAt (Elt Ideal) arg9.view { off := ![0, 1, 0, 0], size := S1x1x128x128.size, stride := ![1, 1, 8, 1], inb := inb_S1x2x1024x128_S1x1x128x128_0_1_0_0_s_1_1_8_1 } (harg9.unread x7))) (k0_pay86 (View.readAt (Elt Ideal) arg9.view { off := ![0, 1, 1, 0], size := S1x1x128x128.size, stride := ![1, 1, 8, 1], inb := inb_S1x2x1024x128_S1x1x128x128_0_1_1_0_s_1_1_8_1 } (harg9.unread x7))) (k0_pay87 (View.readAt (Elt Ideal) arg9.view { off := ![0, 1, 4, 0], size := S1x1x128x128.size, stride := ![1, 1, 8, 1], inb := inb_S1x2x1024x128_S1x1x128x128_0_1_4_0_s_1_1_8_1 } (harg9.unread x7))) (View.readAt (Elt Ideal) arg9.view { off := ![0, 1, 5, 0], size := S1x1x128x128.size, stride := ![1, 1, 8, 1], inb := inb_S1x2x1024x128_S1x1x128x128_0_1_5_0_s_1_1_8_1 } (harg9.unread x7)) (Hand.kernelRun.sl.v523 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (View.readAt (Elt Ideal) arg6.view (Rect.unit (s := S1x8x128) ![0, 4, 0] S1x1x128.size inb_S1x8x128_S1x1x128_0_4_0).toLoadRect (harg6.unread x4)) (View.readAt (Elt Ideal) arg6.view (Rect.unit (s := S1x8x128) ![0, 5, 0] S1x1x128.size inb_S1x8x128_S1x1x128_0_5_0).toLoadRect (harg6.unread x4)) (View.readAt (Elt Ideal) arg7.view (Rect.unit (s := S1x8x128) ![0, 4, 0] S1x1x128.size inb_S1x8x128_S1x1x128_0_4_0).toLoadRect (harg7.unread x5)) (View.readAt (Elt Ideal) arg7.view (Rect.unit (s := S1x8x128) ![0, 5, 0] S1x1x128.size inb_S1x8x128_S1x1x128_0_5_0).toLoadRect (harg7.unread x5))) (View.readAt (Elt Ideal) arg8.view (Rect.unit (s := S1x8x128) ![0, 4, 0] S1x1x128.size inb_S1x8x128_S1x1x128_0_4_0).toLoadRect (harg8.unread x6)) (View.readAt (Elt Ideal) arg8.view (Rect.unit (s := S1x8x128) ![0, 5, 0] S1x1x128.size inb_S1x8x128_S1x1x128_0_5_0).toLoadRect (harg8.unread x6))) (ix2 d e) = Spec.y (tA x0 x1 x2 x3 x4 x5 x6 x7 x8 x9 x10 x11 x12) (i 0) (hp 2 e) d (tm (i 1) e) := by
  rw [pay91_at, pay90_at, KHead.win2 c i arg2 harg2 arg3 harg3 arg4 harg4 arg10 harg10 arg11 harg11 x0 x1 x2 x3 x4 x5 x6 x7 x8 x9 x10 x11 x12, cmp2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0, sel2 c i arg2 harg2 arg3 harg3 arg4 harg4 arg5 harg5 arg9 harg9 arg11 harg11 arg14 harg14 x0 x1 x2 x3 x4 x5 x6 x7 x8 x9 x10 x11 x12]
  rw [s_ce i x4 2 _ _ (fun c => rd3 harg6 x4 _ _ 0 (h0 2) c rfl rfl (by simp)) (fun c => rd3 harg6 x4 _ _ 0 (h1 2) c rfl rfl (by simp)) e]
  rw [s_ce i x5 2 _ _ (fun c => rd3 harg7 x5 _ _ 0 (h0 2) c rfl rfl (by simp)) (fun c => rd3 harg7 x5 _ _ 0 (h1 2) c rfl rfl (by simp)) e]
  rw [s_ce i x6 2 _ _ (fun c => rd3 harg8 x6 _ _ 0 (h0 2) c rfl rfl (by simp)) (fun c => rd3 harg8 x6 _ _ 0 (h1 2) c rfl rfl (by simp)) e]
  rfl

theorem y_4 (d : Fin 160) (c' : Fin 128) : k0_pay95 (k0_pay81 (k0_pay72 (k0_pay54 i) (Scalar.maxsi (Scalar.subi (Scalar.muli (BitVec.ofNat 32 (i 1).val) 128#32) 512#32) 0#32)) (Hand.kernelRun.sl.r_36 (F := Ideal) c i arg2 harg2 x0) (k0_pay77 (View.readAt (Elt Ideal) arg11.view (Rect.unit (s := S1x2x160x24576) (k0_off29 i) S1x1x160x640.size (k0_off29_inb i)).toLoadRect (harg11.unread x9))) (View.readAt (Elt Ideal) arg3.view (Rect.unit (s := S1x8x160x128) ![0, 4, 0, 0] S1x1x160x128.size inb_S1x8x160x128_S1x1x160x128_0_4_0_0).toLoadRect (harg3.unread x1)) (View.readAt (Elt Ideal) arg3.view (Rect.unit (s := S1x8x160x128) ![0, 5, 0, 0] S1x1x160x128.size inb_S1x8x160x128_S1x1x160x128_0_5_0_0).toLoadRect (harg3.unread x1)) (View.readAt (Elt Ideal) arg4.view (Rect.unit (s := S1x8x128) ![0, 4, 0] S1x1x128.size inb_S1x8x128_S1x1x128_0_4_0).toLoadRect (harg4.unread x2)) (View.readAt (Elt Ideal) arg4.view (Rect.unit (s := S1x8x128) ![0, 5, 0] S1x1x128.size inb_S1x8x128_S1x1x128_0_5_0).toLoadRect (harg4.unread x2)) (View.readAt (Elt Ideal) arg10.view (Rect.unit (s := S1x2x24576x256) (k0_off31 i) S1x1x640x256.size (k0_off31_inb i)).toLoadRect (harg10.unread x8))) (k0_pay90 (Hand.kernelRun.sl.r_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (Hand.kernelRun.sl.r_36 (F := Ideal) c i arg2 harg2 x0) (k0_pay83 (k0_pay76 (iota .tc S128x256 32 [0] iota_S128x256_d0_w32) k0_pay73 64#32 k0_pay74 k0_pay75) (k0_pay78 (View.readAt (Elt Ideal) arg11.view (Rect.unit (s := S1x2x160x24576) (k0_off30 i) S1x1x160x128.size (k0_off30_inb i)).toLoadRect (harg11.unread x9))) (k0_pay79 (View.readAt (Elt Ideal) arg3.view (Rect.unit (s := S1x8x160x128) ![0, 4, 0, 0] S1x1x160x128.size inb_S1x8x160x128_S1x1x160x128_0_4_0_0).toLoadRect (harg3.unread x1)) (View.readAt (Elt Ideal) arg3.view (Rect.unit (s := S1x8x160x128) ![0, 5, 0, 0] S1x1x160x128.size inb_S1x8x160x128_S1x1x160x128_0_5_0_0).toLoadRect (harg3.unread x1))) (k0_pay80 (View.readAt (Elt Ideal) arg4.view (Rect.unit (s := S1x8x128) ![0, 4, 0] S1x1x128.size inb_S1x8x128_S1x1x128_0_4_0).toLoadRect (harg4.unread x2)) (View.readAt (Elt Ideal) arg4.view (Rect.unit (s := S1x8x128) ![0, 5, 0] S1x1x128.size inb_S1x8x128_S1x1x128_0_5_0).toLoadRect (harg4.unread x2))) (View.readAt (Elt Ideal) arg5.view (Rect.unit (s := S1x2x4x128) ![0, 1, 0, 0] S1x1x1x128.size inb_S1x2x4x128_S1x1x1x128_0_1_0_0).toLoadRect (harg5.unread x3)) (View.readAt (Elt Ideal) arg5.view (Rect.unit (s := S1x2x4x128) ![0, 1, 1, 0] S1x1x1x128.size inb_S1x2x4x128_S1x1x1x128_0_1_1_0).toLoadRect (harg5.unread x3)) (View.readAt (Elt Ideal) arg14.view (Rect.unit (s := S1x2x128x256) ![0, 1, 0, 0] S1x1x128x160.size inb_S1x2x128x256_S1x1x128x160_0_1_0_0).toLoadRect (harg14.unread x12))) (k0_pay84 (k0_pay76 (iota .tc S128x256 32 [0] iota_S128x256_d0_w32) k0_pay73 64#32 k0_pay74 k0_pay75) (k0_pay79 (View.readAt (Elt Ideal) arg3.view (Rect.unit (s := S1x8x160x128) ![0, 4, 0, 0] S1x1x160x128.size inb_S1x8x160x128_S1x1x160x128_0_4_0_0).toLoadRect (harg3.unread x1)) (View.readAt (Elt Ideal) arg3.view (Rect.unit (s := S1x8x160x128) ![0, 5, 0, 0] S1x1x160x128.size inb_S1x8x160x128_S1x1x160x128_0_5_0_0).toLoadRect (harg3.unread x1))) (k0_pay80 (View.readAt (Elt Ideal) arg4.view (Rect.unit (s := S1x8x128) ![0, 4, 0] S1x1x128.size inb_S1x8x128_S1x1x128_0_4_0).toLoadRect (harg4.unread x2)) (View.readAt (Elt Ideal) arg4.view (Rect.unit (s := S1x8x128) ![0, 5, 0] S1x1x128.size inb_S1x8x128_S1x1x128_0_5_0).toLoadRect (harg4.unread x2))) (View.readAt (Elt Ideal) arg5.view (Rect.unit (s := S1x2x4x128) ![0, 1, 0, 0] S1x1x1x128.size inb_S1x2x4x128_S1x1x1x128_0_1_0_0).toLoadRect (harg5.unread x3)) (View.readAt (Elt Ideal) arg5.view (Rect.unit (s := S1x2x4x128) ![0, 1, 1, 0] S1x1x1x128.size inb_S1x2x4x128_S1x1x1x128_0_1_1_0).toLoadRect (harg5.unread x3)) (View.readAt (Elt Ideal) arg14.view (Rect.unit (s := S1x2x128x256) ![0, 1, 0, 0] S1x1x128x160.size inb_S1x2x128x256_S1x1x128x160_0_1_0_0).toLoadRect (harg14.unread x12))) (k0_pay85 (View.readAt (Elt Ideal) arg9.view { off := ![0, 1, 0, 0], size := S1x1x128x128.size, stride := ![1, 1, 8, 1], inb := inb_S1x2x1024x128_S1x1x128x128_0_1_0_0_s_1_1_8_1 } (harg9.unread x7))) (k0_pay86 (View.readAt (Elt Ideal) arg9.view { off := ![0, 1, 1, 0], size := S1x1x128x128.size, stride := ![1, 1, 8, 1], inb := inb_S1x2x1024x128_S1x1x128x128_0_1_1_0_s_1_1_8_1 } (harg9.unread x7))) (k0_pay87 (View.readAt (Elt Ideal) arg9.view { off := ![0, 1, 4, 0], size := S1x1x128x128.size, stride := ![1, 1, 8, 1], inb := inb_S1x2x1024x128_S1x1x128x128_0_1_4_0_s_1_1_8_1 } (harg9.unread x7))) (View.readAt (Elt Ideal) arg9.view { off := ![0, 1, 5, 0], size := S1x1x128x128.size, stride := ![1, 1, 8, 1], inb := inb_S1x2x1024x128_S1x1x128x128_0_1_5_0_s_1_1_8_1 } (harg9.unread x7)) (Hand.kernelRun.sl.v523 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (View.readAt (Elt Ideal) arg6.view (Rect.unit (s := S1x8x128) ![0, 4, 0] S1x1x128.size inb_S1x8x128_S1x1x128_0_4_0).toLoadRect (harg6.unread x4)) (View.readAt (Elt Ideal) arg6.view (Rect.unit (s := S1x8x128) ![0, 5, 0] S1x1x128.size inb_S1x8x128_S1x1x128_0_5_0).toLoadRect (harg6.unread x4)) (View.readAt (Elt Ideal) arg7.view (Rect.unit (s := S1x8x128) ![0, 4, 0] S1x1x128.size inb_S1x8x128_S1x1x128_0_4_0).toLoadRect (harg7.unread x5)) (View.readAt (Elt Ideal) arg7.view (Rect.unit (s := S1x8x128) ![0, 5, 0] S1x1x128.size inb_S1x8x128_S1x1x128_0_5_0).toLoadRect (harg7.unread x5))) (View.readAt (Elt Ideal) arg8.view (Rect.unit (s := S1x8x128) ![0, 4, 0] S1x1x128.size inb_S1x8x128_S1x1x128_0_4_0).toLoadRect (harg8.unread x6)) (View.readAt (Elt Ideal) arg8.view (Rect.unit (s := S1x8x128) ![0, 5, 0] S1x1x128.size inb_S1x8x128_S1x1x128_0_5_0).toLoadRect (harg8.unread x6)) (ix2 d c') = Spec.y (tA x0 x1 x2 x3 x4 x5 x6 x7 x8 x9 x10 x11 x12) (i 0) 4 d (tq (i 1) c') := by
  refine (lo2_at d c' _ _ _ _).trans ((y2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 d ⟨c'.val, by omega⟩).trans ?_)
  exact congrArg₂ (fun h t => Spec.y (tA x0 x1 x2 x3 x4 x5 x6 x7 x8 x9 x10 x11 x12) (i 0) h d t) (hp_lo 2 c') (tm_lo (i 1) c')

theorem y_5 (d : Fin 160) (c' : Fin 128) : k0_pay100 (k0_pay91 (k0_pay81 (k0_pay72 (k0_pay54 i) (Scalar.maxsi (Scalar.subi (Scalar.muli (BitVec.ofNat 32 (i 1).val) 128#32) 512#32) 0#32)) (Hand.kernelRun.sl.r_36 (F := Ideal) c i arg2 harg2 x0) (k0_pay77 (View.readAt (Elt Ideal) arg11.view (Rect.unit (s := S1x2x160x24576) (k0_off29 i) S1x1x160x640.size (k0_off29_inb i)).toLoadRect (harg11.unread x9))) (View.readAt (Elt Ideal) arg3.view (Rect.unit (s := S1x8x160x128) ![0, 4, 0, 0] S1x1x160x128.size inb_S1x8x160x128_S1x1x160x128_0_4_0_0).toLoadRect (harg3.unread x1)) (View.readAt (Elt Ideal) arg3.view (Rect.unit (s := S1x8x160x128) ![0, 5, 0, 0] S1x1x160x128.size inb_S1x8x160x128_S1x1x160x128_0_5_0_0).toLoadRect (harg3.unread x1)) (View.readAt (Elt Ideal) arg4.view (Rect.unit (s := S1x8x128) ![0, 4, 0] S1x1x128.size inb_S1x8x128_S1x1x128_0_4_0).toLoadRect (harg4.unread x2)) (View.readAt (Elt Ideal) arg4.view (Rect.unit (s := S1x8x128) ![0, 5, 0] S1x1x128.size inb_S1x8x128_S1x1x128_0_5_0).toLoadRect (harg4.unread x2)) (View.readAt (Elt Ideal) arg10.view (Rect.unit (s := S1x2x24576x256) (k0_off31 i) S1x1x640x256.size (k0_off31_inb i)).toLoadRect (harg10.unread x8))) (k0_pay90 (Hand.kernelRun.sl.r_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (Hand.kernelRun.sl.r_36 (F := Ideal) c i arg2 harg2 x0) (k0_pay83 (k0_pay76 (iota .tc S128x256 32 [0] iota_S128x256_d0_w32) k0_pay73 64#32 k0_pay74 k0_pay75) (k0_pay78 (View.readAt (Elt Ideal) arg11.view (Rect.unit (s := S1x2x160x24576) (k0_off30 i) S1x1x160x128.size (k0_off30_inb i)).toLoadRect (harg11.unread x9))) (k0_pay79 (View.readAt (Elt Ideal) arg3.view (Rect.unit (s := S1x8x160x128) ![0, 4, 0, 0] S1x1x160x128.size inb_S1x8x160x128_S1x1x160x128_0_4_0_0).toLoadRect (harg3.unread x1)) (View.readAt (Elt Ideal) arg3.view (Rect.unit (s := S1x8x160x128) ![0, 5, 0, 0] S1x1x160x128.size inb_S1x8x160x128_S1x1x160x128_0_5_0_0).toLoadRect (harg3.unread x1))) (k0_pay80 (View.readAt (Elt Ideal) arg4.view (Rect.unit (s := S1x8x128) ![0, 4, 0] S1x1x128.size inb_S1x8x128_S1x1x128_0_4_0).toLoadRect (harg4.unread x2)) (View.readAt (Elt Ideal) arg4.view (Rect.unit (s := S1x8x128) ![0, 5, 0] S1x1x128.size inb_S1x8x128_S1x1x128_0_5_0).toLoadRect (harg4.unread x2))) (View.readAt (Elt Ideal) arg5.view (Rect.unit (s := S1x2x4x128) ![0, 1, 0, 0] S1x1x1x128.size inb_S1x2x4x128_S1x1x1x128_0_1_0_0).toLoadRect (harg5.unread x3)) (View.readAt (Elt Ideal) arg5.view (Rect.unit (s := S1x2x4x128) ![0, 1, 1, 0] S1x1x1x128.size inb_S1x2x4x128_S1x1x1x128_0_1_1_0).toLoadRect (harg5.unread x3)) (View.readAt (Elt Ideal) arg14.view (Rect.unit (s := S1x2x128x256) ![0, 1, 0, 0] S1x1x128x160.size inb_S1x2x128x256_S1x1x128x160_0_1_0_0).toLoadRect (harg14.unread x12))) (k0_pay84 (k0_pay76 (iota .tc S128x256 32 [0] iota_S128x256_d0_w32) k0_pay73 64#32 k0_pay74 k0_pay75) (k0_pay79 (View.readAt (Elt Ideal) arg3.view (Rect.unit (s := S1x8x160x128) ![0, 4, 0, 0] S1x1x160x128.size inb_S1x8x160x128_S1x1x160x128_0_4_0_0).toLoadRect (harg3.unread x1)) (View.readAt (Elt Ideal) arg3.view (Rect.unit (s := S1x8x160x128) ![0, 5, 0, 0] S1x1x160x128.size inb_S1x8x160x128_S1x1x160x128_0_5_0_0).toLoadRect (harg3.unread x1))) (k0_pay80 (View.readAt (Elt Ideal) arg4.view (Rect.unit (s := S1x8x128) ![0, 4, 0] S1x1x128.size inb_S1x8x128_S1x1x128_0_4_0).toLoadRect (harg4.unread x2)) (View.readAt (Elt Ideal) arg4.view (Rect.unit (s := S1x8x128) ![0, 5, 0] S1x1x128.size inb_S1x8x128_S1x1x128_0_5_0).toLoadRect (harg4.unread x2))) (View.readAt (Elt Ideal) arg5.view (Rect.unit (s := S1x2x4x128) ![0, 1, 0, 0] S1x1x1x128.size inb_S1x2x4x128_S1x1x1x128_0_1_0_0).toLoadRect (harg5.unread x3)) (View.readAt (Elt Ideal) arg5.view (Rect.unit (s := S1x2x4x128) ![0, 1, 1, 0] S1x1x1x128.size inb_S1x2x4x128_S1x1x1x128_0_1_1_0).toLoadRect (harg5.unread x3)) (View.readAt (Elt Ideal) arg14.view (Rect.unit (s := S1x2x128x256) ![0, 1, 0, 0] S1x1x128x160.size inb_S1x2x128x256_S1x1x128x160_0_1_0_0).toLoadRect (harg14.unread x12))) (k0_pay85 (View.readAt (Elt Ideal) arg9.view { off := ![0, 1, 0, 0], size := S1x1x128x128.size, stride := ![1, 1, 8, 1], inb := inb_S1x2x1024x128_S1x1x128x128_0_1_0_0_s_1_1_8_1 } (harg9.unread x7))) (k0_pay86 (View.readAt (Elt Ideal) arg9.view { off := ![0, 1, 1, 0], size := S1x1x128x128.size, stride := ![1, 1, 8, 1], inb := inb_S1x2x1024x128_S1x1x128x128_0_1_1_0_s_1_1_8_1 } (harg9.unread x7))) (k0_pay87 (View.readAt (Elt Ideal) arg9.view { off := ![0, 1, 4, 0], size := S1x1x128x128.size, stride := ![1, 1, 8, 1], inb := inb_S1x2x1024x128_S1x1x128x128_0_1_4_0_s_1_1_8_1 } (harg9.unread x7))) (View.readAt (Elt Ideal) arg9.view { off := ![0, 1, 5, 0], size := S1x1x128x128.size, stride := ![1, 1, 8, 1], inb := inb_S1x2x1024x128_S1x1x128x128_0_1_5_0_s_1_1_8_1 } (harg9.unread x7)) (Hand.kernelRun.sl.v523 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (View.readAt (Elt Ideal) arg6.view (Rect.unit (s := S1x8x128) ![0, 4, 0] S1x1x128.size inb_S1x8x128_S1x1x128_0_4_0).toLoadRect (harg6.unread x4)) (View.readAt (Elt Ideal) arg6.view (Rect.unit (s := S1x8x128) ![0, 5, 0] S1x1x128.size inb_S1x8x128_S1x1x128_0_5_0).toLoadRect (harg6.unread x4)) (View.readAt (Elt Ideal) arg7.view (Rect.unit (s := S1x8x128) ![0, 4, 0] S1x1x128.size inb_S1x8x128_S1x1x128_0_4_0).toLoadRect (harg7.unread x5)) (View.readAt (Elt Ideal) arg7.view (Rect.unit (s := S1x8x128) ![0, 5, 0] S1x1x128.size inb_S1x8x128_S1x1x128_0_5_0).toLoadRect (harg7.unread x5))) (View.readAt (Elt Ideal) arg8.view (Rect.unit (s := S1x8x128) ![0, 4, 0] S1x1x128.size inb_S1x8x128_S1x1x128_0_4_0).toLoadRect (harg8.unread x6)) (View.readAt (Elt Ideal) arg8.view (Rect.unit (s := S1x8x128) ![0, 5, 0] S1x1x128.size inb_S1x8x128_S1x1x128_0_5_0).toLoadRect (harg8.unread x6))) (ix2 d c') = Spec.y (tA x0 x1 x2 x3 x4 x5 x6 x7 x8 x9 x10 x11 x12) (i 0) 5 d (tq (i 1) c') := by
  refine (hi2_at d c' _).trans ((y2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 d ⟨128 + c'.val, by omega⟩).trans ?_)
  exact congrArg₂ (fun h t => Spec.y (tA x0 x1 x2 x3 x4 x5 x6 x7 x8 x9 x10 x11 x12) (i 0) h d t) (hp_hi 2 c') (tm_hi (i 1) c')

/-- Pair 3: the gated sum. -/
theorem y3 (d : Fin 160) (e : Fin 256) : (k0_pay91 (k0_pay81 (k0_pay72 (k0_pay54 i) (Scalar.maxsi (Scalar.subi (Scalar.muli (BitVec.ofNat 32 (i 1).val) 128#32) 512#32) 0#32)) (Hand.kernelRun.sl.r_36 (F := Ideal) c i arg2 harg2 x0) (k0_pay77 (View.readAt (Elt Ideal) arg11.view (Rect.unit (s := S1x2x160x24576) (k0_off29 i) S1x1x160x640.size (k0_off29_inb i)).toLoadRect (harg11.unread x9))) (View.readAt (Elt Ideal) arg3.view (Rect.unit (s := S1x8x160x128) ![0, 6, 0, 0] S1x1x160x128.size inb_S1x8x160x128_S1x1x160x128_0_6_0_0).toLoadRect (harg3.unread x1)) (View.readAt (Elt Ideal) arg3.view (Rect.unit (s := S1x8x160x128) ![0, 7, 0, 0] S1x1x160x128.size inb_S1x8x160x128_S1x1x160x128_0_7_0_0).toLoadRect (harg3.unread x1)) (View.readAt (Elt Ideal) arg4.view (Rect.unit (s := S1x8x128) ![0, 6, 0] S1x1x128.size inb_S1x8x128_S1x1x128_0_6_0).toLoadRect (harg4.unread x2)) (View.readAt (Elt Ideal) arg4.view (Rect.unit (s := S1x8x128) ![0, 7, 0] S1x1x128.size inb_S1x8x128_S1x1x128_0_7_0).toLoadRect (harg4.unread x2)) (View.readAt (Elt Ideal) arg10.view (Rect.unit (s := S1x2x24576x256) (k0_off31 i) S1x1x640x256.size (k0_off31_inb i)).toLoadRect (harg10.unread x8))) (k0_pay90 (Hand.kernelRun.sl.r_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (Hand.kernelRun.sl.r_36 (F := Ideal) c i arg2 harg2 x0) (k0_pay83 (k0_pay76 (iota .tc S128x256 32 [0] iota_S128x256_d0_w32) k0_pay73 64#32 k0_pay74 k0_pay75) (k0_pay78 (View.readAt (Elt Ideal) arg11.view (Rect.unit (s := S1x2x160x24576) (k0_off30 i) S1x1x160x128.size (k0_off30_inb i)).toLoadRect (harg11.unread x9))) (k0_pay79 (View.readAt (Elt Ideal) arg3.view (Rect.unit (s := S1x8x160x128) ![0, 6, 0, 0] S1x1x160x128.size inb_S1x8x160x128_S1x1x160x128_0_6_0_0).toLoadRect (harg3.unread x1)) (View.readAt (Elt Ideal) arg3.view (Rect.unit (s := S1x8x160x128) ![0, 7, 0, 0] S1x1x160x128.size inb_S1x8x160x128_S1x1x160x128_0_7_0_0).toLoadRect (harg3.unread x1))) (k0_pay80 (View.readAt (Elt Ideal) arg4.view (Rect.unit (s := S1x8x128) ![0, 6, 0] S1x1x128.size inb_S1x8x128_S1x1x128_0_6_0).toLoadRect (harg4.unread x2)) (View.readAt (Elt Ideal) arg4.view (Rect.unit (s := S1x8x128) ![0, 7, 0] S1x1x128.size inb_S1x8x128_S1x1x128_0_7_0).toLoadRect (harg4.unread x2))) (View.readAt (Elt Ideal) arg5.view (Rect.unit (s := S1x2x4x128) ![0, 1, 2, 0] S1x1x1x128.size inb_S1x2x4x128_S1x1x1x128_0_1_2_0).toLoadRect (harg5.unread x3)) (View.readAt (Elt Ideal) arg5.view (Rect.unit (s := S1x2x4x128) ![0, 1, 3, 0] S1x1x1x128.size inb_S1x2x4x128_S1x1x1x128_0_1_3_0).toLoadRect (harg5.unread x3)) (View.readAt (Elt Ideal) arg14.view (Rect.unit (s := S1x2x128x256) ![0, 1, 0, 0] S1x1x128x160.size inb_S1x2x128x256_S1x1x128x160_0_1_0_0).toLoadRect (harg14.unread x12))) (k0_pay84 (k0_pay76 (iota .tc S128x256 32 [0] iota_S128x256_d0_w32) k0_pay73 64#32 k0_pay74 k0_pay75) (k0_pay79 (View.readAt (Elt Ideal) arg3.view (Rect.unit (s := S1x8x160x128) ![0, 6, 0, 0] S1x1x160x128.size inb_S1x8x160x128_S1x1x160x128_0_6_0_0).toLoadRect (harg3.unread x1)) (View.readAt (Elt Ideal) arg3.view (Rect.unit (s := S1x8x160x128) ![0, 7, 0, 0] S1x1x160x128.size inb_S1x8x160x128_S1x1x160x128_0_7_0_0).toLoadRect (harg3.unread x1))) (k0_pay80 (View.readAt (Elt Ideal) arg4.view (Rect.unit (s := S1x8x128) ![0, 6, 0] S1x1x128.size inb_S1x8x128_S1x1x128_0_6_0).toLoadRect (harg4.unread x2)) (View.readAt (Elt Ideal) arg4.view (Rect.unit (s := S1x8x128) ![0, 7, 0] S1x1x128.size inb_S1x8x128_S1x1x128_0_7_0).toLoadRect (harg4.unread x2))) (View.readAt (Elt Ideal) arg5.view (Rect.unit (s := S1x2x4x128) ![0, 1, 2, 0] S1x1x1x128.size inb_S1x2x4x128_S1x1x1x128_0_1_2_0).toLoadRect (harg5.unread x3)) (View.readAt (Elt Ideal) arg5.view (Rect.unit (s := S1x2x4x128) ![0, 1, 3, 0] S1x1x1x128.size inb_S1x2x4x128_S1x1x1x128_0_1_3_0).toLoadRect (harg5.unread x3)) (View.readAt (Elt Ideal) arg14.view (Rect.unit (s := S1x2x128x256) ![0, 1, 0, 0] S1x1x128x160.size inb_S1x2x128x256_S1x1x128x160_0_1_0_0).toLoadRect (harg14.unread x12))) (k0_pay85 (View.readAt (Elt Ideal) arg9.view { off := ![0, 1, 2, 0], size := S1x1x128x128.size, stride := ![1, 1, 8, 1], inb := inb_S1x2x1024x128_S1x1x128x128_0_1_2_0_s_1_1_8_1 } (harg9.unread x7))) (k0_pay86 (View.readAt (Elt Ideal) arg9.view { off := ![0, 1, 3, 0], size := S1x1x128x128.size, stride := ![1, 1, 8, 1], inb := inb_S1x2x1024x128_S1x1x128x128_0_1_3_0_s_1_1_8_1 } (harg9.unread x7))) (k0_pay87 (View.readAt (Elt Ideal) arg9.view { off := ![0, 1, 6, 0], size := S1x1x128x128.size, stride := ![1, 1, 8, 1], inb := inb_S1x2x1024x128_S1x1x128x128_0_1_6_0_s_1_1_8_1 } (harg9.unread x7))) (View.readAt (Elt Ideal) arg9.view { off := ![0, 1, 7, 0], size := S1x1x128x128.size, stride := ![1, 1, 8, 1], inb := inb_S1x2x1024x128_S1x1x128x128_0_1_7_0_s_1_1_8_1 } (harg9.unread x7)) (Hand.kernelRun.sl.v676 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (View.readAt (Elt Ideal) arg6.view (Rect.unit (s := S1x8x128) ![0, 6, 0] S1x1x128.size inb_S1x8x128_S1x1x128_0_6_0).toLoadRect (harg6.unread x4)) (View.readAt (Elt Ideal) arg6.view (Rect.unit (s := S1x8x128) ![0, 7, 0] S1x1x128.size inb_S1x8x128_S1x1x128_0_7_0).toLoadRect (harg6.unread x4)) (View.readAt (Elt Ideal) arg7.view (Rect.unit (s := S1x8x128) ![0, 6, 0] S1x1x128.size inb_S1x8x128_S1x1x128_0_6_0).toLoadRect (harg7.unread x5)) (View.readAt (Elt Ideal) arg7.view (Rect.unit (s := S1x8x128) ![0, 7, 0] S1x1x128.size inb_S1x8x128_S1x1x128_0_7_0).toLoadRect (harg7.unread x5))) (View.readAt (Elt Ideal) arg8.view (Rect.unit (s := S1x8x128) ![0, 6, 0] S1x1x128.size inb_S1x8x128_S1x1x128_0_6_0).toLoadRect (harg8.unread x6)) (View.readAt (Elt Ideal) arg8.view (Rect.unit (s := S1x8x128) ![0, 7, 0] S1x1x128.size inb_S1x8x128_S1x1x128_0_7_0).toLoadRect (harg8.unread x6))) (ix2 d e) = Spec.y (tA x0 x1 x2 x3 x4 x5 x6 x7 x8 x9 x10 x11 x12) (i 0) (hp 3 e) d (tm (i 1) e) := by
  rw [pay91_at, pay90_at, KHead.win3 c i arg2 harg2 arg3 harg3 arg4 harg4 arg10 harg10 arg11 harg11 x0 x1 x2 x3 x4 x5 x6 x7 x8 x9 x10 x11 x12, cmp3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0, sel3 c i arg2 harg2 arg3 harg3 arg4 harg4 arg5 harg5 arg9 harg9 arg11 harg11 arg14 harg14 x0 x1 x2 x3 x4 x5 x6 x7 x8 x9 x10 x11 x12]
  rw [s_ce i x4 3 _ _ (fun c => rd3 harg6 x4 _ _ 0 (h0 3) c rfl rfl (by simp)) (fun c => rd3 harg6 x4 _ _ 0 (h1 3) c rfl rfl (by simp)) e]
  rw [s_ce i x5 3 _ _ (fun c => rd3 harg7 x5 _ _ 0 (h0 3) c rfl rfl (by simp)) (fun c => rd3 harg7 x5 _ _ 0 (h1 3) c rfl rfl (by simp)) e]
  rw [s_ce i x6 3 _ _ (fun c => rd3 harg8 x6 _ _ 0 (h0 3) c rfl rfl (by simp)) (fun c => rd3 harg8 x6 _ _ 0 (h1 3) c rfl rfl (by simp)) e]
  rfl

theorem y_6 (d : Fin 160) (c' : Fin 128) : k0_pay95 (k0_pay81 (k0_pay72 (k0_pay54 i) (Scalar.maxsi (Scalar.subi (Scalar.muli (BitVec.ofNat 32 (i 1).val) 128#32) 512#32) 0#32)) (Hand.kernelRun.sl.r_36 (F := Ideal) c i arg2 harg2 x0) (k0_pay77 (View.readAt (Elt Ideal) arg11.view (Rect.unit (s := S1x2x160x24576) (k0_off29 i) S1x1x160x640.size (k0_off29_inb i)).toLoadRect (harg11.unread x9))) (View.readAt (Elt Ideal) arg3.view (Rect.unit (s := S1x8x160x128) ![0, 6, 0, 0] S1x1x160x128.size inb_S1x8x160x128_S1x1x160x128_0_6_0_0).toLoadRect (harg3.unread x1)) (View.readAt (Elt Ideal) arg3.view (Rect.unit (s := S1x8x160x128) ![0, 7, 0, 0] S1x1x160x128.size inb_S1x8x160x128_S1x1x160x128_0_7_0_0).toLoadRect (harg3.unread x1)) (View.readAt (Elt Ideal) arg4.view (Rect.unit (s := S1x8x128) ![0, 6, 0] S1x1x128.size inb_S1x8x128_S1x1x128_0_6_0).toLoadRect (harg4.unread x2)) (View.readAt (Elt Ideal) arg4.view (Rect.unit (s := S1x8x128) ![0, 7, 0] S1x1x128.size inb_S1x8x128_S1x1x128_0_7_0).toLoadRect (harg4.unread x2)) (View.readAt (Elt Ideal) arg10.view (Rect.unit (s := S1x2x24576x256) (k0_off31 i) S1x1x640x256.size (k0_off31_inb i)).toLoadRect (harg10.unread x8))) (k0_pay90 (Hand.kernelRun.sl.r_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (Hand.kernelRun.sl.r_36 (F := Ideal) c i arg2 harg2 x0) (k0_pay83 (k0_pay76 (iota .tc S128x256 32 [0] iota_S128x256_d0_w32) k0_pay73 64#32 k0_pay74 k0_pay75) (k0_pay78 (View.readAt (Elt Ideal) arg11.view (Rect.unit (s := S1x2x160x24576) (k0_off30 i) S1x1x160x128.size (k0_off30_inb i)).toLoadRect (harg11.unread x9))) (k0_pay79 (View.readAt (Elt Ideal) arg3.view (Rect.unit (s := S1x8x160x128) ![0, 6, 0, 0] S1x1x160x128.size inb_S1x8x160x128_S1x1x160x128_0_6_0_0).toLoadRect (harg3.unread x1)) (View.readAt (Elt Ideal) arg3.view (Rect.unit (s := S1x8x160x128) ![0, 7, 0, 0] S1x1x160x128.size inb_S1x8x160x128_S1x1x160x128_0_7_0_0).toLoadRect (harg3.unread x1))) (k0_pay80 (View.readAt (Elt Ideal) arg4.view (Rect.unit (s := S1x8x128) ![0, 6, 0] S1x1x128.size inb_S1x8x128_S1x1x128_0_6_0).toLoadRect (harg4.unread x2)) (View.readAt (Elt Ideal) arg4.view (Rect.unit (s := S1x8x128) ![0, 7, 0] S1x1x128.size inb_S1x8x128_S1x1x128_0_7_0).toLoadRect (harg4.unread x2))) (View.readAt (Elt Ideal) arg5.view (Rect.unit (s := S1x2x4x128) ![0, 1, 2, 0] S1x1x1x128.size inb_S1x2x4x128_S1x1x1x128_0_1_2_0).toLoadRect (harg5.unread x3)) (View.readAt (Elt Ideal) arg5.view (Rect.unit (s := S1x2x4x128) ![0, 1, 3, 0] S1x1x1x128.size inb_S1x2x4x128_S1x1x1x128_0_1_3_0).toLoadRect (harg5.unread x3)) (View.readAt (Elt Ideal) arg14.view (Rect.unit (s := S1x2x128x256) ![0, 1, 0, 0] S1x1x128x160.size inb_S1x2x128x256_S1x1x128x160_0_1_0_0).toLoadRect (harg14.unread x12))) (k0_pay84 (k0_pay76 (iota .tc S128x256 32 [0] iota_S128x256_d0_w32) k0_pay73 64#32 k0_pay74 k0_pay75) (k0_pay79 (View.readAt (Elt Ideal) arg3.view (Rect.unit (s := S1x8x160x128) ![0, 6, 0, 0] S1x1x160x128.size inb_S1x8x160x128_S1x1x160x128_0_6_0_0).toLoadRect (harg3.unread x1)) (View.readAt (Elt Ideal) arg3.view (Rect.unit (s := S1x8x160x128) ![0, 7, 0, 0] S1x1x160x128.size inb_S1x8x160x128_S1x1x160x128_0_7_0_0).toLoadRect (harg3.unread x1))) (k0_pay80 (View.readAt (Elt Ideal) arg4.view (Rect.unit (s := S1x8x128) ![0, 6, 0] S1x1x128.size inb_S1x8x128_S1x1x128_0_6_0).toLoadRect (harg4.unread x2)) (View.readAt (Elt Ideal) arg4.view (Rect.unit (s := S1x8x128) ![0, 7, 0] S1x1x128.size inb_S1x8x128_S1x1x128_0_7_0).toLoadRect (harg4.unread x2))) (View.readAt (Elt Ideal) arg5.view (Rect.unit (s := S1x2x4x128) ![0, 1, 2, 0] S1x1x1x128.size inb_S1x2x4x128_S1x1x1x128_0_1_2_0).toLoadRect (harg5.unread x3)) (View.readAt (Elt Ideal) arg5.view (Rect.unit (s := S1x2x4x128) ![0, 1, 3, 0] S1x1x1x128.size inb_S1x2x4x128_S1x1x1x128_0_1_3_0).toLoadRect (harg5.unread x3)) (View.readAt (Elt Ideal) arg14.view (Rect.unit (s := S1x2x128x256) ![0, 1, 0, 0] S1x1x128x160.size inb_S1x2x128x256_S1x1x128x160_0_1_0_0).toLoadRect (harg14.unread x12))) (k0_pay85 (View.readAt (Elt Ideal) arg9.view { off := ![0, 1, 2, 0], size := S1x1x128x128.size, stride := ![1, 1, 8, 1], inb := inb_S1x2x1024x128_S1x1x128x128_0_1_2_0_s_1_1_8_1 } (harg9.unread x7))) (k0_pay86 (View.readAt (Elt Ideal) arg9.view { off := ![0, 1, 3, 0], size := S1x1x128x128.size, stride := ![1, 1, 8, 1], inb := inb_S1x2x1024x128_S1x1x128x128_0_1_3_0_s_1_1_8_1 } (harg9.unread x7))) (k0_pay87 (View.readAt (Elt Ideal) arg9.view { off := ![0, 1, 6, 0], size := S1x1x128x128.size, stride := ![1, 1, 8, 1], inb := inb_S1x2x1024x128_S1x1x128x128_0_1_6_0_s_1_1_8_1 } (harg9.unread x7))) (View.readAt (Elt Ideal) arg9.view { off := ![0, 1, 7, 0], size := S1x1x128x128.size, stride := ![1, 1, 8, 1], inb := inb_S1x2x1024x128_S1x1x128x128_0_1_7_0_s_1_1_8_1 } (harg9.unread x7)) (Hand.kernelRun.sl.v676 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (View.readAt (Elt Ideal) arg6.view (Rect.unit (s := S1x8x128) ![0, 6, 0] S1x1x128.size inb_S1x8x128_S1x1x128_0_6_0).toLoadRect (harg6.unread x4)) (View.readAt (Elt Ideal) arg6.view (Rect.unit (s := S1x8x128) ![0, 7, 0] S1x1x128.size inb_S1x8x128_S1x1x128_0_7_0).toLoadRect (harg6.unread x4)) (View.readAt (Elt Ideal) arg7.view (Rect.unit (s := S1x8x128) ![0, 6, 0] S1x1x128.size inb_S1x8x128_S1x1x128_0_6_0).toLoadRect (harg7.unread x5)) (View.readAt (Elt Ideal) arg7.view (Rect.unit (s := S1x8x128) ![0, 7, 0] S1x1x128.size inb_S1x8x128_S1x1x128_0_7_0).toLoadRect (harg7.unread x5))) (View.readAt (Elt Ideal) arg8.view (Rect.unit (s := S1x8x128) ![0, 6, 0] S1x1x128.size inb_S1x8x128_S1x1x128_0_6_0).toLoadRect (harg8.unread x6)) (View.readAt (Elt Ideal) arg8.view (Rect.unit (s := S1x8x128) ![0, 7, 0] S1x1x128.size inb_S1x8x128_S1x1x128_0_7_0).toLoadRect (harg8.unread x6)) (ix2 d c') = Spec.y (tA x0 x1 x2 x3 x4 x5 x6 x7 x8 x9 x10 x11 x12) (i 0) 6 d (tq (i 1) c') := by
  refine (lo2_at d c' _ _ _ _).trans ((y3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 d ⟨c'.val, by omega⟩).trans ?_)
  exact congrArg₂ (fun h t => Spec.y (tA x0 x1 x2 x3 x4 x5 x6 x7 x8 x9 x10 x11 x12) (i 0) h d t) (hp_lo 3 c') (tm_lo (i 1) c')

theorem y_7 (d : Fin 160) (c' : Fin 128) : k0_pay100 (k0_pay91 (k0_pay81 (k0_pay72 (k0_pay54 i) (Scalar.maxsi (Scalar.subi (Scalar.muli (BitVec.ofNat 32 (i 1).val) 128#32) 512#32) 0#32)) (Hand.kernelRun.sl.r_36 (F := Ideal) c i arg2 harg2 x0) (k0_pay77 (View.readAt (Elt Ideal) arg11.view (Rect.unit (s := S1x2x160x24576) (k0_off29 i) S1x1x160x640.size (k0_off29_inb i)).toLoadRect (harg11.unread x9))) (View.readAt (Elt Ideal) arg3.view (Rect.unit (s := S1x8x160x128) ![0, 6, 0, 0] S1x1x160x128.size inb_S1x8x160x128_S1x1x160x128_0_6_0_0).toLoadRect (harg3.unread x1)) (View.readAt (Elt Ideal) arg3.view (Rect.unit (s := S1x8x160x128) ![0, 7, 0, 0] S1x1x160x128.size inb_S1x8x160x128_S1x1x160x128_0_7_0_0).toLoadRect (harg3.unread x1)) (View.readAt (Elt Ideal) arg4.view (Rect.unit (s := S1x8x128) ![0, 6, 0] S1x1x128.size inb_S1x8x128_S1x1x128_0_6_0).toLoadRect (harg4.unread x2)) (View.readAt (Elt Ideal) arg4.view (Rect.unit (s := S1x8x128) ![0, 7, 0] S1x1x128.size inb_S1x8x128_S1x1x128_0_7_0).toLoadRect (harg4.unread x2)) (View.readAt (Elt Ideal) arg10.view (Rect.unit (s := S1x2x24576x256) (k0_off31 i) S1x1x640x256.size (k0_off31_inb i)).toLoadRect (harg10.unread x8))) (k0_pay90 (Hand.kernelRun.sl.r_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (Hand.kernelRun.sl.r_36 (F := Ideal) c i arg2 harg2 x0) (k0_pay83 (k0_pay76 (iota .tc S128x256 32 [0] iota_S128x256_d0_w32) k0_pay73 64#32 k0_pay74 k0_pay75) (k0_pay78 (View.readAt (Elt Ideal) arg11.view (Rect.unit (s := S1x2x160x24576) (k0_off30 i) S1x1x160x128.size (k0_off30_inb i)).toLoadRect (harg11.unread x9))) (k0_pay79 (View.readAt (Elt Ideal) arg3.view (Rect.unit (s := S1x8x160x128) ![0, 6, 0, 0] S1x1x160x128.size inb_S1x8x160x128_S1x1x160x128_0_6_0_0).toLoadRect (harg3.unread x1)) (View.readAt (Elt Ideal) arg3.view (Rect.unit (s := S1x8x160x128) ![0, 7, 0, 0] S1x1x160x128.size inb_S1x8x160x128_S1x1x160x128_0_7_0_0).toLoadRect (harg3.unread x1))) (k0_pay80 (View.readAt (Elt Ideal) arg4.view (Rect.unit (s := S1x8x128) ![0, 6, 0] S1x1x128.size inb_S1x8x128_S1x1x128_0_6_0).toLoadRect (harg4.unread x2)) (View.readAt (Elt Ideal) arg4.view (Rect.unit (s := S1x8x128) ![0, 7, 0] S1x1x128.size inb_S1x8x128_S1x1x128_0_7_0).toLoadRect (harg4.unread x2))) (View.readAt (Elt Ideal) arg5.view (Rect.unit (s := S1x2x4x128) ![0, 1, 2, 0] S1x1x1x128.size inb_S1x2x4x128_S1x1x1x128_0_1_2_0).toLoadRect (harg5.unread x3)) (View.readAt (Elt Ideal) arg5.view (Rect.unit (s := S1x2x4x128) ![0, 1, 3, 0] S1x1x1x128.size inb_S1x2x4x128_S1x1x1x128_0_1_3_0).toLoadRect (harg5.unread x3)) (View.readAt (Elt Ideal) arg14.view (Rect.unit (s := S1x2x128x256) ![0, 1, 0, 0] S1x1x128x160.size inb_S1x2x128x256_S1x1x128x160_0_1_0_0).toLoadRect (harg14.unread x12))) (k0_pay84 (k0_pay76 (iota .tc S128x256 32 [0] iota_S128x256_d0_w32) k0_pay73 64#32 k0_pay74 k0_pay75) (k0_pay79 (View.readAt (Elt Ideal) arg3.view (Rect.unit (s := S1x8x160x128) ![0, 6, 0, 0] S1x1x160x128.size inb_S1x8x160x128_S1x1x160x128_0_6_0_0).toLoadRect (harg3.unread x1)) (View.readAt (Elt Ideal) arg3.view (Rect.unit (s := S1x8x160x128) ![0, 7, 0, 0] S1x1x160x128.size inb_S1x8x160x128_S1x1x160x128_0_7_0_0).toLoadRect (harg3.unread x1))) (k0_pay80 (View.readAt (Elt Ideal) arg4.view (Rect.unit (s := S1x8x128) ![0, 6, 0] S1x1x128.size inb_S1x8x128_S1x1x128_0_6_0).toLoadRect (harg4.unread x2)) (View.readAt (Elt Ideal) arg4.view (Rect.unit (s := S1x8x128) ![0, 7, 0] S1x1x128.size inb_S1x8x128_S1x1x128_0_7_0).toLoadRect (harg4.unread x2))) (View.readAt (Elt Ideal) arg5.view (Rect.unit (s := S1x2x4x128) ![0, 1, 2, 0] S1x1x1x128.size inb_S1x2x4x128_S1x1x1x128_0_1_2_0).toLoadRect (harg5.unread x3)) (View.readAt (Elt Ideal) arg5.view (Rect.unit (s := S1x2x4x128) ![0, 1, 3, 0] S1x1x1x128.size inb_S1x2x4x128_S1x1x1x128_0_1_3_0).toLoadRect (harg5.unread x3)) (View.readAt (Elt Ideal) arg14.view (Rect.unit (s := S1x2x128x256) ![0, 1, 0, 0] S1x1x128x160.size inb_S1x2x128x256_S1x1x128x160_0_1_0_0).toLoadRect (harg14.unread x12))) (k0_pay85 (View.readAt (Elt Ideal) arg9.view { off := ![0, 1, 2, 0], size := S1x1x128x128.size, stride := ![1, 1, 8, 1], inb := inb_S1x2x1024x128_S1x1x128x128_0_1_2_0_s_1_1_8_1 } (harg9.unread x7))) (k0_pay86 (View.readAt (Elt Ideal) arg9.view { off := ![0, 1, 3, 0], size := S1x1x128x128.size, stride := ![1, 1, 8, 1], inb := inb_S1x2x1024x128_S1x1x128x128_0_1_3_0_s_1_1_8_1 } (harg9.unread x7))) (k0_pay87 (View.readAt (Elt Ideal) arg9.view { off := ![0, 1, 6, 0], size := S1x1x128x128.size, stride := ![1, 1, 8, 1], inb := inb_S1x2x1024x128_S1x1x128x128_0_1_6_0_s_1_1_8_1 } (harg9.unread x7))) (View.readAt (Elt Ideal) arg9.view { off := ![0, 1, 7, 0], size := S1x1x128x128.size, stride := ![1, 1, 8, 1], inb := inb_S1x2x1024x128_S1x1x128x128_0_1_7_0_s_1_1_8_1 } (harg9.unread x7)) (Hand.kernelRun.sl.v676 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x10 x11 fs0) (View.readAt (Elt Ideal) arg6.view (Rect.unit (s := S1x8x128) ![0, 6, 0] S1x1x128.size inb_S1x8x128_S1x1x128_0_6_0).toLoadRect (harg6.unread x4)) (View.readAt (Elt Ideal) arg6.view (Rect.unit (s := S1x8x128) ![0, 7, 0] S1x1x128.size inb_S1x8x128_S1x1x128_0_7_0).toLoadRect (harg6.unread x4)) (View.readAt (Elt Ideal) arg7.view (Rect.unit (s := S1x8x128) ![0, 6, 0] S1x1x128.size inb_S1x8x128_S1x1x128_0_6_0).toLoadRect (harg7.unread x5)) (View.readAt (Elt Ideal) arg7.view (Rect.unit (s := S1x8x128) ![0, 7, 0] S1x1x128.size inb_S1x8x128_S1x1x128_0_7_0).toLoadRect (harg7.unread x5))) (View.readAt (Elt Ideal) arg8.view (Rect.unit (s := S1x8x128) ![0, 6, 0] S1x1x128.size inb_S1x8x128_S1x1x128_0_6_0).toLoadRect (harg8.unread x6)) (View.readAt (Elt Ideal) arg8.view (Rect.unit (s := S1x8x128) ![0, 7, 0] S1x1x128.size inb_S1x8x128_S1x1x128_0_7_0).toLoadRect (harg8.unread x6))) (ix2 d c') = Spec.y (tA x0 x1 x2 x3 x4 x5 x6 x7 x8 x9 x10 x11 x12) (i 0) 7 d (tq (i 1) c') := by
  refine (hi2_at d c' _).trans ((y3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 d ⟨128 + c'.val, by omega⟩).trans ?_)
  exact congrArg₂ (fun h t => Spec.y (tA x0 x1 x2 x3 x4 x5 x6 x7 x8 x9 x10 x11 x12) (i 0) h d t) (hp_hi 3 c') (tm_hi (i 1) c')

/-- The rows gathered are the gated sum's. -/
theorem y_pieces : View.PiecesOf (Gy i x0 x1 x2 x3 x4 x5 x6 x7 x8 x9 x10 x11 x12) (Hand.kernelRun.sl.HS2_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0) := by
  unfold Hand.kernelRun.sl.HS2_8
  refine ⟨?_, ?_, ?_, ?_, ?_, ?_, ?_, ?_, trivial⟩
  · refine piece2 (Gy i x0 x1 x2 x3 x4 x5 x6 x7 x8 x9 x10 x11 x12) _ inb_S1280x128_S160x128_1120_0 _ 1120 rfl fun d c' hd => ?_
    refine (y_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 d c').trans ?_
    unfold Gy
    congr 1
    · apply Fin.ext; show 7 = (1120 + d.val) / 160; omega
    · apply Fin.ext; show d.val = (1120 + d.val) % 160; omega
  · refine piece2 (Gy i x0 x1 x2 x3 x4 x5 x6 x7 x8 x9 x10 x11 x12) _ inb_S1280x128_S160x128_960_0 _ 960 rfl fun d c' hd => ?_
    refine (y_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 d c').trans ?_
    unfold Gy
    congr 1
    · apply Fin.ext; show 6 = (960 + d.val) / 160; omega
    · apply Fin.ext; show d.val = (960 + d.val) % 160; omega
  · refine piece2 (Gy i x0 x1 x2 x3 x4 x5 x6 x7 x8 x9 x10 x11 x12) _ inb_S1280x128_S160x128_800_0 _ 800 rfl fun d c' hd => ?_
    refine (y_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 d c').trans ?_
    unfold Gy
    congr 1
    · apply Fin.ext; show 5 = (800 + d.val) / 160; omega
    · apply Fin.ext; show d.val = (800 + d.val) % 160; omega
  · refine piece2 (Gy i x0 x1 x2 x3 x4 x5 x6 x7 x8 x9 x10 x11 x12) _ inb_S1280x128_S160x128_640_0 _ 640 rfl fun d c' hd => ?_
    refine (y_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 d c').trans ?_
    unfold Gy
    congr 1
    · apply Fin.ext; show 4 = (640 + d.val) / 160; omega
    · apply Fin.ext; show d.val = (640 + d.val) % 160; omega
  · refine piece2 (Gy i x0 x1 x2 x3 x4 x5 x6 x7 x8 x9 x10 x11 x12) _ inb_S1280x128_S160x128_480_0 _ 480 rfl fun d c' hd => ?_
    refine (y_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 d c').trans ?_
    unfold Gy
    congr 1
    · apply Fin.ext; show 3 = (480 + d.val) / 160; omega
    · apply Fin.ext; show d.val = (480 + d.val) % 160; omega
  · refine piece2 (Gy i x0 x1 x2 x3 x4 x5 x6 x7 x8 x9 x10 x11 x12) _ inb_S1280x128_S160x128_320_0 _ 320 rfl fun d c' hd => ?_
    refine (y_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 d c').trans ?_
    unfold Gy
    congr 1
    · apply Fin.ext; show 2 = (320 + d.val) / 160; omega
    · apply Fin.ext; show d.val = (320 + d.val) % 160; omega
  · refine piece2 (Gy i x0 x1 x2 x3 x4 x5 x6 x7 x8 x9 x10 x11 x12) _ inb_S1280x128_S160x128_160_0 _ 160 rfl fun d c' hd => ?_
    refine (y_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 d c').trans ?_
    unfold Gy
    congr 1
    · apply Fin.ext; show 1 = (160 + d.val) / 160; omega
    · apply Fin.ext; show d.val = (160 + d.val) % 160; omega
  · refine piece2 (Gy i x0 x1 x2 x3 x4 x5 x6 x7 x8 x9 x10 x11 x12) _ inb_S1280x128_S160x128_0_0 _ 0 rfl fun d c' hd => ?_
    refine (y_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 d c').trans ?_
    unfold Gy
    congr 1
    · apply Fin.ext; show 0 = (0 + d.val) / 160; omega
    · apply Fin.ext; show d.val = (0 + d.val) % 160; omega

theorem y_cover (y : S1280x128.Idx) : ∃ q ∈ (Hand.kernelRun.sl.HS2_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0), y ∈ q.1.set := by
  unfold Hand.kernelRun.sl.HS2_8
  have h0 : (y 0).val < 1280 := (y 0).isLt
  have h1 : (y 1).val < 128 := (y 1).isLt
  have cov : ∀ (K : ℕ) (inb : ∀ a, (![K, 0] : Fin 2 → ℕ) a + (![160, 128] : Fin 2 → ℕ) a ≤ S1280x128.size a), K ≤ (y 0).val → (y 0).val < K + 160 →
      y ∈ (Rect.unit (s := S1280x128) ![K, 0] ![160, 128] inb).set := by
    intro K inb ha hb
    rw [Rect.mem_set_unit]
    intro a
    match a with
    | ⟨0, _⟩ => exact ⟨ha, hb⟩
    | ⟨1, _⟩ => exact ⟨Nat.zero_le _, by show (y 1).val < 0 + 128; omega⟩
  rcases (by omega : (y 0).val / 160 = 7 ∨ (y 0).val / 160 = 6 ∨ (y 0).val / 160 = 5 ∨ (y 0).val / 160 = 4 ∨ (y 0).val / 160 = 3 ∨ (y 0).val / 160 = 2 ∨ (y 0).val / 160 = 1 ∨ (y 0).val / 160 = 0) with h | h | h | h | h | h | h | h
  · exact ⟨_, List.mem_cons_self, cov 1120 inb_S1280x128_S160x128_1120_0 (by omega) (by omega)⟩
  · exact ⟨_, (List.mem_cons_of_mem _ List.mem_cons_self), cov 960 inb_S1280x128_S160x128_960_0 (by omega) (by omega)⟩
  · exact ⟨_, (List.mem_cons_of_mem _ (List.mem_cons_of_mem _ List.mem_cons_self)), cov 800 inb_S1280x128_S160x128_800_0 (by omega) (by omega)⟩
  · exact ⟨_, (List.mem_cons_of_mem _ (List.mem_cons_of_mem _ (List.mem_cons_of_mem _ List.mem_cons_self))), cov 640 inb_S1280x128_S160x128_640_0 (by omega) (by omega)⟩
  · exact ⟨_, (List.mem_cons_of_mem _ (List.mem_cons_of_mem _ (List.mem_cons_of_mem _ (List.mem_cons_of_mem _ List.mem_cons_self)))), cov 480 inb_S1280x128_S160x128_480_0 (by omega) (by omega)⟩
  · exact ⟨_, (List.mem_cons_of_mem _ (List.mem_cons_of_mem _ (List.mem_cons_of_mem _ (List.mem_cons_of_mem _ (List.mem_cons_of_mem _ List.mem_cons_self))))), cov 320 inb_S1280x128_S160x128_320_0 (by omega) (by omega)⟩
  · exact ⟨_, (List.mem_cons_of_mem _ (List.mem_cons_of_mem _ (List.mem_cons_of_mem _ (List.mem_cons_of_mem _ (List.mem_cons_of_mem _ (List.mem_cons_of_mem _ List.mem_cons_self)))))), cov 160 inb_S1280x128_S160x128_160_0 (by omega) (by omega)⟩
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), cov 0 inb_S1280x128_S160x128_0_0 (by omega) (by omega)⟩

/-- The gathered rows, read back. -/
theorem v752 (ch : Fin 1280) (c' : Fin 128) : (Hand.kernelRun.sl.v752 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0) (ix2 ch c') = Gy i x0 x1 x2 x3 x4 x5 x6 x7 x8 x9 x10 x11 x12 (ix2 ch c') := by
  unfold Hand.kernelRun.sl.v752
  refine (congrFun (View.readCov_eq_canon' (Val := Elt Ideal) _ _ _) _).trans ?_
  refine (congrArg (View.canon (Val := Elt Ideal) _) (?_ : _ = ix2 ch c')).trans ?_
  · funext a
    apply Fin.ext
    match a with
    | ⟨0, _⟩ => simp [LoadRect.idx, ix2]
    | ⟨1, _⟩ => simp [LoadRect.idx, ix2]
  · exact (congrArg (fun L => View.canon L (ix2 ch c')) (List.append_nil _).symm).trans (View.canon_append_of_piecesOf _ [] _ (y_pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0) _ (y_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 _))

/-- The stored block is the gated sum's. -/
theorem out_pieces : View.PiecesOf (Go i x0 x1 x2 x3 x4 x5 x6 x7 x8 x9 x10 x11 x12) ((Hand.kernelRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12).1 fs0 fs1 fs2) := by
  unfold Hand.kernelRun
  dsimp only
  refine ⟨?_, trivial⟩
  refine piece3 (Go i x0 x1 x2 x3 x4 x5 x6 x7 x8 x9 x10 x11 x12) _ inb_S1x128x1280_S1x128x1280_0_0_0 _ 0 0 0 rfl fun c' ch hc hd => ?_
  refine (pay3_at c' _ ch).trans ((v752 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 fs0 ch c').trans ?_)
  unfold Gy Go
  simp

theorem out_cover (y : S1x128x1280.Idx) : ∃ q ∈ ((Hand.kernelRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12).1 fs0 fs1 fs2), y ∈ q.1.set := by
  unfold Hand.kernelRun
  dsimp only
  refine ⟨_, List.mem_cons_self, ?_⟩
  have h0 : (y 0).val < 1 := (y 0).isLt
  have h1 : (y 1).val < 128 := (y 1).isLt
  have h2 : (y 2).val < 1280 := (y 2).isLt
  show y ∈ (Rect.unit (s := S1x128x1280) ![0, 0, 0] ![1, 128, 1280] inb_S1x128x1280_S1x128x1280_0_0_0).set
  rw [Rect.mem_set_unit]
  intro a
  match a with
  | ⟨0, _⟩ => exact ⟨Nat.zero_le _, by show (y 0).val < 0 + 1; omega⟩
  | ⟨1, _⟩ => exact ⟨Nat.zero_le _, by show (y 1).val < 0 + 128; omega⟩
  | ⟨2, _⟩ => exact ⟨Nat.zero_le _, by show (y 2).val < 0 + 1280; omega⟩

end Cert.KernelIdeal.KOut

end
-- ==== Proof.KRun.lean ====
/- The run of the attention call with what each output block holds after each grid point. -/
module

public import proofs.«01_k».proof.Proof.Gen.KernelIdeal.Frame
public import proofs.«01_k».proof.Proof.Gen.KernelIdeal.Loops
public import proofs.«01_k».proof.Proof.Gen.KernelIdeal.Skeleton
public import proofs.«01_k».proof.Proof.IFrame
public import proofs.«01_k».proof.Proof.KOut
public import Idealize.ShloMosaic.Lib.Pipeline.FrameBody
public import Idealize.ShloMosaic.Lib.Tactic
public import Idealize.ShloMosaic.Lib.Claim

@[expose] public section

set_option maxRecDepth 16384

noncomputable section

namespace Cert.KernelIdeal.KRun

open Cert.KernelIdeal Cert.KernelIdeal.Gen Cert.KernelIdeal.KTile Cert.KernelIdeal.KOut Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The body on whole staging memrefs: the outputs hold their tiles of the specification. -/
theorem kernelTile (c : Dev nD) (i : grid0.Coords) (arg2 : Memref sig .tc .smem S6 .f32) (harg2 : arg2.IsWhole) (arg3 : Memref sig .tc .vmem S1x8x160x128 .fp8e4m3) (harg3 : arg3.IsWhole) (arg4 : Memref sig .tc .vmem S1x8x128 .f32) (harg4 : arg4.IsWhole) (arg5 : Memref sig .tc .vmem S1x2x4x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S1x2x1024x128 .f32) (harg9 : arg9.IsWhole) (arg10 : Memref sig .tc .vmem S1x2x24576x256 .fp8e4m3) (harg10 : arg10.IsWhole) (arg11 : Memref sig .tc .vmem S1x2x160x24576 .fp8e4m3) (harg11 : arg11.IsWhole) (arg12 : Memref sig .tc .vmem S1x2x1536x256 .bf16) (harg12 : arg12.IsWhole) (arg13 : Memref sig .tc .vmem S1x2x160x1536 .bf16) (harg13 : arg13.IsWhole) (arg14 : Memref sig .tc .vmem S1x2x128x256 .bf16) (harg14 : arg14.IsWhole) (arg15 : Memref sig .tc .vmem S1x128x1280 .bf16) (harg15 : arg15.IsWhole) (arg16 : Memref sig .tc .vmem S1x8x160x128 .bf16) (harg16 : arg16.IsWhole) (arg17 : Memref sig .tc .vmem S1x8x160x128 .bf16) (harg17 : arg17.IsWhole) (arg18 : Memref sig .tc .vmem S1x8x160x128 .bf16) (harg18 : arg18.IsWhole) (arg19 : Memref sig .tc .vmem S4x1536x256 .f32) (harg19 : arg19.IsWhole) (arg20 : Memref sig .tc .vmem S4x160x256 .f32) (harg20 : arg20.IsWhole) (arg21 : Memref sig .tc .vmem S1280x128 .bf16) (harg21 : arg21.IsWhole)
    (x0 : Vec Ideal S6 .f32) (x1 : Vec Ideal S1x8x160x128 .fp8e4m3) (x2 : Vec Ideal S1x8x128 .f32) (x3 : Vec Ideal S1x2x4x128 .f32) (x4 : Vec Ideal S1x8x128 .f32) (x5 : Vec Ideal S1x8x128 .f32) (x6 : Vec Ideal S1x8x128 .f32) (x7 : Vec Ideal S1x2x1024x128 .f32) (x8 : Vec Ideal S1x2x24576x256 .fp8e4m3) (x9 : Vec Ideal S1x2x160x24576 .fp8e4m3) (x10 : Vec Ideal S1x2x1536x256 .bf16) (x11 : Vec Ideal S1x2x160x1536 .bf16) (x12 : Vec Ideal S1x2x128x256 .bf16) (E : Set ℕ) (K : PUnit → sProp 𝕄) (fs0 : BufTy.Contents (Elt Ideal) arg19.view.ty) (fs1 : BufTy.Contents (Elt Ideal) arg20.view.ty) (fs2 : BufTy.Contents (Elt Ideal) arg21.view.ty) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (arg19.view.loc (c : Thread nD τ) ↦[arg19.view.set]{fullShare} fs0) ∗ (arg20.view.loc (c : Thread nD τ) ↦[arg20.view.set]{fullShare} fs1) ∗ (arg21.view.loc (c : Thread nD τ) ↦[arg21.view.set]{fullShare} fs2)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (Go i x0 x1 x2 x3 x4 x5 x6 x7 x8 x9 x10 x11 x12) ∗ owns (c : Thread nD τ) arg16 fullShare (Gc i x0 x1 x2 x3 x4 x5 x6 x7 x8 x9 x10 x11 x12) ∗ owns (c : Thread nD τ) arg17 fullShare (Gs i x0 x1 x2 x3 x4 x5 x6 x7 x8 x9 x10 x11 x12) ∗ owns (c : Thread nD τ) arg18 fullShare (Gw i x0 x1 x2 x3 x4 x5 x6 x7 x8 x9 x10 x11 x12) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f)) -∗ K ⟨⟩))
          ⊢ wp frame (wpE (defs₀ (F := Ideal)) Variants.none c none) E (cc0_dense i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  have h15 : ∀ (a0 : BufTy.Contents (Elt Ideal) arg19.view.ty) (a1 : BufTy.Contents (Elt Ideal) arg20.view.ty) (a2 : BufTy.Contents (Elt Ideal) arg21.view.ty) (f : BufTy.Contents (Elt Ideal) arg15.view.ty), arg15.view.read (Elt Ideal) (arg15.view.writes (Elt Ideal) f ((Hand.kernelRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12).1 a0 a1 a2)) = Go i x0 x1 x2 x3 x4 x5 x6 x7 x8 x9 x10 x11 x12 := fun a0 a1 a2 f => by
    funext y
    refine (View.read_writes_apply_eq_canon (Val := Elt Ideal) arg15.view f y _ (out_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 a0 a1 a2 y)).trans ?_
    exact (congrArg (fun L => View.canon L y) (List.append_nil _).symm).trans (View.canon_append_of_piecesOf _ [] _ (out_pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 a0 a1 a2) _ (out_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 a0 a1 a2 y))
  have h16 : ∀ (a0 : BufTy.Contents (Elt Ideal) arg19.view.ty) (a1 : BufTy.Contents (Elt Ideal) arg20.view.ty) (a2 : BufTy.Contents (Elt Ideal) arg21.view.ty) (f : BufTy.Contents (Elt Ideal) arg16.view.ty), arg16.view.read (Elt Ideal) (arg16.view.writes (Elt Ideal) f ((Hand.kernelRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12).2.1 a0 a1 a2)) = Gc i x0 x1 x2 x3 x4 x5 x6 x7 x8 x9 x10 x11 x12 := fun a0 a1 a2 f => by
    funext y
    refine (View.read_writes_apply_eq_canon (Val := Elt Ideal) arg16.view f y _ (cmp_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 a0 a1 a2 y)).trans ?_
    exact (congrArg (fun L => View.canon L y) (List.append_nil _).symm).trans (View.canon_append_of_piecesOf _ [] _ (cmp_pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 a0 a1 a2) _ (cmp_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 a0 a1 a2 y))
  have h17 : ∀ (a0 : BufTy.Contents (Elt Ideal) arg19.view.ty) (a1 : BufTy.Contents (Elt Ideal) arg20.view.ty) (a2 : BufTy.Contents (Elt Ideal) arg21.view.ty) (f : BufTy.Contents (Elt Ideal) arg17.view.ty), arg17.view.read (Elt Ideal) (arg17.view.writes (Elt Ideal) f ((Hand.kernelRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12).2.2.1 a0 a1 a2)) = Gs i x0 x1 x2 x3 x4 x5 x6 x7 x8 x9 x10 x11 x12 := fun a0 a1 a2 f => by
    funext y
    refine (View.read_writes_apply_eq_canon (Val := Elt Ideal) arg17.view f y _ (sel_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 a0 a1 a2 y)).trans ?_
    exact (congrArg (fun L => View.canon L y) (List.append_nil _).symm).trans (View.canon_append_of_piecesOf _ [] _ (sel_pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 a0 a1 a2) _ (sel_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 a0 a1 a2 y))
  have h18 : ∀ (a0 : BufTy.Contents (Elt Ideal) arg19.view.ty) (a1 : BufTy.Contents (Elt Ideal) arg20.view.ty) (a2 : BufTy.Contents (Elt Ideal) arg21.view.ty) (f : BufTy.Contents (Elt Ideal) arg18.view.ty), arg18.view.read (Elt Ideal) (arg18.view.writes (Elt Ideal) f ((Hand.kernelRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12).2.2.2.1 a0 a1 a2)) = Gw i x0 x1 x2 x3 x4 x5 x6 x7 x8 x9 x10 x11 x12 := fun a0 a1 a2 f => by
    funext y
    refine (View.read_writes_apply_eq_canon (Val := Elt Ideal) arg18.view f y _ (win_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 a0 a1 a2 y)).trans ?_
    exact (congrArg (fun L => View.canon L y) (List.append_nil _).symm).trans (View.canon_append_of_piecesOf _ [] _ (win_pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 a0 a1 a2) _ (win_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 a0 a1 a2 y))
  revert h15 h16 h17 h18
  generalize Hand.kernelRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 = KR
  intro h15 h16 h17 h18
  obtain ⟨L15, L16, L17, L18, h⟩ := KR
  iintro ⟨H0, H1, H2, H3, H4, H5, H6, H7, H8, H9, H10, H11, H12, H13, H14, H15, H16, HS0, HS1, HS2, Hk⟩
  iapply (h E K fs0 fs1 fs2)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HS0]; · iexact HS0
  isplitl [HS1]; · iexact HS1
  isplitl [HS2]; · iexact HS2
  iintro ⟨H0, H1, H2, H3, H4, H5, H6, H7, H8, H9, H10, H11, H12, ⟨%f13, H13⟩, ⟨%f14, H14⟩, ⟨%f15, H15⟩, ⟨%f16, H16⟩, HS0, HS1, HS2⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists (arg15.view.writes (Elt Ideal) f13 (L15 fs0 fs1 fs2)); isplitr; · ipureintro; exact h15 fs0 fs1 fs2 f13
    iexact H13
  isplitl [H14]
  · unfold owns; iexists (arg16.view.writes (Elt Ideal) f14 (L16 fs0 fs1 fs2)); isplitr; · ipureintro; exact h16 fs0 fs1 fs2 f14
    iexact H14
  isplitl [H15]
  · unfold owns; iexists (arg17.view.writes (Elt Ideal) f15 (L17 fs0 fs1 fs2)); isplitr; · ipureintro; exact h17 fs0 fs1 fs2 f15
    iexact H15
  isplitl [H16]
  · unfold owns; iexists (arg18.view.writes (Elt Ideal) f16 (L18 fs0 fs1 fs2)); isplitr; · ipureintro; exact h18 fs0 fs1 fs2 f16
    iexact H16
  isplitl [HS0]; · iexact HS0
  isplitl [HS1]; · iexact HS1
  iexact HS2

/-- The pipeline's proof data: each input's buffer stays at its block; each output's holds its tile. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => Go (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => Gc (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨15, _⟩ => Gs (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨16, _⟩ => Gw (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨_ + 17, h⟩ => absurd h (Nat.not_lt.2 (Nat.le_add_left _ _))
  Φ _ := Pipeline.ΦA spec0 c
  q _ := fullShare
  owed _ := 0

/-- The arrays of the proof data are those the region finds. -/
theorem A_eq (c : Dev nD) (w : Fin cfg0.W) : (dats m 0 c).A w = V m c (Pipeline.arrRef spec0 w) := by
  dsimp only [dats]

/-- Input window 0 is left at its block. -/
theorem after_0 (c : Dev nD) (t : Fin cfg0.N) : (dats m 0 c).after 0 t = iblk m c 0 t := by dsimp only [dats]
/-- Input window 0 is found at its block. -/
theorem before_0 (c : Dev nD) (t : Fin cfg0.N) (d) : (dats m 0 c).before 0 t d = iblk m c 0 t :=
  before0_0_of m (dats m 0 c) (A_eq m c 0) (after_0 m c) t d
/-- Input window 1 is left at its block. -/
theorem after_1 (c : Dev nD) (t : Fin cfg0.N) : (dats m 0 c).after 1 t = iblk m c 1 t := by dsimp only [dats]
/-- Input window 1 is found at its block. -/
theorem before_1 (c : Dev nD) (t : Fin cfg0.N) (d) : (dats m 0 c).before 1 t d = iblk m c 1 t :=
  before0_1_of m (dats m 0 c) (A_eq m c 1) (after_1 m c) t d
/-- Input window 2 is left at its block. -/
theorem after_2 (c : Dev nD) (t : Fin cfg0.N) : (dats m 0 c).after 2 t = iblk m c 2 t := by dsimp only [dats]
/-- Input window 2 is found at its block. -/
theorem before_2 (c : Dev nD) (t : Fin cfg0.N) (d) : (dats m 0 c).before 2 t d = iblk m c 2 t :=
  before0_2_of m (dats m 0 c) (A_eq m c 2) (after_2 m c) t d
/-- Input window 3 is left at its block. -/
theorem after_3 (c : Dev nD) (t : Fin cfg0.N) : (dats m 0 c).after 3 t = iblk m c 3 t := by dsimp only [dats]
/-- Input window 3 is found at its block. -/
theorem before_3 (c : Dev nD) (t : Fin cfg0.N) (d) : (dats m 0 c).before 3 t d = iblk m c 3 t :=
  before0_3_of m (dats m 0 c) (A_eq m c 3) (after_3 m c) t d
/-- Input window 4 is left at its block. -/
theorem after_4 (c : Dev nD) (t : Fin cfg0.N) : (dats m 0 c).after 4 t = iblk m c 4 t := by dsimp only [dats]
/-- Input window 4 is found at its block. -/
theorem before_4 (c : Dev nD) (t : Fin cfg0.N) (d) : (dats m 0 c).before 4 t d = iblk m c 4 t :=
  before0_4_of m (dats m 0 c) (A_eq m c 4) (after_4 m c) t d
/-- Input window 5 is left at its block. -/
theorem after_5 (c : Dev nD) (t : Fin cfg0.N) : (dats m 0 c).after 5 t = iblk m c 5 t := by dsimp only [dats]
/-- Input window 5 is found at its block. -/
theorem before_5 (c : Dev nD) (t : Fin cfg0.N) (d) : (dats m 0 c).before 5 t d = iblk m c 5 t :=
  before0_5_of m (dats m 0 c) (A_eq m c 5) (after_5 m c) t d
/-- Input window 6 is left at its block. -/
theorem after_6 (c : Dev nD) (t : Fin cfg0.N) : (dats m 0 c).after 6 t = iblk m c 6 t := by dsimp only [dats]
/-- Input window 6 is found at its block. -/
theorem before_6 (c : Dev nD) (t : Fin cfg0.N) (d) : (dats m 0 c).before 6 t d = iblk m c 6 t :=
  before0_6_of m (dats m 0 c) (A_eq m c 6) (after_6 m c) t d
/-- Input window 7 is left at its block. -/
theorem after_7 (c : Dev nD) (t : Fin cfg0.N) : (dats m 0 c).after 7 t = iblk m c 7 t := by dsimp only [dats]
/-- Input window 7 is found at its block. -/
theorem before_7 (c : Dev nD) (t : Fin cfg0.N) (d) : (dats m 0 c).before 7 t d = iblk m c 7 t :=
  before0_7_of m (dats m 0 c) (A_eq m c 7) (after_7 m c) t d
/-- Input window 8 is left at its block. -/
theorem after_8 (c : Dev nD) (t : Fin cfg0.N) : (dats m 0 c).after 8 t = iblk m c 8 t := by dsimp only [dats]
/-- Input window 8 is found at its block. -/
theorem before_8 (c : Dev nD) (t : Fin cfg0.N) (d) : (dats m 0 c).before 8 t d = iblk m c 8 t :=
  before0_8_of m (dats m 0 c) (A_eq m c 8) (after_8 m c) t d
/-- Input window 9 is left at its block. -/
theorem after_9 (c : Dev nD) (t : Fin cfg0.N) : (dats m 0 c).after 9 t = iblk m c 9 t := by dsimp only [dats]
/-- Input window 9 is found at its block. -/
theorem before_9 (c : Dev nD) (t : Fin cfg0.N) (d) : (dats m 0 c).before 9 t d = iblk m c 9 t :=
  before0_9_of m (dats m 0 c) (A_eq m c 9) (after_9 m c) t d
/-- Input window 10 is left at its block. -/
theorem after_10 (c : Dev nD) (t : Fin cfg0.N) : (dats m 0 c).after 10 t = iblk m c 10 t := by dsimp only [dats]
/-- Input window 10 is found at its block. -/
theorem before_10 (c : Dev nD) (t : Fin cfg0.N) (d) : (dats m 0 c).before 10 t d = iblk m c 10 t :=
  before0_10_of m (dats m 0 c) (A_eq m c 10) (after_10 m c) t d
/-- Input window 11 is left at its block. -/
theorem after_11 (c : Dev nD) (t : Fin cfg0.N) : (dats m 0 c).after 11 t = iblk m c 11 t := by dsimp only [dats]
/-- Input window 11 is found at its block. -/
theorem before_11 (c : Dev nD) (t : Fin cfg0.N) (d) : (dats m 0 c).before 11 t d = iblk m c 11 t :=
  before0_11_of m (dats m 0 c) (A_eq m c 11) (after_11 m c) t d
/-- Input window 12 is left at its block. -/
theorem after_12 (c : Dev nD) (t : Fin cfg0.N) : (dats m 0 c).after 12 t = iblk m c 12 t := by dsimp only [dats]
/-- Input window 12 is found at its block. -/
theorem before_12 (c : Dev nD) (t : Fin cfg0.N) (d) : (dats m 0 c).before 12 t d = iblk m c 12 t :=
  before0_12_of m (dats m 0 c) (A_eq m c 12) (after_12 m c) t d

/-- Output window 13 is left at its tile. -/
theorem after_13 (c : Dev nD) (t : Fin cfg0.N) : (dats m 0 c).after 13 t = Go (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
/-- Output window 14 is left at its tile. -/
theorem after_14 (c : Dev nD) (t : Fin cfg0.N) : (dats m 0 c).after 14 t = Gc (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
/-- Output window 15 is left at its tile. -/
theorem after_15 (c : Dev nD) (t : Fin cfg0.N) : (dats m 0 c).after 15 t = Gs (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
/-- Output window 16 is left at its tile. -/
theorem after_16 (c : Dev nD) (t : Fin cfg0.N) : (dats m 0 c).after 16 t = Gw (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d))
    ∗ (∃ d, owns (c : Thread nD τ) (ms_13 t) fullShare ((dats m 0 c).before 13 t d))
    ∗ (∃ d, owns (c : Thread nD τ) (ms_14 t) fullShare ((dats m 0 c).before 14 t d))
    ∗ (∃ d, owns (c : Thread nD τ) (ms_15 t) fullShare ((dats m 0 c).before 15 t d))
    ∗ (∃ d, owns (c : Thread nD τ) (ms_16 t) fullShare ((dats m 0 c).before 16 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 14000000 in
/-- The body at any point: its run applies, and what it is handed it hands back. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, phi_eq]
  rw [show (dats m 0 c).leavesExact 0 t = owns (c : Thread nD τ) (ms_0 t) fullShare ((dats m 0 c).after 0 t) from by
    unfold Dat.leavesExact; rw [liveAt_0 t], after_0]
  rw [show (dats m 0 c).leavesExact 1 t = owns (c : Thread nD τ) (ms_1 t) fullShare ((dats m 0 c).after 1 t) from by
    unfold Dat.leavesExact; rw [liveAt_1 t], after_1]
  rw [show (dats m 0 c).leavesExact 2 t = owns (c : Thread nD τ) (ms_2 t) fullShare ((dats m 0 c).after 2 t) from by
    unfold Dat.leavesExact; rw [liveAt_2 t], after_2]
  rw [show (dats m 0 c).leavesExact 3 t = owns (c : Thread nD τ) (ms_3 t) fullShare ((dats m 0 c).after 3 t) from by
    unfold Dat.leavesExact; rw [liveAt_3 t], after_3]
  rw [show (dats m 0 c).leavesExact 4 t = owns (c : Thread nD τ) (ms_4 t) fullShare ((dats m 0 c).after 4 t) from by
    unfold Dat.leavesExact; rw [liveAt_4 t], after_4]
  rw [show (dats m 0 c).leavesExact 5 t = owns (c : Thread nD τ) (ms_5 t) fullShare ((dats m 0 c).after 5 t) from by
    unfold Dat.leavesExact; rw [liveAt_5 t], after_5]
  rw [show (dats m 0 c).leavesExact 6 t = owns (c : Thread nD τ) (ms_6 t) fullShare ((dats m 0 c).after 6 t) from by
    unfold Dat.leavesExact; rw [liveAt_6 t], after_6]
  rw [show (dats m 0 c).leavesExact 7 t = owns (c : Thread nD τ) (ms_7 t) fullShare ((dats m 0 c).after 7 t) from by
    unfold Dat.leavesExact; rw [liveAt_7 t], after_7]
  rw [show (dats m 0 c).leavesExact 8 t = owns (c : Thread nD τ) (ms_8 t) fullShare ((dats m 0 c).after 8 t) from by
    unfold Dat.leavesExact; rw [liveAt_8 t], after_8]
  rw [show (dats m 0 c).leavesExact 9 t = owns (c : Thread nD τ) (ms_9 t) fullShare ((dats m 0 c).after 9 t) from by
    unfold Dat.leavesExact; rw [liveAt_9 t], after_9]
  rw [show (dats m 0 c).leavesExact 10 t = owns (c : Thread nD τ) (ms_10 t) fullShare ((dats m 0 c).after 10 t) from by
    unfold Dat.leavesExact; rw [liveAt_10 t], after_10]
  rw [show (dats m 0 c).leavesExact 11 t = owns (c : Thread nD τ) (ms_11 t) fullShare ((dats m 0 c).after 11 t) from by
    unfold Dat.leavesExact; rw [liveAt_11 t], after_11]
  rw [show (dats m 0 c).leavesExact 12 t = owns (c : Thread nD τ) (ms_12 t) fullShare ((dats m 0 c).after 12 t) from by
    unfold Dat.leavesExact; rw [liveAt_12 t], after_12]
  rw [show (dats m 0 c).leavesExact 13 t = owns (c : Thread nD τ) (ms_13 t) fullShare ((dats m 0 c).after 13 t) from by
    unfold Dat.leavesExact; rw [liveAt_13 t], after_13]
  rw [show (dats m 0 c).leavesExact 14 t = owns (c : Thread nD τ) (ms_14 t) fullShare ((dats m 0 c).after 14 t) from by
    unfold Dat.leavesExact; rw [liveAt_14 t], after_14]
  rw [show (dats m 0 c).leavesExact 15 t = owns (c : Thread nD τ) (ms_15 t) fullShare ((dats m 0 c).after 15 t) from by
    unfold Dat.leavesExact; rw [liveAt_15 t], after_15]
  rw [show (dats m 0 c).leavesExact 16 t = owns (c : Thread nD τ) (ms_16 t) fullShare ((dats m 0 c).after 16 t) from by
    unfold Dat.leavesExact; rw [liveAt_16 t], after_16]
  iintro ⟨⟨⟨⟨%fs0, HS0⟩, ⟨%fs1, HS1⟩, ⟨%fs2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((kernelTile c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _ fs0 fs1 fs2))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [HS0]; · iexact HS0
  isplitl [HS1]; · iexact HS1
  isplitl [HS2]; · iexact HS2
  iintro ⟨H0, H1, H2, H3, H4, H5, H6, H7, H8, H9, H10, H11, H12, H13, H14, H15, H16, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body's obligation at every point. -/
theorem body_obligation (c : Dev nD) : BodyObligation (dats m 0 c) (defs₀ (F := Ideal)) Variants.none () Set.univ := fun t => by
  rw [bigSep_W0, bigSep_W0, Hand.defs₀_row]
  exact triple_restated (sound_body m c t) rfl .rfl fun _ => .rfl

set_option backward.isDefEq.respectTransparency.types false in
/-- The launch: every array of the pipeline at what the proof data say. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.KernelIdeal.KRun

end
-- ==== Proof.KValue.lean ====
/- What each output array of the attention call holds after its run. -/
module

public import proofs.«01_k».proof.Proof.KRun
public import Idealize.ShloMosaic.Lib.Pipeline.Value
public import Idealize.ShloMosaic.Lib.Pipeline.ValueKit.Geometry

@[expose] public section

set_option maxRecDepth 16384

noncomputable section

namespace Cert.KernelIdeal.KValue

open Cert.KernelIdeal Cert.KernelIdeal.Gen Cert.KernelIdeal.KTile Cert.KernelIdeal.KGeo Cert.KernelIdeal.KRun Cert Cert.Soft Cert.Spec
open Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The call's argument arrays, as functions of their coordinates. -/
def kA (a0 : S6.Idx → EReal) (a1 : S3x8x160x24576.Idx → EReal) (a2 : S3x8x24576.Idx → EReal) (a3 : S3x2x4x24576.Idx → EReal) (a4 : S3x8x24576.Idx → EReal) (a5 : S3x8x24576.Idx → EReal) (a6 : S3x8x24576.Idx → EReal) (a7 : S3x2x196608x128.Idx → EReal) (a8 : S3x2x24576x256.Idx → EReal) (a9 : S3x2x24576x256.Idx → EReal) (a10 : S3x2x160x24576.Idx → EReal) (a11 : S3x2x1536x256.Idx → EReal) (a12 : S3x2x160x1536.Idx → EReal) : Arr where
  vs b k := a0 (ix1 ⟨b.val * 2 + k.val, by omega⟩)
  q b h d t := a1 (ix4 b h d t)
  scl b h t := a2 (ix3 b h t)
  m b k g t := a3 (ix4 b k g t)
  gc b h t := a4 (ix3 b h t)
  gs b h t := a5 (ix3 b h t)
  gw b h t := a6 (ix3 b h t)
  acc b k r l := a7 (ix4 b k r l)
  kb b k j d := a8 (ix4 b k j d)
  k8 b k j d := a9 (ix4 b k j d)
  v b k d j := a10 (ix4 b k d j)
  kc b k j d := a11 (ix4 b k j d)
  vc b k d j := a12 (ix4 b k d j)

/-- Two families of arrays agree on what a query reads. -/
structure Agree (A B : Arr) (b : Fin 3) (t : Fin 24576) : Prop where
  vs : ∀ k, A.vs b k = B.vs b k
  q : ∀ h d, A.q b h d t = B.q b h d t
  scl : ∀ h, A.scl b h t = B.scl b h t
  m : ∀ k g, A.m b k g t = B.m b k g t
  gc : ∀ h, A.gc b h t = B.gc b h t
  gs : ∀ h, A.gs b h t = B.gs b h t
  gw : ∀ h, A.gw b h t = B.gw b h t
  acc : ∀ k (r : Fin 196608) l, r.val / 8 = t.val → A.acc b k r l = B.acc b k r l
  kb : ∀ k (j : Fin 24576) d, j.val / 64 = t.val / 64 → A.kb b k j d = B.kb b k j d
  k8 : ∀ k j d, A.k8 b k j d = B.k8 b k j d
  v : ∀ k d j, A.v b k d j = B.v b k d j
  kc : ∀ k j d, A.kc b k j d = B.kc b k j d
  vc : ∀ k d j, A.vc b k d j = B.vc b k d j

variable {A B : Arr} {b : Fin 3} {t : Fin 24576} (g : Agree A B b t) (h : Fin 8) (d : Fin 160)
include g

/-- Then the compressed branch is the same, -/
theorem oc_eq : oc A b h d t = oc B b h d t := by
  unfold oc
  have hx : xc A b h t = xc B b h t := by
    funext j; unfold xc score; simp only [g.q, g.scl, g.kc]
  simp only [hx, g.vc, g.vs]

/-- the window branch, -/
theorem ow_eq : ow A b h d t = ow B b h d t := by
  unfold ow
  have hx : xw A b h t = xw B b h t := by
    funext j; unfold xw score; simp only [g.q, g.scl, g.k8]
  simp only [hx, g.v, g.vs]

/-- the selected branch, -/
theorem os_eq : os A b h d t = os B b h d t := by
  unfold os
  have hx : xs A b h t = xs B b h t := by
    funext j; unfold xs score
    split
    · rename_i hj; simp only [g.q, g.scl, g.kb _ _ _ hj.1, g.m]
    · rfl
  have h1 : rest A b h d t = rest B b h d t := g.acc _ _ _ (by show (t.val * 8 + d.val / 128 * 4 + h.val % 4) / 8 = t.val; omega)
  have h2 : restl A b h t = restl B b h t := g.acc _ _ _ (by show (t.val * 8 + 4 + h.val % 4) / 8 = t.val; omega)
  simp only [hx, h1, h2, g.v, g.vs]

/-- and the gated sum. -/
theorem y_eq : Spec.y A b h d t = Spec.y B b h d t := by
  unfold Spec.y
  rw [oc_eq g, ow_eq g, os_eq g, g.gc, g.gs, g.gw]

omit g

/-- A grid point's sequence. -/
abbrev gb (t : Fin cfg0.N) : Fin 3 := grid0.coords t 0
/-- A grid point's tile of queries. -/
abbrev gq (t : Fin cfg0.N) : Fin 192 := grid0.coords t 1

/-- The arrays the region finds. -/
def MA (c : Dev nD) : Arr := kA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- Window 0's block index. -/
theorem e0 : ∀ t : Fin cfg0.N, win0_0.index t = ![0] :=
  (by decide +kernel : ∀ t : Fin grid0.N, win0_0.index t = ![0])

/-- Window 0's block, in its array. -/
theorem blk0 (c : Dev nD) (t : Fin cfg0.N) (e : Fin 6) :
    (iblk m c 0 t) (ix1 e) = m ((c : Thread nD τ).loc main_arg0) (ix1 e) := by
  blk_ext [iblk, V, e0]

/-- Window 1's block index. -/
theorem e1 : ∀ t : Fin cfg0.N, win0_1.index t = ![(grid0.coords t 0).val, 0, 0, (grid0.coords t 1).val] :=
  (by decide +kernel : ∀ t : Fin grid0.N, win0_1.index t = ![(grid0.coords t 0).val, 0, 0, (grid0.coords t 1).val])

/-- Window 1's block, in its array. -/
theorem blk1 (c : Dev nD) (t : Fin cfg0.N) (h : Fin 8) (d : Fin 160) (e : Fin 128) :
    (iblk m c 1 t) (ix4 0 h d e) = m ((c : Thread nD τ).loc main_arg1) (ix4 (gb t) h d (tq (gq t) e)) := by
  unfold tq gb gq
  blk_ext [iblk, V, e1]

/-- Window 2's block index. -/
theorem e2 : ∀ t : Fin cfg0.N, win0_2.index t = ![(grid0.coords t 0).val, 0, (grid0.coords t 1).val] :=
  (by decide +kernel : ∀ t : Fin grid0.N, win0_2.index t = ![(grid0.coords t 0).val, 0, (grid0.coords t 1).val])

/-- Window 2's block, in its array. -/
theorem blk2 (c : Dev nD) (t : Fin cfg0.N) (h : Fin 8) (e : Fin 128) :
    (iblk m c 2 t) (ix3 0 h e) = m ((c : Thread nD τ).loc main_arg2) (ix3 (gb t) h (tq (gq t) e)) := by
  unfold tq gb gq
  blk_ext [iblk, V, e2]

/-- Window 3's block index. -/
theorem e3 : ∀ t : Fin cfg0.N, win0_3.index t = ![(grid0.coords t 0).val, 0, 0, (grid0.coords t 1).val] :=
  (by decide +kernel : ∀ t : Fin grid0.N, win0_3.index t = ![(grid0.coords t 0).val, 0, 0, (grid0.coords t 1).val])

/-- Window 3's block, in its array. -/
theorem blk3 (c : Dev nD) (t : Fin cfg0.N) (k : Fin 2) (g : Fin 4) (e : Fin 128) :
    (iblk m c 3 t) (ix4 0 k g e) = m ((c : Thread nD τ).loc main_arg3) (ix4 (gb t) k g (tq (gq t) e)) := by
  unfold tq gb gq
  blk_ext [iblk, V, e3]

/-- Window 4's block index. -/
theorem e4 : ∀ t : Fin cfg0.N, win0_4.index t = ![(grid0.coords t 0).val, 0, (grid0.coords t 1).val] :=
  (by decide +kernel : ∀ t : Fin grid0.N, win0_4.index t = ![(grid0.coords t 0).val, 0, (grid0.coords t 1).val])

/-- Window 4's block, in its array. -/
theorem blk4 (c : Dev nD) (t : Fin cfg0.N) (h : Fin 8) (e : Fin 128) :
    (iblk m c 4 t) (ix3 0 h e) = m ((c : Thread nD τ).loc main_arg4) (ix3 (gb t) h (tq (gq t) e)) := by
  unfold tq gb gq
  blk_ext [iblk, V, e4]

/-- Window 5's block index. -/
theorem e5 : ∀ t : Fin cfg0.N, win0_5.index t = ![(grid0.coords t 0).val, 0, (grid0.coords t 1).val] :=
  (by decide +kernel : ∀ t : Fin grid0.N, win0_5.index t = ![(grid0.coords t 0).val, 0, (grid0.coords t 1).val])

/-- Window 5's block, in its array. -/
theorem blk5 (c : Dev nD) (t : Fin cfg0.N) (h : Fin 8) (e : Fin 128) :
    (iblk m c 5 t) (ix3 0 h e) = m ((c : Thread nD τ).loc main_arg5) (ix3 (gb t) h (tq (gq t) e)) := by
  unfold tq gb gq
  blk_ext [iblk, V, e5]

/-- Window 6's block index. -/
theorem e6 : ∀ t : Fin cfg0.N, win0_6.index t = ![(grid0.coords t 0).val, 0, (grid0.coords t 1).val] :=
  (by decide +kernel : ∀ t : Fin grid0.N, win0_6.index t = ![(grid0.coords t 0).val, 0, (grid0.coords t 1).val])

/-- Window 6's block, in its array. -/
theorem blk6 (c : Dev nD) (t : Fin cfg0.N) (h : Fin 8) (e : Fin 128) :
    (iblk m c 6 t) (ix3 0 h e) = m ((c : Thread nD τ).loc main_arg6) (ix3 (gb t) h (tq (gq t) e)) := by
  unfold tq gb gq
  blk_ext [iblk, V, e6]

/-- Window 7's block index. -/
theorem e7 : ∀ t : Fin cfg0.N, win0_7.index t = ![(grid0.coords t 0).val, 0, (grid0.coords t 1).val, 0] :=
  (by decide +kernel : ∀ t : Fin grid0.N, win0_7.index t = ![(grid0.coords t 0).val, 0, (grid0.coords t 1).val, 0])

/-- Window 7's block, in its array. -/
theorem blk7 (c : Dev nD) (t : Fin cfg0.N) (k : Fin 2) (r : Fin 1024) (l : Fin 128) :
    (iblk m c 7 t) (ix4 0 k r l) = m ((c : Thread nD τ).loc main_arg7) (ix4 (gb t) k ⟨(gq t).val * 1024 + r.val, by have := (gq t).isLt; omega⟩ l) := by
  unfold gb gq
  blk_ext [iblk, V, e7]

/-- Window 8's block index. -/
theorem e8 : ∀ t : Fin cfg0.N, win0_8.index t = ![(grid0.coords t 0).val, 0, 0, 0] :=
  (by decide +kernel : ∀ t : Fin grid0.N, win0_8.index t = ![(grid0.coords t 0).val, 0, 0, 0])

/-- Window 8's block, in its array. -/
theorem blk8 (c : Dev nD) (t : Fin cfg0.N) (k : Fin 2) (j : Fin 24576) (d : Fin 256) :
    (iblk m c 8 t) (ix4 0 k j d) = m ((c : Thread nD τ).loc main_arg9) (ix4 (gb t) k j d) := by
  unfold gb
  blk_ext [iblk, V, e8]

/-- Window 9's block index. -/
theorem e9 : ∀ t : Fin cfg0.N, win0_9.index t = ![(grid0.coords t 0).val, 0, 0, 0] :=
  (by decide +kernel : ∀ t : Fin grid0.N, win0_9.index t = ![(grid0.coords t 0).val, 0, 0, 0])

/-- Window 9's block, in its array. -/
theorem blk9 (c : Dev nD) (t : Fin cfg0.N) (k : Fin 2) (d : Fin 160) (j : Fin 24576) :
    (iblk m c 9 t) (ix4 0 k d j) = m ((c : Thread nD τ).loc main_arg10) (ix4 (gb t) k d j) := by
  unfold gb
  blk_ext [iblk, V, e9]

/-- Window 10's block index. -/
theorem e10 : ∀ t : Fin cfg0.N, win0_10.index t = ![(grid0.coords t 0).val, 0, 0, 0] :=
  (by decide +kernel : ∀ t : Fin grid0.N, win0_10.index t = ![(grid0.coords t 0).val, 0, 0, 0])

/-- Window 10's block, in its array. -/
theorem blk10 (c : Dev nD) (t : Fin cfg0.N) (k : Fin 2) (j : Fin 1536) (d : Fin 256) :
    (iblk m c 10 t) (ix4 0 k j d) = m ((c : Thread nD τ).loc main_arg11) (ix4 (gb t) k j d) := by
  unfold gb
  blk_ext [iblk, V, e10]

/-- Window 11's block index. -/
theorem e11 : ∀ t : Fin cfg0.N, win0_11.index t = ![(grid0.coords t 0).val, 0, 0, 0] :=
  (by decide +kernel : ∀ t : Fin grid0.N, win0_11.index t = ![(grid0.coords t 0).val, 0, 0, 0])

/-- Window 11's block, in its array. -/
theorem blk11 (c : Dev nD) (t : Fin cfg0.N) (k : Fin 2) (d : Fin 160) (j : Fin 1536) :
    (iblk m c 11 t) (ix4 0 k d j) = m ((c : Thread nD τ).loc main_arg12) (ix4 (gb t) k d j) := by
  unfold gb
  blk_ext [iblk, V, e11]

/-- Window 12's block index. -/
theorem e12 : ∀ t : Fin cfg0.N, win0_12.index t = ![(grid0.coords t 0).val, 0, (grid0.coords t 1).val, 0] :=
  (by decide +kernel : ∀ t : Fin grid0.N, win0_12.index t = ![(grid0.coords t 0).val, 0, (grid0.coords t 1).val, 0])

/-- Window 12's block, in its array. -/
theorem blk12 (c : Dev nD) (t : Fin cfg0.N) (k : Fin 2) (j : Fin 128) (d : Fin 256) :
    (iblk m c 12 t) (ix4 0 k j d) = m ((c : Thread nD τ).loc main_arg8) (ix4 (gb t) k (tq (gq t) j) d) := by
  unfold tq gb gq
  blk_ext [iblk, V, e12]

/-- At its tile's queries a grid point's blocks agree with the arrays. -/
theorem agree (c : Dev nD) (t : Fin cfg0.N) (e : Fin 128) : Agree (tA (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (MA m c) (gb t) (tq (gq t) e) := by
  have hQ : (gq t).val < 192 := (gq t).isLt
  have he : (tq (gq t) e).val % 128 = e.val := by show (128 * (gq t).val + e.val) % 128 = e.val; omega
  have hi : ∀ z : (tq (gq t) e).val % 128 < 128, (⟨(tq (gq t) e).val % 128, z⟩ : Fin 128) = e := fun z => Fin.ext he
  constructor
  · intro k; exact (blk0 m c t _)
  · intro h d; exact (blk1 m c t h d _).trans (by rw [hi]; rfl)
  · intro h; exact (blk2 m c t h _).trans (by rw [hi]; rfl)
  · intro k g; exact (blk3 m c t k g _).trans (by rw [hi]; rfl)
  · intro h; exact (blk4 m c t h _).trans (by rw [hi]; rfl)
  · intro h; exact (blk5 m c t h _).trans (by rw [hi]; rfl)
  · intro h; exact (blk6 m c t h _).trans (by rw [hi]; rfl)
  · intro k r l hr
    refine (blk7 m c t k _ l).trans (congrArg (fun z => m ((c : Thread nD τ).loc main_arg7) (ix4 (gb t) k z l)) (Fin.ext ?_))
    have hr' : r.val / 8 = 128 * (gq t).val + e.val := hr
    show (gq t).val * 1024 + r.val % 1024 = r.val
    omega
  · intro k j d hj
    refine (blk12 m c t k _ d).trans (congrArg (fun z => m ((c : Thread nD τ).loc main_arg8) (ix4 (gb t) k z d)) (Fin.ext ?_))
    have hj' : j.val / 64 = (128 * (gq t).val + e.val) / 64 := hj
    show 128 * (gq t).val + j.val % 128 = j.val
    omega
  · intro k j d; exact blk8 m c t k j d
  · intro k d j; exact blk9 m c t k d j
  · intro k j d; exact blk10 m c t k j d
  · intro k d j; exact blk11 m c t k d j

/-- Window 14's block index. -/
theorem e14 : ∀ t : Fin cfg0.N, win0_14.index t = ![(grid0.coords t 0).val, 0, 0, (grid0.coords t 1).val] :=
  (by decide +kernel : ∀ t : Fin grid0.N, win0_14.index t = ![(grid0.coords t 0).val, 0, 0, (grid0.coords t 1).val])

/-- Where an element of window 14's block lies. -/
theorem emb14 (t : Fin cfg0.N) (y : S1x8x160x128.Idx) : ((cfg0.win 14).blk t).view.emb y = (ix4 (gb t) (y 1) (y 2) (tq (gq t) (y 3)) : S3x8x160x24576.Idx) := by
  unfold tq gb gq
  blk_ext [e14]

/-- The whole array of window 14. -/
theorem final14 (c : Dev nD) : (dats m 0 c).arrAt 14 cfg0.N = (fun y : S3x8x160x24576.Idx => oc (MA m c) (y 0) (y 1) (y 2) (y 3)) := by
  refine (dats m 0 c).arrAt_eq_of_covers 14 _ (by decide +kernel) fun t hf y => ?_
  refine Eq.trans ?_ (congrArg (fun y : S3x8x160x24576.Idx => oc (MA m c) (y 0) (y 1) (y 2) (y 3)) (emb14 t y)).symm
  exact oc_eq (agree m c t (y 3)) (y 1) (y 2)

/-- Window 15's block index. -/
theorem e15 : ∀ t : Fin cfg0.N, win0_15.index t = ![(grid0.coords t 0).val, 0, 0, (grid0.coords t 1).val] :=
  (by decide +kernel : ∀ t : Fin grid0.N, win0_15.index t = ![(grid0.coords t 0).val, 0, 0, (grid0.coords t 1).val])

/-- Where an element of window 15's block lies. -/
theorem emb15 (t : Fin cfg0.N) (y : S1x8x160x128.Idx) : ((cfg0.win 15).blk t).view.emb y = (ix4 (gb t) (y 1) (y 2) (tq (gq t) (y 3)) : S3x8x160x24576.Idx) := by
  unfold tq gb gq
  blk_ext [e15]

/-- The whole array of window 15. -/
theorem final15 (c : Dev nD) : (dats m 0 c).arrAt 15 cfg0.N = (fun y : S3x8x160x24576.Idx => os (MA m c) (y 0) (y 1) (y 2) (y 3)) := by
  refine (dats m 0 c).arrAt_eq_of_covers 15 _ (by decide +kernel) fun t hf y => ?_
  refine Eq.trans ?_ (congrArg (fun y : S3x8x160x24576.Idx => os (MA m c) (y 0) (y 1) (y 2) (y 3)) (emb15 t y)).symm
  exact os_eq (agree m c t (y 3)) (y 1) (y 2)

/-- Window 16's block index. -/
theorem e16 : ∀ t : Fin cfg0.N, win0_16.index t = ![(grid0.coords t 0).val, 0, 0, (grid0.coords t 1).val] :=
  (by decide +kernel : ∀ t : Fin grid0.N, win0_16.index t = ![(grid0.coords t 0).val, 0, 0, (grid0.coords t 1).val])

/-- Where an element of window 16's block lies. -/
theorem emb16 (t : Fin cfg0.N) (y : S1x8x160x128.Idx) : ((cfg0.win 16).blk t).view.emb y = (ix4 (gb t) (y 1) (y 2) (tq (gq t) (y 3)) : S3x8x160x24576.Idx) := by
  unfold tq gb gq
  blk_ext [e16]

/-- The whole array of window 16. -/
theorem final16 (c : Dev nD) : (dats m 0 c).arrAt 16 cfg0.N = (fun y : S3x8x160x24576.Idx => ow (MA m c) (y 0) (y 1) (y 2) (y 3)) := by
  refine (dats m 0 c).arrAt_eq_of_covers 16 _ (by decide +kernel) fun t hf y => ?_
  refine Eq.trans ?_ (congrArg (fun y : S3x8x160x24576.Idx => ow (MA m c) (y 0) (y 1) (y 2) (y 3)) (emb16 t y)).symm
  exact ow_eq (agree m c t (y 3)) (y 1) (y 2)

/-- Window 13's block index. -/
theorem e13 : ∀ t : Fin cfg0.N, win0_13.index t = ![(grid0.coords t 0).val, (grid0.coords t 1).val, 0] :=
  (by decide +kernel : ∀ t : Fin grid0.N, win0_13.index t = ![(grid0.coords t 0).val, (grid0.coords t 1).val, 0])

/-- Where an element of window 13's block lies. -/
theorem emb13 (t : Fin cfg0.N) (y : S1x128x1280.Idx) : ((cfg0.win 13).blk t).view.emb y = (ix3 (gb t) (tq (gq t) (y 1)) (y 2) : S3x24576x1280.Idx) := by
  unfold tq gb gq
  blk_ext [e13]

/-- The gated sum as an array. -/
def out (A : Arr) : S3x24576x1280.Idx → EReal := fun y =>
  Spec.y A (y 0) ⟨(y 2).val / 160, by have : (y 2).val < 1280 := (y 2).isLt; omega⟩ ⟨(y 2).val % 160, by omega⟩ (y 1)

/-- The whole array of window 13. -/
theorem final13 (c : Dev nD) : (dats m 0 c).arrAt 13 cfg0.N = out (MA m c) := by
  refine (dats m 0 c).arrAt_eq_of_covers 13 _ (by decide +kernel) fun t hf y => ?_
  refine Eq.trans ?_ (congrArg (out (MA m c)) (emb13 t y)).symm
  exact y_eq (agree m c t (y 1)) _ _

set_option maxHeartbeats 4000000 in
/-- The run: the outputs hold the specification's values of the arguments, which end unchanged. -/
theorem run_value : θ_run defs (onTc (τ := τ) (main (F := Ideal))) ⟨m, fun _ => 0, ρ⟩ fun r => ∀ c : Dev nD,
      r.2.mem ((c : Thread nD τ).loc main_v0_0) = out (MA m c)
      ∧ r.2.mem ((c : Thread nD τ).loc main_v0_1) = (fun y : S3x8x160x24576.Idx => oc (MA m c) (y 0) (y 1) (y 2) (y 3))
      ∧ r.2.mem ((c : Thread nD τ).loc main_v0_2) = (fun y : S3x8x160x24576.Idx => os (MA m c) (y 0) (y 1) (y 2) (y 3))
      ∧ r.2.mem ((c : Thread nD τ).loc main_v0_3) = (fun y : S3x8x160x24576.Idx => ow (MA m c) (y 0) (y 1) (y 2) (y 3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨((h c).1 13).trans (final13 m c), ((h c).1 14).trans (final14 m c), ((h c).1 15).trans (final15 m c), ((h c).1 16).trans (final16 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 12).trans (((dats m 0 c).arrAt_in 12 rfl _).trans ((A_eq m c 12).trans (V_main_arg8 m c))),
      ((h c).1 8).trans (((dats m 0 c).arrAt_in 8 rfl _).trans ((A_eq m c 8).trans (V_main_arg9 m c))),
      ((h c).1 9).trans (((dats m 0 c).arrAt_in 9 rfl _).trans ((A_eq m c 9).trans (V_main_arg10 m c))),
      ((h c).1 10).trans (((dats m 0 c).arrAt_in 10 rfl _).trans ((A_eq m c 10).trans (V_main_arg11 m c))),
      ((h c).1 11).trans (((dats m 0 c).arrAt_in 11 rfl _).trans ((A_eq m c 11).trans (V_main_arg12 m c)))⟩) (run_main m ρ)

end Cert.KernelIdeal.KValue

end
-- ==== Proof.RPay.lean ====
/- The reference's values, entry by entry. -/
module

public import proofs.«01_k».proof.Proof.Gen.ReferenceIdeal.Frame
public import proofs.«01_k».proof.Proof.Words
public import Idealize.ShloMosaic.Lib.Pointwise

@[expose] public section

set_option maxRecDepth 16384

noncomputable section

namespace Cert.ReferenceIdeal.RPay

open Cert.ReferenceIdeal Cert.ReferenceIdeal.Gen Idealize.ShloMosaic Cert.Soft Cert.Spec Cert.Words
open scoped BigOperators

variable (x0 : Vec Ideal S3x2x1x1 .f32) (x1 : Vec Ideal S3x8x160x24576 .fp8e4m3) (x2 : Vec Ideal S3x8x24576 .f32) (x3 : Vec Ideal S3x2x4x24576 .f32) (x4 x5 x6 : Vec Ideal S3x8x24576 .f32) (x7 : Vec Ideal S3x2x196608x128 .f32) (x8 : Vec Ideal S3x2x24576x256 .bf16) (x9 : Vec Ideal S3x2x24576x256 .fp8e4m3) (x10 : Vec Ideal S3x2x160x24576 .fp8e4m3) (x11 : Vec Ideal S3x2x1536x256 .bf16) (x12 : Vec Ideal S3x2x160x1536 .bf16)

/-- The reference's blocks as functions of coordinates. -/
def arr : Arr where
  vs b k := x0 (ix4 b k 0 0)
  q b h d t := x1 (ix4 b h d t)
  scl b h t := x2 (ix3 b h t)
  m b k g t := x3 (ix4 b k g t)
  gc b h t := x4 (ix3 b h t)
  gs b h t := x5 (ix3 b h t)
  gw b h t := x6 (ix3 b h t)
  acc b k r l := x7 (ix4 b k r l)
  kb b k j d := x8 (ix4 b k j d)
  k8 b k j d := x9 (ix4 b k j d)
  v b k d j := x10 (ix4 b k d j)
  kc b k j d := x11 (ix4 b k j d)
  vc b k d j := x12 (ix4 b k d j)

/-- The sequence of a row of the folded batch and heads. -/
def bn (n : Fin 24) : Fin 3 := ⟨n.val / 8, by omega⟩
/-- The head of a row of the folded batch and heads. -/
def hn (n : Fin 24) : Fin 8 := ⟨n.val % 8, by omega⟩

theorem kvn (n : Fin 24) (h : n.val / 4 % 2 < 2) : (⟨n.val / 4 % 2, h⟩ : Fin 2) = kv (hn n) := by
  apply Fin.ext; show n.val / 4 % 2 = n.val % 8 / 4; omega
theorem gqn (n : Fin 24) (h : n.val % 4 < 4) : (⟨n.val % 4, h⟩ : Fin 4) = gq (hn n) := by
  apply Fin.ext; show n.val % 4 = n.val % 8 % 4; omega

local notation "AA" => arr x0 x1 x2 x3 x4 x5 x6 x7 x8 x9 x10 x11 x12

variable (n : Fin 24) (d : Fin 160) (t : Fin 24576)

theorem pay7_at (j : Fin 1536) : k0_pay7 x1 x2 x11 (ix3 n j t) = xc AA (bn n) (hn n) t j := by
  pointwise [k0_pay7, k0_pay3, k0_pay4]
  rw [select_iff _ _ (mask_c j.val t.val j.isLt t.isLt), negInf]
  simp only [kvn]
  rfl

theorem pay8_at : k0_pay8 x1 x2 x11 (ix2 n t) = top (xc AA (bn n) (hn n) t) := by
  pointwise [k0_pay8]
  simp only [pay7_at x0 x1 x2 x3 x4 x5 x6 x7 x8 x9 x10 x11 x12, negInf]
  rfl

theorem pay5_at : k0_pay5 x0 (ix3 n 0 0) = x0 (ix4 (bn n) (kv (hn n)) 0 0) := by
  pointwise [k0_pay5]
  simp only [kvn]
  rfl

theorem pay6_at (j : Fin 24576) : k0_pay6 x10 (ix3 n d j) = x10 (ix4 (bn n) (kv (hn n)) d j) := by
  pointwise [k0_pay6]
  simp only [kvn]
  rfl

theorem exp2_eq (x : EReal) : FloatOps.exp2 (F := Ideal) (φ := .f32) x = Ideal.exp2 x := rfl

theorem attend_eq {N : ℕ} (x v : Fin N → Ideal .f32) (vs M B Z : Ideal .f32) (hM : M = top x) (hB : B = ⊥) [i1 : Decidable (M = B)]
    (hZ : Z = ∑ k, FloatOps.exp2 (x k - if M = B then 0 else M)) [i2 : Decidable (0 < Z)] :
    (∑ j, v j * Ideal.div (FloatOps.exp2 (x j - if M = B then 0 else M)) (if 0 < Z then Z else 1)) * vs = attend x v vs := by
  subst hM hB
  have hg : (if top x = ⊥ then 0 else top x) = gd (top x) := by unfold gd; split_ifs <;> rfl
  have hp : (if 0 < Z then Z else 1) = pos (∑ k, Ideal.exp2 (x k - gd (top x))) := by
    have hZ' : Z = ∑ k, Ideal.exp2 (x k - gd (top x)) := by rw [hZ, hg]; rfl
    rw [← hZ']; unfold pos; split_ifs <;> rfl
  rw [hp, hg]; rfl

theorem pay9_gen (v9 : FVec Ideal S24x1x1 .f32) (v34 : FVec Ideal S24x1536x24576 .f32) (v35 : FVec Ideal S24x24576 .f32)
    (h35 : v35 (ix2 n t) = top fun j => v34 (ix3 n j t)) :
    k0_pay9 v9 v34 v35 x12 (ix3 n d t)
      = attend (fun j => v34 (ix3 n j t)) (fun j => x12 (ix4 (bn n) ⟨n.val / 4 % 2, by omega⟩ d j)) (v9 (ix3 n 0 0)) := by
  pointwise [k0_pay9]
  exact attend_eq (fun j => v34 (ix3 n j t)) _ _ _ _ _ h35 negInf rfl

theorem pay9_at : k0_pay9 (k0_pay5 x0) (k0_pay7 x1 x2 x11) (k0_pay8 x1 x2 x11) x12 (ix3 n d t) = oc AA (bn n) (hn n) d t := by
  have h7 := fun j => pay7_at x0 x1 x2 x3 x4 x5 x6 x7 x8 x9 x10 x11 x12 n t j
  have h8 := pay8_at x0 x1 x2 x3 x4 x5 x6 x7 x8 x9 x10 x11 x12 n t
  rw [pay9_gen]
  · rw [funext h7, pay5_at, kvn]; rfl
  · rw [funext h7, h8]

/-- The window's maxima. -/
def w80 (v79 : FVec Ideal S24x24576x24576 .f32) : FVec Ideal S24x24576 .f32 :=
  multiReduction .maximumf [1] S24x24576 v79 0xFF800000#32 reduces_S24x24576x24576_S24x24576 (.inl rfl) rfl

/-- The window's weights. -/
def w88 (v79 : FVec Ideal S24x24576x24576 .f32) (v80 : FVec Ideal S24x24576 .f32) : FVec Ideal S24x24576x24576 .f32 :=
  have v81 : FVec Ideal S24x1x24576 .f32 := shapeCast S24x1x24576 v80 shapeCasts_S24x24576_S24x1x24576
  exp2 (subf v79 (broadcastTo S24x24576x24576
    (select (cmpf .oeq v81 (broadcast S24x1x24576 (Scalar.ofBits .f32 0xFF800000#32))) (broadcast S24x1x24576 (Scalar.ofBits .f32 0x00000000#32)) v81)
    broadcasts_S24x1x24576_S24x24576x24576))

/-- The window's sums of weights. -/
def w89 (v88 : FVec Ideal S24x24576x24576 .f32) : FVec Ideal S24x24576 .f32 :=
  multiReduction .add [1] S24x24576 v88 0x00000000#32 reduces_S24x24576x24576_S24x24576 (.inl rfl) rfl

/-- The window's output from weights and sums. -/
def w100 (v9 : FVec Ideal S24x1x1 .f32) (v15 : FVec Ideal S24x160x24576 .bf16) (v88 : FVec Ideal S24x24576x24576 .f32) (v89 : FVec Ideal S24x24576 .f32) :
    FVec Ideal S24x160x24576 .f32 :=
  have v90 : FVec Ideal S24x1x24576 .f32 := shapeCast S24x1x24576 v89 shapeCasts_S24x24576_S24x1x24576
  have v94 : FVec Ideal S24x1x24576 .f32 := select (cmpf .ogt v90 (broadcast S24x1x24576 (Scalar.ofBits .f32 0x00000000#32))) v90 (broadcast S24x1x24576 (Scalar.ofBits .f32 0x3F800000#32))
  have v97 : FVec Ideal S24x24576x24576 .bf16 := truncf .bf16 (divf v88 (broadcastTo S24x24576x24576 v94 broadcasts_S24x1x24576_S24x24576x24576)) bitsLt_bf16_f32
  mulf (matmul dot_S24x160x24576_S24x24576x24576_S24x160x24576_2_1_1_2_0_0 none v15 v97 (constant S24x160x24576 .f32 0x00000000#32))
    (broadcastTo S24x160x24576 v9 broadcasts_S24x1x1_S24x160x24576)

theorem w80_at (v : FVec Ideal S24x24576x24576 .f32) : w80 v (ix2 n t) = top fun j => v (ix3 n j t) := by
  pointwise [w80]
  rw [negInf]
  exact fold_max _

theorem w88_at (v : FVec Ideal S24x24576x24576 .f32) (v80) (j : Fin 24576) :
    w88 v v80 (ix3 n j t) = Ideal.exp2 (v (ix3 n j t) - gd (v80 (ix2 n t))) := by
  pointwise [w88]
  rw [negInf]
  unfold gd
  split_ifs <;> rfl

theorem w89_at (v : FVec Ideal S24x24576x24576 .f32) : w89 v (ix2 n t) = ∑ j : Fin 24576, v (ix3 n j t) := by
  pointwise [w89]

theorem w100_at (v9 v15 v88 v89) : w100 v9 v15 v88 v89 (ix3 n d t)
    = (∑ j : Fin 24576, v15 (ix3 n d j) * Ideal.div (v88 (ix3 n j t)) (pos (v89 (ix2 n t)))) * v9 (ix3 n 0 0) := by
  pointwise [w100]
  unfold pos
  split_ifs <;> rfl

theorem pay12_gen (v9 : FVec Ideal S24x1x1 .f32) (v15 : FVec Ideal S24x160x24576 .bf16) (v71 : FVec Ideal S24x24576x24576 .f32)
    (v77 : IVec S24x24576x24576 1) :
    k0_pay12 v9 v15 v71 v77 (Scalar.ofBits .f32 0xFF800000#32) (ix3 n d t)
      = attend (fun j => Scalar.select (v77 (ix3 n j t)) (v71 (ix3 n j t)) (Ideal.ofBits FTy.f32 4286578688#32))
        (fun j => v15 (ix3 n d j)) (v9 (ix3 n 0 0)) := by
  have h : k0_pay12 v9 v15 v71 v77 (Scalar.ofBits .f32 0xFF800000#32)
      = w100 v9 v15 (w88 (select v77 v71 (broadcast S24x24576x24576 (Scalar.ofBits .f32 0xFF800000#32))) (w80 (select v77 v71 (broadcast S24x24576x24576 (Scalar.ofBits .f32 0xFF800000#32)))))
        (w89 (w88 (select v77 v71 (broadcast S24x24576x24576 (Scalar.ofBits .f32 0xFF800000#32))) (w80 (select v77 v71 (broadcast S24x24576x24576 (Scalar.ofBits .f32 0xFF800000#32)))))) := rfl
  have hs : ∀ j : Fin 24576, (select v77 v71 (broadcast S24x24576x24576 (Scalar.ofBits .f32 0xFF800000#32)) : FVec Ideal S24x24576x24576 .f32) (ix3 n j t)
      = Scalar.select (v77 (ix3 n j t)) (v71 (ix3 n j t)) (Ideal.ofBits FTy.f32 4286578688#32) := fun j => by pointwise
  rw [h]
  generalize (select v77 v71 (broadcast S24x24576x24576 (Scalar.ofBits .f32 0xFF800000#32)) : FVec Ideal S24x24576x24576 .f32) = v79 at hs ⊢
  rw [w100_at, w89_at]
  simp only [w88_at, w80_at, funext hs, hs]
  rfl

theorem pay12_at : k0_pay12 (k0_pay5 x0) (k0_pay6 x10) (k0_pay10 (k0_pay3 x1) (k0_pay4 x2) x9) k0_pay11 (Scalar.ofBits .f32 0xFF800000#32) (ix3 n d t)
    = ow AA (bn n) (hn n) d t := by
  have hx : ∀ j : Fin 24576, Scalar.select (k0_pay11 (ix3 n j t)) (k0_pay10 (k0_pay3 x1) (k0_pay4 x2) x9 (ix3 n j t)) (Ideal.ofBits FTy.f32 4286578688#32)
      = xw AA (bn n) (hn n) t j := fun j => by
    pointwise [k0_pay10, k0_pay11, k0_pay3, k0_pay4]
    rw [select_iff _ _ (mask_w t.val j.val (by omega) (by omega)), negInf]
    simp only [kvn]
    rfl
  rw [pay12_gen, funext hx, pay5_at, funext fun j => pay6_at x10 n d j]; rfl

/-- The own block's masked scores. -/
def v166 : FVec Ideal S24x24576x24576 .f32 :=
  k0_pay16 (iota .tc S24x24576x24576 32 [1] iota_S24x24576x24576_d1_w32) (iota .tc S24x24576x24576 32 [2] iota_S24x24576x24576_d2_w32)
    (k0_pay13 (k0_pay3 x1) (k0_pay4 x2) x8 x3) 64#32 (k0_pay14 (iota .tc S24x24576x24576 32 [1] iota_S24x24576x24576_d1_w32))
    (k0_pay15 (iota .tc S24x24576x24576 32 [1] iota_S24x24576x24576_d1_w32)) 0#32

theorem v166_at (j : Fin 24576) : v166 x1 x2 x3 x8 (ix3 n j t) = xs AA (bn n) (hn n) t j := by
  have h13 : k0_pay13 (k0_pay3 x1) (k0_pay4 x2) x8 x3 (ix3 n j t) = score AA (bn n) (hn n) t (AA).kb j - (AA).m (bn n) (kv (hn n)) (gq (hn n)) t := by
    pointwise [k0_pay13, k0_pay3, k0_pay4]
    simp only [kvn, gqn]
    rfl
  have h14 : k0_pay14 (iota .tc S24x24576x24576 32 [1] iota_S24x24576x24576_d1_w32) (ix3 n j t) = IntOp.divsi .vector (BitVec.ofNat 32 j.val) 64#32 := by
    pointwise [k0_pay14]
  have h15 : k0_pay15 (iota .tc S24x24576x24576 32 [1] iota_S24x24576x24576_d1_w32) (ix3 n j t) = BitVec.setWidth 32 (IntOp.cmpi .sgt (BitVec.ofNat 32 j.val) 0#32) := by
    pointwise [k0_pay15]
  unfold v166
  generalize k0_pay13 (k0_pay3 x1) (k0_pay4 x2) x8 x3 = y13 at *
  generalize k0_pay14 (iota .tc S24x24576x24576 32 [1] iota_S24x24576x24576_d1_w32) = y14 at *
  generalize k0_pay15 (iota .tc S24x24576x24576 32 [1] iota_S24x24576x24576_d1_w32) = y15 at *
  pointwise [k0_pay16]
  rw [h13, h14, h15, floor64 j.val (by omega), floor64 t.val (by omega), negInf]
  rw [select_iff _ (j.val / 64 = t.val / 64 ∧ j.val ≤ t.val)]
  · rfl
  · rw [andi_iff, eqw _ _ (by omega) (by omega), sle _ _ (by omega) (by omega)]

theorem pay17_at : k0_pay17 (k0_pay5 x0) (k0_pay6 x10) (v166 x1 x2 x3 x8) x7 (ix3 n d t) = os AA (bn n) (hn n) d t := by
  pointwise [k0_pay17]
  simp only [v166_at x0 x1 x2 x3 x4 x5 x6 x7 x8 x9 x10 x11 x12, pay5_at, pay6_at, exp2_eq, kvn]
  unfold os rest restl
  have e1 : n.val % 4 = (hn n).val % 4 := by show n.val % 4 = n.val % 8 % 4; omega
  simp only [e1]
  rfl

/-! ## The outputs' payloads -/

theorem bn_mk (b : Fin 3) (h : Fin 8) (hh : b.val * 8 + h.val < 24) : bn ⟨b.val * 8 + h.val, hh⟩ = b := by
  apply Fin.ext; show (b.val * 8 + h.val) / 8 = b.val; omega
theorem hn_mk (b : Fin 3) (h : Fin 8) (hh : b.val * 8 + h.val < 24) : hn ⟨b.val * 8 + h.val, hh⟩ = h := by
  apply Fin.ext; show (b.val * 8 + h.val) % 8 = h.val; omega

variable (b : Fin 3) (h : Fin 8) (c : Fin 1280)

theorem oc_at : k0_pay19 (k0_pay9 (k0_pay5 x0) (k0_pay7 x1 x2 x11) (k0_pay8 x1 x2 x11) x12) (ix4 b h d t) = oc AA b h d t := by
  pointwise [k0_pay19]
  rw [pay9_at x0 x1 x2 x3 x4 x5 x6 x7 x8 x9 x10 x11 x12, bn_mk, hn_mk]

theorem os_at : k0_pay1 (k0_pay17 (k0_pay5 x0) (k0_pay6 x10) (v166 x1 x2 x3 x8) x7) (ix4 b h d t) = os AA b h d t := by
  pointwise [k0_pay1]
  rw [pay17_at x0 x1 x2 x3 x4 x5 x6 x7 x8 x9 x10 x11 x12, bn_mk, hn_mk]

theorem ow_at : k0_pay2 (k0_pay12 (k0_pay5 x0) (k0_pay6 x10) (k0_pay10 (k0_pay3 x1) (k0_pay4 x2) x9) k0_pay11 (Scalar.ofBits .f32 0xFF800000#32)) (ix4 b h d t)
    = ow AA b h d t := by
  have h12 := pay12_at x0 x1 x2 x3 x4 x5 x6 x7 x8 x9 x10 x11 x12
  generalize k0_pay12 (k0_pay5 x0) (k0_pay6 x10) (k0_pay10 (k0_pay3 x1) (k0_pay4 x2) x9) k0_pay11 (Scalar.ofBits .f32 0xFF800000#32) = y12 at *
  pointwise [k0_pay2]
  rw [h12, bn_mk, hn_mk]

theorem out_at : k0_pay18 (k0_pay5 x0) (k0_pay6 x10) (k0_pay9 (k0_pay5 x0) (k0_pay7 x1 x2 x11) (k0_pay8 x1 x2 x11) x12)
      (k0_pay12 (k0_pay5 x0) (k0_pay6 x10) (k0_pay10 (k0_pay3 x1) (k0_pay4 x2) x9) k0_pay11 (Scalar.ofBits .f32 0xFF800000#32))
      (v166 x1 x2 x3 x8) x7 x4 x5 x6 (ix3 b t c)
    = y AA b ⟨c.val / 160, by omega⟩ ⟨c.val % 160, by omega⟩ t := by
  have h12 := pay12_at x0 x1 x2 x3 x4 x5 x6 x7 x8 x9 x10 x11 x12
  have h9 := pay9_at x0 x1 x2 x3 x4 x5 x6 x7 x8 x9 x10 x11 x12
  have h17 := pay17_at x0 x1 x2 x3 x4 x5 x6 x7 x8 x9 x10 x11 x12
  generalize k0_pay12 (k0_pay5 x0) (k0_pay6 x10) (k0_pay10 (k0_pay3 x1) (k0_pay4 x2) x9) k0_pay11 (Scalar.ofBits .f32 0xFF800000#32) = y12 at *
  generalize k0_pay9 (k0_pay5 x0) (k0_pay7 x1 x2 x11) (k0_pay8 x1 x2 x11) x12 = y9 at *
  pointwise [k0_pay18]
  rw [h12, h9, h17]
  have e : (b.val * 8 + c.val / 160) % 8 = c.val / 160 := by omega
  have hb : ∀ hh, bn ⟨b.val * 8 + c.val / 160, hh⟩ = b := fun hh => bn_mk b ⟨c.val / 160, by omega⟩ hh
  have hc : ∀ hh, hn ⟨b.val * 8 + c.val / 160, hh⟩ = ⟨c.val / 160, by omega⟩ := fun hh => hn_mk b ⟨c.val / 160, by omega⟩ hh
  simp only [e, hb, hc]
  rfl

end Cert.ReferenceIdeal.RPay

end
-- ==== Proof.RValue.lean ====
/- What each output array of the reference holds after its run, from the frame run. -/
module

public import proofs.«01_k».proof.Proof.Gen.ReferenceIdeal.Frame
public import Idealize.ShloMosaic.Lib.Pipeline.Value

@[expose] public section

set_option maxRecDepth 16384

noncomputable section

namespace Cert.ReferenceIdeal.RValue

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 13's array: the body's result for that window (`Gen.out0_13`: its stores
    as pieces over the input windows' blocks), read through the window's block. -/
theorem flushed13 (c : Dev nD) (t : Fin cfg0.N) :
    (dats m 0 c).flushed 13 t = (cfg0.win 13).cut (grid0.coords t) (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  show (cfg0.win 13).cut (grid0.coords t) ((dats m 0 c).after 13 t) = _
  rw [after0_13]

/-- The index map sends distinct grid points to distinct block indices (decided over the 1 point). -/
theorem idx_inj13 : ∀ t t' : Fin cfg0.N, win0_13.index t = win0_13.index t' → t = t' :=
  (by decide +kernel : ∀ t t' : Fin grid0.N, win0_13.index t = win0_13.index t' → t = t')

/-- So two flushing points' blocks share no array index (Lib/Pipeline/Cells.lean `Window.disjoint_blk`). -/
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-- BLOCK `t` OF THE FINAL ARRAY, read back through the window, is what point `t` wrote back (`flushed13`), for every
    point that writes back: no other point's block meets it. -/
theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

/-- An index that no flushing point's block covers keeps output window 13's array contents at region entry. -/
theorem entry13 (c : Dev nD) (i : S3x24576x1280.Idx) (h : ∀ t : Fin cfg0.N, (cfg0.win 13).flush t = true → i ∉ ((cfg0.win 13).blk t).view.set) :
    (dats m 0 c).arrAt 13 cfg0.N i = V m c (Pipeline.arrRef spec0 13) i := by
  rw [(dats m 0 c).arrAt_apply_of_forall_not_mem 13 cfg0.N i (fun t _ hf => h t hf), A_eq]

/-- WHAT POINT `t` WRITES BACK to output window 14's array: the body's result for that window (`Gen.out0_14`: its stores
    as pieces over the input windows' blocks), read through the window's block. -/
theorem flushed14 (c : Dev nD) (t : Fin cfg0.N) :
    (dats m 0 c).flushed 14 t = (cfg0.win 14).cut (grid0.coords t) (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  show (cfg0.win 14).cut (grid0.coords t) ((dats m 0 c).after 14 t) = _
  rw [after0_14]

/-- The index map sends distinct grid points to distinct block indices (decided over the 1 point). -/
theorem idx_inj14 : ∀ t t' : Fin cfg0.N, win0_14.index t = win0_14.index t' → t = t' :=
  (by decide +kernel : ∀ t t' : Fin grid0.N, win0_14.index t = win0_14.index t' → t = t')

/-- So two flushing points' blocks share no array index (Lib/Pipeline/Cells.lean `Window.disjoint_blk`). -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- BLOCK `t` OF THE FINAL ARRAY, read back through the window, is what point `t` wrote back (`flushed14`), for every
    point that writes back: no other point's block meets it. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- An index that no flushing point's block covers keeps output window 14's array contents at region entry. -/
theorem entry14 (c : Dev nD) (i : S3x8x160x24576.Idx) (h : ∀ t : Fin cfg0.N, (cfg0.win 14).flush t = true → i ∉ ((cfg0.win 14).blk t).view.set) :
    (dats m 0 c).arrAt 14 cfg0.N i = V m c (Pipeline.arrRef spec0 14) i := by
  rw [(dats m 0 c).arrAt_apply_of_forall_not_mem 14 cfg0.N i (fun t _ hf => h t hf), A_eq]

/-- WHAT POINT `t` WRITES BACK to output window 15's array: the body's result for that window (`Gen.out0_15`: its stores
    as pieces over the input windows' blocks), read through the window's block. -/
theorem flushed15 (c : Dev nD) (t : Fin cfg0.N) :
    (dats m 0 c).flushed 15 t = (cfg0.win 15).cut (grid0.coords t) (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  show (cfg0.win 15).cut (grid0.coords t) ((dats m 0 c).after 15 t) = _
  rw [after0_15]

/-- The index map sends distinct grid points to distinct block indices (decided over the 1 point). -/
theorem idx_inj15 : ∀ t t' : Fin cfg0.N, win0_15.index t = win0_15.index t' → t = t' :=
  (by decide +kernel : ∀ t t' : Fin grid0.N, win0_15.index t = win0_15.index t' → t = t')

/-- So two flushing points' blocks share no array index (Lib/Pipeline/Cells.lean `Window.disjoint_blk`). -/
theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

/-- BLOCK `t` OF THE FINAL ARRAY, read back through the window, is what point `t` wrote back (`flushed15`), for every
    point that writes back: no other point's block meets it. -/
theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

/-- An index that no flushing point's block covers keeps output window 15's array contents at region entry. -/
theorem entry15 (c : Dev nD) (i : S3x8x160x24576.Idx) (h : ∀ t : Fin cfg0.N, (cfg0.win 15).flush t = true → i ∉ ((cfg0.win 15).blk t).view.set) :
    (dats m 0 c).arrAt 15 cfg0.N i = V m c (Pipeline.arrRef spec0 15) i := by
  rw [(dats m 0 c).arrAt_apply_of_forall_not_mem 15 cfg0.N i (fun t _ hf => h t hf), A_eq]

/-- WHAT POINT `t` WRITES BACK to output window 16's array: the body's result for that window (`Gen.out0_16`: its stores
    as pieces over the input windows' blocks), read through the window's block. -/
theorem flushed16 (c : Dev nD) (t : Fin cfg0.N) :
    (dats m 0 c).flushed 16 t = (cfg0.win 16).cut (grid0.coords t) (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  show (cfg0.win 16).cut (grid0.coords t) ((dats m 0 c).after 16 t) = _
  rw [after0_16]

/-- The index map sends distinct grid points to distinct block indices (decided over the 1 point). -/
theorem idx_inj16 : ∀ t t' : Fin cfg0.N, win0_16.index t = win0_16.index t' → t = t' :=
  (by decide +kernel : ∀ t t' : Fin grid0.N, win0_16.index t = win0_16.index t' → t = t')

/-- So two flushing points' blocks share no array index (Lib/Pipeline/Cells.lean `Window.disjoint_blk`). -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

/-- BLOCK `t` OF THE FINAL ARRAY, read back through the window, is what point `t` wrote back (`flushed16`), for every
    point that writes back: no other point's block meets it. -/
theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

/-- An index that no flushing point's block covers keeps output window 16's array contents at region entry. -/
theorem entry16 (c : Dev nD) (i : S3x8x160x24576.Idx) (h : ∀ t : Fin cfg0.N, (cfg0.win 16).flush t = true → i ∉ ((cfg0.win 16).blk t).view.set) :
    (dats m 0 c).arrAt 16 cfg0.N i = V m c (Pipeline.arrRef spec0 16) i := by
  rw [(dats m 0 c).arrAt_apply_of_forall_not_mem 16 cfg0.N i (fun t _ hf => h t hf), A_eq]

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v1_0) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v1_1) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v1_2) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v1_3) = (dats m 0 c).arrAt 16 cfg0.N :=
  (h c).1 16

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- After the frame run, argument `main_arg9` is as launched: input window 9 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

/-- After the frame run, argument `main_arg10` is as launched: input window 10 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))

/-- After the frame run, argument `main_arg11` is as launched: input window 11 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))

/-- After the frame run, argument `main_arg12` is as launched: input window 12 stages it and never writes it back. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 12).trans (((dats m 0 c).arrAt_in 12 rfl _).trans ((A_eq m c 12).trans (V_main_arg12 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 13 cfg0.N
      ∧ r.2.mem ((c : Thread nD τ).loc main_v1_1) = (dats m 0 c).arrAt 14 cfg0.N
      ∧ r.2.mem ((c : Thread nD τ).loc main_v1_2) = (dats m 0 c).arrAt 15 cfg0.N
      ∧ r.2.mem ((c : Thread nD τ).loc main_v1_3) = (dats m 0 c).arrAt 16 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨post13 m r h c,
      post14 m r h c,
      post15 m r h c,
      post16 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c⟩)
    (run_main m ρ)

end Cert.ReferenceIdeal.RValue

end
-- ==== Proof.RFinal.lean ====
/- What each output array of the reference holds after its run, as the specification's functions. -/
module

public import proofs.«01_k».proof.Proof.RPay
public import proofs.«01_k».proof.Proof.RValue
public import Idealize.ShloMosaic.Lib.Pipeline.ValueKit.Geometry

@[expose] public section

set_option maxRecDepth 16384

noncomputable section

namespace Cert.ReferenceIdeal.RFinal

open Cert.ReferenceIdeal Cert.ReferenceIdeal.Gen Cert.ReferenceIdeal.RPay Cert Cert.Soft Cert.Spec
open Idealize.ShloMosaic Idealize.ShloMosaic.TcCoe Idealize.SL.Sem
open Idealize.ShloMosaic.Pipeline (Dat)
open scoped BigOperators

/-- The gated sum as an array. -/
def out (A : Arr) : S3x24576x1280.Idx → EReal := fun y =>
  Spec.y A (y 0) ⟨(y 2).val / 160, by have : (y 2).val < 1280 := (y 2).isLt; omega⟩ ⟨(y 2).val % 160, by omega⟩ (y 1)

variable (x0 : Vec Ideal S3x2x1x1 .f32) (x1 : Vec Ideal S3x8x160x24576 .fp8e4m3) (x2 : Vec Ideal S3x8x24576 .f32) (x3 : Vec Ideal S3x2x4x24576 .f32) (x4 : Vec Ideal S3x8x24576 .f32) (x5 : Vec Ideal S3x8x24576 .f32) (x6 : Vec Ideal S3x8x24576 .f32) (x7 : Vec Ideal S3x2x196608x128 .f32) (x8 : Vec Ideal S3x2x24576x256 .bf16) (x9 : Vec Ideal S3x2x24576x256 .fp8e4m3) (x10 : Vec Ideal S3x2x160x24576 .fp8e4m3) (x11 : Vec Ideal S3x2x1536x256 .bf16) (x12 : Vec Ideal S3x2x160x1536 .bf16)

theorem z4 : (![0, 0, 0, 0] : Fin 4 → ℕ) = fun _ => 0 := by decide
theorem z3 : (![0, 0, 0] : Fin 3 → ℕ) = fun _ => 0 := by decide

/-- A multi-index is its coordinates. -/
theorem eta4 (y : S3x8x160x24576.Idx) : y = ix4 (y 0) (y 1) (y 2) (y 3) := by
  funext k; fin_cases k <;> rfl
theorem eta3 (y : S3x24576x1280.Idx) : y = ix3 (y 0) (y 1) (y 2) := by
  funext k; fin_cases k <;> rfl

/-- What the body leaves in window 14. -/
theorem out14_eq (y : S3x8x160x24576.Idx) : out0_14 x0 x1 x2 x3 x4 x5 x6 x7 x8 x9 x10 x11 x12 y = oc (arr x0 x1 x2 x3 x4 x5 x6 x7 x8 x9 x10 x11 x12) (y 0) (y 1) (y 2) (y 3) := by
  unfold_out out0_14
  rw [View.canon_unit_zero z4]
  have l0 : ∀ (X : Vec Ideal S3x8x160x24576 .fp8e4m3), View.ld X r0_0 = X := fun X => View.ld_unit_zero z4 _ X
  have l1 : ∀ (X : Vec Ideal S3x8x24576 .f32), View.ld X r0_1 = X := fun X => View.ld_unit_zero z3 _ X
  have l2 : ∀ (X : Vec Ideal S3x2x1x1 .f32), View.ld X r0_2 = X := fun X => View.ld_unit_zero z4 _ X
  have l3 : ∀ (X : Vec Ideal S3x2x160x24576 .fp8e4m3), View.ld X r0_3 = X := fun X => View.ld_unit_zero z4 _ X
  have l4 : ∀ (X : Vec Ideal S3x2x1536x256 .bf16), View.ld X r0_4 = X := fun X => View.ld_unit_zero z4 _ X
  have l5 : ∀ (X : Vec Ideal S3x2x160x1536 .bf16), View.ld X r0_5 = X := fun X => View.ld_unit_zero z4 _ X
  have l6 : ∀ (X : Vec Ideal S3x2x24576x256 .fp8e4m3), View.ld X r0_6 = X := fun X => View.ld_unit_zero z4 _ X
  have l6' : ∀ (X : Vec Ideal S3x2x24576x256 .bf16), View.ld X r0_6 = X := fun X => View.ld_unit_zero z4 _ X
  have l7 : ∀ (X : Vec Ideal S3x2x4x24576 .f32), View.ld X r0_7 = X := fun X => View.ld_unit_zero z4 _ X
  have l8 : ∀ (X : Vec Ideal S3x2x196608x128 .f32), View.ld X r0_8 = X := fun X => View.ld_unit_zero z4 _ X
  simp only [l0, l1, l2, l3, l4, l5, l6, l6', l7, l8]
  exact (congrArg _ (eta4 y)).trans (oc_at x0 x1 x2 x3 x4 x5 x6 x7 x8 x9 x10 x11 x12 (y 2) (y 3) (y 0) (y 1))

/-- What the body leaves in window 15. -/
theorem out15_eq (y : S3x8x160x24576.Idx) : out0_15 x0 x1 x2 x3 x4 x5 x6 x7 x8 x9 x10 x11 x12 y = os (arr x0 x1 x2 x3 x4 x5 x6 x7 x8 x9 x10 x11 x12) (y 0) (y 1) (y 2) (y 3) := by
  unfold_out out0_15
  rw [View.canon_unit_zero z4]
  have l0 : ∀ (X : Vec Ideal S3x8x160x24576 .fp8e4m3), View.ld X r0_0 = X := fun X => View.ld_unit_zero z4 _ X
  have l1 : ∀ (X : Vec Ideal S3x8x24576 .f32), View.ld X r0_1 = X := fun X => View.ld_unit_zero z3 _ X
  have l2 : ∀ (X : Vec Ideal S3x2x1x1 .f32), View.ld X r0_2 = X := fun X => View.ld_unit_zero z4 _ X
  have l3 : ∀ (X : Vec Ideal S3x2x160x24576 .fp8e4m3), View.ld X r0_3 = X := fun X => View.ld_unit_zero z4 _ X
  have l4 : ∀ (X : Vec Ideal S3x2x1536x256 .bf16), View.ld X r0_4 = X := fun X => View.ld_unit_zero z4 _ X
  have l5 : ∀ (X : Vec Ideal S3x2x160x1536 .bf16), View.ld X r0_5 = X := fun X => View.ld_unit_zero z4 _ X
  have l6 : ∀ (X : Vec Ideal S3x2x24576x256 .fp8e4m3), View.ld X r0_6 = X := fun X => View.ld_unit_zero z4 _ X
  have l6' : ∀ (X : Vec Ideal S3x2x24576x256 .bf16), View.ld X r0_6 = X := fun X => View.ld_unit_zero z4 _ X
  have l7 : ∀ (X : Vec Ideal S3x2x4x24576 .f32), View.ld X r0_7 = X := fun X => View.ld_unit_zero z4 _ X
  have l8 : ∀ (X : Vec Ideal S3x2x196608x128 .f32), View.ld X r0_8 = X := fun X => View.ld_unit_zero z4 _ X
  simp only [l0, l1, l2, l3, l4, l5, l6, l6', l7, l8]
  exact (congrArg _ (eta4 y)).trans (os_at x0 x1 x2 x3 x4 x5 x6 x7 x8 x9 x10 x11 x12 (y 2) (y 3) (y 0) (y 1))

/-- What the body leaves in window 16. -/
theorem out16_eq (y : S3x8x160x24576.Idx) : out0_16 x0 x1 x2 x3 x4 x5 x6 x7 x8 x9 x10 x11 x12 y = ow (arr x0 x1 x2 x3 x4 x5 x6 x7 x8 x9 x10 x11 x12) (y 0) (y 1) (y 2) (y 3) := by
  unfold_out out0_16
  rw [View.canon_unit_zero z4]
  have l0 : ∀ (X : Vec Ideal S3x8x160x24576 .fp8e4m3), View.ld X r0_0 = X := fun X => View.ld_unit_zero z4 _ X
  have l1 : ∀ (X : Vec Ideal S3x8x24576 .f32), View.ld X r0_1 = X := fun X => View.ld_unit_zero z3 _ X
  have l2 : ∀ (X : Vec Ideal S3x2x1x1 .f32), View.ld X r0_2 = X := fun X => View.ld_unit_zero z4 _ X
  have l3 : ∀ (X : Vec Ideal S3x2x160x24576 .fp8e4m3), View.ld X r0_3 = X := fun X => View.ld_unit_zero z4 _ X
  have l4 : ∀ (X : Vec Ideal S3x2x1536x256 .bf16), View.ld X r0_4 = X := fun X => View.ld_unit_zero z4 _ X
  have l5 : ∀ (X : Vec Ideal S3x2x160x1536 .bf16), View.ld X r0_5 = X := fun X => View.ld_unit_zero z4 _ X
  have l6 : ∀ (X : Vec Ideal S3x2x24576x256 .fp8e4m3), View.ld X r0_6 = X := fun X => View.ld_unit_zero z4 _ X
  have l6' : ∀ (X : Vec Ideal S3x2x24576x256 .bf16), View.ld X r0_6 = X := fun X => View.ld_unit_zero z4 _ X
  have l7 : ∀ (X : Vec Ideal S3x2x4x24576 .f32), View.ld X r0_7 = X := fun X => View.ld_unit_zero z4 _ X
  have l8 : ∀ (X : Vec Ideal S3x2x196608x128 .f32), View.ld X r0_8 = X := fun X => View.ld_unit_zero z4 _ X
  simp only [l0, l1, l2, l3, l4, l5, l6, l6', l7, l8]
  exact (congrArg _ (eta4 y)).trans (ow_at x0 x1 x2 x3 x4 x5 x6 x7 x8 x9 x10 x11 x12 (y 2) (y 3) (y 0) (y 1))

/-- What the body leaves in window 13. -/
theorem out13_eq (y : S3x24576x1280.Idx) : out0_13 x0 x1 x2 x3 x4 x5 x6 x7 x8 x9 x10 x11 x12 y = out (arr x0 x1 x2 x3 x4 x5 x6 x7 x8 x9 x10 x11 x12) y := by
  unfold_out out0_13
  rw [View.canon_unit_zero z3]
  have l0 : ∀ (X : Vec Ideal S3x8x160x24576 .fp8e4m3), View.ld X r0_0 = X := fun X => View.ld_unit_zero z4 _ X
  have l1 : ∀ (X : Vec Ideal S3x8x24576 .f32), View.ld X r0_1 = X := fun X => View.ld_unit_zero z3 _ X
  have l2 : ∀ (X : Vec Ideal S3x2x1x1 .f32), View.ld X r0_2 = X := fun X => View.ld_unit_zero z4 _ X
  have l3 : ∀ (X : Vec Ideal S3x2x160x24576 .fp8e4m3), View.ld X r0_3 = X := fun X => View.ld_unit_zero z4 _ X
  have l4 : ∀ (X : Vec Ideal S3x2x1536x256 .bf16), View.ld X r0_4 = X := fun X => View.ld_unit_zero z4 _ X
  have l5 : ∀ (X : Vec Ideal S3x2x160x1536 .bf16), View.ld X r0_5 = X := fun X => View.ld_unit_zero z4 _ X
  have l6 : ∀ (X : Vec Ideal S3x2x24576x256 .fp8e4m3), View.ld X r0_6 = X := fun X => View.ld_unit_zero z4 _ X
  have l6' : ∀ (X : Vec Ideal S3x2x24576x256 .bf16), View.ld X r0_6 = X := fun X => View.ld_unit_zero z4 _ X
  have l7 : ∀ (X : Vec Ideal S3x2x4x24576 .f32), View.ld X r0_7 = X := fun X => View.ld_unit_zero z4 _ X
  have l8 : ∀ (X : Vec Ideal S3x2x196608x128 .f32), View.ld X r0_8 = X := fun X => View.ld_unit_zero z4 _ X
  simp only [l0, l1, l2, l3, l4, l5, l6, l6', l7, l8]
  exact (congrArg _ (eta3 y)).trans (out_at x0 x1 x2 x3 x4 x5 x6 x7 x8 x9 x10 x11 x12 (y 1) (y 0) (y 2))

variable (m : (ℓ : Loc nD τ sig) → Buf (Elt Ideal) ℓ) (ρ : Dev nD → PrngReg)

/-- The scales, as the reference's host reshape lays them out. -/
def v0 (a : S6.Idx → EReal) : S3x2x1x1.Idx → EReal := fun y => a (ix1 ⟨(y 0).val * 2 + (y 1).val, by
  have h0 : (y 0).val < 3 := (y 0).isLt
  have h1 : (y 1).val < 2 := (y 1).isLt
  omega⟩)

theorem V_v0 (c : Dev nD) : V m c main_v0 = v0 (m ((c : Thread nD τ).loc main_arg0)) := by
  show (StableHlo.reshape main_arg0 main_v0 (rfl : (.f32 : EltTy) = .f32) shapeCasts_S6_S3x2x1x1).result (fun b => m (c, b)) (Proc.devRef .tc main_v0) = _
  refine (StableHlo.reshape_result' ..).trans ?_
  funext y
  have y2 : (y 2).val < 1 := (y 2).isLt
  have y3 : (y 3).val < 1 := (y 3).isLt
  have e : y = ix4 (y 0) (y 1) 0 0 := by
    funext k; fin_cases k
    · rfl
    · rfl
    · apply Fin.ext; show (y 2).val = 0; omega
    · apply Fin.ext; show (y 3).val = 0; omega
  rw [e]
  show shapeCast S3x2x1x1 (m ((c : Thread nD τ).loc main_arg0)) shapeCasts_S6_S3x2x1x1 (ix4 (y 0) (y 1) 0 0) = _
  pointwise [v0]

theorem e0 : ∀ t : Fin cfg0.N, win0_0.index t = ![0, 0, 0, 0] := (by decide +kernel : ∀ t : Fin grid0.N, win0_0.index t = ![0, 0, 0, 0])
/-- Window 0's block is its array. -/
theorem blk0 (c : Dev nD) (t : Fin cfg0.N) : (iblk m c 0 t : S3x2x1x1.Idx → EReal) = v0 (m ((c : Thread nD τ).loc main_arg0)) := by
  refine Eq.trans (b := V m c main_v0) ?_ (V_v0 m c)
  funext y
  blk_ext [iblk, e0]

theorem e1 : ∀ t : Fin cfg0.N, win0_1.index t = ![0, 0, 0, 0] := (by decide +kernel : ∀ t : Fin grid0.N, win0_1.index t = ![0, 0, 0, 0])
/-- Window 1's block is its array. -/
theorem blk1 (c : Dev nD) (t : Fin cfg0.N) : (iblk m c 1 t : S3x8x160x24576.Idx → EReal) = m ((c : Thread nD τ).loc main_arg1) := by
  refine Eq.trans (b := V m c main_arg1) ?_ (V_main_arg1 m c)
  funext y
  blk_ext [iblk, e1]

theorem e2 : ∀ t : Fin cfg0.N, win0_2.index t = ![0, 0, 0] := (by decide +kernel : ∀ t : Fin grid0.N, win0_2.index t = ![0, 0, 0])
/-- Window 2's block is its array. -/
theorem blk2 (c : Dev nD) (t : Fin cfg0.N) : (iblk m c 2 t : S3x8x24576.Idx → EReal) = m ((c : Thread nD τ).loc main_arg2) := by
  refine Eq.trans (b := V m c main_arg2) ?_ (V_main_arg2 m c)
  funext y
  blk_ext [iblk, e2]

theorem e3 : ∀ t : Fin cfg0.N, win0_3.index t = ![0, 0, 0, 0] := (by decide +kernel : ∀ t : Fin grid0.N, win0_3.index t = ![0, 0, 0, 0])
/-- Window 3's block is its array. -/
theorem blk3 (c : Dev nD) (t : Fin cfg0.N) : (iblk m c 3 t : S3x2x4x24576.Idx → EReal) = m ((c : Thread nD τ).loc main_arg3) := by
  refine Eq.trans (b := V m c main_arg3) ?_ (V_main_arg3 m c)
  funext y
  blk_ext [iblk, e3]

theorem e4 : ∀ t : Fin cfg0.N, win0_4.index t = ![0, 0, 0] := (by decide +kernel : ∀ t : Fin grid0.N, win0_4.index t = ![0, 0, 0])
/-- Window 4's block is its array. -/
theorem blk4 (c : Dev nD) (t : Fin cfg0.N) : (iblk m c 4 t : S3x8x24576.Idx → EReal) = m ((c : Thread nD τ).loc main_arg4) := by
  refine Eq.trans (b := V m c main_arg4) ?_ (V_main_arg4 m c)
  funext y
  blk_ext [iblk, e4]

theorem e5 : ∀ t : Fin cfg0.N, win0_5.index t = ![0, 0, 0] := (by decide +kernel : ∀ t : Fin grid0.N, win0_5.index t = ![0, 0, 0])
/-- Window 5's block is its array. -/
theorem blk5 (c : Dev nD) (t : Fin cfg0.N) : (iblk m c 5 t : S3x8x24576.Idx → EReal) = m ((c : Thread nD τ).loc main_arg5) := by
  refine Eq.trans (b := V m c main_arg5) ?_ (V_main_arg5 m c)
  funext y
  blk_ext [iblk, e5]

theorem e6 : ∀ t : Fin cfg0.N, win0_6.index t = ![0, 0, 0] := (by decide +kernel : ∀ t : Fin grid0.N, win0_6.index t = ![0, 0, 0])
/-- Window 6's block is its array. -/
theorem blk6 (c : Dev nD) (t : Fin cfg0.N) : (iblk m c 6 t : S3x8x24576.Idx → EReal) = m ((c : Thread nD τ).loc main_arg6) := by
  refine Eq.trans (b := V m c main_arg6) ?_ (V_main_arg6 m c)
  funext y
  blk_ext [iblk, e6]

theorem e7 : ∀ t : Fin cfg0.N, win0_7.index t = ![0, 0, 0, 0] := (by decide +kernel : ∀ t : Fin grid0.N, win0_7.index t = ![0, 0, 0, 0])
/-- Window 7's block is its array. -/
theorem blk7 (c : Dev nD) (t : Fin cfg0.N) : (iblk m c 7 t : S3x2x196608x128.Idx → EReal) = m ((c : Thread nD τ).loc main_arg7) := by
  refine Eq.trans (b := V m c main_arg7) ?_ (V_main_arg7 m c)
  funext y
  blk_ext [iblk, e7]

theorem e8 : ∀ t : Fin cfg0.N, win0_8.index t = ![0, 0, 0, 0] := (by decide +kernel : ∀ t : Fin grid0.N, win0_8.index t = ![0, 0, 0, 0])
/-- Window 8's block is its array. -/
theorem blk8 (c : Dev nD) (t : Fin cfg0.N) : (iblk m c 8 t : S3x2x24576x256.Idx → EReal) = m ((c : Thread nD τ).loc main_arg8) := by
  refine Eq.trans (b := V m c main_arg8) ?_ (V_main_arg8 m c)
  funext y
  blk_ext [iblk, e8]

theorem e9 : ∀ t : Fin cfg0.N, win0_9.index t = ![0, 0, 0, 0] := (by decide +kernel : ∀ t : Fin grid0.N, win0_9.index t = ![0, 0, 0, 0])
/-- Window 9's block is its array. -/
theorem blk9 (c : Dev nD) (t : Fin cfg0.N) : (iblk m c 9 t : S3x2x24576x256.Idx → EReal) = m ((c : Thread nD τ).loc main_arg9) := by
  refine Eq.trans (b := V m c main_arg9) ?_ (V_main_arg9 m c)
  funext y
  blk_ext [iblk, e9]

theorem e10 : ∀ t : Fin cfg0.N, win0_10.index t = ![0, 0, 0, 0] := (by decide +kernel : ∀ t : Fin grid0.N, win0_10.index t = ![0, 0, 0, 0])
/-- Window 10's block is its array. -/
theorem blk10 (c : Dev nD) (t : Fin cfg0.N) : (iblk m c 10 t : S3x2x160x24576.Idx → EReal) = m ((c : Thread nD τ).loc main_arg10) := by
  refine Eq.trans (b := V m c main_arg10) ?_ (V_main_arg10 m c)
  funext y
  blk_ext [iblk, e10]

theorem e11 : ∀ t : Fin cfg0.N, win0_11.index t = ![0, 0, 0, 0] := (by decide +kernel : ∀ t : Fin grid0.N, win0_11.index t = ![0, 0, 0, 0])
/-- Window 11's block is its array. -/
theorem blk11 (c : Dev nD) (t : Fin cfg0.N) : (iblk m c 11 t : S3x2x1536x256.Idx → EReal) = m ((c : Thread nD τ).loc main_arg11) := by
  refine Eq.trans (b := V m c main_arg11) ?_ (V_main_arg11 m c)
  funext y
  blk_ext [iblk, e11]

theorem e12 : ∀ t : Fin cfg0.N, win0_12.index t = ![0, 0, 0, 0] := (by decide +kernel : ∀ t : Fin grid0.N, win0_12.index t = ![0, 0, 0, 0])
/-- Window 12's block is its array. -/
theorem blk12 (c : Dev nD) (t : Fin cfg0.N) : (iblk m c 12 t : S3x2x160x1536.Idx → EReal) = m ((c : Thread nD τ).loc main_arg12) := by
  refine Eq.trans (b := V m c main_arg12) ?_ (V_main_arg12 m c)
  funext y
  blk_ext [iblk, e12]

/-- The call's argument arrays, as functions of their coordinates. -/
def MA (c : Dev nD) : Arr := arr (v0 (m ((c : Thread nD τ).loc main_arg0))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

theorem e14 : ∀ t : Fin cfg0.N, win0_14.index t = ![0, 0, 0, 0] := (by decide +kernel : ∀ t : Fin grid0.N, win0_14.index t = ![0, 0, 0, 0])
/-- Where an element of window 14's block lies. -/
theorem emb14 (t : Fin cfg0.N) (y : S3x8x160x24576.Idx) : ((cfg0.win 14).blk t).view.emb y = y := by
  blk_ext [e14]

/-- The whole array of window 14. -/
theorem final14 (c : Dev nD) : (dats m 0 c).arrAt 14 cfg0.N = (fun y : S3x8x160x24576.Idx => oc (MA m c) (y 0) (y 1) (y 2) (y 3)) := by
  refine (dats m 0 c).arrAt_eq_of_covers 14 _ (by decide +kernel) fun t hf y => ?_
  refine Eq.trans ?_ (congrArg ((fun y : S3x8x160x24576.Idx => oc (MA m c) (y 0) (y 1) (y 2) (y 3))) (emb14 t y)).symm
  have h := congrFun (after0_14 m c t) y
  rw [blk0, blk1, blk2, blk3, blk4, blk5, blk6, blk7, blk8, blk9, blk10, blk11, blk12] at h
  exact h.trans (out14_eq _ _ _ _ _ _ _ _ _ _ _ _ _ y)

theorem e15 : ∀ t : Fin cfg0.N, win0_15.index t = ![0, 0, 0, 0] := (by decide +kernel : ∀ t : Fin grid0.N, win0_15.index t = ![0, 0, 0, 0])
/-- Where an element of window 15's block lies. -/
theorem emb15 (t : Fin cfg0.N) (y : S3x8x160x24576.Idx) : ((cfg0.win 15).blk t).view.emb y = y := by
  blk_ext [e15]

/-- The whole array of window 15. -/
theorem final15 (c : Dev nD) : (dats m 0 c).arrAt 15 cfg0.N = (fun y : S3x8x160x24576.Idx => os (MA m c) (y 0) (y 1) (y 2) (y 3)) := by
  refine (dats m 0 c).arrAt_eq_of_covers 15 _ (by decide +kernel) fun t hf y => ?_
  refine Eq.trans ?_ (congrArg ((fun y : S3x8x160x24576.Idx => os (MA m c) (y 0) (y 1) (y 2) (y 3))) (emb15 t y)).symm
  have h := congrFun (after0_15 m c t) y
  rw [blk0, blk1, blk2, blk3, blk4, blk5, blk6, blk7, blk8, blk9, blk10, blk11, blk12] at h
  exact h.trans (out15_eq _ _ _ _ _ _ _ _ _ _ _ _ _ y)

theorem e16 : ∀ t : Fin cfg0.N, win0_16.index t = ![0, 0, 0, 0] := (by decide +kernel : ∀ t : Fin grid0.N, win0_16.index t = ![0, 0, 0, 0])
/-- Where an element of window 16's block lies. -/
theorem emb16 (t : Fin cfg0.N) (y : S3x8x160x24576.Idx) : ((cfg0.win 16).blk t).view.emb y = y := by
  blk_ext [e16]

/-- The whole array of window 16. -/
theorem final16 (c : Dev nD) : (dats m 0 c).arrAt 16 cfg0.N = (fun y : S3x8x160x24576.Idx => ow (MA m c) (y 0) (y 1) (y 2) (y 3)) := by
  refine (dats m 0 c).arrAt_eq_of_covers 16 _ (by decide +kernel) fun t hf y => ?_
  refine Eq.trans ?_ (congrArg ((fun y : S3x8x160x24576.Idx => ow (MA m c) (y 0) (y 1) (y 2) (y 3))) (emb16 t y)).symm
  have h := congrFun (after0_16 m c t) y
  rw [blk0, blk1, blk2, blk3, blk4, blk5, blk6, blk7, blk8, blk9, blk10, blk11, blk12] at h
  exact h.trans (out16_eq _ _ _ _ _ _ _ _ _ _ _ _ _ y)

theorem e13 : ∀ t : Fin cfg0.N, win0_13.index t = ![0, 0, 0] := (by decide +kernel : ∀ t : Fin grid0.N, win0_13.index t = ![0, 0, 0])
/-- Where an element of window 13's block lies. -/
theorem emb13 (t : Fin cfg0.N) (y : S3x24576x1280.Idx) : ((cfg0.win 13).blk t).view.emb y = y := by
  blk_ext [e13]

/-- The whole array of window 13. -/
theorem final13 (c : Dev nD) : (dats m 0 c).arrAt 13 cfg0.N = out (MA m c) := by
  refine (dats m 0 c).arrAt_eq_of_covers 13 _ (by decide +kernel) fun t hf y => ?_
  refine Eq.trans ?_ (congrArg (out (MA m c)) (emb13 t y)).symm
  have h := congrFun (after0_13 m c t) y
  rw [blk0, blk1, blk2, blk3, blk4, blk5, blk6, blk7, blk8, blk9, blk10, blk11, blk12] at h
  exact h.trans (out13_eq _ _ _ _ _ _ _ _ _ _ _ _ _ y)

/-- The run: the outputs hold the specification's values of the arguments, which end unchanged. -/
theorem run_value : θ_run defs (onTc (τ := τ) (main (F := Ideal))) ⟨m, fun _ => 0, ρ⟩ fun r => ∀ c : Dev nD,
      r.2.mem ((c : Thread nD τ).loc main_v1_0) = out (MA m c)
      ∧ r.2.mem ((c : Thread nD τ).loc main_v1_1) = (fun y : S3x8x160x24576.Idx => oc (MA m c) (y 0) (y 1) (y 2) (y 3))
      ∧ r.2.mem ((c : Thread nD τ).loc main_v1_2) = (fun y : S3x8x160x24576.Idx => os (MA m c) (y 0) (y 1) (y 2) (y 3))
      ∧ r.2.mem ((c : Thread nD τ).loc main_v1_3) = (fun y : S3x8x160x24576.Idx => ow (MA m c) (y 0) (y 1) (y 2) (y 3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => by
    have hc := h c
    rw [final13, final14, final15, final16] at hc
    exact hc) (RValue.run_blocks m ρ)

end Cert.ReferenceIdeal.RFinal

end
-- ==== Proof.PoolVal.lean ====
/- What the pooling call leaves in its two result arrays, and what its reference computes. -/
module

public import proofs.«01_k».proof.Defs
public import proofs.«01_k».proof.Proof.Gen.PoolIdeal.Value
public import proofs.«01_k».proof.Proof.Gen.PoolReferenceIdeal.Run
public import Idealize.ShloMosaic.Lib.Pipeline.Value
public import Idealize.ShloMosaic.Lib.Pipeline.ValueKit.Geometry
public import Idealize.ShloMosaic.Lib.Pointwise

@[expose] public section

set_option maxRecDepth 16384

noncomputable section

namespace Cert.PoolIdeal.PoolVal

open Cert.PoolIdeal Cert.PoolIdeal.Gen
open Idealize.ShloMosaic Idealize.ShloMosaic.TcCoe Idealize.SL.Sem
open Idealize.ShloMosaic.Pipeline (Dat)

/-- The mean of two neighbouring rows of 16-token sums; the last row has no neighbour. -/
def pooled (X : S6x1536x256.Idx → EReal) (n : Fin 6) (j : Fin 1536) (d : Fin 256) : EReal :=
  (X (ix3 n j d) + if h : j.val + 1 < 1536 then X (ix3 n ⟨j.val + 1, h⟩ d) else 0) * Scalar.ofBits (F := Ideal) .f32 0x3D000000#32

/-- The pooled keys as an array. -/
def keys (X : S6x1536x256.Idx → EReal) : S6x1536x256.Idx → EReal := fun y => pooled X (y 0) (y 1) (y 2)

/-- The pooled values as an array, transposed, of the head's own dimensions. -/
def vals (X : S6x1536x256.Idx → EReal) : S6x160x1536.Idx → EReal := fun y =>
  pooled X (y 0) (y 2) ⟨(y 1).val, by have : (y 1).val < 160 := (y 1).isLt; omega⟩

/-- The neighbouring row, named in either way. -/
theorem next_row (f : Fin 1536 → EReal) (a z c : EReal) (hz : z = 0) (j : Fin 1536) :
    (a + if h : j.val < 1535 then f ⟨1 + j.val, by omega⟩ else z) * c = (a + if h : j.val + 1 < 1536 then f ⟨j.val + 1, h⟩ else 0) * c := by
  subst hz
  by_cases h : j.val < 1535
  · rw [dif_pos h, dif_pos (by omega : j.val + 1 < 1536)]
    rw [show (⟨1 + j.val, by omega⟩ : Fin 1536) = ⟨j.val + 1, by omega⟩ from Fin.ext (Nat.add_comm _ _)]
  · rw [dif_neg h, dif_neg (by omega : ¬ j.val + 1 < 1536)]

/-- What the body stores as keys, of the block of one head. -/
theorem pay1_at (v : Vec Ideal S1x1536x256 .f32) (j : Fin 1536) (d : Fin 256) : k0_pay1 v (ix3 0 j d)
    = (v (ix3 0 j d) + if h : j.val + 1 < 1536 then v (ix3 0 ⟨j.val + 1, h⟩ d) else 0) * Scalar.ofBits (F := Ideal) .f32 0x3D000000#32 := by
  pointwise [k0_pay1]
  exact next_row (fun k => v (ix3 0 k d)) _ _ _ rfl j

/-- What the body stores as values. -/
theorem pay2_at (v : Vec Ideal S1x1536x256 .f32) (j : Fin 1536) (d : Fin 160) : k0_pay2 v (ix3 0 d j)
    = (v (ix3 0 j ⟨d.val, by omega⟩) + if h : j.val + 1 < 1536 then v (ix3 0 ⟨j.val + 1, h⟩ ⟨d.val, by omega⟩) else 0) * Scalar.ofBits (F := Ideal) .f32 0x3D000000#32 := by
  pointwise [k0_pay2]
  exact next_row (fun k => v (ix3 0 k ⟨d.val, by omega⟩)) _ _ _ rfl j

/-- A block that is a head of the array has its pooled rows. -/
theorem pooled_block (X : S1x1536x256.Idx → EReal) (M : S6x1536x256.Idx → EReal) (n : Fin 6) (hX : ∀ j d, X (ix3 0 j d) = M (ix3 n j d)) (j : Fin 1536) (d : Fin 256) :
    (X (ix3 0 j d) + if h : j.val + 1 < 1536 then X (ix3 0 ⟨j.val + 1, h⟩ d) else 0) * Scalar.ofBits (F := Ideal) .f32 0x3D000000#32 = pooled M n j d := by
  unfold pooled
  simp only [hX]

variable (m : (ℓ : Loc nD τ sig) → Buf (Elt Ideal) ℓ) (ρ : Dev nD → PrngReg)

/-- A grid point's head. -/
abbrev gn (t : Fin cfg0.N) : Fin 6 := grid0.coords t 0

/-- The block index of the key sums. -/
theorem e0 : ∀ t : Fin cfg0.N, win0_0.index t = ![(grid0.coords t 0).val, 0, 0] := (by decide +kernel : ∀ t : Fin grid0.N, win0_0.index t = ![(grid0.coords t 0).val, 0, 0])
/-- The block index of the value sums. -/
theorem e1 : ∀ t : Fin cfg0.N, win0_1.index t = ![(grid0.coords t 0).val, 0, 0] := (by decide +kernel : ∀ t : Fin grid0.N, win0_1.index t = ![(grid0.coords t 0).val, 0, 0])
/-- The block index of the pooled keys. -/
theorem e2 : ∀ t : Fin cfg0.N, win0_2.index t = ![(grid0.coords t 0).val, 0, 0] := (by decide +kernel : ∀ t : Fin grid0.N, win0_2.index t = ![(grid0.coords t 0).val, 0, 0])
/-- The block index of the pooled values. -/
theorem e3 : ∀ t : Fin cfg0.N, win0_3.index t = ![(grid0.coords t 0).val, 0, 0] := (by decide +kernel : ∀ t : Fin grid0.N, win0_3.index t = ![(grid0.coords t 0).val, 0, 0])

/-- The key sums' block, in its array. -/
theorem blk0 (c : Dev nD) (t : Fin cfg0.N) (j : Fin 1536) (d : Fin 256) :
    (iblk m c 0 t) (ix3 0 j d) = m ((c : Thread nD τ).loc main_arg0) (ix3 (gn t) j d) := by
  unfold gn
  blk_ext [iblk, V, e0]

/-- The value sums' block, in its array. -/
theorem blk1 (c : Dev nD) (t : Fin cfg0.N) (j : Fin 1536) (d : Fin 256) :
    (iblk m c 1 t) (ix3 0 j d) = m ((c : Thread nD τ).loc main_arg1) (ix3 (gn t) j d) := by
  unfold gn
  blk_ext [iblk, V, e1]

/-- The offsets of a whole block. -/
theorem z3 : (![0, 0, 0] : Fin 3 → ℕ) = fun _ => 0 := by decide

/-- A multi-index of a block is its coordinates. -/
theorem eta_k (y : S1x1536x256.Idx) : y = ix3 0 (y 1) (y 2) := by
  have h0 : (y 0).val < 1 := (y 0).isLt
  funext k; fin_cases k
  · apply Fin.ext; show (y 0).val = 0; omega
  · rfl
  · rfl
/-- The same of the values' block. -/
theorem eta_v (y : S1x160x1536.Idx) : y = ix3 0 (y 1) (y 2) := by
  have h0 : (y 0).val < 1 := (y 0).isLt
  funext k; fin_cases k
  · apply Fin.ext; show (y 0).val = 0; omega
  · rfl
  · rfl

/-- What the body leaves in the keys' block. -/
theorem out2_eq (x0 x1 : Vec Ideal S1x1536x256 .f32) (j : Fin 1536) (d : Fin 256) : out0_2 x0 x1 (ix3 0 j d)
    = (x0 (ix3 0 j d) + if h : j.val + 1 < 1536 then x0 (ix3 0 ⟨j.val + 1, h⟩ d) else 0) * Scalar.ofBits (F := Ideal) .f32 0x3D000000#32 := by
  unfold out0_2
  rw [View.canon_unit_zero z3]
  have l0 : ∀ (X : Vec Ideal S1x1536x256 .f32), View.ld X r0_0 = X := fun X => View.ld_unit_zero z3 _ X
  rw [l0]
  exact pay1_at x0 j d

/-- What the body leaves in the values' block. -/
theorem out3_eq (x0 x1 : Vec Ideal S1x1536x256 .f32) (j : Fin 1536) (d : Fin 160) : out0_3 x0 x1 (ix3 0 d j)
    = (x1 (ix3 0 j ⟨d.val, by omega⟩) + if h : j.val + 1 < 1536 then x1 (ix3 0 ⟨j.val + 1, h⟩ ⟨d.val, by omega⟩) else 0) * Scalar.ofBits (F := Ideal) .f32 0x3D000000#32 := by
  unfold out0_3
  rw [View.canon_unit_zero z3]
  have l0 : ∀ (X : Vec Ideal S1x1536x256 .f32), View.ld X r0_0 = X := fun X => View.ld_unit_zero z3 _ X
  rw [l0]
  exact pay2_at x1 j d

/-- Where an element of the keys' block lies. -/
theorem emb2 (t : Fin cfg0.N) (y : S1x1536x256.Idx) : ((cfg0.win 2).blk t).view.emb y = (ix3 (gn t) (y 1) (y 2) : S6x1536x256.Idx) := by
  unfold gn
  blk_ext [e2]

/-- Where an element of the values' block lies. -/
theorem emb3 (t : Fin cfg0.N) (y : S1x160x1536.Idx) : ((cfg0.win 3).blk t).view.emb y = (ix3 (gn t) (y 1) (y 2) : S6x160x1536.Idx) := by
  unfold gn
  blk_ext [e3]

/-- The whole array of pooled keys. -/
theorem final2 (c : Dev nD) : (dats m 0 c).arrAt 2 cfg0.N = keys (m ((c : Thread nD τ).loc main_arg0)) := by
  refine (dats m 0 c).arrAt_eq_of_covers 2 _ (by decide +kernel) fun t hf y => ?_
  refine Eq.trans ?_ (congrArg (keys (m ((c : Thread nD τ).loc main_arg0))) (emb2 t y)).symm
  have h := congrFun (after0_2 m c t) y
  refine h.trans ((congrArg _ (eta_k y)).trans ((out2_eq _ _ (y 1) (y 2)).trans ?_))
  exact pooled_block _ _ (gn t) (blk0 m c t) (y 1) (y 2)

/-- The whole array of pooled values. -/
theorem final3 (c : Dev nD) : (dats m 0 c).arrAt 3 cfg0.N = vals (m ((c : Thread nD τ).loc main_arg1)) := by
  refine (dats m 0 c).arrAt_eq_of_covers 3 _ (by decide +kernel) fun t hf y => ?_
  refine Eq.trans ?_ (congrArg (vals (m ((c : Thread nD τ).loc main_arg1))) (emb3 t y)).symm
  have h := congrFun (after0_3 m c t) y
  refine h.trans ((congrArg _ (eta_v y)).trans ((out3_eq _ _ (y 2) (y 1)).trans ?_))
  exact pooled_block _ _ (gn t) (blk1 m c t) (y 2) _

end Cert.PoolIdeal.PoolVal

namespace Cert.PoolReferenceIdeal.PoolVal

open Cert.PoolReferenceIdeal Cert.PoolReferenceIdeal.Gen
open Idealize.ShloMosaic Idealize.ShloMosaic.TcCoe Idealize.SL.Sem
open Cert.PoolIdeal.PoolVal (pooled keys vals next_row)

/-- The padding's integer zero is zero. -/
theorem zero_int : FloatOps.sitofp (F := Ideal) FTy.f32 0#32 = (0 : EReal) := by
  show (((0#32).toInt : ℝ) : EReal) = 0
  simp

/-- The reference's keys. -/
theorem keys_eq (x : Vec Ideal S6x1536x256 .f32) (n : Fin 6) (j : Fin 1536) (d : Fin 256) :
    (truncf .bf16 (mulf (addf x (pad S6x1536x256 ![0, 0, 0] ![0, 1, 0] ![0, 0, 0] (extractStridedSlice S6x1535x256 ![0, 1, 0] x slices_S6x1536x256_S6x1535x256_0_1_0) (sitofp .f32 (constantI S_ 32 0#32)) pads_S6x1535x256_S6x1536x256_000_010_000 h_S_)) (broadcastInDim S6x1536x256 ![] bcast_S_S6x1536x256 (constant S_ .f32 0x3D000000#32 : FVec Ideal S_ .f32))) bitsLt_bf16_f32 : FVec Ideal S6x1536x256 .bf16) (ix3 n j d) = pooled x n j d := by
  pointwise [pooled]
  exact next_row (fun k => x (ix3 n k d)) _ _ _ zero_int j

/-- The reference's values, transposed, of the head's own dimensions. -/
theorem vals_eq (x : Vec Ideal S6x1536x256 .f32) (n : Fin 6) (j : Fin 1536) (d : Fin 160) :
    (transpose S6x160x1536 [0, 2, 1] (truncf .bf16 (mulf (addf (extractStridedSlice S6x1536x160 ![0, 0, 0] x slices_S6x1536x256_S6x1536x160_0_0_0) (pad S6x1536x160 ![0, 0, 0] ![0, 1, 0] ![0, 0, 0] (extractStridedSlice S6x1535x160 ![0, 1, 0] (extractStridedSlice S6x1536x160 ![0, 0, 0] x slices_S6x1536x256_S6x1536x160_0_0_0) slices_S6x1536x160_S6x1535x160_0_1_0) (sitofp .f32 (constantI S_ 32 0#32)) pads_S6x1535x160_S6x1536x160_000_010_000 h_S_)) (broadcastInDim S6x1536x160 ![] bcast_S_S6x1536x160 (constant S_ .f32 0x3D000000#32 : FVec Ideal S_ .f32))) bitsLt_bf16_f32 : FVec Ideal S6x1536x160 .bf16) transposes_S6x1536x160_S6x160x1536_0_2_1 : FVec Ideal S6x160x1536 .bf16) (ix3 n d j) = pooled x n j ⟨d.val, by omega⟩ := by
  pointwise [pooled]
  exact next_row (fun k => x (ix3 n k ⟨d.val, by omega⟩)) _ _ _ zero_int j

/-- A multi-index of an array is its coordinates. -/
theorem eta_k (y : S6x1536x256.Idx) : y = ix3 (y 0) (y 1) (y 2) := by
  funext k; fin_cases k <;> rfl
/-- The same of the values' array. -/
theorem eta_v (y : S6x160x1536.Idx) : y = ix3 (y 0) (y 1) (y 2) := by
  funext k; fin_cases k <;> rfl

end Cert.PoolReferenceIdeal.PoolVal

namespace Cert.PoolIdeal.PoolVal

open Idealize.ShloMosaic Idealize.ShloMosaic.TcCoe Idealize.SL.Sem

/-- The pooling call and its reference leave the same two arrays, of equal arguments. -/
theorem algebraic : Cert.algebraic_PoolIdeal_PoolReferenceIdeal (hPoolIdeal := Cert.PoolIdeal.Gen.facts) (hPoolReferenceIdeal := Cert.PoolReferenceIdeal.Gen.facts) := by
  intro m g m' g' _ h
  refine ⟨fun c => keys (m ((c.tc : Thread Cert.PoolIdeal.nD Cert.PoolIdeal.τ).loc Cert.PoolIdeal.main_arg0)),
    fun c => vals (m ((c.tc : Thread Cert.PoolIdeal.nD Cert.PoolIdeal.τ).loc Cert.PoolIdeal.main_arg1)), ?_, ?_⟩
  · refine (θ_run _ _ _).mono (fun r hr c => ?_) (Cert.PoolIdeal.Value.run_blocks m g)
    have hc := hr c
    rw [final2, final3] at hc
    exact hc
  · refine (θ_run _ _ _).mono (fun r hr c => ?_) (Cert.PoolReferenceIdeal.Value.run m' g')
    have hc := hr c
    refine ⟨hc.1.trans ?_, hc.2.1.trans ?_, hc.2.2.1, hc.2.2.2⟩
    · rw [(h c).1]
      funext y
      exact (congrArg _ (Cert.PoolReferenceIdeal.PoolVal.eta_k y)).trans (Cert.PoolReferenceIdeal.PoolVal.keys_eq _ (y 0) (y 1) (y 2))
    · rw [(h c).2]
      funext y
      exact (congrArg _ (Cert.PoolReferenceIdeal.PoolVal.eta_v y)).trans (Cert.PoolReferenceIdeal.PoolVal.vals_eq _ (y 0) (y 2) (y 1))

end Cert.PoolIdeal.PoolVal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolIdeal.Value
public import proofs.«01_k».proof.Proof.Gen.PoolReferenceIdeal
public import proofs.«01_k».proof.Proof.Gen.PoolReferenceIdeal.Run
public import proofs.«01_k».proof.Proof.KFrame
public import proofs.«01_k».proof.Proof.IFrame
public import proofs.«01_k».proof.Proof.KValue
public import proofs.«01_k».proof.Proof.RFinal
public import proofs.«01_k».proof.Proof.PoolVal
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- Equal arguments are equal families of arrays. -/
theorem arrays_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.RFinal.MA m' c = Cert.KernelIdeal.KValue.MA m c := by
  obtain ⟨h0, h1, h2, h3, h4, h5, h6, h7, h8, h9, h10, h11, h12⟩ := h
  unfold Cert.ReferenceIdeal.RFinal.MA
  rw [h0, h1, h2, h3, h4, h5, h6, h7, h8, h9, h10, h11, h12]
  rfl

/-- The kernel and the reference compute the same four arrays of equal arguments. -/
theorem algebraic : Cert.algebraic_KernelIdeal_ReferenceIdeal (hKernelIdeal := Cert.KernelIdeal.Gen.facts) (hReferenceIdeal := Cert.ReferenceIdeal.Gen.facts) := by
  intro m g m' g' _ h
  refine ⟨fun c => Cert.KernelIdeal.KValue.out (Cert.KernelIdeal.KValue.MA m c),
    fun c => (fun y : Cert.KernelIdeal.S3x8x160x24576.Idx => Spec.oc (Cert.KernelIdeal.KValue.MA m c) (y 0) (y 1) (y 2) (y 3)),
    fun c => (fun y : Cert.KernelIdeal.S3x8x160x24576.Idx => Spec.os (Cert.KernelIdeal.KValue.MA m c) (y 0) (y 1) (y 2) (y 3)),
    fun c => (fun y : Cert.KernelIdeal.S3x8x160x24576.Idx => Spec.ow (Cert.KernelIdeal.KValue.MA m c) (y 0) (y 1) (y 2) (y 3)),
    Cert.KernelIdeal.KValue.run_value m g, ?_⟩
  refine (θ_run _ _ _).mono (fun r hr c => ?_) (Cert.ReferenceIdeal.RFinal.run_value m' g')
  have hc := hr c
  rw [arrays_eq m m' c (h c)] at hc
  exact hc

/-- Everything the certificate claims. -/
theorem claim : Cert.Claim := ⟨Cert.Kernel.Gen.facts, Cert.KernelIdeal.Gen.facts, Cert.ReferenceIdeal.Gen.facts,
  Cert.Pool.Gen.facts, Cert.PoolIdeal.Gen.facts, Cert.PoolReferenceIdeal.Gen.facts,
  fun m ρ _ => Cert.Kernel.Hand.frame m ρ, fun m ρ _ => Cert.KernelIdeal.Hand.frame m ρ,
  fun m ρ _ => Cert.ReferenceIdeal.Gen.frame m ρ,
  fun m ρ _ => Cert.Pool.Gen.frame m ρ, fun m ρ _ => Cert.PoolIdeal.Gen.frame m ρ,
  fun m ρ _ => (θ_run _ _ _).mono (fun r h => ⟨fun c => ⟨(h c).2.2.1, (h c).2.2.2⟩, Idealize.ShloMosaic.sem_eq_zero_of_no_sems (by decide) r.2⟩) (Cert.PoolReferenceIdeal.Value.run m ρ),
  trivial, algebraic, trivial, Cert.PoolIdeal.PoolVal.algebraic⟩

end Cert.Proof

end
